-- ==== Defs.lean ====
def Pre_EvenInBwd (m : (ℓ : Loc Cert.EvenInBwd.nD Cert.EvenInBwd.τ Cert.EvenInBwd.sig) → Buf (Elt Bits) ℓ) : Prop :=
  True

def Pre_EvenInBwdIdeal (m : (ℓ : Loc Cert.EvenInBwdIdeal.nD Cert.EvenInBwdIdeal.τ Cert.EvenInBwdIdeal.sig) → Buf (Elt Ideal) ℓ) : Prop :=
  True

def Pre_EvenInBwdIdeal_even_in_bwd_finite [hPre_even_in_bwd_finite : Cert.Pre_even_in_bwd_finite.Facts] (m : (ℓ : Loc Cert.EvenInBwdIdeal.nD Cert.EvenInBwdIdeal.τ Cert.EvenInBwdIdeal.sig) → Buf (Elt Ideal) ℓ) : Prop :=
  ∀ c : Dev Cert.EvenInBwdIdeal.nD,
    (Cert.Pre_even_in_bwd_finite.fn (F := Ideal) (m ((c.tc : Thread Cert.EvenInBwdIdeal.nD Cert.EvenInBwdIdeal.τ).loc Cert.EvenInBwdIdeal.main_arg0)) (m ((c.tc : Thread Cert.EvenInBwdIdeal.nD Cert.EvenInBwdIdeal.τ).loc Cert.EvenInBwdIdeal.main_arg1)) (m ((c.tc : Thread Cert.EvenInBwdIdeal.nD Cert.EvenInBwdIdeal.τ).loc Cert.EvenInBwdIdeal.main_arg2)) (m ((c.tc : Thread Cert.EvenInBwdIdeal.nD Cert.EvenInBwdIdeal.τ).loc Cert.EvenInBwdIdeal.main_arg3)) (m ((c.tc : Thread Cert.EvenInBwdIdeal.nD Cert.EvenInBwdIdeal.τ).loc Cert.EvenInBwdIdeal.main_arg4))).1 = (fun _ => 1#1)
    ∧ (Cert.Pre_even_in_bwd_finite.fn (F := Ideal) (m ((c.tc : Thread Cert.EvenInBwdIdeal.nD Cert.EvenInBwdIdeal.τ).loc Cert.EvenInBwdIdeal.main_arg0)) (m ((c.tc : Thread Cert.EvenInBwdIdeal.nD Cert.EvenInBwdIdeal.τ).loc Cert.EvenInBwdIdeal.main_arg1)) (m ((c.tc : Thread Cert.EvenInBwdIdeal.nD Cert.EvenInBwdIdeal.τ).loc Cert.EvenInBwdIdeal.main_arg2)) (m ((c.tc : Thread Cert.EvenInBwdIdeal.nD Cert.EvenInBwdIdeal.τ).loc Cert.EvenInBwdIdeal.main_arg3)) (m ((c.tc : Thread Cert.EvenInBwdIdeal.nD Cert.EvenInBwdIdeal.τ).loc Cert.EvenInBwdIdeal.main_arg4))).2.1 = (fun _ => 1#1)
    ∧ (Cert.Pre_even_in_bwd_finite.fn (F := Ideal) (m ((c.tc : Thread Cert.EvenInBwdIdeal.nD Cert.EvenInBwdIdeal.τ).loc Cert.EvenInBwdIdeal.main_arg0)) (m ((c.tc : Thread Cert.EvenInBwdIdeal.nD Cert.EvenInBwdIdeal.τ).loc Cert.EvenInBwdIdeal.main_arg1)) (m ((c.tc : Thread Cert.EvenInBwdIdeal.nD Cert.EvenInBwdIdeal.τ).loc Cert.EvenInBwdIdeal.main_arg2)) (m ((c.tc : Thread Cert.EvenInBwdIdeal.nD Cert.EvenInBwdIdeal.τ).loc Cert.EvenInBwdIdeal.main_arg3)) (m ((c.tc : Thread Cert.EvenInBwdIdeal.nD Cert.EvenInBwdIdeal.τ).loc Cert.EvenInBwdIdeal.main_arg4))).2.2.1 = (fun _ => 1#1)
    ∧ (Cert.Pre_even_in_bwd_finite.fn (F := Ideal) (m ((c.tc : Thread Cert.EvenInBwdIdeal.nD Cert.EvenInBwdIdeal.τ).loc Cert.EvenInBwdIdeal.main_arg0)) (m ((c.tc : Thread Cert.EvenInBwdIdeal.nD Cert.EvenInBwdIdeal.τ).loc Cert.EvenInBwdIdeal.main_arg1)) (m ((c.tc : Thread Cert.EvenInBwdIdeal.nD Cert.EvenInBwdIdeal.τ).loc Cert.EvenInBwdIdeal.main_arg2)) (m ((c.tc : Thread Cert.EvenInBwdIdeal.nD Cert.EvenInBwdIdeal.τ).loc Cert.EvenInBwdIdeal.main_arg3)) (m ((c.tc : Thread Cert.EvenInBwdIdeal.nD Cert.EvenInBwdIdeal.τ).loc Cert.EvenInBwdIdeal.main_arg4))).2.2.2 = (fun _ => 1#1)

def Pre_EvenInBwdRefIdeal (m : (ℓ : Loc Cert.EvenInBwdRefIdeal.nD Cert.EvenInBwdRefIdeal.τ Cert.EvenInBwdRefIdeal.sig) → Buf (Elt Ideal) ℓ) : Prop :=
  True

def Pre_EvenInBwdRefIdeal_even_in_bwd_finite [hPre_even_in_bwd_finite : Cert.Pre_even_in_bwd_finite.Facts] (m : (ℓ : Loc Cert.EvenInBwdRefIdeal.nD Cert.EvenInBwdRefIdeal.τ Cert.EvenInBwdRefIdeal.sig) → Buf (Elt Ideal) ℓ) : Prop :=
  ∀ c : Dev Cert.EvenInBwdRefIdeal.nD,
    (Cert.Pre_even_in_bwd_finite.fn (F := Ideal) (m ((c.tc : Thread Cert.EvenInBwdRefIdeal.nD Cert.EvenInBwdRefIdeal.τ).loc Cert.EvenInBwdRefIdeal.main_arg0)) (m ((c.tc : Thread Cert.EvenInBwdRefIdeal.nD Cert.EvenInBwdRefIdeal.τ).loc Cert.EvenInBwdRefIdeal.main_arg1)) (m ((c.tc : Thread Cert.EvenInBwdRefIdeal.nD Cert.EvenInBwdRefIdeal.τ).loc Cert.EvenInBwdRefIdeal.main_arg2)) (m ((c.tc : Thread Cert.EvenInBwdRefIdeal.nD Cert.EvenInBwdRefIdeal.τ).loc Cert.EvenInBwdRefIdeal.main_arg3)) (m ((c.tc : Thread Cert.EvenInBwdRefIdeal.nD Cert.EvenInBwdRefIdeal.τ).loc Cert.EvenInBwdRefIdeal.main_arg4))).1 = (fun _ => 1#1)
    ∧ (Cert.Pre_even_in_bwd_finite.fn (F := Ideal) (m ((c.tc : Thread Cert.EvenInBwdRefIdeal.nD Cert.EvenInBwdRefIdeal.τ).loc Cert.EvenInBwdRefIdeal.main_arg0)) (m ((c.tc : Thread Cert.EvenInBwdRefIdeal.nD Cert.EvenInBwdRefIdeal.τ).loc Cert.EvenInBwdRefIdeal.main_arg1)) (m ((c.tc : Thread Cert.EvenInBwdRefIdeal.nD Cert.EvenInBwdRefIdeal.τ).loc Cert.EvenInBwdRefIdeal.main_arg2)) (m ((c.tc : Thread Cert.EvenInBwdRefIdeal.nD Cert.EvenInBwdRefIdeal.τ).loc Cert.EvenInBwdRefIdeal.main_arg3)) (m ((c.tc : Thread Cert.EvenInBwdRefIdeal.nD Cert.EvenInBwdRefIdeal.τ).loc Cert.EvenInBwdRefIdeal.main_arg4))).2.1 = (fun _ => 1#1)
    ∧ (Cert.Pre_even_in_bwd_finite.fn (F := Ideal) (m ((c.tc : Thread Cert.EvenInBwdRefIdeal.nD Cert.EvenInBwdRefIdeal.τ).loc Cert.EvenInBwdRefIdeal.main_arg0)) (m ((c.tc : Thread Cert.EvenInBwdRefIdeal.nD Cert.EvenInBwdRefIdeal.τ).loc Cert.EvenInBwdRefIdeal.main_arg1)) (m ((c.tc : Thread Cert.EvenInBwdRefIdeal.nD Cert.EvenInBwdRefIdeal.τ).loc Cert.EvenInBwdRefIdeal.main_arg2)) (m ((c.tc : Thread Cert.EvenInBwdRefIdeal.nD Cert.EvenInBwdRefIdeal.τ).loc Cert.EvenInBwdRefIdeal.main_arg3)) (m ((c.tc : Thread Cert.EvenInBwdRefIdeal.nD Cert.EvenInBwdRefIdeal.τ).loc Cert.EvenInBwdRefIdeal.main_arg4))).2.2.1 = (fun _ => 1#1)
    ∧ (Cert.Pre_even_in_bwd_finite.fn (F := Ideal) (m ((c.tc : Thread Cert.EvenInBwdRefIdeal.nD Cert.EvenInBwdRefIdeal.τ).loc Cert.EvenInBwdRefIdeal.main_arg0)) (m ((c.tc : Thread Cert.EvenInBwdRefIdeal.nD Cert.EvenInBwdRefIdeal.τ).loc Cert.EvenInBwdRefIdeal.main_arg1)) (m ((c.tc : Thread Cert.EvenInBwdRefIdeal.nD Cert.EvenInBwdRefIdeal.τ).loc Cert.EvenInBwdRefIdeal.main_arg2)) (m ((c.tc : Thread Cert.EvenInBwdRefIdeal.nD Cert.EvenInBwdRefIdeal.τ).loc Cert.EvenInBwdRefIdeal.main_arg3)) (m ((c.tc : Thread Cert.EvenInBwdRefIdeal.nD Cert.EvenInBwdRefIdeal.τ).loc Cert.EvenInBwdRefIdeal.main_arg4))).2.2.2 = (fun _ => 1#1)

def Pre_EvenInGrad (m : (ℓ : Loc Cert.EvenInGrad.nD Cert.EvenInGrad.τ Cert.EvenInGrad.sig) → Buf (Elt Bits) ℓ) : Prop :=
  True

def Pre_EvenInGradIdeal (m : (ℓ : Loc Cert.EvenInGradIdeal.nD Cert.EvenInGradIdeal.τ Cert.EvenInGradIdeal.sig) → Buf (Elt Ideal) ℓ) : Prop :=
  True

def Pre_EvenInGradRefIdeal (m : (ℓ : Loc Cert.EvenInGradRefIdeal.nD Cert.EvenInGradRefIdeal.τ Cert.EvenInGradRefIdeal.sig) → Buf (Elt Ideal) ℓ) : Prop :=
  True

def Pre_EvenInFwd (m : (ℓ : Loc Cert.EvenInFwd.nD Cert.EvenInFwd.τ Cert.EvenInFwd.sig) → Buf (Elt Bits) ℓ) : Prop :=
  True

def Pre_EvenInFwdIdeal (m : (ℓ : Loc Cert.EvenInFwdIdeal.nD Cert.EvenInFwdIdeal.τ Cert.EvenInFwdIdeal.sig) → Buf (Elt Ideal) ℓ) : Prop :=
  True

def Pre_EvenInFwdRefIdeal (m : (ℓ : Loc Cert.EvenInFwdRefIdeal.nD Cert.EvenInFwdRefIdeal.τ Cert.EvenInFwdRefIdeal.sig) → Buf (Elt Ideal) ℓ) : Prop :=
  True

def Pre_OddOutBwd (m : (ℓ : Loc Cert.OddOutBwd.nD Cert.OddOutBwd.τ Cert.OddOutBwd.sig) → Buf (Elt Bits) ℓ) : Prop :=
  True

def Pre_OddOutBwdIdeal (m : (ℓ : Loc Cert.OddOutBwdIdeal.nD Cert.OddOutBwdIdeal.τ Cert.OddOutBwdIdeal.sig) → Buf (Elt Ideal) ℓ) : Prop :=
  True

def Pre_OddOutBwdIdeal_odd_out_bwd_finite [hPre_odd_out_bwd_finite : Cert.Pre_odd_out_bwd_finite.Facts] (m : (ℓ : Loc Cert.OddOutBwdIdeal.nD Cert.OddOutBwdIdeal.τ Cert.OddOutBwdIdeal.sig) → Buf (Elt Ideal) ℓ) : Prop :=
  ∀ c : Dev Cert.OddOutBwdIdeal.nD,
    (Cert.Pre_odd_out_bwd_finite.fn (F := Ideal) (m ((c.tc : Thread Cert.OddOutBwdIdeal.nD Cert.OddOutBwdIdeal.τ).loc Cert.OddOutBwdIdeal.main_arg0)) (m ((c.tc : Thread Cert.OddOutBwdIdeal.nD Cert.OddOutBwdIdeal.τ).loc Cert.OddOutBwdIdeal.main_arg1)) (m ((c.tc : Thread Cert.OddOutBwdIdeal.nD Cert.OddOutBwdIdeal.τ).loc Cert.OddOutBwdIdeal.main_arg2)) (m ((c.tc : Thread Cert.OddOutBwdIdeal.nD Cert.OddOutBwdIdeal.τ).loc Cert.OddOutBwdIdeal.main_arg3)) (m ((c.tc : Thread Cert.OddOutBwdIdeal.nD Cert.OddOutBwdIdeal.τ).loc Cert.OddOutBwdIdeal.main_arg4))).1 = (fun _ => 1#1)
    ∧ (Cert.Pre_odd_out_bwd_finite.fn (F := Ideal) (m ((c.tc : Thread Cert.OddOutBwdIdeal.nD Cert.OddOutBwdIdeal.τ).loc Cert.OddOutBwdIdeal.main_arg0)) (m ((c.tc : Thread Cert.OddOutBwdIdeal.nD Cert.OddOutBwdIdeal.τ).loc Cert.OddOutBwdIdeal.main_arg1)) (m ((c.tc : Thread Cert.OddOutBwdIdeal.nD Cert.OddOutBwdIdeal.τ).loc Cert.OddOutBwdIdeal.main_arg2)) (m ((c.tc : Thread Cert.OddOutBwdIdeal.nD Cert.OddOutBwdIdeal.τ).loc Cert.OddOutBwdIdeal.main_arg3)) (m ((c.tc : Thread Cert.OddOutBwdIdeal.nD Cert.OddOutBwdIdeal.τ).loc Cert.OddOutBwdIdeal.main_arg4))).2.1 = (fun _ => 1#1)
    ∧ (Cert.Pre_odd_out_bwd_finite.fn (F := Ideal) (m ((c.tc : Thread Cert.OddOutBwdIdeal.nD Cert.OddOutBwdIdeal.τ).loc Cert.OddOutBwdIdeal.main_arg0)) (m ((c.tc : Thread Cert.OddOutBwdIdeal.nD Cert.OddOutBwdIdeal.τ).loc Cert.OddOutBwdIdeal.main_arg1)) (m ((c.tc : Thread Cert.OddOutBwdIdeal.nD Cert.OddOutBwdIdeal.τ).loc Cert.OddOutBwdIdeal.main_arg2)) (m ((c.tc : Thread Cert.OddOutBwdIdeal.nD Cert.OddOutBwdIdeal.τ).loc Cert.OddOutBwdIdeal.main_arg3)) (m ((c.tc : Thread Cert.OddOutBwdIdeal.nD Cert.OddOutBwdIdeal.τ).loc Cert.OddOutBwdIdeal.main_arg4))).2.2.1 = (fun _ => 1#1)
    ∧ (Cert.Pre_odd_out_bwd_finite.fn (F := Ideal) (m ((c.tc : Thread Cert.OddOutBwdIdeal.nD Cert.OddOutBwdIdeal.τ).loc Cert.OddOutBwdIdeal.main_arg0)) (m ((c.tc : Thread Cert.OddOutBwdIdeal.nD Cert.OddOutBwdIdeal.τ).loc Cert.OddOutBwdIdeal.main_arg1)) (m ((c.tc : Thread Cert.OddOutBwdIdeal.nD Cert.OddOutBwdIdeal.τ).loc Cert.OddOutBwdIdeal.main_arg2)) (m ((c.tc : Thread Cert.OddOutBwdIdeal.nD Cert.OddOutBwdIdeal.τ).loc Cert.OddOutBwdIdeal.main_arg3)) (m ((c.tc : Thread Cert.OddOutBwdIdeal.nD Cert.OddOutBwdIdeal.τ).loc Cert.OddOutBwdIdeal.main_arg4))).2.2.2.1 = (fun _ => 1#1)
    ∧ (Cert.Pre_odd_out_bwd_finite.fn (F := Ideal) (m ((c.tc : Thread Cert.OddOutBwdIdeal.nD Cert.OddOutBwdIdeal.τ).loc Cert.OddOutBwdIdeal.main_arg0)) (m ((c.tc : Thread Cert.OddOutBwdIdeal.nD Cert.OddOutBwdIdeal.τ).loc Cert.OddOutBwdIdeal.main_arg1)) (m ((c.tc : Thread Cert.OddOutBwdIdeal.nD Cert.OddOutBwdIdeal.τ).loc Cert.OddOutBwdIdeal.main_arg2)) (m ((c.tc : Thread Cert.OddOutBwdIdeal.nD Cert.OddOutBwdIdeal.τ).loc Cert.OddOutBwdIdeal.main_arg3)) (m ((c.tc : Thread Cert.OddOutBwdIdeal.nD Cert.OddOutBwdIdeal.τ).loc Cert.OddOutBwdIdeal.main_arg4))).2.2.2.2 = (fun _ => 1#1)

def Pre_OddOutBwdRefIdeal (m : (ℓ : Loc Cert.OddOutBwdRefIdeal.nD Cert.OddOutBwdRefIdeal.τ Cert.OddOutBwdRefIdeal.sig) → Buf (Elt Ideal) ℓ) : Prop :=
  True

def Pre_OddOutBwdRefIdeal_odd_out_bwd_finite [hPre_odd_out_bwd_finite : Cert.Pre_odd_out_bwd_finite.Facts] (m : (ℓ : Loc Cert.OddOutBwdRefIdeal.nD Cert.OddOutBwdRefIdeal.τ Cert.OddOutBwdRefIdeal.sig) → Buf (Elt Ideal) ℓ) : Prop :=
  ∀ c : Dev Cert.OddOutBwdRefIdeal.nD,
    (Cert.Pre_odd_out_bwd_finite.fn (F := Ideal) (m ((c.tc : Thread Cert.OddOutBwdRefIdeal.nD Cert.OddOutBwdRefIdeal.τ).loc Cert.OddOutBwdRefIdeal.main_arg0)) (m ((c.tc : Thread Cert.OddOutBwdRefIdeal.nD Cert.OddOutBwdRefIdeal.τ).loc Cert.OddOutBwdRefIdeal.main_arg1)) (m ((c.tc : Thread Cert.OddOutBwdRefIdeal.nD Cert.OddOutBwdRefIdeal.τ).loc Cert.OddOutBwdRefIdeal.main_arg2)) (m ((c.tc : Thread Cert.OddOutBwdRefIdeal.nD Cert.OddOutBwdRefIdeal.τ).loc Cert.OddOutBwdRefIdeal.main_arg3)) (m ((c.tc : Thread Cert.OddOutBwdRefIdeal.nD Cert.OddOutBwdRefIdeal.τ).loc Cert.OddOutBwdRefIdeal.main_arg4))).1 = (fun _ => 1#1)
    ∧ (Cert.Pre_odd_out_bwd_finite.fn (F := Ideal) (m ((c.tc : Thread Cert.OddOutBwdRefIdeal.nD Cert.OddOutBwdRefIdeal.τ).loc Cert.OddOutBwdRefIdeal.main_arg0)) (m ((c.tc : Thread Cert.OddOutBwdRefIdeal.nD Cert.OddOutBwdRefIdeal.τ).loc Cert.OddOutBwdRefIdeal.main_arg1)) (m ((c.tc : Thread Cert.OddOutBwdRefIdeal.nD Cert.OddOutBwdRefIdeal.τ).loc Cert.OddOutBwdRefIdeal.main_arg2)) (m ((c.tc : Thread Cert.OddOutBwdRefIdeal.nD Cert.OddOutBwdRefIdeal.τ).loc Cert.OddOutBwdRefIdeal.main_arg3)) (m ((c.tc : Thread Cert.OddOutBwdRefIdeal.nD Cert.OddOutBwdRefIdeal.τ).loc Cert.OddOutBwdRefIdeal.main_arg4))).2.1 = (fun _ => 1#1)
    ∧ (Cert.Pre_odd_out_bwd_finite.fn (F := Ideal) (m ((c.tc : Thread Cert.OddOutBwdRefIdeal.nD Cert.OddOutBwdRefIdeal.τ).loc Cert.OddOutBwdRefIdeal.main_arg0)) (m ((c.tc : Thread Cert.OddOutBwdRefIdeal.nD Cert.OddOutBwdRefIdeal.τ).loc Cert.OddOutBwdRefIdeal.main_arg1)) (m ((c.tc : Thread Cert.OddOutBwdRefIdeal.nD Cert.OddOutBwdRefIdeal.τ).loc Cert.OddOutBwdRefIdeal.main_arg2)) (m ((c.tc : Thread Cert.OddOutBwdRefIdeal.nD Cert.OddOutBwdRefIdeal.τ).loc Cert.OddOutBwdRefIdeal.main_arg3)) (m ((c.tc : Thread Cert.OddOutBwdRefIdeal.nD Cert.OddOutBwdRefIdeal.τ).loc Cert.OddOutBwdRefIdeal.main_arg4))).2.2.1 = (fun _ => 1#1)
    ∧ (Cert.Pre_odd_out_bwd_finite.fn (F := Ideal) (m ((c.tc : Thread Cert.OddOutBwdRefIdeal.nD Cert.OddOutBwdRefIdeal.τ).loc Cert.OddOutBwdRefIdeal.main_arg0)) (m ((c.tc : Thread Cert.OddOutBwdRefIdeal.nD Cert.OddOutBwdRefIdeal.τ).loc Cert.OddOutBwdRefIdeal.main_arg1)) (m ((c.tc : Thread Cert.OddOutBwdRefIdeal.nD Cert.OddOutBwdRefIdeal.τ).loc Cert.OddOutBwdRefIdeal.main_arg2)) (m ((c.tc : Thread Cert.OddOutBwdRefIdeal.nD Cert.OddOutBwdRefIdeal.τ).loc Cert.OddOutBwdRefIdeal.main_arg3)) (m ((c.tc : Thread Cert.OddOutBwdRefIdeal.nD Cert.OddOutBwdRefIdeal.τ).loc Cert.OddOutBwdRefIdeal.main_arg4))).2.2.2.1 = (fun _ => 1#1)
    ∧ (Cert.Pre_odd_out_bwd_finite.fn (F := Ideal) (m ((c.tc : Thread Cert.OddOutBwdRefIdeal.nD Cert.OddOutBwdRefIdeal.τ).loc Cert.OddOutBwdRefIdeal.main_arg0)) (m ((c.tc : Thread Cert.OddOutBwdRefIdeal.nD Cert.OddOutBwdRefIdeal.τ).loc Cert.OddOutBwdRefIdeal.main_arg1)) (m ((c.tc : Thread Cert.OddOutBwdRefIdeal.nD Cert.OddOutBwdRefIdeal.τ).loc Cert.OddOutBwdRefIdeal.main_arg2)) (m ((c.tc : Thread Cert.OddOutBwdRefIdeal.nD Cert.OddOutBwdRefIdeal.τ).loc Cert.OddOutBwdRefIdeal.main_arg3)) (m ((c.tc : Thread Cert.OddOutBwdRefIdeal.nD Cert.OddOutBwdRefIdeal.τ).loc Cert.OddOutBwdRefIdeal.main_arg4))).2.2.2.2 = (fun _ => 1#1)

def Pre_EvenOutBwd (m : (ℓ : Loc Cert.EvenOutBwd.nD Cert.EvenOutBwd.τ Cert.EvenOutBwd.sig) → Buf (Elt Bits) ℓ) : Prop :=
  True

def Pre_EvenOutBwdIdeal (m : (ℓ : Loc Cert.EvenOutBwdIdeal.nD Cert.EvenOutBwdIdeal.τ Cert.EvenOutBwdIdeal.sig) → Buf (Elt Ideal) ℓ) : Prop :=
  True

def Pre_EvenOutBwdIdeal_even_out_bwd_finite [hPre_even_out_bwd_finite : Cert.Pre_even_out_bwd_finite.Facts] (m : (ℓ : Loc Cert.EvenOutBwdIdeal.nD Cert.EvenOutBwdIdeal.τ Cert.EvenOutBwdIdeal.sig) → Buf (Elt Ideal) ℓ) : Prop :=
  ∀ c : Dev Cert.EvenOutBwdIdeal.nD,
    (Cert.Pre_even_out_bwd_finite.fn (F := Ideal) (m ((c.tc : Thread Cert.EvenOutBwdIdeal.nD Cert.EvenOutBwdIdeal.τ).loc Cert.EvenOutBwdIdeal.main_arg0)) (m ((c.tc : Thread Cert.EvenOutBwdIdeal.nD Cert.EvenOutBwdIdeal.τ).loc Cert.EvenOutBwdIdeal.main_arg1)) (m ((c.tc : Thread Cert.EvenOutBwdIdeal.nD Cert.EvenOutBwdIdeal.τ).loc Cert.EvenOutBwdIdeal.main_arg2)) (m ((c.tc : Thread Cert.EvenOutBwdIdeal.nD Cert.EvenOutBwdIdeal.τ).loc Cert.EvenOutBwdIdeal.main_arg3))).1 = (fun _ => 1#1)
    ∧ (Cert.Pre_even_out_bwd_finite.fn (F := Ideal) (m ((c.tc : Thread Cert.EvenOutBwdIdeal.nD Cert.EvenOutBwdIdeal.τ).loc Cert.EvenOutBwdIdeal.main_arg0)) (m ((c.tc : Thread Cert.EvenOutBwdIdeal.nD Cert.EvenOutBwdIdeal.τ).loc Cert.EvenOutBwdIdeal.main_arg1)) (m ((c.tc : Thread Cert.EvenOutBwdIdeal.nD Cert.EvenOutBwdIdeal.τ).loc Cert.EvenOutBwdIdeal.main_arg2)) (m ((c.tc : Thread Cert.EvenOutBwdIdeal.nD Cert.EvenOutBwdIdeal.τ).loc Cert.EvenOutBwdIdeal.main_arg3))).2.1 = (fun _ => 1#1)
    ∧ (Cert.Pre_even_out_bwd_finite.fn (F := Ideal) (m ((c.tc : Thread Cert.EvenOutBwdIdeal.nD Cert.EvenOutBwdIdeal.τ).loc Cert.EvenOutBwdIdeal.main_arg0)) (m ((c.tc : Thread Cert.EvenOutBwdIdeal.nD Cert.EvenOutBwdIdeal.τ).loc Cert.EvenOutBwdIdeal.main_arg1)) (m ((c.tc : Thread Cert.EvenOutBwdIdeal.nD Cert.EvenOutBwdIdeal.τ).loc Cert.EvenOutBwdIdeal.main_arg2)) (m ((c.tc : Thread Cert.EvenOutBwdIdeal.nD Cert.EvenOutBwdIdeal.τ).loc Cert.EvenOutBwdIdeal.main_arg3))).2.2.1 = (fun _ => 1#1)
    ∧ (Cert.Pre_even_out_bwd_finite.fn (F := Ideal) (m ((c.tc : Thread Cert.EvenOutBwdIdeal.nD Cert.EvenOutBwdIdeal.τ).loc Cert.EvenOutBwdIdeal.main_arg0)) (m ((c.tc : Thread Cert.EvenOutBwdIdeal.nD Cert.EvenOutBwdIdeal.τ).loc Cert.EvenOutBwdIdeal.main_arg1)) (m ((c.tc : Thread Cert.EvenOutBwdIdeal.nD Cert.EvenOutBwdIdeal.τ).loc Cert.EvenOutBwdIdeal.main_arg2)) (m ((c.tc : Thread Cert.EvenOutBwdIdeal.nD Cert.EvenOutBwdIdeal.τ).loc Cert.EvenOutBwdIdeal.main_arg3))).2.2.2 = (fun _ => 1#1)

def Pre_EvenOutBwdRefIdeal (m : (ℓ : Loc Cert.EvenOutBwdRefIdeal.nD Cert.EvenOutBwdRefIdeal.τ Cert.EvenOutBwdRefIdeal.sig) → Buf (Elt Ideal) ℓ) : Prop :=
  True

def Pre_EvenOutBwdRefIdeal_even_out_bwd_finite [hPre_even_out_bwd_finite : Cert.Pre_even_out_bwd_finite.Facts] (m : (ℓ : Loc Cert.EvenOutBwdRefIdeal.nD Cert.EvenOutBwdRefIdeal.τ Cert.EvenOutBwdRefIdeal.sig) → Buf (Elt Ideal) ℓ) : Prop :=
  ∀ c : Dev Cert.EvenOutBwdRefIdeal.nD,
    (Cert.Pre_even_out_bwd_finite.fn (F := Ideal) (m ((c.tc : Thread Cert.EvenOutBwdRefIdeal.nD Cert.EvenOutBwdRefIdeal.τ).loc Cert.EvenOutBwdRefIdeal.main_arg0)) (m ((c.tc : Thread Cert.EvenOutBwdRefIdeal.nD Cert.EvenOutBwdRefIdeal.τ).loc Cert.EvenOutBwdRefIdeal.main_arg1)) (m ((c.tc : Thread Cert.EvenOutBwdRefIdeal.nD Cert.EvenOutBwdRefIdeal.τ).loc Cert.EvenOutBwdRefIdeal.main_arg2)) (m ((c.tc : Thread Cert.EvenOutBwdRefIdeal.nD Cert.EvenOutBwdRefIdeal.τ).loc Cert.EvenOutBwdRefIdeal.main_arg3))).1 = (fun _ => 1#1)
    ∧ (Cert.Pre_even_out_bwd_finite.fn (F := Ideal) (m ((c.tc : Thread Cert.EvenOutBwdRefIdeal.nD Cert.EvenOutBwdRefIdeal.τ).loc Cert.EvenOutBwdRefIdeal.main_arg0)) (m ((c.tc : Thread Cert.EvenOutBwdRefIdeal.nD Cert.EvenOutBwdRefIdeal.τ).loc Cert.EvenOutBwdRefIdeal.main_arg1)) (m ((c.tc : Thread Cert.EvenOutBwdRefIdeal.nD Cert.EvenOutBwdRefIdeal.τ).loc Cert.EvenOutBwdRefIdeal.main_arg2)) (m ((c.tc : Thread Cert.EvenOutBwdRefIdeal.nD Cert.EvenOutBwdRefIdeal.τ).loc Cert.EvenOutBwdRefIdeal.main_arg3))).2.1 = (fun _ => 1#1)
    ∧ (Cert.Pre_even_out_bwd_finite.fn (F := Ideal) (m ((c.tc : Thread Cert.EvenOutBwdRefIdeal.nD Cert.EvenOutBwdRefIdeal.τ).loc Cert.EvenOutBwdRefIdeal.main_arg0)) (m ((c.tc : Thread Cert.EvenOutBwdRefIdeal.nD Cert.EvenOutBwdRefIdeal.τ).loc Cert.EvenOutBwdRefIdeal.main_arg1)) (m ((c.tc : Thread Cert.EvenOutBwdRefIdeal.nD Cert.EvenOutBwdRefIdeal.τ).loc Cert.EvenOutBwdRefIdeal.main_arg2)) (m ((c.tc : Thread Cert.EvenOutBwdRefIdeal.nD Cert.EvenOutBwdRefIdeal.τ).loc Cert.EvenOutBwdRefIdeal.main_arg3))).2.2.1 = (fun _ => 1#1)
    ∧ (Cert.Pre_even_out_bwd_finite.fn (F := Ideal) (m ((c.tc : Thread Cert.EvenOutBwdRefIdeal.nD Cert.EvenOutBwdRefIdeal.τ).loc Cert.EvenOutBwdRefIdeal.main_arg0)) (m ((c.tc : Thread Cert.EvenOutBwdRefIdeal.nD Cert.EvenOutBwdRefIdeal.τ).loc Cert.EvenOutBwdRefIdeal.main_arg1)) (m ((c.tc : Thread Cert.EvenOutBwdRefIdeal.nD Cert.EvenOutBwdRefIdeal.τ).loc Cert.EvenOutBwdRefIdeal.main_arg2)) (m ((c.tc : Thread Cert.EvenOutBwdRefIdeal.nD Cert.EvenOutBwdRefIdeal.τ).loc Cert.EvenOutBwdRefIdeal.main_arg3))).2.2.2 = (fun _ => 1#1)

def Pre_OddInBwd (m : (ℓ : Loc Cert.OddInBwd.nD Cert.OddInBwd.τ Cert.OddInBwd.sig) → Buf (Elt Bits) ℓ) : Prop :=
  True

def Pre_OddInBwdIdeal (m : (ℓ : Loc Cert.OddInBwdIdeal.nD Cert.OddInBwdIdeal.τ Cert.OddInBwdIdeal.sig) → Buf (Elt Ideal) ℓ) : Prop :=
  True

def Pre_OddInBwdIdeal_odd_in_bwd_finite [hPre_odd_in_bwd_finite : Cert.Pre_odd_in_bwd_finite.Facts] (m : (ℓ : Loc Cert.OddInBwdIdeal.nD Cert.OddInBwdIdeal.τ Cert.OddInBwdIdeal.sig) → Buf (Elt Ideal) ℓ) : Prop :=
  ∀ c : Dev Cert.OddInBwdIdeal.nD,
    (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.2.1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.2.2.1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.2.2.2.1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.2.2.2.2.1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.2.2.2.2.2.1 = (fun _ => 1#1)
    ∧ (Cert.Pre_odd_in_bwd_finite.fn (F := Ideal) (m ((c.tc : Thread Cert.OddInBwdIdeal.nD Cert.OddInBwdIdeal.τ).loc Cert.OddInBwdIdeal.main_arg0)) (m ((c.tc : Thread Cert.OddInBwdIdeal.nD Cert.OddInBwdIdeal.τ).loc Cert.OddInBwdIdeal.main_arg1)) (m ((c.tc : Thread Cert.OddInBwdIdeal.nD Cert.OddInBwdIdeal.τ).loc Cert.OddInBwdIdeal.main_arg2)) (m ((c.tc : Thread Cert.OddInBwdIdeal.nD Cert.OddInBwdIdeal.τ).loc Cert.OddInBwdIdeal.main_arg3)) (m ((c.tc : Thread Cert.OddInBwdIdeal.nD Cert.OddInBwdIdeal.τ).loc Cert.OddInBwdIdeal.main_arg4)) (m ((c.tc : Thread Cert.OddInBwdIdeal.nD Cert.OddInBwdIdeal.τ).loc Cert.OddInBwdIdeal.main_arg5)) (m ((c.tc : Thread Cert.OddInBwdIdeal.nD Cert.OddInBwdIdeal.τ).loc Cert.OddInBwdIdeal.main_arg6)) (m ((c.tc : Thread Cert.OddInBwdIdeal.nD Cert.OddInBwdIdeal.τ).loc Cert.OddInBwdIdeal.main_arg7)) (m ((c.tc : Thread Cert.OddInBwdIdeal.nD Cert.OddInBwdIdeal.τ).loc Cert.OddInBwdIdeal.main_arg8))).2.2.2.2.2.2.2 = (fun _ => 1#1)

def Pre_OddInBwdRefIdeal (m : (ℓ : Loc Cert.OddInBwdRefIdeal.nD Cert.OddInBwdRefIdeal.τ Cert.OddInBwdRefIdeal.sig) → Buf (Elt Ideal) ℓ) : Prop :=
  True

def Pre_OddInBwdRefIdeal_odd_in_bwd_finite [hPre_odd_in_bwd_finite : Cert.Pre_odd_in_bwd_finite.Facts] (m : (ℓ : Loc Cert.OddInBwdRefIdeal.nD Cert.OddInBwdRefIdeal.τ Cert.OddInBwdRefIdeal.sig) → Buf (Elt Ideal) ℓ) : Prop :=
  ∀ c : Dev Cert.OddInBwdRefIdeal.nD,
    (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.2.1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.2.2.1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.2.2.2.1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.2.2.2.2.1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.2.2.2.2.2.1 = (fun _ => 1#1)
    ∧ (Cert.Pre_odd_in_bwd_finite.fn (F := Ideal) (m ((c.tc : Thread Cert.OddInBwdRefIdeal.nD Cert.OddInBwdRefIdeal.τ).loc Cert.OddInBwdRefIdeal.main_arg0)) (m ((c.tc : Thread Cert.OddInBwdRefIdeal.nD Cert.OddInBwdRefIdeal.τ).loc Cert.OddInBwdRefIdeal.main_arg1)) (m ((c.tc : Thread Cert.OddInBwdRefIdeal.nD Cert.OddInBwdRefIdeal.τ).loc Cert.OddInBwdRefIdeal.main_arg2)) (m ((c.tc : Thread Cert.OddInBwdRefIdeal.nD Cert.OddInBwdRefIdeal.τ).loc Cert.OddInBwdRefIdeal.main_arg3)) (m ((c.tc : Thread Cert.OddInBwdRefIdeal.nD Cert.OddInBwdRefIdeal.τ).loc Cert.OddInBwdRefIdeal.main_arg4)) (m ((c.tc : Thread Cert.OddInBwdRefIdeal.nD Cert.OddInBwdRefIdeal.τ).loc Cert.OddInBwdRefIdeal.main_arg5)) (m ((c.tc : Thread Cert.OddInBwdRefIdeal.nD Cert.OddInBwdRefIdeal.τ).loc Cert.OddInBwdRefIdeal.main_arg6)) (m ((c.tc : Thread Cert.OddInBwdRefIdeal.nD Cert.OddInBwdRefIdeal.τ).loc Cert.OddInBwdRefIdeal.main_arg7)) (m ((c.tc : Thread Cert.OddInBwdRefIdeal.nD Cert.OddInBwdRefIdeal.τ).loc Cert.OddInBwdRefIdeal.main_arg8))).2.2.2.2.2.2.2 = (fun _ => 1#1)

def Pre_OddInGrad (m : (ℓ : Loc Cert.OddInGrad.nD Cert.OddInGrad.τ Cert.OddInGrad.sig) → Buf (Elt Bits) ℓ) : Prop :=
  True

def Pre_OddInGradIdeal (m : (ℓ : Loc Cert.OddInGradIdeal.nD Cert.OddInGradIdeal.τ Cert.OddInGradIdeal.sig) → Buf (Elt Ideal) ℓ) : Prop :=
  True

def Pre_OddInGradRefIdeal (m : (ℓ : Loc Cert.OddInGradRefIdeal.nD Cert.OddInGradRefIdeal.τ Cert.OddInGradRefIdeal.sig) → Buf (Elt Ideal) ℓ) : Prop :=
  True

def Pre_EvenOutGrad (m : (ℓ : Loc Cert.EvenOutGrad.nD Cert.EvenOutGrad.τ Cert.EvenOutGrad.sig) → Buf (Elt Bits) ℓ) : Prop :=
  True

def Pre_EvenOutGradIdeal (m : (ℓ : Loc Cert.EvenOutGradIdeal.nD Cert.EvenOutGradIdeal.τ Cert.EvenOutGradIdeal.sig) → Buf (Elt Ideal) ℓ) : Prop :=
  True

def Pre_EvenOutGradRefIdeal (m : (ℓ : Loc Cert.EvenOutGradRefIdeal.nD Cert.EvenOutGradRefIdeal.τ Cert.EvenOutGradRefIdeal.sig) → Buf (Elt Ideal) ℓ) : Prop :=
  True

def Pre_OddOutGrad (m : (ℓ : Loc Cert.OddOutGrad.nD Cert.OddOutGrad.τ Cert.OddOutGrad.sig) → Buf (Elt Bits) ℓ) : Prop :=
  True

def Pre_OddOutGradIdeal (m : (ℓ : Loc Cert.OddOutGradIdeal.nD Cert.OddOutGradIdeal.τ Cert.OddOutGradIdeal.sig) → Buf (Elt Ideal) ℓ) : Prop :=
  True

def Pre_OddOutGradRefIdeal (m : (ℓ : Loc Cert.OddOutGradRefIdeal.nD Cert.OddOutGradRefIdeal.τ Cert.OddOutGradRefIdeal.sig) → Buf (Elt Ideal) ℓ) : Prop :=
  True

def Pre_EvenOutFwd (m : (ℓ : Loc Cert.EvenOutFwd.nD Cert.EvenOutFwd.τ Cert.EvenOutFwd.sig) → Buf (Elt Bits) ℓ) : Prop :=
  True

def Pre_EvenOutFwdIdeal (m : (ℓ : Loc Cert.EvenOutFwdIdeal.nD Cert.EvenOutFwdIdeal.τ Cert.EvenOutFwdIdeal.sig) → Buf (Elt Ideal) ℓ) : Prop :=
  True

def Pre_EvenOutFwdRefIdeal (m : (ℓ : Loc Cert.EvenOutFwdRefIdeal.nD Cert.EvenOutFwdRefIdeal.τ Cert.EvenOutFwdRefIdeal.sig) → Buf (Elt Ideal) ℓ) : Prop :=
  True

def Pre_OddInFwd (m : (ℓ : Loc Cert.OddInFwd.nD Cert.OddInFwd.τ Cert.OddInFwd.sig) → Buf (Elt Bits) ℓ) : Prop :=
  True

def Pre_OddInFwdIdeal (m : (ℓ : Loc Cert.OddInFwdIdeal.nD Cert.OddInFwdIdeal.τ Cert.OddInFwdIdeal.sig) → Buf (Elt Ideal) ℓ) : Prop :=
  True

def Pre_OddInFwdRefIdeal (m : (ℓ : Loc Cert.OddInFwdRefIdeal.nD Cert.OddInFwdRefIdeal.τ Cert.OddInFwdRefIdeal.sig) → Buf (Elt Ideal) ℓ) : Prop :=
  True

def Pre_OddOutFwd (m : (ℓ : Loc Cert.OddOutFwd.nD Cert.OddOutFwd.τ Cert.OddOutFwd.sig) → Buf (Elt Bits) ℓ) : Prop :=
  True

def Pre_OddOutFwdIdeal (m : (ℓ : Loc Cert.OddOutFwdIdeal.nD Cert.OddOutFwdIdeal.τ Cert.OddOutFwdIdeal.sig) → Buf (Elt Ideal) ℓ) : Prop :=
  True

def Pre_OddOutFwdIdeal_odd_out_fwd_finite [hPre_odd_out_fwd_finite : Cert.Pre_odd_out_fwd_finite.Facts] (m : (ℓ : Loc Cert.OddOutFwdIdeal.nD Cert.OddOutFwdIdeal.τ Cert.OddOutFwdIdeal.sig) → Buf (Elt Ideal) ℓ) : Prop :=
  ∀ c : Dev Cert.OddOutFwdIdeal.nD,
    (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).1 = (fun _ => 1#1)
    ∧ (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).2.1 = (fun _ => 1#1)
    ∧ (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).2.2.1 = (fun _ => 1#1)
    ∧ (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).2.2.2.1 = (fun _ => 1#1)
    ∧ (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).2.2.2.2.1 = (fun _ => 1#1)
    ∧ (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).2.2.2.2.2.1 = (fun _ => 1#1)
    ∧ (Cert.Pre_odd_out_fwd_finite.fn (F := Ideal) (m ((c.tc : Thread Cert.OddOutFwdIdeal.nD Cert.OddOutFwdIdeal.τ).loc Cert.OddOutFwdIdeal.main_arg0)) (m ((c.tc : Thread Cert.OddOutFwdIdeal.nD Cert.OddOutFwdIdeal.τ).loc Cert.OddOutFwdIdeal.main_arg1)) (m ((c.tc : Thread Cert.OddOutFwdIdeal.nD Cert.OddOutFwdIdeal.τ).loc Cert.OddOutFwdIdeal.main_arg2)) (m ((c.tc : Thread Cert.OddOutFwdIdeal.nD Cert.OddOutFwdIdeal.τ).loc Cert.OddOutFwdIdeal.main_arg3)) (m ((c.tc : Thread Cert.OddOutFwdIdeal.nD Cert.OddOutFwdIdeal.τ).loc Cert.OddOutFwdIdeal.main_arg4)) (m ((c.tc : Thread Cert.OddOutFwdIdeal.nD Cert.OddOutFwdIdeal.τ).loc Cert.OddOutFwdIdeal.main_arg5)) (m ((c.tc : Thread Cert.OddOutFwdIdeal.nD Cert.OddOutFwdIdeal.τ).loc Cert.OddOutFwdIdeal.main_arg6))).2.2.2.2.2.2 = (fun _ => 1#1)

def Pre_OddOutFwdRefIdeal (m : (ℓ : Loc Cert.OddOutFwdRefIdeal.nD Cert.OddOutFwdRefIdeal.τ Cert.OddOutFwdRefIdeal.sig) → Buf (Elt Ideal) ℓ) : Prop :=
  True

def Pre_OddOutFwdRefIdeal_odd_out_fwd_finite [hPre_odd_out_fwd_finite : Cert.Pre_odd_out_fwd_finite.Facts] (m : (ℓ : Loc Cert.OddOutFwdRefIdeal.nD Cert.OddOutFwdRefIdeal.τ Cert.OddOutFwdRefIdeal.sig) → Buf (Elt Ideal) ℓ) : Prop :=
  ∀ c : Dev Cert.OddOutFwdRefIdeal.nD,
    (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).1 = (fun _ => 1#1)
    ∧ (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).2.1 = (fun _ => 1#1)
    ∧ (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).2.2.1 = (fun _ => 1#1)
    ∧ (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).2.2.2.1 = (fun _ => 1#1)
    ∧ (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).2.2.2.2.1 = (fun _ => 1#1)
    ∧ (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).2.2.2.2.2.1 = (fun _ => 1#1)
    ∧ (Cert.Pre_odd_out_fwd_finite.fn (F := Ideal) (m ((c.tc : Thread Cert.OddOutFwdRefIdeal.nD Cert.OddOutFwdRefIdeal.τ).loc Cert.OddOutFwdRefIdeal.main_arg0)) (m ((c.tc : Thread Cert.OddOutFwdRefIdeal.nD Cert.OddOutFwdRefIdeal.τ).loc Cert.OddOutFwdRefIdeal.main_arg1)) (m ((c.tc : Thread Cert.OddOutFwdRefIdeal.nD Cert.OddOutFwdRefIdeal.τ).loc Cert.OddOutFwdRefIdeal.main_arg2)) (m ((c.tc : Thread Cert.OddOutFwdRefIdeal.nD Cert.OddOutFwdRefIdeal.τ).loc Cert.OddOutFwdRefIdeal.main_arg3)) (m ((c.tc : Thread Cert.OddOutFwdRefIdeal.nD Cert.OddOutFwdRefIdeal.τ).loc Cert.OddOutFwdRefIdeal.main_arg4)) (m ((c.tc : Thread Cert.OddOutFwdRefIdeal.nD Cert.OddOutFwdRefIdeal.τ).loc Cert.OddOutFwdRefIdeal.main_arg5)) (m ((c.tc : Thread Cert.OddOutFwdRefIdeal.nD Cert.OddOutFwdRefIdeal.τ).loc Cert.OddOutFwdRefIdeal.main_arg6))).2.2.2.2.2.2 = (fun _ => 1#1)

def Pre_GateRankBwd (m : (ℓ : Loc Cert.GateRankBwd.nD Cert.GateRankBwd.τ Cert.GateRankBwd.sig) → Buf (Elt Bits) ℓ) : Prop :=
  True

def Pre_GateRankBwdIdeal (m : (ℓ : Loc Cert.GateRankBwdIdeal.nD Cert.GateRankBwdIdeal.τ Cert.GateRankBwdIdeal.sig) → Buf (Elt Ideal) ℓ) : Prop :=
  True

def Pre_GateRankBwdRefIdeal (m : (ℓ : Loc Cert.GateRankBwdRefIdeal.nD Cert.GateRankBwdRefIdeal.τ Cert.GateRankBwdRefIdeal.sig) → Buf (Elt Ideal) ℓ) : Prop :=
  True

def Pre_EvenMixFwd (m : (ℓ : Loc Cert.EvenMixFwd.nD Cert.EvenMixFwd.τ Cert.EvenMixFwd.sig) → Buf (Elt Bits) ℓ) : Prop :=
  True

def Pre_EvenMixFwdIdeal (m : (ℓ : Loc Cert.EvenMixFwdIdeal.nD Cert.EvenMixFwdIdeal.τ Cert.EvenMixFwdIdeal.sig) → Buf (Elt Ideal) ℓ) : Prop :=
  True

def Pre_EvenMixFwdRefIdeal (m : (ℓ : Loc Cert.EvenMixFwdRefIdeal.nD Cert.EvenMixFwdRefIdeal.τ Cert.EvenMixFwdRefIdeal.sig) → Buf (Elt Ideal) ℓ) : Prop :=
  True

def Pre_EvenMixBwd (m : (ℓ : Loc Cert.EvenMixBwd.nD Cert.EvenMixBwd.τ Cert.EvenMixBwd.sig) → Buf (Elt Bits) ℓ) : Prop :=
  True

def Pre_EvenMixBwdIdeal (m : (ℓ : Loc Cert.EvenMixBwdIdeal.nD Cert.EvenMixBwdIdeal.τ Cert.EvenMixBwdIdeal.sig) → Buf (Elt Ideal) ℓ) : Prop :=
  True

def Pre_EvenMixBwdIdeal_even_mix_bwd_finite [hPre_even_mix_bwd_finite : Cert.Pre_even_mix_bwd_finite.Facts] (m : (ℓ : Loc Cert.EvenMixBwdIdeal.nD Cert.EvenMixBwdIdeal.τ Cert.EvenMixBwdIdeal.sig) → Buf (Elt Ideal) ℓ) : Prop :=
  ∀ c : Dev Cert.EvenMixBwdIdeal.nD,
    (Cert.Pre_even_mix_bwd_finite.fn (F := Ideal) (m ((c.tc : Thread Cert.EvenMixBwdIdeal.nD Cert.EvenMixBwdIdeal.τ).loc Cert.EvenMixBwdIdeal.main_arg0)) (m ((c.tc : Thread Cert.EvenMixBwdIdeal.nD Cert.EvenMixBwdIdeal.τ).loc Cert.EvenMixBwdIdeal.main_arg1)) (m ((c.tc : Thread Cert.EvenMixBwdIdeal.nD Cert.EvenMixBwdIdeal.τ).loc Cert.EvenMixBwdIdeal.main_arg2)) (m ((c.tc : Thread Cert.EvenMixBwdIdeal.nD Cert.EvenMixBwdIdeal.τ).loc Cert.EvenMixBwdIdeal.main_arg3)) (m ((c.tc : Thread Cert.EvenMixBwdIdeal.nD Cert.EvenMixBwdIdeal.τ).loc Cert.EvenMixBwdIdeal.main_arg4)) (m ((c.tc : Thread Cert.EvenMixBwdIdeal.nD Cert.EvenMixBwdIdeal.τ).loc Cert.EvenMixBwdIdeal.main_arg5)) (m ((c.tc : Thread Cert.EvenMixBwdIdeal.nD Cert.EvenMixBwdIdeal.τ).loc Cert.EvenMixBwdIdeal.main_arg6))).1 = (fun _ => 1#1)
    ∧ (Cert.Pre_even_mix_bwd_finite.fn (F := Ideal) (m ((c.tc : Thread Cert.EvenMixBwdIdeal.nD Cert.EvenMixBwdIdeal.τ).loc Cert.EvenMixBwdIdeal.main_arg0)) (m ((c.tc : Thread Cert.EvenMixBwdIdeal.nD Cert.EvenMixBwdIdeal.τ).loc Cert.EvenMixBwdIdeal.main_arg1)) (m ((c.tc : Thread Cert.EvenMixBwdIdeal.nD Cert.EvenMixBwdIdeal.τ).loc Cert.EvenMixBwdIdeal.main_arg2)) (m ((c.tc : Thread Cert.EvenMixBwdIdeal.nD Cert.EvenMixBwdIdeal.τ).loc Cert.EvenMixBwdIdeal.main_arg3)) (m ((c.tc : Thread Cert.EvenMixBwdIdeal.nD Cert.EvenMixBwdIdeal.τ).loc Cert.EvenMixBwdIdeal.main_arg4)) (m ((c.tc : Thread Cert.EvenMixBwdIdeal.nD Cert.EvenMixBwdIdeal.τ).loc Cert.EvenMixBwdIdeal.main_arg5)) (m ((c.tc : Thread Cert.EvenMixBwdIdeal.nD Cert.EvenMixBwdIdeal.τ).loc Cert.EvenMixBwdIdeal.main_arg6))).2.1 = (fun _ => 1#1)
    ∧ (Cert.Pre_even_mix_bwd_finite.fn (F := Ideal) (m ((c.tc : Thread Cert.EvenMixBwdIdeal.nD Cert.EvenMixBwdIdeal.τ).loc Cert.EvenMixBwdIdeal.main_arg0)) (m ((c.tc : Thread Cert.EvenMixBwdIdeal.nD Cert.EvenMixBwdIdeal.τ).loc Cert.EvenMixBwdIdeal.main_arg1)) (m ((c.tc : Thread Cert.EvenMixBwdIdeal.nD Cert.EvenMixBwdIdeal.τ).loc Cert.EvenMixBwdIdeal.main_arg2)) (m ((c.tc : Thread Cert.EvenMixBwdIdeal.nD Cert.EvenMixBwdIdeal.τ).loc Cert.EvenMixBwdIdeal.main_arg3)) (m ((c.tc : Thread Cert.EvenMixBwdIdeal.nD Cert.EvenMixBwdIdeal.τ).loc Cert.EvenMixBwdIdeal.main_arg4)) (m ((c.tc : Thread Cert.EvenMixBwdIdeal.nD Cert.EvenMixBwdIdeal.τ).loc Cert.EvenMixBwdIdeal.main_arg5)) (m ((c.tc : Thread Cert.EvenMixBwdIdeal.nD Cert.EvenMixBwdIdeal.τ).loc Cert.EvenMixBwdIdeal.main_arg6))).2.2.1 = (fun _ => 1#1)
    ∧ (Cert.Pre_even_mix_bwd_finite.fn (F := Ideal) (m ((c.tc : Thread Cert.EvenMixBwdIdeal.nD Cert.EvenMixBwdIdeal.τ).loc Cert.EvenMixBwdIdeal.main_arg0)) (m ((c.tc : Thread Cert.EvenMixBwdIdeal.nD Cert.EvenMixBwdIdeal.τ).loc Cert.EvenMixBwdIdeal.main_arg1)) (m ((c.tc : Thread Cert.EvenMixBwdIdeal.nD Cert.EvenMixBwdIdeal.τ).loc Cert.EvenMixBwdIdeal.main_arg2)) (m ((c.tc : Thread Cert.EvenMixBwdIdeal.nD Cert.EvenMixBwdIdeal.τ).loc Cert.EvenMixBwdIdeal.main_arg3)) (m ((c.tc : Thread Cert.EvenMixBwdIdeal.nD Cert.EvenMixBwdIdeal.τ).loc Cert.EvenMixBwdIdeal.main_arg4)) (m ((c.tc : Thread Cert.EvenMixBwdIdeal.nD Cert.EvenMixBwdIdeal.τ).loc Cert.EvenMixBwdIdeal.main_arg5)) (m ((c.tc : Thread Cert.EvenMixBwdIdeal.nD Cert.EvenMixBwdIdeal.τ).loc Cert.EvenMixBwdIdeal.main_arg6))).2.2.2.1 = (fun _ => 1#1)
    ∧ (Cert.Pre_even_mix_bwd_finite.fn (F := Ideal) (m ((c.tc : Thread Cert.EvenMixBwdIdeal.nD Cert.EvenMixBwdIdeal.τ).loc Cert.EvenMixBwdIdeal.main_arg0)) (m ((c.tc : Thread Cert.EvenMixBwdIdeal.nD Cert.EvenMixBwdIdeal.τ).loc Cert.EvenMixBwdIdeal.main_arg1)) (m ((c.tc : Thread Cert.EvenMixBwdIdeal.nD Cert.EvenMixBwdIdeal.τ).loc Cert.EvenMixBwdIdeal.main_arg2)) (m ((c.tc : Thread Cert.EvenMixBwdIdeal.nD Cert.EvenMixBwdIdeal.τ).loc Cert.EvenMixBwdIdeal.main_arg3)) (m ((c.tc : Thread Cert.EvenMixBwdIdeal.nD Cert.EvenMixBwdIdeal.τ).loc Cert.EvenMixBwdIdeal.main_arg4)) (m ((c.tc : Thread Cert.EvenMixBwdIdeal.nD Cert.EvenMixBwdIdeal.τ).loc Cert.EvenMixBwdIdeal.main_arg5)) (m ((c.tc : Thread Cert.EvenMixBwdIdeal.nD Cert.EvenMixBwdIdeal.τ).loc Cert.EvenMixBwdIdeal.main_arg6))).2.2.2.2 = (fun _ => 1#1)

def Pre_EvenMixBwdRefIdeal (m : (ℓ : Loc Cert.EvenMixBwdRefIdeal.nD Cert.EvenMixBwdRefIdeal.τ Cert.EvenMixBwdRefIdeal.sig) → Buf (Elt Ideal) ℓ) : Prop :=
  True

def Pre_EvenMixBwdRefIdeal_even_mix_bwd_finite [hPre_even_mix_bwd_finite : Cert.Pre_even_mix_bwd_finite.Facts] (m : (ℓ : Loc Cert.EvenMixBwdRefIdeal.nD Cert.EvenMixBwdRefIdeal.τ Cert.EvenMixBwdRefIdeal.sig) → Buf (Elt Ideal) ℓ) : Prop :=
  ∀ c : Dev Cert.EvenMixBwdRefIdeal.nD,
    (Cert.Pre_even_mix_bwd_finite.fn (F := Ideal) (m ((c.tc : Thread Cert.EvenMixBwdRefIdeal.nD Cert.EvenMixBwdRefIdeal.τ).loc Cert.EvenMixBwdRefIdeal.main_arg0)) (m ((c.tc : Thread Cert.EvenMixBwdRefIdeal.nD Cert.EvenMixBwdRefIdeal.τ).loc Cert.EvenMixBwdRefIdeal.main_arg1)) (m ((c.tc : Thread Cert.EvenMixBwdRefIdeal.nD Cert.EvenMixBwdRefIdeal.τ).loc Cert.EvenMixBwdRefIdeal.main_arg2)) (m ((c.tc : Thread Cert.EvenMixBwdRefIdeal.nD Cert.EvenMixBwdRefIdeal.τ).loc Cert.EvenMixBwdRefIdeal.main_arg3)) (m ((c.tc : Thread Cert.EvenMixBwdRefIdeal.nD Cert.EvenMixBwdRefIdeal.τ).loc Cert.EvenMixBwdRefIdeal.main_arg4)) (m ((c.tc : Thread Cert.EvenMixBwdRefIdeal.nD Cert.EvenMixBwdRefIdeal.τ).loc Cert.EvenMixBwdRefIdeal.main_arg5)) (m ((c.tc : Thread Cert.EvenMixBwdRefIdeal.nD Cert.EvenMixBwdRefIdeal.τ).loc Cert.EvenMixBwdRefIdeal.main_arg6))).1 = (fun _ => 1#1)
    ∧ (Cert.Pre_even_mix_bwd_finite.fn (F := Ideal) (m ((c.tc : Thread Cert.EvenMixBwdRefIdeal.nD Cert.EvenMixBwdRefIdeal.τ).loc Cert.EvenMixBwdRefIdeal.main_arg0)) (m ((c.tc : Thread Cert.EvenMixBwdRefIdeal.nD Cert.EvenMixBwdRefIdeal.τ).loc Cert.EvenMixBwdRefIdeal.main_arg1)) (m ((c.tc : Thread Cert.EvenMixBwdRefIdeal.nD Cert.EvenMixBwdRefIdeal.τ).loc Cert.EvenMixBwdRefIdeal.main_arg2)) (m ((c.tc : Thread Cert.EvenMixBwdRefIdeal.nD Cert.EvenMixBwdRefIdeal.τ).loc Cert.EvenMixBwdRefIdeal.main_arg3)) (m ((c.tc : Thread Cert.EvenMixBwdRefIdeal.nD Cert.EvenMixBwdRefIdeal.τ).loc Cert.EvenMixBwdRefIdeal.main_arg4)) (m ((c.tc : Thread Cert.EvenMixBwdRefIdeal.nD Cert.EvenMixBwdRefIdeal.τ).loc Cert.EvenMixBwdRefIdeal.main_arg5)) (m ((c.tc : Thread Cert.EvenMixBwdRefIdeal.nD Cert.EvenMixBwdRefIdeal.τ).loc Cert.EvenMixBwdRefIdeal.main_arg6))).2.1 = (fun _ => 1#1)
    ∧ (Cert.Pre_even_mix_bwd_finite.fn (F := Ideal) (m ((c.tc : Thread Cert.EvenMixBwdRefIdeal.nD Cert.EvenMixBwdRefIdeal.τ).loc Cert.EvenMixBwdRefIdeal.main_arg0)) (m ((c.tc : Thread Cert.EvenMixBwdRefIdeal.nD Cert.EvenMixBwdRefIdeal.τ).loc Cert.EvenMixBwdRefIdeal.main_arg1)) (m ((c.tc : Thread Cert.EvenMixBwdRefIdeal.nD Cert.EvenMixBwdRefIdeal.τ).loc Cert.EvenMixBwdRefIdeal.main_arg2)) (m ((c.tc : Thread Cert.EvenMixBwdRefIdeal.nD Cert.EvenMixBwdRefIdeal.τ).loc Cert.EvenMixBwdRefIdeal.main_arg3)) (m ((c.tc : Thread Cert.EvenMixBwdRefIdeal.nD Cert.EvenMixBwdRefIdeal.τ).loc Cert.EvenMixBwdRefIdeal.main_arg4)) (m ((c.tc : Thread Cert.EvenMixBwdRefIdeal.nD Cert.EvenMixBwdRefIdeal.τ).loc Cert.EvenMixBwdRefIdeal.main_arg5)) (m ((c.tc : Thread Cert.EvenMixBwdRefIdeal.nD Cert.EvenMixBwdRefIdeal.τ).loc Cert.EvenMixBwdRefIdeal.main_arg6))).2.2.1 = (fun _ => 1#1)
    ∧ (Cert.Pre_even_mix_bwd_finite.fn (F := Ideal) (m ((c.tc : Thread Cert.EvenMixBwdRefIdeal.nD Cert.EvenMixBwdRefIdeal.τ).loc Cert.EvenMixBwdRefIdeal.main_arg0)) (m ((c.tc : Thread Cert.EvenMixBwdRefIdeal.nD Cert.EvenMixBwdRefIdeal.τ).loc Cert.EvenMixBwdRefIdeal.main_arg1)) (m ((c.tc : Thread Cert.EvenMixBwdRefIdeal.nD Cert.EvenMixBwdRefIdeal.τ).loc Cert.EvenMixBwdRefIdeal.main_arg2)) (m ((c.tc : Thread Cert.EvenMixBwdRefIdeal.nD Cert.EvenMixBwdRefIdeal.τ).loc Cert.EvenMixBwdRefIdeal.main_arg3)) (m ((c.tc : Thread Cert.EvenMixBwdRefIdeal.nD Cert.EvenMixBwdRefIdeal.τ).loc Cert.EvenMixBwdRefIdeal.main_arg4)) (m ((c.tc : Thread Cert.EvenMixBwdRefIdeal.nD Cert.EvenMixBwdRefIdeal.τ).loc Cert.EvenMixBwdRefIdeal.main_arg5)) (m ((c.tc : Thread Cert.EvenMixBwdRefIdeal.nD Cert.EvenMixBwdRefIdeal.τ).loc Cert.EvenMixBwdRefIdeal.main_arg6))).2.2.2.1 = (fun _ => 1#1)
    ∧ (Cert.Pre_even_mix_bwd_finite.fn (F := Ideal) (m ((c.tc : Thread Cert.EvenMixBwdRefIdeal.nD Cert.EvenMixBwdRefIdeal.τ).loc Cert.EvenMixBwdRefIdeal.main_arg0)) (m ((c.tc : Thread Cert.EvenMixBwdRefIdeal.nD Cert.EvenMixBwdRefIdeal.τ).loc Cert.EvenMixBwdRefIdeal.main_arg1)) (m ((c.tc : Thread Cert.EvenMixBwdRefIdeal.nD Cert.EvenMixBwdRefIdeal.τ).loc Cert.EvenMixBwdRefIdeal.main_arg2)) (m ((c.tc : Thread Cert.EvenMixBwdRefIdeal.nD Cert.EvenMixBwdRefIdeal.τ).loc Cert.EvenMixBwdRefIdeal.main_arg3)) (m ((c.tc : Thread Cert.EvenMixBwdRefIdeal.nD Cert.EvenMixBwdRefIdeal.τ).loc Cert.EvenMixBwdRefIdeal.main_arg4)) (m ((c.tc : Thread Cert.EvenMixBwdRefIdeal.nD Cert.EvenMixBwdRefIdeal.τ).loc Cert.EvenMixBwdRefIdeal.main_arg5)) (m ((c.tc : Thread Cert.EvenMixBwdRefIdeal.nD Cert.EvenMixBwdRefIdeal.τ).loc Cert.EvenMixBwdRefIdeal.main_arg6))).2.2.2.2 = (fun _ => 1#1)

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def quiescent_EvenInBwd [hEvenInBwd : Cert.EvenInBwd.Facts] : Prop :=
  ∀ (m : (ℓ : Loc Cert.EvenInBwd.nD Cert.EvenInBwd.τ Cert.EvenInBwd.sig) → Buf (Elt Bits) ℓ) (g : Dev Cert.EvenInBwd.nD → PrngReg), Pre_EvenInBwd m →
    θ_run (Cert.EvenInBwd.defs (F := Bits)) (onTc (τ := Cert.EvenInBwd.τ) (Cert.EvenInBwd.main (F := Bits))) ⟨m, fun _ => 0, g⟩ (fun r => (∀ c : Dev Cert.EvenInBwd.nD,
      r.2.mem ((c.tc : Thread Cert.EvenInBwd.nD Cert.EvenInBwd.τ).loc Cert.EvenInBwd.main_arg0) = m ((c.tc : Thread Cert.EvenInBwd.nD Cert.EvenInBwd.τ).loc Cert.EvenInBwd.main_arg0)
      ∧ r.2.mem ((c.tc : Thread Cert.EvenInBwd.nD Cert.EvenInBwd.τ).loc Cert.EvenInBwd.main_arg1) = m ((c.tc : Thread Cert.EvenInBwd.nD Cert.EvenInBwd.τ).loc Cert.EvenInBwd.main_arg1)
      ∧ r.2.mem ((c.tc : Thread Cert.EvenInBwd.nD Cert.EvenInBwd.τ).loc Cert.EvenInBwd.main_arg2) = m ((c.tc : Thread Cert.EvenInBwd.nD Cert.EvenInBwd.τ).loc Cert.EvenInBwd.main_arg2)
      ∧ r.2.mem ((c.tc : Thread Cert.EvenInBwd.nD Cert.EvenInBwd.τ).loc Cert.EvenInBwd.main_arg3) = m ((c.tc : Thread Cert.EvenInBwd.nD Cert.EvenInBwd.τ).loc Cert.EvenInBwd.main_arg3)
      ∧ r.2.mem ((c.tc : Thread Cert.EvenInBwd.nD Cert.EvenInBwd.τ).loc Cert.EvenInBwd.main_arg4) = m ((c.tc : Thread Cert.EvenInBwd.nD Cert.EvenInBwd.τ).loc Cert.EvenInBwd.main_arg4))
      ∧ r.2.sem = fun _ => 0)

def quiescent_EvenInBwdIdeal [hEvenInBwdIdeal : Cert.EvenInBwdIdeal.Facts] : Prop :=
  ∀ (m : (ℓ : Loc Cert.EvenInBwdIdeal.nD Cert.EvenInBwdIdeal.τ Cert.EvenInBwdIdeal.sig) → Buf (Elt Ideal) ℓ) (g : Dev Cert.EvenInBwdIdeal.nD → PrngReg), Pre_EvenInBwdIdeal m →
    θ_run (Cert.EvenInBwdIdeal.defs (F := Ideal)) (onTc (τ := Cert.EvenInBwdIdeal.τ) (Cert.EvenInBwdIdeal.main (F := Ideal))) ⟨m, fun _ => 0, g⟩ (fun r => (∀ c : Dev Cert.EvenInBwdIdeal.nD,
      r.2.mem ((c.tc : Thread Cert.EvenInBwdIdeal.nD Cert.EvenInBwdIdeal.τ).loc Cert.EvenInBwdIdeal.main_arg0) = m ((c.tc : Thread Cert.EvenInBwdIdeal.nD Cert.EvenInBwdIdeal.τ).loc Cert.EvenInBwdIdeal.main_arg0)
      ∧ r.2.mem ((c.tc : Thread Cert.EvenInBwdIdeal.nD Cert.EvenInBwdIdeal.τ).loc Cert.EvenInBwdIdeal.main_arg1) = m ((c.tc : Thread Cert.EvenInBwdIdeal.nD Cert.EvenInBwdIdeal.τ).loc Cert.EvenInBwdIdeal.main_arg1)
      ∧ r.2.mem ((c.tc : Thread Cert.EvenInBwdIdeal.nD Cert.EvenInBwdIdeal.τ).loc Cert.EvenInBwdIdeal.main_arg2) = m ((c.tc : Thread Cert.EvenInBwdIdeal.nD Cert.EvenInBwdIdeal.τ).loc Cert.EvenInBwdIdeal.main_arg2)
      ∧ r.2.mem ((c.tc : Thread Cert.EvenInBwdIdeal.nD Cert.EvenInBwdIdeal.τ).loc Cert.EvenInBwdIdeal.main_arg3) = m ((c.tc : Thread Cert.EvenInBwdIdeal.nD Cert.EvenInBwdIdeal.τ).loc Cert.EvenInBwdIdeal.main_arg3)
      ∧ r.2.mem ((c.tc : Thread Cert.EvenInBwdIdeal.nD Cert.EvenInBwdIdeal.τ).loc Cert.EvenInBwdIdeal.main_arg4) = m ((c.tc : Thread Cert.EvenInBwdIdeal.nD Cert.EvenInBwdIdeal.τ).loc Cert.EvenInBwdIdeal.main_arg4))
      ∧ r.2.sem = fun _ => 0)

def quiescent_EvenInBwdIdeal_pre_even_in_bwd_finite [hEvenInBwdIdeal : Cert.EvenInBwdIdeal.Facts] [hPre_even_in_bwd_finite : Cert.Pre_even_in_bwd_finite.Facts] : Prop :=
  ∀ (m : (ℓ : Loc Cert.EvenInBwdIdeal.nD Cert.EvenInBwdIdeal.τ Cert.EvenInBwdIdeal.sig) → Buf (Elt Ideal) ℓ) (g : Dev Cert.EvenInBwdIdeal.nD → PrngReg), Pre_EvenInBwdIdeal_even_in_bwd_finite m →
    θ_run (Cert.EvenInBwdIdeal.defs (F := Ideal)) (onTc (τ := Cert.EvenInBwdIdeal.τ) (Cert.EvenInBwdIdeal.main (F := Ideal))) ⟨m, fun _ => 0, g⟩ (fun r => (∀ c : Dev Cert.EvenInBwdIdeal.nD,
      r.2.mem ((c.tc : Thread Cert.EvenInBwdIdeal.nD Cert.EvenInBwdIdeal.τ).loc Cert.EvenInBwdIdeal.main_arg0) = m ((c.tc : Thread Cert.EvenInBwdIdeal.nD Cert.EvenInBwdIdeal.τ).loc Cert.EvenInBwdIdeal.main_arg0)
      ∧ r.2.mem ((c.tc : Thread Cert.EvenInBwdIdeal.nD Cert.EvenInBwdIdeal.τ).loc Cert.EvenInBwdIdeal.main_arg1) = m ((c.tc : Thread Cert.EvenInBwdIdeal.nD Cert.EvenInBwdIdeal.τ).loc Cert.EvenInBwdIdeal.main_arg1)
      ∧ r.2.mem ((c.tc : Thread Cert.EvenInBwdIdeal.nD Cert.EvenInBwdIdeal.τ).loc Cert.EvenInBwdIdeal.main_arg2) = m ((c.tc : Thread Cert.EvenInBwdIdeal.nD Cert.EvenInBwdIdeal.τ).loc Cert.EvenInBwdIdeal.main_arg2)
      ∧ r.2.mem ((c.tc : Thread Cert.EvenInBwdIdeal.nD Cert.EvenInBwdIdeal.τ).loc Cert.EvenInBwdIdeal.main_arg3) = m ((c.tc : Thread Cert.EvenInBwdIdeal.nD Cert.EvenInBwdIdeal.τ).loc Cert.EvenInBwdIdeal.main_arg3)
      ∧ r.2.mem ((c.tc : Thread Cert.EvenInBwdIdeal.nD Cert.EvenInBwdIdeal.τ).loc Cert.EvenInBwdIdeal.main_arg4) = m ((c.tc : Thread Cert.EvenInBwdIdeal.nD Cert.EvenInBwdIdeal.τ).loc Cert.EvenInBwdIdeal.main_arg4))
      ∧ r.2.sem = fun _ => 0)

def quiescent_EvenInBwdRefIdeal [hEvenInBwdRefIdeal : Cert.EvenInBwdRefIdeal.Facts] : Prop :=
  ∀ (m : (ℓ : Loc Cert.EvenInBwdRefIdeal.nD Cert.EvenInBwdRefIdeal.τ Cert.EvenInBwdRefIdeal.sig) → Buf (Elt Ideal) ℓ) (g : Dev Cert.EvenInBwdRefIdeal.nD → PrngReg), Pre_EvenInBwdRefIdeal m →
    θ_run (Cert.EvenInBwdRefIdeal.defs (F := Ideal)) (onTc (τ := Cert.EvenInBwdRefIdeal.τ) (Cert.EvenInBwdRefIdeal.main (F := Ideal))) ⟨m, fun _ => 0, g⟩ (fun r => (∀ c : Dev Cert.EvenInBwdRefIdeal.nD,
      r.2.mem ((c.tc : Thread Cert.EvenInBwdRefIdeal.nD Cert.EvenInBwdRefIdeal.τ).loc Cert.EvenInBwdRefIdeal.main_arg0) = m ((c.tc : Thread Cert.EvenInBwdRefIdeal.nD Cert.EvenInBwdRefIdeal.τ).loc Cert.EvenInBwdRefIdeal.main_arg0)
      ∧ r.2.mem ((c.tc : Thread Cert.EvenInBwdRefIdeal.nD Cert.EvenInBwdRefIdeal.τ).loc Cert.EvenInBwdRefIdeal.main_arg1) = m ((c.tc : Thread Cert.EvenInBwdRefIdeal.nD Cert.EvenInBwdRefIdeal.τ).loc Cert.EvenInBwdRefIdeal.main_arg1)
      ∧ r.2.mem ((c.tc : Thread Cert.EvenInBwdRefIdeal.nD Cert.EvenInBwdRefIdeal.τ).loc Cert.EvenInBwdRefIdeal.main_arg2) = m ((c.tc : Thread Cert.EvenInBwdRefIdeal.nD Cert.EvenInBwdRefIdeal.τ).loc Cert.EvenInBwdRefIdeal.main_arg2)
      ∧ r.2.mem ((c.tc : Thread Cert.EvenInBwdRefIdeal.nD Cert.EvenInBwdRefIdeal.τ).loc Cert.EvenInBwdRefIdeal.main_arg3) = m ((c.tc : Thread Cert.EvenInBwdRefIdeal.nD Cert.EvenInBwdRefIdeal.τ).loc Cert.EvenInBwdRefIdeal.main_arg3)
      ∧ r.2.mem ((c.tc : Thread Cert.EvenInBwdRefIdeal.nD Cert.EvenInBwdRefIdeal.τ).loc Cert.EvenInBwdRefIdeal.main_arg4) = m ((c.tc : Thread Cert.EvenInBwdRefIdeal.nD Cert.EvenInBwdRefIdeal.τ).loc Cert.EvenInBwdRefIdeal.main_arg4))
      ∧ r.2.sem = fun _ => 0)

def quiescent_EvenInBwdRefIdeal_pre_even_in_bwd_finite [hEvenInBwdRefIdeal : Cert.EvenInBwdRefIdeal.Facts] [hPre_even_in_bwd_finite : Cert.Pre_even_in_bwd_finite.Facts] : Prop :=
  ∀ (m : (ℓ : Loc Cert.EvenInBwdRefIdeal.nD Cert.EvenInBwdRefIdeal.τ Cert.EvenInBwdRefIdeal.sig) → Buf (Elt Ideal) ℓ) (g : Dev Cert.EvenInBwdRefIdeal.nD → PrngReg), Pre_EvenInBwdRefIdeal_even_in_bwd_finite m →
    θ_run (Cert.EvenInBwdRefIdeal.defs (F := Ideal)) (onTc (τ := Cert.EvenInBwdRefIdeal.τ) (Cert.EvenInBwdRefIdeal.main (F := Ideal))) ⟨m, fun _ => 0, g⟩ (fun r => (∀ c : Dev Cert.EvenInBwdRefIdeal.nD,
      r.2.mem ((c.tc : Thread Cert.EvenInBwdRefIdeal.nD Cert.EvenInBwdRefIdeal.τ).loc Cert.EvenInBwdRefIdeal.main_arg0) = m ((c.tc : Thread Cert.EvenInBwdRefIdeal.nD Cert.EvenInBwdRefIdeal.τ).loc Cert.EvenInBwdRefIdeal.main_arg0)
      ∧ r.2.mem ((c.tc : Thread Cert.EvenInBwdRefIdeal.nD Cert.EvenInBwdRefIdeal.τ).loc Cert.EvenInBwdRefIdeal.main_arg1) = m ((c.tc : Thread Cert.EvenInBwdRefIdeal.nD Cert.EvenInBwdRefIdeal.τ).loc Cert.EvenInBwdRefIdeal.main_arg1)
      ∧ r.2.mem ((c.tc : Thread Cert.EvenInBwdRefIdeal.nD Cert.EvenInBwdRefIdeal.τ).loc Cert.EvenInBwdRefIdeal.main_arg2) = m ((c.tc : Thread Cert.EvenInBwdRefIdeal.nD Cert.EvenInBwdRefIdeal.τ).loc Cert.EvenInBwdRefIdeal.main_arg2)
      ∧ r.2.mem ((c.tc : Thread Cert.EvenInBwdRefIdeal.nD Cert.EvenInBwdRefIdeal.τ).loc Cert.EvenInBwdRefIdeal.main_arg3) = m ((c.tc : Thread Cert.EvenInBwdRefIdeal.nD Cert.EvenInBwdRefIdeal.τ).loc Cert.EvenInBwdRefIdeal.main_arg3)
      ∧ r.2.mem ((c.tc : Thread Cert.EvenInBwdRefIdeal.nD Cert.EvenInBwdRefIdeal.τ).loc Cert.EvenInBwdRefIdeal.main_arg4) = m ((c.tc : Thread Cert.EvenInBwdRefIdeal.nD Cert.EvenInBwdRefIdeal.τ).loc Cert.EvenInBwdRefIdeal.main_arg4))
      ∧ r.2.sem = fun _ => 0)

def quiescent_EvenInGrad [hEvenInGrad : Cert.EvenInGrad.Facts] : Prop :=
  ∀ (m : (ℓ : Loc Cert.EvenInGrad.nD Cert.EvenInGrad.τ Cert.EvenInGrad.sig) → Buf (Elt Bits) ℓ) (g : Dev Cert.EvenInGrad.nD → PrngReg), Pre_EvenInGrad m →
    θ_run (Cert.EvenInGrad.defs (F := Bits)) (onTc (τ := Cert.EvenInGrad.τ) (Cert.EvenInGrad.main (F := Bits))) ⟨m, fun _ => 0, g⟩ (fun r => (∀ c : Dev Cert.EvenInGrad.nD,
      r.2.mem ((c.tc : Thread Cert.EvenInGrad.nD Cert.EvenInGrad.τ).loc Cert.EvenInGrad.main_arg0) = m ((c.tc : Thread Cert.EvenInGrad.nD Cert.EvenInGrad.τ).loc Cert.EvenInGrad.main_arg0)
      ∧ r.2.mem ((c.tc : Thread Cert.EvenInGrad.nD Cert.EvenInGrad.τ).loc Cert.EvenInGrad.main_arg1) = m ((c.tc : Thread Cert.EvenInGrad.nD Cert.EvenInGrad.τ).loc Cert.EvenInGrad.main_arg1)
      ∧ r.2.mem ((c.tc : Thread Cert.EvenInGrad.nD Cert.EvenInGrad.τ).loc Cert.EvenInGrad.main_arg2) = m ((c.tc : Thread Cert.EvenInGrad.nD Cert.EvenInGrad.τ).loc Cert.EvenInGrad.main_arg2))
      ∧ r.2.sem = fun _ => 0)

def quiescent_EvenInGradIdeal [hEvenInGradIdeal : Cert.EvenInGradIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg), Pre_EvenInGradIdeal m →
    θ_run (Cert.EvenInGradIdeal.defs (F := Ideal)) (onTc (τ := Cert.EvenInGradIdeal.τ) (Cert.EvenInGradIdeal.main (F := Ideal))) ⟨m, fun _ => 0, g⟩ (fun r => (∀ c : Dev Cert.EvenInGradIdeal.nD,
      r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
      ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1)
      ∧ r.2.mem ((c.tc : Thread Cert.EvenInGradIdeal.nD Cert.EvenInGradIdeal.τ).loc Cert.EvenInGradIdeal.main_arg2) = m ((c.tc : Thread Cert.EvenInGradIdeal.nD Cert.EvenInGradIdeal.τ).loc Cert.EvenInGradIdeal.main_arg2))
      ∧ r.2.sem = fun _ => 0)

def quiescent_EvenInGradRefIdeal [hEvenInGradRefIdeal : Cert.EvenInGradRefIdeal.Facts] : Prop :=
  ∀ (m : (ℓ : Loc Cert.EvenInGradRefIdeal.nD Cert.EvenInGradRefIdeal.τ Cert.EvenInGradRefIdeal.sig) → Buf (Elt Ideal) ℓ) (g : Dev Cert.EvenInGradRefIdeal.nD → PrngReg), Pre_EvenInGradRefIdeal m →
    θ_run (Cert.EvenInGradRefIdeal.defs (F := Ideal)) (onTc (τ := Cert.EvenInGradRefIdeal.τ) (Cert.EvenInGradRefIdeal.main (F := Ideal))) ⟨m, fun _ => 0, g⟩ (fun r => (∀ c : Dev Cert.EvenInGradRefIdeal.nD,
      r.2.mem ((c.tc : Thread Cert.EvenInGradRefIdeal.nD Cert.EvenInGradRefIdeal.τ).loc Cert.EvenInGradRefIdeal.main_arg0) = m ((c.tc : Thread Cert.EvenInGradRefIdeal.nD Cert.EvenInGradRefIdeal.τ).loc Cert.EvenInGradRefIdeal.main_arg0)
      ∧ r.2.mem ((c.tc : Thread Cert.EvenInGradRefIdeal.nD Cert.EvenInGradRefIdeal.τ).loc Cert.EvenInGradRefIdeal.main_arg1) = m ((c.tc : Thread Cert.EvenInGradRefIdeal.nD Cert.EvenInGradRefIdeal.τ).loc Cert.EvenInGradRefIdeal.main_arg1)
      ∧ r.2.mem ((c.tc : Thread Cert.EvenInGradRefIdeal.nD Cert.EvenInGradRefIdeal.τ).loc Cert.EvenInGradRefIdeal.main_arg2) = m ((c.tc : Thread Cert.EvenInGradRefIdeal.nD Cert.EvenInGradRefIdeal.τ).loc Cert.EvenInGradRefIdeal.main_arg2))
      ∧ r.2.sem = fun _ => 0)

def quiescent_EvenInFwd [hEvenInFwd : Cert.EvenInFwd.Facts] : Prop :=
  ∀ (m : (ℓ : Loc Cert.EvenInFwd.nD Cert.EvenInFwd.τ Cert.EvenInFwd.sig) → Buf (Elt Bits) ℓ) (g : Dev Cert.EvenInFwd.nD → PrngReg), Pre_EvenInFwd m →
    θ_run (Cert.EvenInFwd.defs (F := Bits)) (onTc (τ := Cert.EvenInFwd.τ) (Cert.EvenInFwd.main (F := Bits))) ⟨m, fun _ => 0, g⟩ (fun r => (∀ c : Dev Cert.EvenInFwd.nD,
      r.2.mem ((c.tc : Thread Cert.EvenInFwd.nD Cert.EvenInFwd.τ).loc Cert.EvenInFwd.main_arg0) = m ((c.tc : Thread Cert.EvenInFwd.nD Cert.EvenInFwd.τ).loc Cert.EvenInFwd.main_arg0)
      ∧ r.2.mem ((c.tc : Thread Cert.EvenInFwd.nD Cert.EvenInFwd.τ).loc Cert.EvenInFwd.main_arg1) = m ((c.tc : Thread Cert.EvenInFwd.nD Cert.EvenInFwd.τ).loc Cert.EvenInFwd.main_arg1)
      ∧ r.2.mem ((c.tc : Thread Cert.EvenInFwd.nD Cert.EvenInFwd.τ).loc Cert.EvenInFwd.main_arg2) = m ((c.tc : Thread Cert.EvenInFwd.nD Cert.EvenInFwd.τ).loc Cert.EvenInFwd.main_arg2))
      ∧ r.2.sem = fun _ => 0)

def quiescent_EvenInFwdIdeal [hEvenInFwdIdeal : Cert.EvenInFwdIdeal.Facts] : Prop :=
  ∀ (m : (ℓ : Loc Cert.EvenInFwdIdeal.nD Cert.EvenInFwdIdeal.τ Cert.EvenInFwdIdeal.sig) → Buf (Elt Ideal) ℓ) (g : Dev Cert.EvenInFwdIdeal.nD → PrngReg), Pre_EvenInFwdIdeal m →
    θ_run (Cert.EvenInFwdIdeal.defs (F := Ideal)) (onTc (τ := Cert.EvenInFwdIdeal.τ) (Cert.EvenInFwdIdeal.main (F := Ideal))) ⟨m, fun _ => 0, g⟩ (fun r => (∀ c : Dev Cert.EvenInFwdIdeal.nD,
      r.2.mem ((c.tc : Thread Cert.EvenInFwdIdeal.nD Cert.EvenInFwdIdeal.τ).loc Cert.EvenInFwdIdeal.main_arg0) = m ((c.tc : Thread Cert.EvenInFwdIdeal.nD Cert.EvenInFwdIdeal.τ).loc Cert.EvenInFwdIdeal.main_arg0)
      ∧ r.2.mem ((c.tc : Thread Cert.EvenInFwdIdeal.nD Cert.EvenInFwdIdeal.τ).loc Cert.EvenInFwdIdeal.main_arg1) = m ((c.tc : Thread Cert.EvenInFwdIdeal.nD Cert.EvenInFwdIdeal.τ).loc Cert.EvenInFwdIdeal.main_arg1)
      ∧ r.2.mem ((c.tc : Thread Cert.EvenInFwdIdeal.nD Cert.EvenInFwdIdeal.τ).loc Cert.EvenInFwdIdeal.main_arg2) = m ((c.tc : Thread Cert.EvenInFwdIdeal.nD Cert.EvenInFwdIdeal.τ).loc Cert.EvenInFwdIdeal.main_arg2))
      ∧ r.2.sem = fun _ => 0)

def quiescent_EvenInFwdRefIdeal [hEvenInFwdRefIdeal : Cert.EvenInFwdRefIdeal.Facts] : Prop :=
  ∀ (m : (ℓ : Loc Cert.EvenInFwdRefIdeal.nD Cert.EvenInFwdRefIdeal.τ Cert.EvenInFwdRefIdeal.sig) → Buf (Elt Ideal) ℓ) (g : Dev Cert.EvenInFwdRefIdeal.nD → PrngReg), Pre_EvenInFwdRefIdeal m →
    θ_run (Cert.EvenInFwdRefIdeal.defs (F := Ideal)) (onTc (τ := Cert.EvenInFwdRefIdeal.τ) (Cert.EvenInFwdRefIdeal.main (F := Ideal))) ⟨m, fun _ => 0, g⟩ (fun r => (∀ c : Dev Cert.EvenInFwdRefIdeal.nD,
      r.2.mem ((c.tc : Thread Cert.EvenInFwdRefIdeal.nD Cert.EvenInFwdRefIdeal.τ).loc Cert.EvenInFwdRefIdeal.main_arg0) = m ((c.tc : Thread Cert.EvenInFwdRefIdeal.nD Cert.EvenInFwdRefIdeal.τ).loc Cert.EvenInFwdRefIdeal.main_arg0)
      ∧ r.2.mem ((c.tc : Thread Cert.EvenInFwdRefIdeal.nD Cert.EvenInFwdRefIdeal.τ).loc Cert.EvenInFwdRefIdeal.main_arg1) = m ((c.tc : Thread Cert.EvenInFwdRefIdeal.nD Cert.EvenInFwdRefIdeal.τ).loc Cert.EvenInFwdRefIdeal.main_arg1)
      ∧ r.2.mem ((c.tc : Thread Cert.EvenInFwdRefIdeal.nD Cert.EvenInFwdRefIdeal.τ).loc Cert.EvenInFwdRefIdeal.main_arg2) = m ((c.tc : Thread Cert.EvenInFwdRefIdeal.nD Cert.EvenInFwdRefIdeal.τ).loc Cert.EvenInFwdRefIdeal.main_arg2))
      ∧ r.2.sem = fun _ => 0)

def quiescent_OddOutBwd [hOddOutBwd : Cert.OddOutBwd.Facts] : Prop :=
  ∀ (m : (ℓ : Loc Cert.OddOutBwd.nD Cert.OddOutBwd.τ Cert.OddOutBwd.sig) → Buf (Elt Bits) ℓ) (g : Dev Cert.OddOutBwd.nD → PrngReg), Pre_OddOutBwd m →
    θ_run (Cert.OddOutBwd.defs (F := Bits)) (onTc (τ := Cert.OddOutBwd.τ) (Cert.OddOutBwd.main (F := Bits))) ⟨m, fun _ => 0, g⟩ (fun r => (∀ c : Dev Cert.OddOutBwd.nD,
      r.2.mem ((c.tc : Thread Cert.OddOutBwd.nD Cert.OddOutBwd.τ).loc Cert.OddOutBwd.main_arg0) = m ((c.tc : Thread Cert.OddOutBwd.nD Cert.OddOutBwd.τ).loc Cert.OddOutBwd.main_arg0)
      ∧ r.2.mem ((c.tc : Thread Cert.OddOutBwd.nD Cert.OddOutBwd.τ).loc Cert.OddOutBwd.main_arg1) = m ((c.tc : Thread Cert.OddOutBwd.nD Cert.OddOutBwd.τ).loc Cert.OddOutBwd.main_arg1)
      ∧ r.2.mem ((c.tc : Thread Cert.OddOutBwd.nD Cert.OddOutBwd.τ).loc Cert.OddOutBwd.main_arg2) = m ((c.tc : Thread Cert.OddOutBwd.nD Cert.OddOutBwd.τ).loc Cert.OddOutBwd.main_arg2)
      ∧ r.2.mem ((c.tc : Thread Cert.OddOutBwd.nD Cert.OddOutBwd.τ).loc Cert.OddOutBwd.main_arg3) = m ((c.tc : Thread Cert.OddOutBwd.nD Cert.OddOutBwd.τ).loc Cert.OddOutBwd.main_arg3)
      ∧ r.2.mem ((c.tc : Thread Cert.OddOutBwd.nD Cert.OddOutBwd.τ).loc Cert.OddOutBwd.main_arg4) = m ((c.tc : Thread Cert.OddOutBwd.nD Cert.OddOutBwd.τ).loc Cert.OddOutBwd.main_arg4))
      ∧ r.2.sem = fun _ => 0)

def quiescent_OddOutBwdIdeal [hOddOutBwdIdeal : Cert.OddOutBwdIdeal.Facts] : Prop :=
  ∀ (m : (ℓ : Loc Cert.OddOutBwdIdeal.nD Cert.OddOutBwdIdeal.τ Cert.OddOutBwdIdeal.sig) → Buf (Elt Ideal) ℓ) (g : Dev Cert.OddOutBwdIdeal.nD → PrngReg), Pre_OddOutBwdIdeal m →
    θ_run (Cert.OddOutBwdIdeal.defs (F := Ideal)) (onTc (τ := Cert.OddOutBwdIdeal.τ) (Cert.OddOutBwdIdeal.main (F := Ideal))) ⟨m, fun _ => 0, g⟩ (fun r => (∀ c : Dev Cert.OddOutBwdIdeal.nD,
      r.2.mem ((c.tc : Thread Cert.OddOutBwdIdeal.nD Cert.OddOutBwdIdeal.τ).loc Cert.OddOutBwdIdeal.main_arg0) = m ((c.tc : Thread Cert.OddOutBwdIdeal.nD Cert.OddOutBwdIdeal.τ).loc Cert.OddOutBwdIdeal.main_arg0)
      ∧ r.2.mem ((c.tc : Thread Cert.OddOutBwdIdeal.nD Cert.OddOutBwdIdeal.τ).loc Cert.OddOutBwdIdeal.main_arg1) = m ((c.tc : Thread Cert.OddOutBwdIdeal.nD Cert.OddOutBwdIdeal.τ).loc Cert.OddOutBwdIdeal.main_arg1)
      ∧ r.2.mem ((c.tc : Thread Cert.OddOutBwdIdeal.nD Cert.OddOutBwdIdeal.τ).loc Cert.OddOutBwdIdeal.main_arg2) = m ((c.tc : Thread Cert.OddOutBwdIdeal.nD Cert.OddOutBwdIdeal.τ).loc Cert.OddOutBwdIdeal.main_arg2)
      ∧ r.2.mem ((c.tc : Thread Cert.OddOutBwdIdeal.nD Cert.OddOutBwdIdeal.τ).loc Cert.OddOutBwdIdeal.main_arg3) = m ((c.tc : Thread Cert.OddOutBwdIdeal.nD Cert.OddOutBwdIdeal.τ).loc Cert.OddOutBwdIdeal.main_arg3)
      ∧ r.2.mem ((c.tc : Thread Cert.OddOutBwdIdeal.nD Cert.OddOutBwdIdeal.τ).loc Cert.OddOutBwdIdeal.main_arg4) = m ((c.tc : Thread Cert.OddOutBwdIdeal.nD Cert.OddOutBwdIdeal.τ).loc Cert.OddOutBwdIdeal.main_arg4))
      ∧ r.2.sem = fun _ => 0)

def quiescent_OddOutBwdIdeal_pre_odd_out_bwd_finite [hOddOutBwdIdeal : Cert.OddOutBwdIdeal.Facts] [hPre_odd_out_bwd_finite : Cert.Pre_odd_out_bwd_finite.Facts] : Prop :=
  ∀ (m : (ℓ : Loc Cert.OddOutBwdIdeal.nD Cert.OddOutBwdIdeal.τ Cert.OddOutBwdIdeal.sig) → Buf (Elt Ideal) ℓ) (g : Dev Cert.OddOutBwdIdeal.nD → PrngReg), Pre_OddOutBwdIdeal_odd_out_bwd_finite m →
    θ_run (Cert.OddOutBwdIdeal.defs (F := Ideal)) (onTc (τ := Cert.OddOutBwdIdeal.τ) (Cert.OddOutBwdIdeal.main (F := Ideal))) ⟨m, fun _ => 0, g⟩ (fun r => (∀ c : Dev Cert.OddOutBwdIdeal.nD,
      r.2.mem ((c.tc : Thread Cert.OddOutBwdIdeal.nD Cert.OddOutBwdIdeal.τ).loc Cert.OddOutBwdIdeal.main_arg0) = m ((c.tc : Thread Cert.OddOutBwdIdeal.nD Cert.OddOutBwdIdeal.τ).loc Cert.OddOutBwdIdeal.main_arg0)
      ∧ r.2.mem ((c.tc : Thread Cert.OddOutBwdIdeal.nD Cert.OddOutBwdIdeal.τ).loc Cert.OddOutBwdIdeal.main_arg1) = m ((c.tc : Thread Cert.OddOutBwdIdeal.nD Cert.OddOutBwdIdeal.τ).loc Cert.OddOutBwdIdeal.main_arg1)
      ∧ r.2.mem ((c.tc : Thread Cert.OddOutBwdIdeal.nD Cert.OddOutBwdIdeal.τ).loc Cert.OddOutBwdIdeal.main_arg2) = m ((c.tc : Thread Cert.OddOutBwdIdeal.nD Cert.OddOutBwdIdeal.τ).loc Cert.OddOutBwdIdeal.main_arg2)
      ∧ r.2.mem ((c.tc : Thread Cert.OddOutBwdIdeal.nD Cert.OddOutBwdIdeal.τ).loc Cert.OddOutBwdIdeal.main_arg3) = m ((c.tc : Thread Cert.OddOutBwdIdeal.nD Cert.OddOutBwdIdeal.τ).loc Cert.OddOutBwdIdeal.main_arg3)
      ∧ r.2.mem ((c.tc : Thread Cert.OddOutBwdIdeal.nD Cert.OddOutBwdIdeal.τ).loc Cert.OddOutBwdIdeal.main_arg4) = m ((c.tc : Thread Cert.OddOutBwdIdeal.nD Cert.OddOutBwdIdeal.τ).loc Cert.OddOutBwdIdeal.main_arg4))
      ∧ r.2.sem = fun _ => 0)

def quiescent_OddOutBwdRefIdeal [hOddOutBwdRefIdeal : Cert.OddOutBwdRefIdeal.Facts] : Prop :=
  ∀ (m : (ℓ : Loc Cert.OddOutBwdRefIdeal.nD Cert.OddOutBwdRefIdeal.τ Cert.OddOutBwdRefIdeal.sig) → Buf (Elt Ideal) ℓ) (g : Dev Cert.OddOutBwdRefIdeal.nD → PrngReg), Pre_OddOutBwdRefIdeal m →
    θ_run (Cert.OddOutBwdRefIdeal.defs (F := Ideal)) (onTc (τ := Cert.OddOutBwdRefIdeal.τ) (Cert.OddOutBwdRefIdeal.main (F := Ideal))) ⟨m, fun _ => 0, g⟩ (fun r => (∀ c : Dev Cert.OddOutBwdRefIdeal.nD,
      r.2.mem ((c.tc : Thread Cert.OddOutBwdRefIdeal.nD Cert.OddOutBwdRefIdeal.τ).loc Cert.OddOutBwdRefIdeal.main_arg0) = m ((c.tc : Thread Cert.OddOutBwdRefIdeal.nD Cert.OddOutBwdRefIdeal.τ).loc Cert.OddOutBwdRefIdeal.main_arg0)
      ∧ r.2.mem ((c.tc : Thread Cert.OddOutBwdRefIdeal.nD Cert.OddOutBwdRefIdeal.τ).loc Cert.OddOutBwdRefIdeal.main_arg1) = m ((c.tc : Thread Cert.OddOutBwdRefIdeal.nD Cert.OddOutBwdRefIdeal.τ).loc Cert.OddOutBwdRefIdeal.main_arg1)
      ∧ r.2.mem ((c.tc : Thread Cert.OddOutBwdRefIdeal.nD Cert.OddOutBwdRefIdeal.τ).loc Cert.OddOutBwdRefIdeal.main_arg2) = m ((c.tc : Thread Cert.OddOutBwdRefIdeal.nD Cert.OddOutBwdRefIdeal.τ).loc Cert.OddOutBwdRefIdeal.main_arg2)
      ∧ r.2.mem ((c.tc : Thread Cert.OddOutBwdRefIdeal.nD Cert.OddOutBwdRefIdeal.τ).loc Cert.OddOutBwdRefIdeal.main_arg3) = m ((c.tc : Thread Cert.OddOutBwdRefIdeal.nD Cert.OddOutBwdRefIdeal.τ).loc Cert.OddOutBwdRefIdeal.main_arg3)
      ∧ r.2.mem ((c.tc : Thread Cert.OddOutBwdRefIdeal.nD Cert.OddOutBwdRefIdeal.τ).loc Cert.OddOutBwdRefIdeal.main_arg4) = m ((c.tc : Thread Cert.OddOutBwdRefIdeal.nD Cert.OddOutBwdRefIdeal.τ).loc Cert.OddOutBwdRefIdeal.main_arg4))
      ∧ r.2.sem = fun _ => 0)

def quiescent_OddOutBwdRefIdeal_pre_odd_out_bwd_finite [hOddOutBwdRefIdeal : Cert.OddOutBwdRefIdeal.Facts] [hPre_odd_out_bwd_finite : Cert.Pre_odd_out_bwd_finite.Facts] : Prop :=
  ∀ (m : (ℓ : Loc Cert.OddOutBwdRefIdeal.nD Cert.OddOutBwdRefIdeal.τ Cert.OddOutBwdRefIdeal.sig) → Buf (Elt Ideal) ℓ) (g : Dev Cert.OddOutBwdRefIdeal.nD → PrngReg), Pre_OddOutBwdRefIdeal_odd_out_bwd_finite m →
    θ_run (Cert.OddOutBwdRefIdeal.defs (F := Ideal)) (onTc (τ := Cert.OddOutBwdRefIdeal.τ) (Cert.OddOutBwdRefIdeal.main (F := Ideal))) ⟨m, fun _ => 0, g⟩ (fun r => (∀ c : Dev Cert.OddOutBwdRefIdeal.nD,
      r.2.mem ((c.tc : Thread Cert.OddOutBwdRefIdeal.nD Cert.OddOutBwdRefIdeal.τ).loc Cert.OddOutBwdRefIdeal.main_arg0) = m ((c.tc : Thread Cert.OddOutBwdRefIdeal.nD Cert.OddOutBwdRefIdeal.τ).loc Cert.OddOutBwdRefIdeal.main_arg0)
      ∧ r.2.mem ((c.tc : Thread Cert.OddOutBwdRefIdeal.nD Cert.OddOutBwdRefIdeal.τ).loc Cert.OddOutBwdRefIdeal.main_arg1) = m ((c.tc : Thread Cert.OddOutBwdRefIdeal.nD Cert.OddOutBwdRefIdeal.τ).loc Cert.OddOutBwdRefIdeal.main_arg1)
      ∧ r.2.mem ((c.tc : Thread Cert.OddOutBwdRefIdeal.nD Cert.OddOutBwdRefIdeal.τ).loc Cert.OddOutBwdRefIdeal.main_arg2) = m ((c.tc : Thread Cert.OddOutBwdRefIdeal.nD Cert.OddOutBwdRefIdeal.τ).loc Cert.OddOutBwdRefIdeal.main_arg2)
      ∧ r.2.mem ((c.tc : Thread Cert.OddOutBwdRefIdeal.nD Cert.OddOutBwdRefIdeal.τ).loc Cert.OddOutBwdRefIdeal.main_arg3) = m ((c.tc : Thread Cert.OddOutBwdRefIdeal.nD Cert.OddOutBwdRefIdeal.τ).loc Cert.OddOutBwdRefIdeal.main_arg3)
      ∧ r.2.mem ((c.tc : Thread Cert.OddOutBwdRefIdeal.nD Cert.OddOutBwdRefIdeal.τ).loc Cert.OddOutBwdRefIdeal.main_arg4) = m ((c.tc : Thread Cert.OddOutBwdRefIdeal.nD Cert.OddOutBwdRefIdeal.τ).loc Cert.OddOutBwdRefIdeal.main_arg4))
      ∧ r.2.sem = fun _ => 0)

def quiescent_EvenOutBwd [hEvenOutBwd : Cert.EvenOutBwd.Facts] : Prop :=
  ∀ (m : (ℓ : Loc Cert.EvenOutBwd.nD Cert.EvenOutBwd.τ Cert.EvenOutBwd.sig) → Buf (Elt Bits) ℓ) (g : Dev Cert.EvenOutBwd.nD → PrngReg), Pre_EvenOutBwd m →
    θ_run (Cert.EvenOutBwd.defs (F := Bits)) (onTc (τ := Cert.EvenOutBwd.τ) (Cert.EvenOutBwd.main (F := Bits))) ⟨m, fun _ => 0, g⟩ (fun r => (∀ c : Dev Cert.EvenOutBwd.nD,
      r.2.mem ((c.tc : Thread Cert.EvenOutBwd.nD Cert.EvenOutBwd.τ).loc Cert.EvenOutBwd.main_arg0) = m ((c.tc : Thread Cert.EvenOutBwd.nD Cert.EvenOutBwd.τ).loc Cert.EvenOutBwd.main_arg0)
      ∧ r.2.mem ((c.tc : Thread Cert.EvenOutBwd.nD Cert.EvenOutBwd.τ).loc Cert.EvenOutBwd.main_arg1) = m ((c.tc : Thread Cert.EvenOutBwd.nD Cert.EvenOutBwd.τ).loc Cert.EvenOutBwd.main_arg1)
      ∧ r.2.mem ((c.tc : Thread Cert.EvenOutBwd.nD Cert.EvenOutBwd.τ).loc Cert.EvenOutBwd.main_arg2) = m ((c.tc : Thread Cert.EvenOutBwd.nD Cert.EvenOutBwd.τ).loc Cert.EvenOutBwd.main_arg2)
      ∧ r.2.mem ((c.tc : Thread Cert.EvenOutBwd.nD Cert.EvenOutBwd.τ).loc Cert.EvenOutBwd.main_arg3) = m ((c.tc : Thread Cert.EvenOutBwd.nD Cert.EvenOutBwd.τ).loc Cert.EvenOutBwd.main_arg3))
      ∧ r.2.sem = fun _ => 0)

def quiescent_EvenOutBwdIdeal [hEvenOutBwdIdeal : Cert.EvenOutBwdIdeal.Facts] : Prop :=
  ∀ (m : (ℓ : Loc Cert.EvenOutBwdIdeal.nD Cert.EvenOutBwdIdeal.τ Cert.EvenOutBwdIdeal.sig) → Buf (Elt Ideal) ℓ) (g : Dev Cert.EvenOutBwdIdeal.nD → PrngReg), Pre_EvenOutBwdIdeal m →
    θ_run (Cert.EvenOutBwdIdeal.defs (F := Ideal)) (onTc (τ := Cert.EvenOutBwdIdeal.τ) (Cert.EvenOutBwdIdeal.main (F := Ideal))) ⟨m, fun _ => 0, g⟩ (fun r => (∀ c : Dev Cert.EvenOutBwdIdeal.nD,
      r.2.mem ((c.tc : Thread Cert.EvenOutBwdIdeal.nD Cert.EvenOutBwdIdeal.τ).loc Cert.EvenOutBwdIdeal.main_arg0) = m ((c.tc : Thread Cert.EvenOutBwdIdeal.nD Cert.EvenOutBwdIdeal.τ).loc Cert.EvenOutBwdIdeal.main_arg0)
      ∧ r.2.mem ((c.tc : Thread Cert.EvenOutBwdIdeal.nD Cert.EvenOutBwdIdeal.τ).loc Cert.EvenOutBwdIdeal.main_arg1) = m ((c.tc : Thread Cert.EvenOutBwdIdeal.nD Cert.EvenOutBwdIdeal.τ).loc Cert.EvenOutBwdIdeal.main_arg1)
      ∧ r.2.mem ((c.tc : Thread Cert.EvenOutBwdIdeal.nD Cert.EvenOutBwdIdeal.τ).loc Cert.EvenOutBwdIdeal.main_arg2) = m ((c.tc : Thread Cert.EvenOutBwdIdeal.nD Cert.EvenOutBwdIdeal.τ).loc Cert.EvenOutBwdIdeal.main_arg2)
      ∧ r.2.mem ((c.tc : Thread Cert.EvenOutBwdIdeal.nD Cert.EvenOutBwdIdeal.τ).loc Cert.EvenOutBwdIdeal.main_arg3) = m ((c.tc : Thread Cert.EvenOutBwdIdeal.nD Cert.EvenOutBwdIdeal.τ).loc Cert.EvenOutBwdIdeal.main_arg3))
      ∧ r.2.sem = fun _ => 0)

def quiescent_EvenOutBwdIdeal_pre_even_out_bwd_finite [hEvenOutBwdIdeal : Cert.EvenOutBwdIdeal.Facts] [hPre_even_out_bwd_finite : Cert.Pre_even_out_bwd_finite.Facts] : Prop :=
  ∀ (m : (ℓ : Loc Cert.EvenOutBwdIdeal.nD Cert.EvenOutBwdIdeal.τ Cert.EvenOutBwdIdeal.sig) → Buf (Elt Ideal) ℓ) (g : Dev Cert.EvenOutBwdIdeal.nD → PrngReg), Pre_EvenOutBwdIdeal_even_out_bwd_finite m →
    θ_run (Cert.EvenOutBwdIdeal.defs (F := Ideal)) (onTc (τ := Cert.EvenOutBwdIdeal.τ) (Cert.EvenOutBwdIdeal.main (F := Ideal))) ⟨m, fun _ => 0, g⟩ (fun r => (∀ c : Dev Cert.EvenOutBwdIdeal.nD,
      r.2.mem ((c.tc : Thread Cert.EvenOutBwdIdeal.nD Cert.EvenOutBwdIdeal.τ).loc Cert.EvenOutBwdIdeal.main_arg0) = m ((c.tc : Thread Cert.EvenOutBwdIdeal.nD Cert.EvenOutBwdIdeal.τ).loc Cert.EvenOutBwdIdeal.main_arg0)
      ∧ r.2.mem ((c.tc : Thread Cert.EvenOutBwdIdeal.nD Cert.EvenOutBwdIdeal.τ).loc Cert.EvenOutBwdIdeal.main_arg1) = m ((c.tc : Thread Cert.EvenOutBwdIdeal.nD Cert.EvenOutBwdIdeal.τ).loc Cert.EvenOutBwdIdeal.main_arg1)
      ∧ r.2.mem ((c.tc : Thread Cert.EvenOutBwdIdeal.nD Cert.EvenOutBwdIdeal.τ).loc Cert.EvenOutBwdIdeal.main_arg2) = m ((c.tc : Thread Cert.EvenOutBwdIdeal.nD Cert.EvenOutBwdIdeal.τ).loc Cert.EvenOutBwdIdeal.main_arg2)
      ∧ r.2.mem ((c.tc : Thread Cert.EvenOutBwdIdeal.nD Cert.EvenOutBwdIdeal.τ).loc Cert.EvenOutBwdIdeal.main_arg3) = m ((c.tc : Thread Cert.EvenOutBwdIdeal.nD Cert.EvenOutBwdIdeal.τ).loc Cert.EvenOutBwdIdeal.main_arg3))
      ∧ r.2.sem = fun _ => 0)

def quiescent_EvenOutBwdRefIdeal [hEvenOutBwdRefIdeal : Cert.EvenOutBwdRefIdeal.Facts] : Prop :=
  ∀ (m : (ℓ : Loc Cert.EvenOutBwdRefIdeal.nD Cert.EvenOutBwdRefIdeal.τ Cert.EvenOutBwdRefIdeal.sig) → Buf (Elt Ideal) ℓ) (g : Dev Cert.EvenOutBwdRefIdeal.nD → PrngReg), Pre_EvenOutBwdRefIdeal m →
    θ_run (Cert.EvenOutBwdRefIdeal.defs (F := Ideal)) (onTc (τ := Cert.EvenOutBwdRefIdeal.τ) (Cert.EvenOutBwdRefIdeal.main (F := Ideal))) ⟨m, fun _ => 0, g⟩ (fun r => (∀ c : Dev Cert.EvenOutBwdRefIdeal.nD,
      r.2.mem ((c.tc : Thread Cert.EvenOutBwdRefIdeal.nD Cert.EvenOutBwdRefIdeal.τ).loc Cert.EvenOutBwdRefIdeal.main_arg0) = m ((c.tc : Thread Cert.EvenOutBwdRefIdeal.nD Cert.EvenOutBwdRefIdeal.τ).loc Cert.EvenOutBwdRefIdeal.main_arg0)
      ∧ r.2.mem ((c.tc : Thread Cert.EvenOutBwdRefIdeal.nD Cert.EvenOutBwdRefIdeal.τ).loc Cert.EvenOutBwdRefIdeal.main_arg1) = m ((c.tc : Thread Cert.EvenOutBwdRefIdeal.nD Cert.EvenOutBwdRefIdeal.τ).loc Cert.EvenOutBwdRefIdeal.main_arg1)
      ∧ r.2.mem ((c.tc : Thread Cert.EvenOutBwdRefIdeal.nD Cert.EvenOutBwdRefIdeal.τ).loc Cert.EvenOutBwdRefIdeal.main_arg2) = m ((c.tc : Thread Cert.EvenOutBwdRefIdeal.nD Cert.EvenOutBwdRefIdeal.τ).loc Cert.EvenOutBwdRefIdeal.main_arg2)
      ∧ r.2.mem ((c.tc : Thread Cert.EvenOutBwdRefIdeal.nD Cert.EvenOutBwdRefIdeal.τ).loc Cert.EvenOutBwdRefIdeal.main_arg3) = m ((c.tc : Thread Cert.EvenOutBwdRefIdeal.nD Cert.EvenOutBwdRefIdeal.τ).loc Cert.EvenOutBwdRefIdeal.main_arg3))
      ∧ r.2.sem = fun _ => 0)

def quiescent_EvenOutBwdRefIdeal_pre_even_out_bwd_finite [hEvenOutBwdRefIdeal : Cert.EvenOutBwdRefIdeal.Facts] [hPre_even_out_bwd_finite : Cert.Pre_even_out_bwd_finite.Facts] : Prop :=
  ∀ (m : (ℓ : Loc Cert.EvenOutBwdRefIdeal.nD Cert.EvenOutBwdRefIdeal.τ Cert.EvenOutBwdRefIdeal.sig) → Buf (Elt Ideal) ℓ) (g : Dev Cert.EvenOutBwdRefIdeal.nD → PrngReg), Pre_EvenOutBwdRefIdeal_even_out_bwd_finite m →
    θ_run (Cert.EvenOutBwdRefIdeal.defs (F := Ideal)) (onTc (τ := Cert.EvenOutBwdRefIdeal.τ) (Cert.EvenOutBwdRefIdeal.main (F := Ideal))) ⟨m, fun _ => 0, g⟩ (fun r => (∀ c : Dev Cert.EvenOutBwdRefIdeal.nD,
      r.2.mem ((c.tc : Thread Cert.EvenOutBwdRefIdeal.nD Cert.EvenOutBwdRefIdeal.τ).loc Cert.EvenOutBwdRefIdeal.main_arg0) = m ((c.tc : Thread Cert.EvenOutBwdRefIdeal.nD Cert.EvenOutBwdRefIdeal.τ).loc Cert.EvenOutBwdRefIdeal.main_arg0)
      ∧ r.2.mem ((c.tc : Thread Cert.EvenOutBwdRefIdeal.nD Cert.EvenOutBwdRefIdeal.τ).loc Cert.EvenOutBwdRefIdeal.main_arg1) = m ((c.tc : Thread Cert.EvenOutBwdRefIdeal.nD Cert.EvenOutBwdRefIdeal.τ).loc Cert.EvenOutBwdRefIdeal.main_arg1)
      ∧ r.2.mem ((c.tc : Thread Cert.EvenOutBwdRefIdeal.nD Cert.EvenOutBwdRefIdeal.τ).loc Cert.EvenOutBwdRefIdeal.main_arg2) = m ((c.tc : Thread Cert.EvenOutBwdRefIdeal.nD Cert.EvenOutBwdRefIdeal.τ).loc Cert.EvenOutBwdRefIdeal.main_arg2)
      ∧ r.2.mem ((c.tc : Thread Cert.EvenOutBwdRefIdeal.nD Cert.EvenOutBwdRefIdeal.τ).loc Cert.EvenOutBwdRefIdeal.main_arg3) = m ((c.tc : Thread Cert.EvenOutBwdRefIdeal.nD Cert.EvenOutBwdRefIdeal.τ).loc Cert.EvenOutBwdRefIdeal.main_arg3))
      ∧ r.2.sem = fun _ => 0)

def quiescent_OddInBwd [hOddInBwd : Cert.OddInBwd.Facts] : Prop :=
  ∀ (m : (ℓ : Loc Cert.OddInBwd.nD Cert.OddInBwd.τ Cert.OddInBwd.sig) → Buf (Elt Bits) ℓ) (g : Dev Cert.OddInBwd.nD → PrngReg), Pre_OddInBwd m →
    θ_run (Cert.OddInBwd.defs (F := Bits)) (onTc (τ := Cert.OddInBwd.τ) (Cert.OddInBwd.main (F := Bits))) ⟨m, fun _ => 0, g⟩ (fun r => (∀ c : Dev Cert.OddInBwd.nD,
      r.2.mem ((c.tc : Thread Cert.OddInBwd.nD Cert.OddInBwd.τ).loc Cert.OddInBwd.main_arg0) = m ((c.tc : Thread Cert.OddInBwd.nD Cert.OddInBwd.τ).loc Cert.OddInBwd.main_arg0)
      ∧ r.2.mem ((c.tc : Thread Cert.OddInBwd.nD Cert.OddInBwd.τ).loc Cert.OddInBwd.main_arg1) = m ((c.tc : Thread Cert.OddInBwd.nD Cert.OddInBwd.τ).loc Cert.OddInBwd.main_arg1)
      ∧ r.2.mem ((c.tc : Thread Cert.OddInBwd.nD Cert.OddInBwd.τ).loc Cert.OddInBwd.main_arg2) = m ((c.tc : Thread Cert.OddInBwd.nD Cert.OddInBwd.τ).loc Cert.OddInBwd.main_arg2)
      ∧ r.2.mem ((c.tc : Thread Cert.OddInBwd.nD Cert.OddInBwd.τ).loc Cert.OddInBwd.main_arg3) = m ((c.tc : Thread Cert.OddInBwd.nD Cert.OddInBwd.τ).loc Cert.OddInBwd.main_arg3)
      ∧ r.2.mem ((c.tc : Thread Cert.OddInBwd.nD Cert.OddInBwd.τ).loc Cert.OddInBwd.main_arg4) = m ((c.tc : Thread Cert.OddInBwd.nD Cert.OddInBwd.τ).loc Cert.OddInBwd.main_arg4)
      ∧ r.2.mem ((c.tc : Thread Cert.OddInBwd.nD Cert.OddInBwd.τ).loc Cert.OddInBwd.main_arg5) = m ((c.tc : Thread Cert.OddInBwd.nD Cert.OddInBwd.τ).loc Cert.OddInBwd.main_arg5)
      ∧ r.2.mem ((c.tc : Thread Cert.OddInBwd.nD Cert.OddInBwd.τ).loc Cert.OddInBwd.main_arg6) = m ((c.tc : Thread Cert.OddInBwd.nD Cert.OddInBwd.τ).loc Cert.OddInBwd.main_arg6)
      ∧ r.2.mem ((c.tc : Thread Cert.OddInBwd.nD Cert.OddInBwd.τ).loc Cert.OddInBwd.main_arg7) = m ((c.tc : Thread Cert.OddInBwd.nD Cert.OddInBwd.τ).loc Cert.OddInBwd.main_arg7)
      ∧ r.2.mem ((c.tc : Thread Cert.OddInBwd.nD Cert.OddInBwd.τ).loc Cert.OddInBwd.main_arg8) = m ((c.tc : Thread Cert.OddInBwd.nD Cert.OddInBwd.τ).loc Cert.OddInBwd.main_arg8))
      ∧ r.2.sem = fun _ => 0)

def quiescent_OddInBwdIdeal [hOddInBwdIdeal : Cert.OddInBwdIdeal.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg), Pre_OddInBwdIdeal m →
    θ_run (Cert.OddInBwdIdeal.defs (F := Ideal)) (onTc (τ := Cert.OddInBwdIdeal.τ) (Cert.OddInBwdIdeal.main (F := Ideal))) ⟨m, fun _ => 0, g⟩ (fun r => (∀ c : Dev Cert.OddInBwdIdeal.nD,
      r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
      ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
      ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
      ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
      ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
      ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5)
      ∧ r.2.mem ((c.tc : Thread Cert.OddInBwdIdeal.nD Cert.OddInBwdIdeal.τ).loc Cert.OddInBwdIdeal.main_arg6) = m ((c.tc : Thread Cert.OddInBwdIdeal.nD Cert.OddInBwdIdeal.τ).loc Cert.OddInBwdIdeal.main_arg6)
      ∧ r.2.mem ((c.tc : Thread Cert.OddInBwdIdeal.nD Cert.OddInBwdIdeal.τ).loc Cert.OddInBwdIdeal.main_arg7) = m ((c.tc : Thread Cert.OddInBwdIdeal.nD Cert.OddInBwdIdeal.τ).loc Cert.OddInBwdIdeal.main_arg7)
      ∧ r.2.mem ((c.tc : Thread Cert.OddInBwdIdeal.nD Cert.OddInBwdIdeal.τ).loc Cert.OddInBwdIdeal.main_arg8) = m ((c.tc : Thread Cert.OddInBwdIdeal.nD Cert.OddInBwdIdeal.τ).loc Cert.OddInBwdIdeal.main_arg8))
      ∧ r.2.sem = fun _ => 0)

def quiescent_OddInBwdIdeal_pre_odd_in_bwd_finite [hOddInBwdIdeal : Cert.OddInBwdIdeal.Facts] [hPre_odd_in_bwd_finite : Cert.Pre_odd_in_bwd_finite.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg), Pre_OddInBwdIdeal_odd_in_bwd_finite m →
    θ_run (Cert.OddInBwdIdeal.defs (F := Ideal)) (onTc (τ := Cert.OddInBwdIdeal.τ) (Cert.OddInBwdIdeal.main (F := Ideal))) ⟨m, fun _ => 0, g⟩ (fun r => (∀ c : Dev Cert.OddInBwdIdeal.nD,
      r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
      ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
      ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
      ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
      ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
      ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5)
      ∧ r.2.mem ((c.tc : Thread Cert.OddInBwdIdeal.nD Cert.OddInBwdIdeal.τ).loc Cert.OddInBwdIdeal.main_arg6) = m ((c.tc : Thread Cert.OddInBwdIdeal.nD Cert.OddInBwdIdeal.τ).loc Cert.OddInBwdIdeal.main_arg6)
      ∧ r.2.mem ((c.tc : Thread Cert.OddInBwdIdeal.nD Cert.OddInBwdIdeal.τ).loc Cert.OddInBwdIdeal.main_arg7) = m ((c.tc : Thread Cert.OddInBwdIdeal.nD Cert.OddInBwdIdeal.τ).loc Cert.OddInBwdIdeal.main_arg7)
      ∧ r.2.mem ((c.tc : Thread Cert.OddInBwdIdeal.nD Cert.OddInBwdIdeal.τ).loc Cert.OddInBwdIdeal.main_arg8) = m ((c.tc : Thread Cert.OddInBwdIdeal.nD Cert.OddInBwdIdeal.τ).loc Cert.OddInBwdIdeal.main_arg8))
      ∧ r.2.sem = fun _ => 0)

def quiescent_OddInBwdRefIdeal [hOddInBwdRefIdeal : Cert.OddInBwdRefIdeal.Facts] : Prop :=
  ∀ (m : (ℓ : Loc Cert.OddInBwdRefIdeal.nD Cert.OddInBwdRefIdeal.τ Cert.OddInBwdRefIdeal.sig) → Buf (Elt Ideal) ℓ) (g : Dev Cert.OddInBwdRefIdeal.nD → PrngReg), Pre_OddInBwdRefIdeal m →
    θ_run (Cert.OddInBwdRefIdeal.defs (F := Ideal)) (onTc (τ := Cert.OddInBwdRefIdeal.τ) (Cert.OddInBwdRefIdeal.main (F := Ideal))) ⟨m, fun _ => 0, g⟩ (fun r => (∀ c : Dev Cert.OddInBwdRefIdeal.nD,
      r.2.mem ((c.tc : Thread Cert.OddInBwdRefIdeal.nD Cert.OddInBwdRefIdeal.τ).loc Cert.OddInBwdRefIdeal.main_arg0) = m ((c.tc : Thread Cert.OddInBwdRefIdeal.nD Cert.OddInBwdRefIdeal.τ).loc Cert.OddInBwdRefIdeal.main_arg0)
      ∧ r.2.mem ((c.tc : Thread Cert.OddInBwdRefIdeal.nD Cert.OddInBwdRefIdeal.τ).loc Cert.OddInBwdRefIdeal.main_arg1) = m ((c.tc : Thread Cert.OddInBwdRefIdeal.nD Cert.OddInBwdRefIdeal.τ).loc Cert.OddInBwdRefIdeal.main_arg1)
      ∧ r.2.mem ((c.tc : Thread Cert.OddInBwdRefIdeal.nD Cert.OddInBwdRefIdeal.τ).loc Cert.OddInBwdRefIdeal.main_arg2) = m ((c.tc : Thread Cert.OddInBwdRefIdeal.nD Cert.OddInBwdRefIdeal.τ).loc Cert.OddInBwdRefIdeal.main_arg2)
      ∧ r.2.mem ((c.tc : Thread Cert.OddInBwdRefIdeal.nD Cert.OddInBwdRefIdeal.τ).loc Cert.OddInBwdRefIdeal.main_arg3) = m ((c.tc : Thread Cert.OddInBwdRefIdeal.nD Cert.OddInBwdRefIdeal.τ).loc Cert.OddInBwdRefIdeal.main_arg3)
      ∧ r.2.mem ((c.tc : Thread Cert.OddInBwdRefIdeal.nD Cert.OddInBwdRefIdeal.τ).loc Cert.OddInBwdRefIdeal.main_arg4) = m ((c.tc : Thread Cert.OddInBwdRefIdeal.nD Cert.OddInBwdRefIdeal.τ).loc Cert.OddInBwdRefIdeal.main_arg4)
      ∧ r.2.mem ((c.tc : Thread Cert.OddInBwdRefIdeal.nD Cert.OddInBwdRefIdeal.τ).loc Cert.OddInBwdRefIdeal.main_arg5) = m ((c.tc : Thread Cert.OddInBwdRefIdeal.nD Cert.OddInBwdRefIdeal.τ).loc Cert.OddInBwdRefIdeal.main_arg5)
      ∧ r.2.mem ((c.tc : Thread Cert.OddInBwdRefIdeal.nD Cert.OddInBwdRefIdeal.τ).loc Cert.OddInBwdRefIdeal.main_arg6) = m ((c.tc : Thread Cert.OddInBwdRefIdeal.nD Cert.OddInBwdRefIdeal.τ).loc Cert.OddInBwdRefIdeal.main_arg6)
      ∧ r.2.mem ((c.tc : Thread Cert.OddInBwdRefIdeal.nD Cert.OddInBwdRefIdeal.τ).loc Cert.OddInBwdRefIdeal.main_arg7) = m ((c.tc : Thread Cert.OddInBwdRefIdeal.nD Cert.OddInBwdRefIdeal.τ).loc Cert.OddInBwdRefIdeal.main_arg7)
      ∧ r.2.mem ((c.tc : Thread Cert.OddInBwdRefIdeal.nD Cert.OddInBwdRefIdeal.τ).loc Cert.OddInBwdRefIdeal.main_arg8) = m ((c.tc : Thread Cert.OddInBwdRefIdeal.nD Cert.OddInBwdRefIdeal.τ).loc Cert.OddInBwdRefIdeal.main_arg8))
      ∧ r.2.sem = fun _ => 0)

def quiescent_OddInBwdRefIdeal_pre_odd_in_bwd_finite [hOddInBwdRefIdeal : Cert.OddInBwdRefIdeal.Facts] [hPre_odd_in_bwd_finite : Cert.Pre_odd_in_bwd_finite.Facts] : Prop :=
  ∀ (m : (ℓ : Loc Cert.OddInBwdRefIdeal.nD Cert.OddInBwdRefIdeal.τ Cert.OddInBwdRefIdeal.sig) → Buf (Elt Ideal) ℓ) (g : Dev Cert.OddInBwdRefIdeal.nD → PrngReg), Pre_OddInBwdRefIdeal_odd_in_bwd_finite m →
    θ_run (Cert.OddInBwdRefIdeal.defs (F := Ideal)) (onTc (τ := Cert.OddInBwdRefIdeal.τ) (Cert.OddInBwdRefIdeal.main (F := Ideal))) ⟨m, fun _ => 0, g⟩ (fun r => (∀ c : Dev Cert.OddInBwdRefIdeal.nD,
      r.2.mem ((c.tc : Thread Cert.OddInBwdRefIdeal.nD Cert.OddInBwdRefIdeal.τ).loc Cert.OddInBwdRefIdeal.main_arg0) = m ((c.tc : Thread Cert.OddInBwdRefIdeal.nD Cert.OddInBwdRefIdeal.τ).loc Cert.OddInBwdRefIdeal.main_arg0)
      ∧ r.2.mem ((c.tc : Thread Cert.OddInBwdRefIdeal.nD Cert.OddInBwdRefIdeal.τ).loc Cert.OddInBwdRefIdeal.main_arg1) = m ((c.tc : Thread Cert.OddInBwdRefIdeal.nD Cert.OddInBwdRefIdeal.τ).loc Cert.OddInBwdRefIdeal.main_arg1)
      ∧ r.2.mem ((c.tc : Thread Cert.OddInBwdRefIdeal.nD Cert.OddInBwdRefIdeal.τ).loc Cert.OddInBwdRefIdeal.main_arg2) = m ((c.tc : Thread Cert.OddInBwdRefIdeal.nD Cert.OddInBwdRefIdeal.τ).loc Cert.OddInBwdRefIdeal.main_arg2)
      ∧ r.2.mem ((c.tc : Thread Cert.OddInBwdRefIdeal.nD Cert.OddInBwdRefIdeal.τ).loc Cert.OddInBwdRefIdeal.main_arg3) = m ((c.tc : Thread Cert.OddInBwdRefIdeal.nD Cert.OddInBwdRefIdeal.τ).loc Cert.OddInBwdRefIdeal.main_arg3)
      ∧ r.2.mem ((c.tc : Thread Cert.OddInBwdRefIdeal.nD Cert.OddInBwdRefIdeal.τ).loc Cert.OddInBwdRefIdeal.main_arg4) = m ((c.tc : Thread Cert.OddInBwdRefIdeal.nD Cert.OddInBwdRefIdeal.τ).loc Cert.OddInBwdRefIdeal.main_arg4)
      ∧ r.2.mem ((c.tc : Thread Cert.OddInBwdRefIdeal.nD Cert.OddInBwdRefIdeal.τ).loc Cert.OddInBwdRefIdeal.main_arg5) = m ((c.tc : Thread Cert.OddInBwdRefIdeal.nD Cert.OddInBwdRefIdeal.τ).loc Cert.OddInBwdRefIdeal.main_arg5)
      ∧ r.2.mem ((c.tc : Thread Cert.OddInBwdRefIdeal.nD Cert.OddInBwdRefIdeal.τ).loc Cert.OddInBwdRefIdeal.main_arg6) = m ((c.tc : Thread Cert.OddInBwdRefIdeal.nD Cert.OddInBwdRefIdeal.τ).loc Cert.OddInBwdRefIdeal.main_arg6)
      ∧ r.2.mem ((c.tc : Thread Cert.OddInBwdRefIdeal.nD Cert.OddInBwdRefIdeal.τ).loc Cert.OddInBwdRefIdeal.main_arg7) = m ((c.tc : Thread Cert.OddInBwdRefIdeal.nD Cert.OddInBwdRefIdeal.τ).loc Cert.OddInBwdRefIdeal.main_arg7)
      ∧ r.2.mem ((c.tc : Thread Cert.OddInBwdRefIdeal.nD Cert.OddInBwdRefIdeal.τ).loc Cert.OddInBwdRefIdeal.main_arg8) = m ((c.tc : Thread Cert.OddInBwdRefIdeal.nD Cert.OddInBwdRefIdeal.τ).loc Cert.OddInBwdRefIdeal.main_arg8))
      ∧ r.2.sem = fun _ => 0)

def quiescent_OddInGrad [hOddInGrad : Cert.OddInGrad.Facts] : Prop :=
  ∀ (m : (ℓ : Loc Cert.OddInGrad.nD Cert.OddInGrad.τ Cert.OddInGrad.sig) → Buf (Elt Bits) ℓ) (g : Dev Cert.OddInGrad.nD → PrngReg), Pre_OddInGrad m →
    θ_run (Cert.OddInGrad.defs (F := Bits)) (onTc (τ := Cert.OddInGrad.τ) (Cert.OddInGrad.main (F := Bits))) ⟨m, fun _ => 0, g⟩ (fun r => (∀ c : Dev Cert.OddInGrad.nD,
      r.2.mem ((c.tc : Thread Cert.OddInGrad.nD Cert.OddInGrad.τ).loc Cert.OddInGrad.main_arg0) = m ((c.tc : Thread Cert.OddInGrad.nD Cert.OddInGrad.τ).loc Cert.OddInGrad.main_arg0)
      ∧ r.2.mem ((c.tc : Thread Cert.OddInGrad.nD Cert.OddInGrad.τ).loc Cert.OddInGrad.main_arg1) = m ((c.tc : Thread Cert.OddInGrad.nD Cert.OddInGrad.τ).loc Cert.OddInGrad.main_arg1)
      ∧ r.2.mem ((c.tc : Thread Cert.OddInGrad.nD Cert.OddInGrad.τ).loc Cert.OddInGrad.main_arg2) = m ((c.tc : Thread Cert.OddInGrad.nD Cert.OddInGrad.τ).loc Cert.OddInGrad.main_arg2)
      ∧ r.2.mem ((c.tc : Thread Cert.OddInGrad.nD Cert.OddInGrad.τ).loc Cert.OddInGrad.main_arg3) = m ((c.tc : Thread Cert.OddInGrad.nD Cert.OddInGrad.τ).loc Cert.OddInGrad.main_arg3)
      ∧ r.2.mem ((c.tc : Thread Cert.OddInGrad.nD Cert.OddInGrad.τ).loc Cert.OddInGrad.main_arg4) = m ((c.tc : Thread Cert.OddInGrad.nD Cert.OddInGrad.τ).loc Cert.OddInGrad.main_arg4)
      ∧ r.2.mem ((c.tc : Thread Cert.OddInGrad.nD Cert.OddInGrad.τ).loc Cert.OddInGrad.main_arg5) = m ((c.tc : Thread Cert.OddInGrad.nD Cert.OddInGrad.τ).loc Cert.OddInGrad.main_arg5)
      ∧ r.2.mem ((c.tc : Thread Cert.OddInGrad.nD Cert.OddInGrad.τ).loc Cert.OddInGrad.main_arg6) = m ((c.tc : Thread Cert.OddInGrad.nD Cert.OddInGrad.τ).loc Cert.OddInGrad.main_arg6))
      ∧ r.2.sem = fun _ => 0)

def quiescent_OddInGradIdeal [hOddInGradIdeal : Cert.OddInGradIdeal.Facts] : Prop :=
  ∀ (m : (ℓ : Loc Cert.OddInGradIdeal.nD Cert.OddInGradIdeal.τ Cert.OddInGradIdeal.sig) → Buf (Elt Ideal) ℓ) (g : Dev Cert.OddInGradIdeal.nD → PrngReg), Pre_OddInGradIdeal m →
    θ_run (Cert.OddInGradIdeal.defs (F := Ideal)) (onTc (τ := Cert.OddInGradIdeal.τ) (Cert.OddInGradIdeal.main (F := Ideal))) ⟨m, fun _ => 0, g⟩ (fun r => (∀ c : Dev Cert.OddInGradIdeal.nD,
      r.2.mem ((c.tc : Thread Cert.OddInGradIdeal.nD Cert.OddInGradIdeal.τ).loc Cert.OddInGradIdeal.main_arg0) = m ((c.tc : Thread Cert.OddInGradIdeal.nD Cert.OddInGradIdeal.τ).loc Cert.OddInGradIdeal.main_arg0)
      ∧ r.2.mem ((c.tc : Thread Cert.OddInGradIdeal.nD Cert.OddInGradIdeal.τ).loc Cert.OddInGradIdeal.main_arg1) = m ((c.tc : Thread Cert.OddInGradIdeal.nD Cert.OddInGradIdeal.τ).loc Cert.OddInGradIdeal.main_arg1)
      ∧ r.2.mem ((c.tc : Thread Cert.OddInGradIdeal.nD Cert.OddInGradIdeal.τ).loc Cert.OddInGradIdeal.main_arg2) = m ((c.tc : Thread Cert.OddInGradIdeal.nD Cert.OddInGradIdeal.τ).loc Cert.OddInGradIdeal.main_arg2)
      ∧ r.2.mem ((c.tc : Thread Cert.OddInGradIdeal.nD Cert.OddInGradIdeal.τ).loc Cert.OddInGradIdeal.main_arg3) = m ((c.tc : Thread Cert.OddInGradIdeal.nD Cert.OddInGradIdeal.τ).loc Cert.OddInGradIdeal.main_arg3)
      ∧ r.2.mem ((c.tc : Thread Cert.OddInGradIdeal.nD Cert.OddInGradIdeal.τ).loc Cert.OddInGradIdeal.main_arg4) = m ((c.tc : Thread Cert.OddInGradIdeal.nD Cert.OddInGradIdeal.τ).loc Cert.OddInGradIdeal.main_arg4)
      ∧ r.2.mem ((c.tc : Thread Cert.OddInGradIdeal.nD Cert.OddInGradIdeal.τ).loc Cert.OddInGradIdeal.main_arg5) = m ((c.tc : Thread Cert.OddInGradIdeal.nD Cert.OddInGradIdeal.τ).loc Cert.OddInGradIdeal.main_arg5)
      ∧ r.2.mem ((c.tc : Thread Cert.OddInGradIdeal.nD Cert.OddInGradIdeal.τ).loc Cert.OddInGradIdeal.main_arg6) = m ((c.tc : Thread Cert.OddInGradIdeal.nD Cert.OddInGradIdeal.τ).loc Cert.OddInGradIdeal.main_arg6))
      ∧ r.2.sem = fun _ => 0)

def quiescent_OddInGradRefIdeal [hOddInGradRefIdeal : Cert.OddInGradRefIdeal.Facts] : Prop :=
  ∀ (m : (ℓ : Loc Cert.OddInGradRefIdeal.nD Cert.OddInGradRefIdeal.τ Cert.OddInGradRefIdeal.sig) → Buf (Elt Ideal) ℓ) (g : Dev Cert.OddInGradRefIdeal.nD → PrngReg), Pre_OddInGradRefIdeal m →
    θ_run (Cert.OddInGradRefIdeal.defs (F := Ideal)) (onTc (τ := Cert.OddInGradRefIdeal.τ) (Cert.OddInGradRefIdeal.main (F := Ideal))) ⟨m, fun _ => 0, g⟩ (fun r => (∀ c : Dev Cert.OddInGradRefIdeal.nD,
      r.2.mem ((c.tc : Thread Cert.OddInGradRefIdeal.nD Cert.OddInGradRefIdeal.τ).loc Cert.OddInGradRefIdeal.main_arg0) = m ((c.tc : Thread Cert.OddInGradRefIdeal.nD Cert.OddInGradRefIdeal.τ).loc Cert.OddInGradRefIdeal.main_arg0)
      ∧ r.2.mem ((c.tc : Thread Cert.OddInGradRefIdeal.nD Cert.OddInGradRefIdeal.τ).loc Cert.OddInGradRefIdeal.main_arg1) = m ((c.tc : Thread Cert.OddInGradRefIdeal.nD Cert.OddInGradRefIdeal.τ).loc Cert.OddInGradRefIdeal.main_arg1)
      ∧ r.2.mem ((c.tc : Thread Cert.OddInGradRefIdeal.nD Cert.OddInGradRefIdeal.τ).loc Cert.OddInGradRefIdeal.main_arg2) = m ((c.tc : Thread Cert.OddInGradRefIdeal.nD Cert.OddInGradRefIdeal.τ).loc Cert.OddInGradRefIdeal.main_arg2)
      ∧ r.2.mem ((c.tc : Thread Cert.OddInGradRefIdeal.nD Cert.OddInGradRefIdeal.τ).loc Cert.OddInGradRefIdeal.main_arg3) = m ((c.tc : Thread Cert.OddInGradRefIdeal.nD Cert.OddInGradRefIdeal.τ).loc Cert.OddInGradRefIdeal.main_arg3)
      ∧ r.2.mem ((c.tc : Thread Cert.OddInGradRefIdeal.nD Cert.OddInGradRefIdeal.τ).loc Cert.OddInGradRefIdeal.main_arg4) = m ((c.tc : Thread Cert.OddInGradRefIdeal.nD Cert.OddInGradRefIdeal.τ).loc Cert.OddInGradRefIdeal.main_arg4)
      ∧ r.2.mem ((c.tc : Thread Cert.OddInGradRefIdeal.nD Cert.OddInGradRefIdeal.τ).loc Cert.OddInGradRefIdeal.main_arg5) = m ((c.tc : Thread Cert.OddInGradRefIdeal.nD Cert.OddInGradRefIdeal.τ).loc Cert.OddInGradRefIdeal.main_arg5)
      ∧ r.2.mem ((c.tc : Thread Cert.OddInGradRefIdeal.nD Cert.OddInGradRefIdeal.τ).loc Cert.OddInGradRefIdeal.main_arg6) = m ((c.tc : Thread Cert.OddInGradRefIdeal.nD Cert.OddInGradRefIdeal.τ).loc Cert.OddInGradRefIdeal.main_arg6))
      ∧ r.2.sem = fun _ => 0)

def quiescent_EvenOutGrad [hEvenOutGrad : Cert.EvenOutGrad.Facts] : Prop :=
  ∀ (m : (ℓ : Loc Cert.EvenOutGrad.nD Cert.EvenOutGrad.τ Cert.EvenOutGrad.sig) → Buf (Elt Bits) ℓ) (g : Dev Cert.EvenOutGrad.nD → PrngReg), Pre_EvenOutGrad m →
    θ_run (Cert.EvenOutGrad.defs (F := Bits)) (onTc (τ := Cert.EvenOutGrad.τ) (Cert.EvenOutGrad.main (F := Bits))) ⟨m, fun _ => 0, g⟩ (fun r => (∀ c : Dev Cert.EvenOutGrad.nD,
      r.2.mem ((c.tc : Thread Cert.EvenOutGrad.nD Cert.EvenOutGrad.τ).loc Cert.EvenOutGrad.main_arg0) = m ((c.tc : Thread Cert.EvenOutGrad.nD Cert.EvenOutGrad.τ).loc Cert.EvenOutGrad.main_arg0)
      ∧ r.2.mem ((c.tc : Thread Cert.EvenOutGrad.nD Cert.EvenOutGrad.τ).loc Cert.EvenOutGrad.main_arg1) = m ((c.tc : Thread Cert.EvenOutGrad.nD Cert.EvenOutGrad.τ).loc Cert.EvenOutGrad.main_arg1))
      ∧ r.2.sem = fun _ => 0)

def quiescent_EvenOutGradIdeal [hEvenOutGradIdeal : Cert.EvenOutGradIdeal.Facts] : Prop :=
  ∀ (m : (ℓ : Loc Cert.EvenOutGradIdeal.nD Cert.EvenOutGradIdeal.τ Cert.EvenOutGradIdeal.sig) → Buf (Elt Ideal) ℓ) (g : Dev Cert.EvenOutGradIdeal.nD → PrngReg), Pre_EvenOutGradIdeal m →
    θ_run (Cert.EvenOutGradIdeal.defs (F := Ideal)) (onTc (τ := Cert.EvenOutGradIdeal.τ) (Cert.EvenOutGradIdeal.main (F := Ideal))) ⟨m, fun _ => 0, g⟩ (fun r => (∀ c : Dev Cert.EvenOutGradIdeal.nD,
      r.2.mem ((c.tc : Thread Cert.EvenOutGradIdeal.nD Cert.EvenOutGradIdeal.τ).loc Cert.EvenOutGradIdeal.main_arg0) = m ((c.tc : Thread Cert.EvenOutGradIdeal.nD Cert.EvenOutGradIdeal.τ).loc Cert.EvenOutGradIdeal.main_arg0)
      ∧ r.2.mem ((c.tc : Thread Cert.EvenOutGradIdeal.nD Cert.EvenOutGradIdeal.τ).loc Cert.EvenOutGradIdeal.main_arg1) = m ((c.tc : Thread Cert.EvenOutGradIdeal.nD Cert.EvenOutGradIdeal.τ).loc Cert.EvenOutGradIdeal.main_arg1))
      ∧ r.2.sem = fun _ => 0)

def quiescent_EvenOutGradRefIdeal [hEvenOutGradRefIdeal : Cert.EvenOutGradRefIdeal.Facts] : Prop :=
  ∀ (m : (ℓ : Loc Cert.EvenOutGradRefIdeal.nD Cert.EvenOutGradRefIdeal.τ Cert.EvenOutGradRefIdeal.sig) → Buf (Elt Ideal) ℓ) (g : Dev Cert.EvenOutGradRefIdeal.nD → PrngReg), Pre_EvenOutGradRefIdeal m →
    θ_run (Cert.EvenOutGradRefIdeal.defs (F := Ideal)) (onTc (τ := Cert.EvenOutGradRefIdeal.τ) (Cert.EvenOutGradRefIdeal.main (F := Ideal))) ⟨m, fun _ => 0, g⟩ (fun r => (∀ c : Dev Cert.EvenOutGradRefIdeal.nD,
      r.2.mem ((c.tc : Thread Cert.EvenOutGradRefIdeal.nD Cert.EvenOutGradRefIdeal.τ).loc Cert.EvenOutGradRefIdeal.main_arg0) = m ((c.tc : Thread Cert.EvenOutGradRefIdeal.nD Cert.EvenOutGradRefIdeal.τ).loc Cert.EvenOutGradRefIdeal.main_arg0)
      ∧ r.2.mem ((c.tc : Thread Cert.EvenOutGradRefIdeal.nD Cert.EvenOutGradRefIdeal.τ).loc Cert.EvenOutGradRefIdeal.main_arg1) = m ((c.tc : Thread Cert.EvenOutGradRefIdeal.nD Cert.EvenOutGradRefIdeal.τ).loc Cert.EvenOutGradRefIdeal.main_arg1))
      ∧ r.2.sem = fun _ => 0)

def quiescent_OddOutGrad [hOddOutGrad : Cert.OddOutGrad.Facts] : Prop :=
  ∀ (m : (ℓ : Loc Cert.OddOutGrad.nD Cert.OddOutGrad.τ Cert.OddOutGrad.sig) → Buf (Elt Bits) ℓ) (g : Dev Cert.OddOutGrad.nD → PrngReg), Pre_OddOutGrad m →
    θ_run (Cert.OddOutGrad.defs (F := Bits)) (onTc (τ := Cert.OddOutGrad.τ) (Cert.OddOutGrad.main (F := Bits))) ⟨m, fun _ => 0, g⟩ (fun r => (∀ c : Dev Cert.OddOutGrad.nD,
      r.2.mem ((c.tc : Thread Cert.OddOutGrad.nD Cert.OddOutGrad.τ).loc Cert.OddOutGrad.main_arg0) = m ((c.tc : Thread Cert.OddOutGrad.nD Cert.OddOutGrad.τ).loc Cert.OddOutGrad.main_arg0)
      ∧ r.2.mem ((c.tc : Thread Cert.OddOutGrad.nD Cert.OddOutGrad.τ).loc Cert.OddOutGrad.main_arg1) = m ((c.tc : Thread Cert.OddOutGrad.nD Cert.OddOutGrad.τ).loc Cert.OddOutGrad.main_arg1))
      ∧ r.2.sem = fun _ => 0)

def quiescent_OddOutGradIdeal [hOddOutGradIdeal : Cert.OddOutGradIdeal.Facts] : Prop :=
  ∀ (m : (ℓ : Loc Cert.OddOutGradIdeal.nD Cert.OddOutGradIdeal.τ Cert.OddOutGradIdeal.sig) → Buf (Elt Ideal) ℓ) (g : Dev Cert.OddOutGradIdeal.nD → PrngReg), Pre_OddOutGradIdeal m →
    θ_run (Cert.OddOutGradIdeal.defs (F := Ideal)) (onTc (τ := Cert.OddOutGradIdeal.τ) (Cert.OddOutGradIdeal.main (F := Ideal))) ⟨m, fun _ => 0, g⟩ (fun r => (∀ c : Dev Cert.OddOutGradIdeal.nD,
      r.2.mem ((c.tc : Thread Cert.OddOutGradIdeal.nD Cert.OddOutGradIdeal.τ).loc Cert.OddOutGradIdeal.main_arg0) = m ((c.tc : Thread Cert.OddOutGradIdeal.nD Cert.OddOutGradIdeal.τ).loc Cert.OddOutGradIdeal.main_arg0)
      ∧ r.2.mem ((c.tc : Thread Cert.OddOutGradIdeal.nD Cert.OddOutGradIdeal.τ).loc Cert.OddOutGradIdeal.main_arg1) = m ((c.tc : Thread Cert.OddOutGradIdeal.nD Cert.OddOutGradIdeal.τ).loc Cert.OddOutGradIdeal.main_arg1))
      ∧ r.2.sem = fun _ => 0)

def quiescent_OddOutGradRefIdeal [hOddOutGradRefIdeal : Cert.OddOutGradRefIdeal.Facts] : Prop :=
  ∀ (m : (ℓ : Loc Cert.OddOutGradRefIdeal.nD Cert.OddOutGradRefIdeal.τ Cert.OddOutGradRefIdeal.sig) → Buf (Elt Ideal) ℓ) (g : Dev Cert.OddOutGradRefIdeal.nD → PrngReg), Pre_OddOutGradRefIdeal m →
    θ_run (Cert.OddOutGradRefIdeal.defs (F := Ideal)) (onTc (τ := Cert.OddOutGradRefIdeal.τ) (Cert.OddOutGradRefIdeal.main (F := Ideal))) ⟨m, fun _ => 0, g⟩ (fun r => (∀ c : Dev Cert.OddOutGradRefIdeal.nD,
      r.2.mem ((c.tc : Thread Cert.OddOutGradRefIdeal.nD Cert.OddOutGradRefIdeal.τ).loc Cert.OddOutGradRefIdeal.main_arg0) = m ((c.tc : Thread Cert.OddOutGradRefIdeal.nD Cert.OddOutGradRefIdeal.τ).loc Cert.OddOutGradRefIdeal.main_arg0)
      ∧ r.2.mem ((c.tc : Thread Cert.OddOutGradRefIdeal.nD Cert.OddOutGradRefIdeal.τ).loc Cert.OddOutGradRefIdeal.main_arg1) = m ((c.tc : Thread Cert.OddOutGradRefIdeal.nD Cert.OddOutGradRefIdeal.τ).loc Cert.OddOutGradRefIdeal.main_arg1))
      ∧ r.2.sem = fun _ => 0)

def quiescent_EvenOutFwd [hEvenOutFwd : Cert.EvenOutFwd.Facts] : Prop :=
  ∀ (m : (ℓ : Loc Cert.EvenOutFwd.nD Cert.EvenOutFwd.τ Cert.EvenOutFwd.sig) → Buf (Elt Bits) ℓ) (g : Dev Cert.EvenOutFwd.nD → PrngReg), Pre_EvenOutFwd m →
    θ_run (Cert.EvenOutFwd.defs (F := Bits)) (onTc (τ := Cert.EvenOutFwd.τ) (Cert.EvenOutFwd.main (F := Bits))) ⟨m, fun _ => 0, g⟩ (fun r => (∀ c : Dev Cert.EvenOutFwd.nD,
      r.2.mem ((c.tc : Thread Cert.EvenOutFwd.nD Cert.EvenOutFwd.τ).loc Cert.EvenOutFwd.main_arg0) = m ((c.tc : Thread Cert.EvenOutFwd.nD Cert.EvenOutFwd.τ).loc Cert.EvenOutFwd.main_arg0)
      ∧ r.2.mem ((c.tc : Thread Cert.EvenOutFwd.nD Cert.EvenOutFwd.τ).loc Cert.EvenOutFwd.main_arg1) = m ((c.tc : Thread Cert.EvenOutFwd.nD Cert.EvenOutFwd.τ).loc Cert.EvenOutFwd.main_arg1)
      ∧ r.2.mem ((c.tc : Thread Cert.EvenOutFwd.nD Cert.EvenOutFwd.τ).loc Cert.EvenOutFwd.main_arg2) = m ((c.tc : Thread Cert.EvenOutFwd.nD Cert.EvenOutFwd.τ).loc Cert.EvenOutFwd.main_arg2)
      ∧ r.2.mem ((c.tc : Thread Cert.EvenOutFwd.nD Cert.EvenOutFwd.τ).loc Cert.EvenOutFwd.main_arg3) = m ((c.tc : Thread Cert.EvenOutFwd.nD Cert.EvenOutFwd.τ).loc Cert.EvenOutFwd.main_arg3))
      ∧ r.2.sem = fun _ => 0)

def quiescent_EvenOutFwdIdeal [hEvenOutFwdIdeal : Cert.EvenOutFwdIdeal.Facts] : Prop :=
  ∀ (m : (ℓ : Loc Cert.EvenOutFwdIdeal.nD Cert.EvenOutFwdIdeal.τ Cert.EvenOutFwdIdeal.sig) → Buf (Elt Ideal) ℓ) (g : Dev Cert.EvenOutFwdIdeal.nD → PrngReg), Pre_EvenOutFwdIdeal m →
    θ_run (Cert.EvenOutFwdIdeal.defs (F := Ideal)) (onTc (τ := Cert.EvenOutFwdIdeal.τ) (Cert.EvenOutFwdIdeal.main (F := Ideal))) ⟨m, fun _ => 0, g⟩ (fun r => (∀ c : Dev Cert.EvenOutFwdIdeal.nD,
      r.2.mem ((c.tc : Thread Cert.EvenOutFwdIdeal.nD Cert.EvenOutFwdIdeal.τ).loc Cert.EvenOutFwdIdeal.main_arg0) = m ((c.tc : Thread Cert.EvenOutFwdIdeal.nD Cert.EvenOutFwdIdeal.τ).loc Cert.EvenOutFwdIdeal.main_arg0)
      ∧ r.2.mem ((c.tc : Thread Cert.EvenOutFwdIdeal.nD Cert.EvenOutFwdIdeal.τ).loc Cert.EvenOutFwdIdeal.main_arg1) = m ((c.tc : Thread Cert.EvenOutFwdIdeal.nD Cert.EvenOutFwdIdeal.τ).loc Cert.EvenOutFwdIdeal.main_arg1)
      ∧ r.2.mem ((c.tc : Thread Cert.EvenOutFwdIdeal.nD Cert.EvenOutFwdIdeal.τ).loc Cert.EvenOutFwdIdeal.main_arg2) = m ((c.tc : Thread Cert.EvenOutFwdIdeal.nD Cert.EvenOutFwdIdeal.τ).loc Cert.EvenOutFwdIdeal.main_arg2)
      ∧ r.2.mem ((c.tc : Thread Cert.EvenOutFwdIdeal.nD Cert.EvenOutFwdIdeal.τ).loc Cert.EvenOutFwdIdeal.main_arg3) = m ((c.tc : Thread Cert.EvenOutFwdIdeal.nD Cert.EvenOutFwdIdeal.τ).loc Cert.EvenOutFwdIdeal.main_arg3))
      ∧ r.2.sem = fun _ => 0)

def quiescent_EvenOutFwdRefIdeal [hEvenOutFwdRefIdeal : Cert.EvenOutFwdRefIdeal.Facts] : Prop :=
  ∀ (m : (ℓ : Loc Cert.EvenOutFwdRefIdeal.nD Cert.EvenOutFwdRefIdeal.τ Cert.EvenOutFwdRefIdeal.sig) → Buf (Elt Ideal) ℓ) (g : Dev Cert.EvenOutFwdRefIdeal.nD → PrngReg), Pre_EvenOutFwdRefIdeal m →
    θ_run (Cert.EvenOutFwdRefIdeal.defs (F := Ideal)) (onTc (τ := Cert.EvenOutFwdRefIdeal.τ) (Cert.EvenOutFwdRefIdeal.main (F := Ideal))) ⟨m, fun _ => 0, g⟩ (fun r => (∀ c : Dev Cert.EvenOutFwdRefIdeal.nD,
      r.2.mem ((c.tc : Thread Cert.EvenOutFwdRefIdeal.nD Cert.EvenOutFwdRefIdeal.τ).loc Cert.EvenOutFwdRefIdeal.main_arg0) = m ((c.tc : Thread Cert.EvenOutFwdRefIdeal.nD Cert.EvenOutFwdRefIdeal.τ).loc Cert.EvenOutFwdRefIdeal.main_arg0)
      ∧ r.2.mem ((c.tc : Thread Cert.EvenOutFwdRefIdeal.nD Cert.EvenOutFwdRefIdeal.τ).loc Cert.EvenOutFwdRefIdeal.main_arg1) = m ((c.tc : Thread Cert.EvenOutFwdRefIdeal.nD Cert.EvenOutFwdRefIdeal.τ).loc Cert.EvenOutFwdRefIdeal.main_arg1)
      ∧ r.2.mem ((c.tc : Thread Cert.EvenOutFwdRefIdeal.nD Cert.EvenOutFwdRefIdeal.τ).loc Cert.EvenOutFwdRefIdeal.main_arg2) = m ((c.tc : Thread Cert.EvenOutFwdRefIdeal.nD Cert.EvenOutFwdRefIdeal.τ).loc Cert.EvenOutFwdRefIdeal.main_arg2)
      ∧ r.2.mem ((c.tc : Thread Cert.EvenOutFwdRefIdeal.nD Cert.EvenOutFwdRefIdeal.τ).loc Cert.EvenOutFwdRefIdeal.main_arg3) = m ((c.tc : Thread Cert.EvenOutFwdRefIdeal.nD Cert.EvenOutFwdRefIdeal.τ).loc Cert.EvenOutFwdRefIdeal.main_arg3))
      ∧ r.2.sem = fun _ => 0)

def quiescent_OddInFwd [hOddInFwd : Cert.OddInFwd.Facts] : Prop :=
  ∀ (m : (ℓ : Loc Cert.OddInFwd.nD Cert.OddInFwd.τ Cert.OddInFwd.sig) → Buf (Elt Bits) ℓ) (g : Dev Cert.OddInFwd.nD → PrngReg), Pre_OddInFwd m →
    θ_run (Cert.OddInFwd.defs (F := Bits)) (onTc (τ := Cert.OddInFwd.τ) (Cert.OddInFwd.main (F := Bits))) ⟨m, fun _ => 0, g⟩ (fun r => (∀ c : Dev Cert.OddInFwd.nD,
      r.2.mem ((c.tc : Thread Cert.OddInFwd.nD Cert.OddInFwd.τ).loc Cert.OddInFwd.main_arg0) = m ((c.tc : Thread Cert.OddInFwd.nD Cert.OddInFwd.τ).loc Cert.OddInFwd.main_arg0)
      ∧ r.2.mem ((c.tc : Thread Cert.OddInFwd.nD Cert.OddInFwd.τ).loc Cert.OddInFwd.main_arg1) = m ((c.tc : Thread Cert.OddInFwd.nD Cert.OddInFwd.τ).loc Cert.OddInFwd.main_arg1)
      ∧ r.2.mem ((c.tc : Thread Cert.OddInFwd.nD Cert.OddInFwd.τ).loc Cert.OddInFwd.main_arg2) = m ((c.tc : Thread Cert.OddInFwd.nD Cert.OddInFwd.τ).loc Cert.OddInFwd.main_arg2))
      ∧ r.2.sem = fun _ => 0)

def quiescent_OddInFwdIdeal [hOddInFwdIdeal : Cert.OddInFwdIdeal.Facts] : Prop :=
  ∀ (m : (ℓ : Loc Cert.OddInFwdIdeal.nD Cert.OddInFwdIdeal.τ Cert.OddInFwdIdeal.sig) → Buf (Elt Ideal) ℓ) (g : Dev Cert.OddInFwdIdeal.nD → PrngReg), Pre_OddInFwdIdeal m →
    θ_run (Cert.OddInFwdIdeal.defs (F := Ideal)) (onTc (τ := Cert.OddInFwdIdeal.τ) (Cert.OddInFwdIdeal.main (F := Ideal))) ⟨m, fun _ => 0, g⟩ (fun r => (∀ c : Dev Cert.OddInFwdIdeal.nD,
      r.2.mem ((c.tc : Thread Cert.OddInFwdIdeal.nD Cert.OddInFwdIdeal.τ).loc Cert.OddInFwdIdeal.main_arg0) = m ((c.tc : Thread Cert.OddInFwdIdeal.nD Cert.OddInFwdIdeal.τ).loc Cert.OddInFwdIdeal.main_arg0)
      ∧ r.2.mem ((c.tc : Thread Cert.OddInFwdIdeal.nD Cert.OddInFwdIdeal.τ).loc Cert.OddInFwdIdeal.main_arg1) = m ((c.tc : Thread Cert.OddInFwdIdeal.nD Cert.OddInFwdIdeal.τ).loc Cert.OddInFwdIdeal.main_arg1)
      ∧ r.2.mem ((c.tc : Thread Cert.OddInFwdIdeal.nD Cert.OddInFwdIdeal.τ).loc Cert.OddInFwdIdeal.main_arg2) = m ((c.tc : Thread Cert.OddInFwdIdeal.nD Cert.OddInFwdIdeal.τ).loc Cert.OddInFwdIdeal.main_arg2))
      ∧ r.2.sem = fun _ => 0)

def quiescent_OddInFwdRefIdeal [hOddInFwdRefIdeal : Cert.OddInFwdRefIdeal.Facts] : Prop :=
  ∀ (m : (ℓ : Loc Cert.OddInFwdRefIdeal.nD Cert.OddInFwdRefIdeal.τ Cert.OddInFwdRefIdeal.sig) → Buf (Elt Ideal) ℓ) (g : Dev Cert.OddInFwdRefIdeal.nD → PrngReg), Pre_OddInFwdRefIdeal m →
    θ_run (Cert.OddInFwdRefIdeal.defs (F := Ideal)) (onTc (τ := Cert.OddInFwdRefIdeal.τ) (Cert.OddInFwdRefIdeal.main (F := Ideal))) ⟨m, fun _ => 0, g⟩ (fun r => (∀ c : Dev Cert.OddInFwdRefIdeal.nD,
      r.2.mem ((c.tc : Thread Cert.OddInFwdRefIdeal.nD Cert.OddInFwdRefIdeal.τ).loc Cert.OddInFwdRefIdeal.main_arg0) = m ((c.tc : Thread Cert.OddInFwdRefIdeal.nD Cert.OddInFwdRefIdeal.τ).loc Cert.OddInFwdRefIdeal.main_arg0)
      ∧ r.2.mem ((c.tc : Thread Cert.OddInFwdRefIdeal.nD Cert.OddInFwdRefIdeal.τ).loc Cert.OddInFwdRefIdeal.main_arg1) = m ((c.tc : Thread Cert.OddInFwdRefIdeal.nD Cert.OddInFwdRefIdeal.τ).loc Cert.OddInFwdRefIdeal.main_arg1)
      ∧ r.2.mem ((c.tc : Thread Cert.OddInFwdRefIdeal.nD Cert.OddInFwdRefIdeal.τ).loc Cert.OddInFwdRefIdeal.main_arg2) = m ((c.tc : Thread Cert.OddInFwdRefIdeal.nD Cert.OddInFwdRefIdeal.τ).loc Cert.OddInFwdRefIdeal.main_arg2))
      ∧ r.2.sem = fun _ => 0)

def quiescent_OddOutFwd [hOddOutFwd : Cert.OddOutFwd.Facts] : Prop :=
  ∀ (m : (ℓ : Loc Cert.OddOutFwd.nD Cert.OddOutFwd.τ Cert.OddOutFwd.sig) → Buf (Elt Bits) ℓ) (g : Dev Cert.OddOutFwd.nD → PrngReg), Pre_OddOutFwd m →
    θ_run (Cert.OddOutFwd.defs (F := Bits)) (onTc (τ := Cert.OddOutFwd.τ) (Cert.OddOutFwd.main (F := Bits))) ⟨m, fun _ => 0, g⟩ (fun r => (∀ c : Dev Cert.OddOutFwd.nD,
      r.2.mem ((c.tc : Thread Cert.OddOutFwd.nD Cert.OddOutFwd.τ).loc Cert.OddOutFwd.main_arg0) = m ((c.tc : Thread Cert.OddOutFwd.nD Cert.OddOutFwd.τ).loc Cert.OddOutFwd.main_arg0)
      ∧ r.2.mem ((c.tc : Thread Cert.OddOutFwd.nD Cert.OddOutFwd.τ).loc Cert.OddOutFwd.main_arg1) = m ((c.tc : Thread Cert.OddOutFwd.nD Cert.OddOutFwd.τ).loc Cert.OddOutFwd.main_arg1)
      ∧ r.2.mem ((c.tc : Thread Cert.OddOutFwd.nD Cert.OddOutFwd.τ).loc Cert.OddOutFwd.main_arg2) = m ((c.tc : Thread Cert.OddOutFwd.nD Cert.OddOutFwd.τ).loc Cert.OddOutFwd.main_arg2)
      ∧ r.2.mem ((c.tc : Thread Cert.OddOutFwd.nD Cert.OddOutFwd.τ).loc Cert.OddOutFwd.main_arg3) = m ((c.tc : Thread Cert.OddOutFwd.nD Cert.OddOutFwd.τ).loc Cert.OddOutFwd.main_arg3)
      ∧ r.2.mem ((c.tc : Thread Cert.OddOutFwd.nD Cert.OddOutFwd.τ).loc Cert.OddOutFwd.main_arg4) = m ((c.tc : Thread Cert.OddOutFwd.nD Cert.OddOutFwd.τ).loc Cert.OddOutFwd.main_arg4)
      ∧ r.2.mem ((c.tc : Thread Cert.OddOutFwd.nD Cert.OddOutFwd.τ).loc Cert.OddOutFwd.main_arg5) = m ((c.tc : Thread Cert.OddOutFwd.nD Cert.OddOutFwd.τ).loc Cert.OddOutFwd.main_arg5)
      ∧ r.2.mem ((c.tc : Thread Cert.OddOutFwd.nD Cert.OddOutFwd.τ).loc Cert.OddOutFwd.main_arg6) = m ((c.tc : Thread Cert.OddOutFwd.nD Cert.OddOutFwd.τ).loc Cert.OddOutFwd.main_arg6))
      ∧ r.2.sem = fun _ => 0)

def quiescent_OddOutFwdIdeal [hOddOutFwdIdeal : Cert.OddOutFwdIdeal.Facts] : Prop :=
  ∀ (m : (ℓ : Loc Cert.OddOutFwdIdeal.nD Cert.OddOutFwdIdeal.τ Cert.OddOutFwdIdeal.sig) → Buf (Elt Ideal) ℓ) (g : Dev Cert.OddOutFwdIdeal.nD → PrngReg), Pre_OddOutFwdIdeal m →
    θ_run (Cert.OddOutFwdIdeal.defs (F := Ideal)) (onTc (τ := Cert.OddOutFwdIdeal.τ) (Cert.OddOutFwdIdeal.main (F := Ideal))) ⟨m, fun _ => 0, g⟩ (fun r => (∀ c : Dev Cert.OddOutFwdIdeal.nD,
      r.2.mem ((c.tc : Thread Cert.OddOutFwdIdeal.nD Cert.OddOutFwdIdeal.τ).loc Cert.OddOutFwdIdeal.main_arg0) = m ((c.tc : Thread Cert.OddOutFwdIdeal.nD Cert.OddOutFwdIdeal.τ).loc Cert.OddOutFwdIdeal.main_arg0)
      ∧ r.2.mem ((c.tc : Thread Cert.OddOutFwdIdeal.nD Cert.OddOutFwdIdeal.τ).loc Cert.OddOutFwdIdeal.main_arg1) = m ((c.tc : Thread Cert.OddOutFwdIdeal.nD Cert.OddOutFwdIdeal.τ).loc Cert.OddOutFwdIdeal.main_arg1)
      ∧ r.2.mem ((c.tc : Thread Cert.OddOutFwdIdeal.nD Cert.OddOutFwdIdeal.τ).loc Cert.OddOutFwdIdeal.main_arg2) = m ((c.tc : Thread Cert.OddOutFwdIdeal.nD Cert.OddOutFwdIdeal.τ).loc Cert.OddOutFwdIdeal.main_arg2)
      ∧ r.2.mem ((c.tc : Thread Cert.OddOutFwdIdeal.nD Cert.OddOutFwdIdeal.τ).loc Cert.OddOutFwdIdeal.main_arg3) = m ((c.tc : Thread Cert.OddOutFwdIdeal.nD Cert.OddOutFwdIdeal.τ).loc Cert.OddOutFwdIdeal.main_arg3)
      ∧ r.2.mem ((c.tc : Thread Cert.OddOutFwdIdeal.nD Cert.OddOutFwdIdeal.τ).loc Cert.OddOutFwdIdeal.main_arg4) = m ((c.tc : Thread Cert.OddOutFwdIdeal.nD Cert.OddOutFwdIdeal.τ).loc Cert.OddOutFwdIdeal.main_arg4)
      ∧ r.2.mem ((c.tc : Thread Cert.OddOutFwdIdeal.nD Cert.OddOutFwdIdeal.τ).loc Cert.OddOutFwdIdeal.main_arg5) = m ((c.tc : Thread Cert.OddOutFwdIdeal.nD Cert.OddOutFwdIdeal.τ).loc Cert.OddOutFwdIdeal.main_arg5)
      ∧ r.2.mem ((c.tc : Thread Cert.OddOutFwdIdeal.nD Cert.OddOutFwdIdeal.τ).loc Cert.OddOutFwdIdeal.main_arg6) = m ((c.tc : Thread Cert.OddOutFwdIdeal.nD Cert.OddOutFwdIdeal.τ).loc Cert.OddOutFwdIdeal.main_arg6))
      ∧ r.2.sem = fun _ => 0)

def quiescent_OddOutFwdIdeal_pre_odd_out_fwd_finite [hOddOutFwdIdeal : Cert.OddOutFwdIdeal.Facts] [hPre_odd_out_fwd_finite : Cert.Pre_odd_out_fwd_finite.Facts] : Prop :=
  ∀ (m : (ℓ : Loc Cert.OddOutFwdIdeal.nD Cert.OddOutFwdIdeal.τ Cert.OddOutFwdIdeal.sig) → Buf (Elt Ideal) ℓ) (g : Dev Cert.OddOutFwdIdeal.nD → PrngReg), Pre_OddOutFwdIdeal_odd_out_fwd_finite m →
    θ_run (Cert.OddOutFwdIdeal.defs (F := Ideal)) (onTc (τ := Cert.OddOutFwdIdeal.τ) (Cert.OddOutFwdIdeal.main (F := Ideal))) ⟨m, fun _ => 0, g⟩ (fun r => (∀ c : Dev Cert.OddOutFwdIdeal.nD,
      r.2.mem ((c.tc : Thread Cert.OddOutFwdIdeal.nD Cert.OddOutFwdIdeal.τ).loc Cert.OddOutFwdIdeal.main_arg0) = m ((c.tc : Thread Cert.OddOutFwdIdeal.nD Cert.OddOutFwdIdeal.τ).loc Cert.OddOutFwdIdeal.main_arg0)
      ∧ r.2.mem ((c.tc : Thread Cert.OddOutFwdIdeal.nD Cert.OddOutFwdIdeal.τ).loc Cert.OddOutFwdIdeal.main_arg1) = m ((c.tc : Thread Cert.OddOutFwdIdeal.nD Cert.OddOutFwdIdeal.τ).loc Cert.OddOutFwdIdeal.main_arg1)
      ∧ r.2.mem ((c.tc : Thread Cert.OddOutFwdIdeal.nD Cert.OddOutFwdIdeal.τ).loc Cert.OddOutFwdIdeal.main_arg2) = m ((c.tc : Thread Cert.OddOutFwdIdeal.nD Cert.OddOutFwdIdeal.τ).loc Cert.OddOutFwdIdeal.main_arg2)
      ∧ r.2.mem ((c.tc : Thread Cert.OddOutFwdIdeal.nD Cert.OddOutFwdIdeal.τ).loc Cert.OddOutFwdIdeal.main_arg3) = m ((c.tc : Thread Cert.OddOutFwdIdeal.nD Cert.OddOutFwdIdeal.τ).loc Cert.OddOutFwdIdeal.main_arg3)
      ∧ r.2.mem ((c.tc : Thread Cert.OddOutFwdIdeal.nD Cert.OddOutFwdIdeal.τ).loc Cert.OddOutFwdIdeal.main_arg4) = m ((c.tc : Thread Cert.OddOutFwdIdeal.nD Cert.OddOutFwdIdeal.τ).loc Cert.OddOutFwdIdeal.main_arg4)
      ∧ r.2.mem ((c.tc : Thread Cert.OddOutFwdIdeal.nD Cert.OddOutFwdIdeal.τ).loc Cert.OddOutFwdIdeal.main_arg5) = m ((c.tc : Thread Cert.OddOutFwdIdeal.nD Cert.OddOutFwdIdeal.τ).loc Cert.OddOutFwdIdeal.main_arg5)
      ∧ r.2.mem ((c.tc : Thread Cert.OddOutFwdIdeal.nD Cert.OddOutFwdIdeal.τ).loc Cert.OddOutFwdIdeal.main_arg6) = m ((c.tc : Thread Cert.OddOutFwdIdeal.nD Cert.OddOutFwdIdeal.τ).loc Cert.OddOutFwdIdeal.main_arg6))
      ∧ r.2.sem = fun _ => 0)

def quiescent_OddOutFwdRefIdeal [hOddOutFwdRefIdeal : Cert.OddOutFwdRefIdeal.Facts] : Prop :=
  ∀ (m : (ℓ : Loc Cert.OddOutFwdRefIdeal.nD Cert.OddOutFwdRefIdeal.τ Cert.OddOutFwdRefIdeal.sig) → Buf (Elt Ideal) ℓ) (g : Dev Cert.OddOutFwdRefIdeal.nD → PrngReg), Pre_OddOutFwdRefIdeal m →
    θ_run (Cert.OddOutFwdRefIdeal.defs (F := Ideal)) (onTc (τ := Cert.OddOutFwdRefIdeal.τ) (Cert.OddOutFwdRefIdeal.main (F := Ideal))) ⟨m, fun _ => 0, g⟩ (fun r => (∀ c : Dev Cert.OddOutFwdRefIdeal.nD,
      r.2.mem ((c.tc : Thread Cert.OddOutFwdRefIdeal.nD Cert.OddOutFwdRefIdeal.τ).loc Cert.OddOutFwdRefIdeal.main_arg0) = m ((c.tc : Thread Cert.OddOutFwdRefIdeal.nD Cert.OddOutFwdRefIdeal.τ).loc Cert.OddOutFwdRefIdeal.main_arg0)
      ∧ r.2.mem ((c.tc : Thread Cert.OddOutFwdRefIdeal.nD Cert.OddOutFwdRefIdeal.τ).loc Cert.OddOutFwdRefIdeal.main_arg1) = m ((c.tc : Thread Cert.OddOutFwdRefIdeal.nD Cert.OddOutFwdRefIdeal.τ).loc Cert.OddOutFwdRefIdeal.main_arg1)
      ∧ r.2.mem ((c.tc : Thread Cert.OddOutFwdRefIdeal.nD Cert.OddOutFwdRefIdeal.τ).loc Cert.OddOutFwdRefIdeal.main_arg2) = m ((c.tc : Thread Cert.OddOutFwdRefIdeal.nD Cert.OddOutFwdRefIdeal.τ).loc Cert.OddOutFwdRefIdeal.main_arg2)
      ∧ r.2.mem ((c.tc : Thread Cert.OddOutFwdRefIdeal.nD Cert.OddOutFwdRefIdeal.τ).loc Cert.OddOutFwdRefIdeal.main_arg3) = m ((c.tc : Thread Cert.OddOutFwdRefIdeal.nD Cert.OddOutFwdRefIdeal.τ).loc Cert.OddOutFwdRefIdeal.main_arg3)
      ∧ r.2.mem ((c.tc : Thread Cert.OddOutFwdRefIdeal.nD Cert.OddOutFwdRefIdeal.τ).loc Cert.OddOutFwdRefIdeal.main_arg4) = m ((c.tc : Thread Cert.OddOutFwdRefIdeal.nD Cert.OddOutFwdRefIdeal.τ).loc Cert.OddOutFwdRefIdeal.main_arg4)
      ∧ r.2.mem ((c.tc : Thread Cert.OddOutFwdRefIdeal.nD Cert.OddOutFwdRefIdeal.τ).loc Cert.OddOutFwdRefIdeal.main_arg5) = m ((c.tc : Thread Cert.OddOutFwdRefIdeal.nD Cert.OddOutFwdRefIdeal.τ).loc Cert.OddOutFwdRefIdeal.main_arg5)
      ∧ r.2.mem ((c.tc : Thread Cert.OddOutFwdRefIdeal.nD Cert.OddOutFwdRefIdeal.τ).loc Cert.OddOutFwdRefIdeal.main_arg6) = m ((c.tc : Thread Cert.OddOutFwdRefIdeal.nD Cert.OddOutFwdRefIdeal.τ).loc Cert.OddOutFwdRefIdeal.main_arg6))
      ∧ r.2.sem = fun _ => 0)

def quiescent_OddOutFwdRefIdeal_pre_odd_out_fwd_finite [hOddOutFwdRefIdeal : Cert.OddOutFwdRefIdeal.Facts] [hPre_odd_out_fwd_finite : Cert.Pre_odd_out_fwd_finite.Facts] : Prop :=
  ∀ (m : (ℓ : Loc Cert.OddOutFwdRefIdeal.nD Cert.OddOutFwdRefIdeal.τ Cert.OddOutFwdRefIdeal.sig) → Buf (Elt Ideal) ℓ) (g : Dev Cert.OddOutFwdRefIdeal.nD → PrngReg), Pre_OddOutFwdRefIdeal_odd_out_fwd_finite m →
    θ_run (Cert.OddOutFwdRefIdeal.defs (F := Ideal)) (onTc (τ := Cert.OddOutFwdRefIdeal.τ) (Cert.OddOutFwdRefIdeal.main (F := Ideal))) ⟨m, fun _ => 0, g⟩ (fun r => (∀ c : Dev Cert.OddOutFwdRefIdeal.nD,
      r.2.mem ((c.tc : Thread Cert.OddOutFwdRefIdeal.nD Cert.OddOutFwdRefIdeal.τ).loc Cert.OddOutFwdRefIdeal.main_arg0) = m ((c.tc : Thread Cert.OddOutFwdRefIdeal.nD Cert.OddOutFwdRefIdeal.τ).loc Cert.OddOutFwdRefIdeal.main_arg0)
      ∧ r.2.mem ((c.tc : Thread Cert.OddOutFwdRefIdeal.nD Cert.OddOutFwdRefIdeal.τ).loc Cert.OddOutFwdRefIdeal.main_arg1) = m ((c.tc : Thread Cert.OddOutFwdRefIdeal.nD Cert.OddOutFwdRefIdeal.τ).loc Cert.OddOutFwdRefIdeal.main_arg1)
      ∧ r.2.mem ((c.tc : Thread Cert.OddOutFwdRefIdeal.nD Cert.OddOutFwdRefIdeal.τ).loc Cert.OddOutFwdRefIdeal.main_arg2) = m ((c.tc : Thread Cert.OddOutFwdRefIdeal.nD Cert.OddOutFwdRefIdeal.τ).loc Cert.OddOutFwdRefIdeal.main_arg2)
      ∧ r.2.mem ((c.tc : Thread Cert.OddOutFwdRefIdeal.nD Cert.OddOutFwdRefIdeal.τ).loc Cert.OddOutFwdRefIdeal.main_arg3) = m ((c.tc : Thread Cert.OddOutFwdRefIdeal.nD Cert.OddOutFwdRefIdeal.τ).loc Cert.OddOutFwdRefIdeal.main_arg3)
      ∧ r.2.mem ((c.tc : Thread Cert.OddOutFwdRefIdeal.nD Cert.OddOutFwdRefIdeal.τ).loc Cert.OddOutFwdRefIdeal.main_arg4) = m ((c.tc : Thread Cert.OddOutFwdRefIdeal.nD Cert.OddOutFwdRefIdeal.τ).loc Cert.OddOutFwdRefIdeal.main_arg4)
      ∧ r.2.mem ((c.tc : Thread Cert.OddOutFwdRefIdeal.nD Cert.OddOutFwdRefIdeal.τ).loc Cert.OddOutFwdRefIdeal.main_arg5) = m ((c.tc : Thread Cert.OddOutFwdRefIdeal.nD Cert.OddOutFwdRefIdeal.τ).loc Cert.OddOutFwdRefIdeal.main_arg5)
      ∧ r.2.mem ((c.tc : Thread Cert.OddOutFwdRefIdeal.nD Cert.OddOutFwdRefIdeal.τ).loc Cert.OddOutFwdRefIdeal.main_arg6) = m ((c.tc : Thread Cert.OddOutFwdRefIdeal.nD Cert.OddOutFwdRefIdeal.τ).loc Cert.OddOutFwdRefIdeal.main_arg6))
      ∧ r.2.sem = fun _ => 0)

def quiescent_GateRankBwd [hGateRankBwd : Cert.GateRankBwd.Facts] : Prop :=
  ∀ (m : (ℓ : Loc Cert.GateRankBwd.nD Cert.GateRankBwd.τ Cert.GateRankBwd.sig) → Buf (Elt Bits) ℓ) (g : Dev Cert.GateRankBwd.nD → PrngReg), Pre_GateRankBwd m →
    θ_run (Cert.GateRankBwd.defs (F := Bits)) (onTc (τ := Cert.GateRankBwd.τ) (Cert.GateRankBwd.main (F := Bits))) ⟨m, fun _ => 0, g⟩ (fun r => (∀ c : Dev Cert.GateRankBwd.nD,
      r.2.mem ((c.tc : Thread Cert.GateRankBwd.nD Cert.GateRankBwd.τ).loc Cert.GateRankBwd.main_arg0) = m ((c.tc : Thread Cert.GateRankBwd.nD Cert.GateRankBwd.τ).loc Cert.GateRankBwd.main_arg0)
      ∧ r.2.mem ((c.tc : Thread Cert.GateRankBwd.nD Cert.GateRankBwd.τ).loc Cert.GateRankBwd.main_arg1) = m ((c.tc : Thread Cert.GateRankBwd.nD Cert.GateRankBwd.τ).loc Cert.GateRankBwd.main_arg1)
      ∧ r.2.mem ((c.tc : Thread Cert.GateRankBwd.nD Cert.GateRankBwd.τ).loc Cert.GateRankBwd.main_arg2) = m ((c.tc : Thread Cert.GateRankBwd.nD Cert.GateRankBwd.τ).loc Cert.GateRankBwd.main_arg2)
      ∧ r.2.mem ((c.tc : Thread Cert.GateRankBwd.nD Cert.GateRankBwd.τ).loc Cert.GateRankBwd.main_arg3) = m ((c.tc : Thread Cert.GateRankBwd.nD Cert.GateRankBwd.τ).loc Cert.GateRankBwd.main_arg3))
      ∧ r.2.sem = fun _ => 0)

def quiescent_GateRankBwdIdeal [hGateRankBwdIdeal : Cert.GateRankBwdIdeal.Facts] : Prop :=
  ∀ (m : (ℓ : Loc Cert.GateRankBwdIdeal.nD Cert.GateRankBwdIdeal.τ Cert.GateRankBwdIdeal.sig) → Buf (Elt Ideal) ℓ) (g : Dev Cert.GateRankBwdIdeal.nD → PrngReg), Pre_GateRankBwdIdeal m →
    θ_run (Cert.GateRankBwdIdeal.defs (F := Ideal)) (onTc (τ := Cert.GateRankBwdIdeal.τ) (Cert.GateRankBwdIdeal.main (F := Ideal))) ⟨m, fun _ => 0, g⟩ (fun r => (∀ c : Dev Cert.GateRankBwdIdeal.nD,
      r.2.mem ((c.tc : Thread Cert.GateRankBwdIdeal.nD Cert.GateRankBwdIdeal.τ).loc Cert.GateRankBwdIdeal.main_arg0) = m ((c.tc : Thread Cert.GateRankBwdIdeal.nD Cert.GateRankBwdIdeal.τ).loc Cert.GateRankBwdIdeal.main_arg0)
      ∧ r.2.mem ((c.tc : Thread Cert.GateRankBwdIdeal.nD Cert.GateRankBwdIdeal.τ).loc Cert.GateRankBwdIdeal.main_arg1) = m ((c.tc : Thread Cert.GateRankBwdIdeal.nD Cert.GateRankBwdIdeal.τ).loc Cert.GateRankBwdIdeal.main_arg1)
      ∧ r.2.mem ((c.tc : Thread Cert.GateRankBwdIdeal.nD Cert.GateRankBwdIdeal.τ).loc Cert.GateRankBwdIdeal.main_arg2) = m ((c.tc : Thread Cert.GateRankBwdIdeal.nD Cert.GateRankBwdIdeal.τ).loc Cert.GateRankBwdIdeal.main_arg2)
      ∧ r.2.mem ((c.tc : Thread Cert.GateRankBwdIdeal.nD Cert.GateRankBwdIdeal.τ).loc Cert.GateRankBwdIdeal.main_arg3) = m ((c.tc : Thread Cert.GateRankBwdIdeal.nD Cert.GateRankBwdIdeal.τ).loc Cert.GateRankBwdIdeal.main_arg3))
      ∧ r.2.sem = fun _ => 0)

def quiescent_GateRankBwdRefIdeal [hGateRankBwdRefIdeal : Cert.GateRankBwdRefIdeal.Facts] : Prop :=
  ∀ (m : (ℓ : Loc Cert.GateRankBwdRefIdeal.nD Cert.GateRankBwdRefIdeal.τ Cert.GateRankBwdRefIdeal.sig) → Buf (Elt Ideal) ℓ) (g : Dev Cert.GateRankBwdRefIdeal.nD → PrngReg), Pre_GateRankBwdRefIdeal m →
    θ_run (Cert.GateRankBwdRefIdeal.defs (F := Ideal)) (onTc (τ := Cert.GateRankBwdRefIdeal.τ) (Cert.GateRankBwdRefIdeal.main (F := Ideal))) ⟨m, fun _ => 0, g⟩ (fun r => (∀ c : Dev Cert.GateRankBwdRefIdeal.nD,
      r.2.mem ((c.tc : Thread Cert.GateRankBwdRefIdeal.nD Cert.GateRankBwdRefIdeal.τ).loc Cert.GateRankBwdRefIdeal.main_arg0) = m ((c.tc : Thread Cert.GateRankBwdRefIdeal.nD Cert.GateRankBwdRefIdeal.τ).loc Cert.GateRankBwdRefIdeal.main_arg0)
      ∧ r.2.mem ((c.tc : Thread Cert.GateRankBwdRefIdeal.nD Cert.GateRankBwdRefIdeal.τ).loc Cert.GateRankBwdRefIdeal.main_arg1) = m ((c.tc : Thread Cert.GateRankBwdRefIdeal.nD Cert.GateRankBwdRefIdeal.τ).loc Cert.GateRankBwdRefIdeal.main_arg1)
      ∧ r.2.mem ((c.tc : Thread Cert.GateRankBwdRefIdeal.nD Cert.GateRankBwdRefIdeal.τ).loc Cert.GateRankBwdRefIdeal.main_arg2) = m ((c.tc : Thread Cert.GateRankBwdRefIdeal.nD Cert.GateRankBwdRefIdeal.τ).loc Cert.GateRankBwdRefIdeal.main_arg2)
      ∧ r.2.mem ((c.tc : Thread Cert.GateRankBwdRefIdeal.nD Cert.GateRankBwdRefIdeal.τ).loc Cert.GateRankBwdRefIdeal.main_arg3) = m ((c.tc : Thread Cert.GateRankBwdRefIdeal.nD Cert.GateRankBwdRefIdeal.τ).loc Cert.GateRankBwdRefIdeal.main_arg3))
      ∧ r.2.sem = fun _ => 0)

def quiescent_EvenMixFwd [hEvenMixFwd : Cert.EvenMixFwd.Facts] : Prop :=
  ∀ (m : (ℓ : Loc Cert.EvenMixFwd.nD Cert.EvenMixFwd.τ Cert.EvenMixFwd.sig) → Buf (Elt Bits) ℓ) (g : Dev Cert.EvenMixFwd.nD → PrngReg), Pre_EvenMixFwd m →
    θ_run (Cert.EvenMixFwd.defs (F := Bits)) (onTc (τ := Cert.EvenMixFwd.τ) (Cert.EvenMixFwd.main (F := Bits))) ⟨m, fun _ => 0, g⟩ (fun r => (∀ c : Dev Cert.EvenMixFwd.nD,
      r.2.mem ((c.tc : Thread Cert.EvenMixFwd.nD Cert.EvenMixFwd.τ).loc Cert.EvenMixFwd.main_arg0) = m ((c.tc : Thread Cert.EvenMixFwd.nD Cert.EvenMixFwd.τ).loc Cert.EvenMixFwd.main_arg0)
      ∧ r.2.mem ((c.tc : Thread Cert.EvenMixFwd.nD Cert.EvenMixFwd.τ).loc Cert.EvenMixFwd.main_arg1) = m ((c.tc : Thread Cert.EvenMixFwd.nD Cert.EvenMixFwd.τ).loc Cert.EvenMixFwd.main_arg1)
      ∧ r.2.mem ((c.tc : Thread Cert.EvenMixFwd.nD Cert.EvenMixFwd.τ).loc Cert.EvenMixFwd.main_arg2) = m ((c.tc : Thread Cert.EvenMixFwd.nD Cert.EvenMixFwd.τ).loc Cert.EvenMixFwd.main_arg2)
      ∧ r.2.mem ((c.tc : Thread Cert.EvenMixFwd.nD Cert.EvenMixFwd.τ).loc Cert.EvenMixFwd.main_arg3) = m ((c.tc : Thread Cert.EvenMixFwd.nD Cert.EvenMixFwd.τ).loc Cert.EvenMixFwd.main_arg3))
      ∧ r.2.sem = fun _ => 0)

def quiescent_EvenMixFwdIdeal [hEvenMixFwdIdeal : Cert.EvenMixFwdIdeal.Facts] : Prop :=
  ∀ (m : (ℓ : Loc Cert.EvenMixFwdIdeal.nD Cert.EvenMixFwdIdeal.τ Cert.EvenMixFwdIdeal.sig) → Buf (Elt Ideal) ℓ) (g : Dev Cert.EvenMixFwdIdeal.nD → PrngReg), Pre_EvenMixFwdIdeal m →
    θ_run (Cert.EvenMixFwdIdeal.defs (F := Ideal)) (onTc (τ := Cert.EvenMixFwdIdeal.τ) (Cert.EvenMixFwdIdeal.main (F := Ideal))) ⟨m, fun _ => 0, g⟩ (fun r => (∀ c : Dev Cert.EvenMixFwdIdeal.nD,
      r.2.mem ((c.tc : Thread Cert.EvenMixFwdIdeal.nD Cert.EvenMixFwdIdeal.τ).loc Cert.EvenMixFwdIdeal.main_arg0) = m ((c.tc : Thread Cert.EvenMixFwdIdeal.nD Cert.EvenMixFwdIdeal.τ).loc Cert.EvenMixFwdIdeal.main_arg0)
      ∧ r.2.mem ((c.tc : Thread Cert.EvenMixFwdIdeal.nD Cert.EvenMixFwdIdeal.τ).loc Cert.EvenMixFwdIdeal.main_arg1) = m ((c.tc : Thread Cert.EvenMixFwdIdeal.nD Cert.EvenMixFwdIdeal.τ).loc Cert.EvenMixFwdIdeal.main_arg1)
      ∧ r.2.mem ((c.tc : Thread Cert.EvenMixFwdIdeal.nD Cert.EvenMixFwdIdeal.τ).loc Cert.EvenMixFwdIdeal.main_arg2) = m ((c.tc : Thread Cert.EvenMixFwdIdeal.nD Cert.EvenMixFwdIdeal.τ).loc Cert.EvenMixFwdIdeal.main_arg2)
      ∧ r.2.mem ((c.tc : Thread Cert.EvenMixFwdIdeal.nD Cert.EvenMixFwdIdeal.τ).loc Cert.EvenMixFwdIdeal.main_arg3) = m ((c.tc : Thread Cert.EvenMixFwdIdeal.nD Cert.EvenMixFwdIdeal.τ).loc Cert.EvenMixFwdIdeal.main_arg3))
      ∧ r.2.sem = fun _ => 0)

def quiescent_EvenMixFwdRefIdeal [hEvenMixFwdRefIdeal : Cert.EvenMixFwdRefIdeal.Facts] : Prop :=
  ∀ (m : (ℓ : Loc Cert.EvenMixFwdRefIdeal.nD Cert.EvenMixFwdRefIdeal.τ Cert.EvenMixFwdRefIdeal.sig) → Buf (Elt Ideal) ℓ) (g : Dev Cert.EvenMixFwdRefIdeal.nD → PrngReg), Pre_EvenMixFwdRefIdeal m →
    θ_run (Cert.EvenMixFwdRefIdeal.defs (F := Ideal)) (onTc (τ := Cert.EvenMixFwdRefIdeal.τ) (Cert.EvenMixFwdRefIdeal.main (F := Ideal))) ⟨m, fun _ => 0, g⟩ (fun r => (∀ c : Dev Cert.EvenMixFwdRefIdeal.nD,
      r.2.mem ((c.tc : Thread Cert.EvenMixFwdRefIdeal.nD Cert.EvenMixFwdRefIdeal.τ).loc Cert.EvenMixFwdRefIdeal.main_arg0) = m ((c.tc : Thread Cert.EvenMixFwdRefIdeal.nD Cert.EvenMixFwdRefIdeal.τ).loc Cert.EvenMixFwdRefIdeal.main_arg0)
      ∧ r.2.mem ((c.tc : Thread Cert.EvenMixFwdRefIdeal.nD Cert.EvenMixFwdRefIdeal.τ).loc Cert.EvenMixFwdRefIdeal.main_arg1) = m ((c.tc : Thread Cert.EvenMixFwdRefIdeal.nD Cert.EvenMixFwdRefIdeal.τ).loc Cert.EvenMixFwdRefIdeal.main_arg1)
      ∧ r.2.mem ((c.tc : Thread Cert.EvenMixFwdRefIdeal.nD Cert.EvenMixFwdRefIdeal.τ).loc Cert.EvenMixFwdRefIdeal.main_arg2) = m ((c.tc : Thread Cert.EvenMixFwdRefIdeal.nD Cert.EvenMixFwdRefIdeal.τ).loc Cert.EvenMixFwdRefIdeal.main_arg2)
      ∧ r.2.mem ((c.tc : Thread Cert.EvenMixFwdRefIdeal.nD Cert.EvenMixFwdRefIdeal.τ).loc Cert.EvenMixFwdRefIdeal.main_arg3) = m ((c.tc : Thread Cert.EvenMixFwdRefIdeal.nD Cert.EvenMixFwdRefIdeal.τ).loc Cert.EvenMixFwdRefIdeal.main_arg3))
      ∧ r.2.sem = fun _ => 0)

def quiescent_EvenMixBwd [hEvenMixBwd : Cert.EvenMixBwd.Facts] : Prop :=
  ∀ (m : (ℓ : Loc Cert.EvenMixBwd.nD Cert.EvenMixBwd.τ Cert.EvenMixBwd.sig) → Buf (Elt Bits) ℓ) (g : Dev Cert.EvenMixBwd.nD → PrngReg), Pre_EvenMixBwd m →
    θ_run (Cert.EvenMixBwd.defs (F := Bits)) (onTc (τ := Cert.EvenMixBwd.τ) (Cert.EvenMixBwd.main (F := Bits))) ⟨m, fun _ => 0, g⟩ (fun r => (∀ c : Dev Cert.EvenMixBwd.nD,
      r.2.mem ((c.tc : Thread Cert.EvenMixBwd.nD Cert.EvenMixBwd.τ).loc Cert.EvenMixBwd.main_arg0) = m ((c.tc : Thread Cert.EvenMixBwd.nD Cert.EvenMixBwd.τ).loc Cert.EvenMixBwd.main_arg0)
      ∧ r.2.mem ((c.tc : Thread Cert.EvenMixBwd.nD Cert.EvenMixBwd.τ).loc Cert.EvenMixBwd.main_arg1) = m ((c.tc : Thread Cert.EvenMixBwd.nD Cert.EvenMixBwd.τ).loc Cert.EvenMixBwd.main_arg1)
      ∧ r.2.mem ((c.tc : Thread Cert.EvenMixBwd.nD Cert.EvenMixBwd.τ).loc Cert.EvenMixBwd.main_arg2) = m ((c.tc : Thread Cert.EvenMixBwd.nD Cert.EvenMixBwd.τ).loc Cert.EvenMixBwd.main_arg2)
      ∧ r.2.mem ((c.tc : Thread Cert.EvenMixBwd.nD Cert.EvenMixBwd.τ).loc Cert.EvenMixBwd.main_arg3) = m ((c.tc : Thread Cert.EvenMixBwd.nD Cert.EvenMixBwd.τ).loc Cert.EvenMixBwd.main_arg3)
      ∧ r.2.mem ((c.tc : Thread Cert.EvenMixBwd.nD Cert.EvenMixBwd.τ).loc Cert.EvenMixBwd.main_arg4) = m ((c.tc : Thread Cert.EvenMixBwd.nD Cert.EvenMixBwd.τ).loc Cert.EvenMixBwd.main_arg4)
      ∧ r.2.mem ((c.tc : Thread Cert.EvenMixBwd.nD Cert.EvenMixBwd.τ).loc Cert.EvenMixBwd.main_arg5) = m ((c.tc : Thread Cert.EvenMixBwd.nD Cert.EvenMixBwd.τ).loc Cert.EvenMixBwd.main_arg5)
      ∧ r.2.mem ((c.tc : Thread Cert.EvenMixBwd.nD Cert.EvenMixBwd.τ).loc Cert.EvenMixBwd.main_arg6) = m ((c.tc : Thread Cert.EvenMixBwd.nD Cert.EvenMixBwd.τ).loc Cert.EvenMixBwd.main_arg6))
      ∧ r.2.sem = fun _ => 0)

def quiescent_EvenMixBwdIdeal [hEvenMixBwdIdeal : Cert.EvenMixBwdIdeal.Facts] : Prop :=
  ∀ (m : (ℓ : Loc Cert.EvenMixBwdIdeal.nD Cert.EvenMixBwdIdeal.τ Cert.EvenMixBwdIdeal.sig) → Buf (Elt Ideal) ℓ) (g : Dev Cert.EvenMixBwdIdeal.nD → PrngReg), Pre_EvenMixBwdIdeal m →
    θ_run (Cert.EvenMixBwdIdeal.defs (F := Ideal)) (onTc (τ := Cert.EvenMixBwdIdeal.τ) (Cert.EvenMixBwdIdeal.main (F := Ideal))) ⟨m, fun _ => 0, g⟩ (fun r => (∀ c : Dev Cert.EvenMixBwdIdeal.nD,
      r.2.mem ((c.tc : Thread Cert.EvenMixBwdIdeal.nD Cert.EvenMixBwdIdeal.τ).loc Cert.EvenMixBwdIdeal.main_arg0) = m ((c.tc : Thread Cert.EvenMixBwdIdeal.nD Cert.EvenMixBwdIdeal.τ).loc Cert.EvenMixBwdIdeal.main_arg0)
      ∧ r.2.mem ((c.tc : Thread Cert.EvenMixBwdIdeal.nD Cert.EvenMixBwdIdeal.τ).loc Cert.EvenMixBwdIdeal.main_arg1) = m ((c.tc : Thread Cert.EvenMixBwdIdeal.nD Cert.EvenMixBwdIdeal.τ).loc Cert.EvenMixBwdIdeal.main_arg1)
      ∧ r.2.mem ((c.tc : Thread Cert.EvenMixBwdIdeal.nD Cert.EvenMixBwdIdeal.τ).loc Cert.EvenMixBwdIdeal.main_arg2) = m ((c.tc : Thread Cert.EvenMixBwdIdeal.nD Cert.EvenMixBwdIdeal.τ).loc Cert.EvenMixBwdIdeal.main_arg2)
      ∧ r.2.mem ((c.tc : Thread Cert.EvenMixBwdIdeal.nD Cert.EvenMixBwdIdeal.τ).loc Cert.EvenMixBwdIdeal.main_arg3) = m ((c.tc : Thread Cert.EvenMixBwdIdeal.nD Cert.EvenMixBwdIdeal.τ).loc Cert.EvenMixBwdIdeal.main_arg3)
      ∧ r.2.mem ((c.tc : Thread Cert.EvenMixBwdIdeal.nD Cert.EvenMixBwdIdeal.τ).loc Cert.EvenMixBwdIdeal.main_arg4) = m ((c.tc : Thread Cert.EvenMixBwdIdeal.nD Cert.EvenMixBwdIdeal.τ).loc Cert.EvenMixBwdIdeal.main_arg4)
      ∧ r.2.mem ((c.tc : Thread Cert.EvenMixBwdIdeal.nD Cert.EvenMixBwdIdeal.τ).loc Cert.EvenMixBwdIdeal.main_arg5) = m ((c.tc : Thread Cert.EvenMixBwdIdeal.nD Cert.EvenMixBwdIdeal.τ).loc Cert.EvenMixBwdIdeal.main_arg5)
      ∧ r.2.mem ((c.tc : Thread Cert.EvenMixBwdIdeal.nD Cert.EvenMixBwdIdeal.τ).loc Cert.EvenMixBwdIdeal.main_arg6) = m ((c.tc : Thread Cert.EvenMixBwdIdeal.nD Cert.EvenMixBwdIdeal.τ).loc Cert.EvenMixBwdIdeal.main_arg6))
      ∧ r.2.sem = fun _ => 0)

def quiescent_EvenMixBwdIdeal_pre_even_mix_bwd_finite [hEvenMixBwdIdeal : Cert.EvenMixBwdIdeal.Facts] [hPre_even_mix_bwd_finite : Cert.Pre_even_mix_bwd_finite.Facts] : Prop :=
  ∀ (m : (ℓ : Loc Cert.EvenMixBwdIdeal.nD Cert.EvenMixBwdIdeal.τ Cert.EvenMixBwdIdeal.sig) → Buf (Elt Ideal) ℓ) (g : Dev Cert.EvenMixBwdIdeal.nD → PrngReg), Pre_EvenMixBwdIdeal_even_mix_bwd_finite m →
    θ_run (Cert.EvenMixBwdIdeal.defs (F := Ideal)) (onTc (τ := Cert.EvenMixBwdIdeal.τ) (Cert.EvenMixBwdIdeal.main (F := Ideal))) ⟨m, fun _ => 0, g⟩ (fun r => (∀ c : Dev Cert.EvenMixBwdIdeal.nD,
      r.2.mem ((c.tc : Thread Cert.EvenMixBwdIdeal.nD Cert.EvenMixBwdIdeal.τ).loc Cert.EvenMixBwdIdeal.main_arg0) = m ((c.tc : Thread Cert.EvenMixBwdIdeal.nD Cert.EvenMixBwdIdeal.τ).loc Cert.EvenMixBwdIdeal.main_arg0)
      ∧ r.2.mem ((c.tc : Thread Cert.EvenMixBwdIdeal.nD Cert.EvenMixBwdIdeal.τ).loc Cert.EvenMixBwdIdeal.main_arg1) = m ((c.tc : Thread Cert.EvenMixBwdIdeal.nD Cert.EvenMixBwdIdeal.τ).loc Cert.EvenMixBwdIdeal.main_arg1)
      ∧ r.2.mem ((c.tc : Thread Cert.EvenMixBwdIdeal.nD Cert.EvenMixBwdIdeal.τ).loc Cert.EvenMixBwdIdeal.main_arg2) = m ((c.tc : Thread Cert.EvenMixBwdIdeal.nD Cert.EvenMixBwdIdeal.τ).loc Cert.EvenMixBwdIdeal.main_arg2)
      ∧ r.2.mem ((c.tc : Thread Cert.EvenMixBwdIdeal.nD Cert.EvenMixBwdIdeal.τ).loc Cert.EvenMixBwdIdeal.main_arg3) = m ((c.tc : Thread Cert.EvenMixBwdIdeal.nD Cert.EvenMixBwdIdeal.τ).loc Cert.EvenMixBwdIdeal.main_arg3)
      ∧ r.2.mem ((c.tc : Thread Cert.EvenMixBwdIdeal.nD Cert.EvenMixBwdIdeal.τ).loc Cert.EvenMixBwdIdeal.main_arg4) = m ((c.tc : Thread Cert.EvenMixBwdIdeal.nD Cert.EvenMixBwdIdeal.τ).loc Cert.EvenMixBwdIdeal.main_arg4)
      ∧ r.2.mem ((c.tc : Thread Cert.EvenMixBwdIdeal.nD Cert.EvenMixBwdIdeal.τ).loc Cert.EvenMixBwdIdeal.main_arg5) = m ((c.tc : Thread Cert.EvenMixBwdIdeal.nD Cert.EvenMixBwdIdeal.τ).loc Cert.EvenMixBwdIdeal.main_arg5)
      ∧ r.2.mem ((c.tc : Thread Cert.EvenMixBwdIdeal.nD Cert.EvenMixBwdIdeal.τ).loc Cert.EvenMixBwdIdeal.main_arg6) = m ((c.tc : Thread Cert.EvenMixBwdIdeal.nD Cert.EvenMixBwdIdeal.τ).loc Cert.EvenMixBwdIdeal.main_arg6))
      ∧ r.2.sem = fun _ => 0)

def quiescent_EvenMixBwdRefIdeal [hEvenMixBwdRefIdeal : Cert.EvenMixBwdRefIdeal.Facts] : Prop :=
  ∀ (m : (ℓ : Loc Cert.EvenMixBwdRefIdeal.nD Cert.EvenMixBwdRefIdeal.τ Cert.EvenMixBwdRefIdeal.sig) → Buf (Elt Ideal) ℓ) (g : Dev Cert.EvenMixBwdRefIdeal.nD → PrngReg), Pre_EvenMixBwdRefIdeal m →
    θ_run (Cert.EvenMixBwdRefIdeal.defs (F := Ideal)) (onTc (τ := Cert.EvenMixBwdRefIdeal.τ) (Cert.EvenMixBwdRefIdeal.main (F := Ideal))) ⟨m, fun _ => 0, g⟩ (fun r => (∀ c : Dev Cert.EvenMixBwdRefIdeal.nD,
      r.2.mem ((c.tc : Thread Cert.EvenMixBwdRefIdeal.nD Cert.EvenMixBwdRefIdeal.τ).loc Cert.EvenMixBwdRefIdeal.main_arg0) = m ((c.tc : Thread Cert.EvenMixBwdRefIdeal.nD Cert.EvenMixBwdRefIdeal.τ).loc Cert.EvenMixBwdRefIdeal.main_arg0)
      ∧ r.2.mem ((c.tc : Thread Cert.EvenMixBwdRefIdeal.nD Cert.EvenMixBwdRefIdeal.τ).loc Cert.EvenMixBwdRefIdeal.main_arg1) = m ((c.tc : Thread Cert.EvenMixBwdRefIdeal.nD Cert.EvenMixBwdRefIdeal.τ).loc Cert.EvenMixBwdRefIdeal.main_arg1)
      ∧ r.2.mem ((c.tc : Thread Cert.EvenMixBwdRefIdeal.nD Cert.EvenMixBwdRefIdeal.τ).loc Cert.EvenMixBwdRefIdeal.main_arg2) = m ((c.tc : Thread Cert.EvenMixBwdRefIdeal.nD Cert.EvenMixBwdRefIdeal.τ).loc Cert.EvenMixBwdRefIdeal.main_arg2)
      ∧ r.2.mem ((c.tc : Thread Cert.EvenMixBwdRefIdeal.nD Cert.EvenMixBwdRefIdeal.τ).loc Cert.EvenMixBwdRefIdeal.main_arg3) = m ((c.tc : Thread Cert.EvenMixBwdRefIdeal.nD Cert.EvenMixBwdRefIdeal.τ).loc Cert.EvenMixBwdRefIdeal.main_arg3)
      ∧ r.2.mem ((c.tc : Thread Cert.EvenMixBwdRefIdeal.nD Cert.EvenMixBwdRefIdeal.τ).loc Cert.EvenMixBwdRefIdeal.main_arg4) = m ((c.tc : Thread Cert.EvenMixBwdRefIdeal.nD Cert.EvenMixBwdRefIdeal.τ).loc Cert.EvenMixBwdRefIdeal.main_arg4)
      ∧ r.2.mem ((c.tc : Thread Cert.EvenMixBwdRefIdeal.nD Cert.EvenMixBwdRefIdeal.τ).loc Cert.EvenMixBwdRefIdeal.main_arg5) = m ((c.tc : Thread Cert.EvenMixBwdRefIdeal.nD Cert.EvenMixBwdRefIdeal.τ).loc Cert.EvenMixBwdRefIdeal.main_arg5)
      ∧ r.2.mem ((c.tc : Thread Cert.EvenMixBwdRefIdeal.nD Cert.EvenMixBwdRefIdeal.τ).loc Cert.EvenMixBwdRefIdeal.main_arg6) = m ((c.tc : Thread Cert.EvenMixBwdRefIdeal.nD Cert.EvenMixBwdRefIdeal.τ).loc Cert.EvenMixBwdRefIdeal.main_arg6))
      ∧ r.2.sem = fun _ => 0)

def quiescent_EvenMixBwdRefIdeal_pre_even_mix_bwd_finite [hEvenMixBwdRefIdeal : Cert.EvenMixBwdRefIdeal.Facts] [hPre_even_mix_bwd_finite : Cert.Pre_even_mix_bwd_finite.Facts] : Prop :=
  ∀ (m : (ℓ : Loc Cert.EvenMixBwdRefIdeal.nD Cert.EvenMixBwdRefIdeal.τ Cert.EvenMixBwdRefIdeal.sig) → Buf (Elt Ideal) ℓ) (g : Dev Cert.EvenMixBwdRefIdeal.nD → PrngReg), Pre_EvenMixBwdRefIdeal_even_mix_bwd_finite m →
    θ_run (Cert.EvenMixBwdRefIdeal.defs (F := Ideal)) (onTc (τ := Cert.EvenMixBwdRefIdeal.τ) (Cert.EvenMixBwdRefIdeal.main (F := Ideal))) ⟨m, fun _ => 0, g⟩ (fun r => (∀ c : Dev Cert.EvenMixBwdRefIdeal.nD,
      r.2.mem ((c.tc : Thread Cert.EvenMixBwdRefIdeal.nD Cert.EvenMixBwdRefIdeal.τ).loc Cert.EvenMixBwdRefIdeal.main_arg0) = m ((c.tc : Thread Cert.EvenMixBwdRefIdeal.nD Cert.EvenMixBwdRefIdeal.τ).loc Cert.EvenMixBwdRefIdeal.main_arg0)
      ∧ r.2.mem ((c.tc : Thread Cert.EvenMixBwdRefIdeal.nD Cert.EvenMixBwdRefIdeal.τ).loc Cert.EvenMixBwdRefIdeal.main_arg1) = m ((c.tc : Thread Cert.EvenMixBwdRefIdeal.nD Cert.EvenMixBwdRefIdeal.τ).loc Cert.EvenMixBwdRefIdeal.main_arg1)
      ∧ r.2.mem ((c.tc : Thread Cert.EvenMixBwdRefIdeal.nD Cert.EvenMixBwdRefIdeal.τ).loc Cert.EvenMixBwdRefIdeal.main_arg2) = m ((c.tc : Thread Cert.EvenMixBwdRefIdeal.nD Cert.EvenMixBwdRefIdeal.τ).loc Cert.EvenMixBwdRefIdeal.main_arg2)
      ∧ r.2.mem ((c.tc : Thread Cert.EvenMixBwdRefIdeal.nD Cert.EvenMixBwdRefIdeal.τ).loc Cert.EvenMixBwdRefIdeal.main_arg3) = m ((c.tc : Thread Cert.EvenMixBwdRefIdeal.nD Cert.EvenMixBwdRefIdeal.τ).loc Cert.EvenMixBwdRefIdeal.main_arg3)
      ∧ r.2.mem ((c.tc : Thread Cert.EvenMixBwdRefIdeal.nD Cert.EvenMixBwdRefIdeal.τ).loc Cert.EvenMixBwdRefIdeal.main_arg4) = m ((c.tc : Thread Cert.EvenMixBwdRefIdeal.nD Cert.EvenMixBwdRefIdeal.τ).loc Cert.EvenMixBwdRefIdeal.main_arg4)
      ∧ r.2.mem ((c.tc : Thread Cert.EvenMixBwdRefIdeal.nD Cert.EvenMixBwdRefIdeal.τ).loc Cert.EvenMixBwdRefIdeal.main_arg5) = m ((c.tc : Thread Cert.EvenMixBwdRefIdeal.nD Cert.EvenMixBwdRefIdeal.τ).loc Cert.EvenMixBwdRefIdeal.main_arg5)
      ∧ r.2.mem ((c.tc : Thread Cert.EvenMixBwdRefIdeal.nD Cert.EvenMixBwdRefIdeal.τ).loc Cert.EvenMixBwdRefIdeal.main_arg6) = m ((c.tc : Thread Cert.EvenMixBwdRefIdeal.nD Cert.EvenMixBwdRefIdeal.τ).loc Cert.EvenMixBwdRefIdeal.main_arg6))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def preserves_EvenInBwd_EvenInBwdIdeal : Prop :=
  True

def algebraic_EvenInBwdIdeal_EvenInBwdRefIdeal_pre_even_in_bwd_finite [hEvenInBwdIdeal : Cert.EvenInBwdIdeal.Facts] [hEvenInBwdRefIdeal : Cert.EvenInBwdRefIdeal.Facts] [hPre_even_in_bwd_finite : Cert.Pre_even_in_bwd_finite.Facts] : Prop :=
  ∀ (m : (ℓ : Loc Cert.EvenInBwdIdeal.nD Cert.EvenInBwdIdeal.τ Cert.EvenInBwdIdeal.sig) → Buf (Elt Ideal) ℓ) (g : Dev Cert.EvenInBwdIdeal.nD → PrngReg)
    (m' : (ℓ : Loc Cert.EvenInBwdRefIdeal.nD Cert.EvenInBwdRefIdeal.τ Cert.EvenInBwdRefIdeal.sig) → Buf (Elt Ideal) ℓ) (g' : Dev Cert.EvenInBwdRefIdeal.nD → PrngReg), Pre_EvenInBwdIdeal_even_in_bwd_finite m →
    (∀ c : Dev Cert.EvenInBwdIdeal.nD,
      m' ((c.tc : Thread Cert.EvenInBwdRefIdeal.nD Cert.EvenInBwdRefIdeal.τ).loc Cert.EvenInBwdRefIdeal.main_arg0) = m ((c.tc : Thread Cert.EvenInBwdIdeal.nD Cert.EvenInBwdIdeal.τ).loc Cert.EvenInBwdIdeal.main_arg0)
      ∧ m' ((c.tc : Thread Cert.EvenInBwdRefIdeal.nD Cert.EvenInBwdRefIdeal.τ).loc Cert.EvenInBwdRefIdeal.main_arg1) = m ((c.tc : Thread Cert.EvenInBwdIdeal.nD Cert.EvenInBwdIdeal.τ).loc Cert.EvenInBwdIdeal.main_arg1)
      ∧ m' ((c.tc : Thread Cert.EvenInBwdRefIdeal.nD Cert.EvenInBwdRefIdeal.τ).loc Cert.EvenInBwdRefIdeal.main_arg2) = m ((c.tc : Thread Cert.EvenInBwdIdeal.nD Cert.EvenInBwdIdeal.τ).loc Cert.EvenInBwdIdeal.main_arg2)
      ∧ m' ((c.tc : Thread Cert.EvenInBwdRefIdeal.nD Cert.EvenInBwdRefIdeal.τ).loc Cert.EvenInBwdRefIdeal.main_arg3) = m ((c.tc : Thread Cert.EvenInBwdIdeal.nD Cert.EvenInBwdIdeal.τ).loc Cert.EvenInBwdIdeal.main_arg3)
      ∧ m' ((c.tc : Thread Cert.EvenInBwdRefIdeal.nD Cert.EvenInBwdRefIdeal.τ).loc Cert.EvenInBwdRefIdeal.main_arg4) = m ((c.tc : Thread Cert.EvenInBwdIdeal.nD Cert.EvenInBwdIdeal.τ).loc Cert.EvenInBwdIdeal.main_arg4)) →
    ∃ (v0 : (c : Dev Cert.EvenInBwdIdeal.nD) → Buf (Elt Ideal) ((c.tc : Thread Cert.EvenInBwdIdeal.nD Cert.EvenInBwdIdeal.τ).loc Cert.EvenInBwdIdeal.main_v4_0)) (v1 : (c : Dev Cert.EvenInBwdIdeal.nD) → Buf (Elt Ideal) ((c.tc : Thread Cert.EvenInBwdIdeal.nD Cert.EvenInBwdIdeal.τ).loc Cert.EvenInBwdIdeal.main_v4_1)),
      θ_run (Cert.EvenInBwdIdeal.defs (F := Ideal)) (onTc (τ := Cert.EvenInBwdIdeal.τ) (Cert.EvenInBwdIdeal.main (F := Ideal))) ⟨m, fun _ => 0, g⟩ (fun r => ∀ c : Dev Cert.EvenInBwdIdeal.nD,
          r.2.mem ((c.tc : Thread Cert.EvenInBwdIdeal.nD Cert.EvenInBwdIdeal.τ).loc Cert.EvenInBwdIdeal.main_v4_0) = v0 c
          ∧ r.2.mem ((c.tc : Thread Cert.EvenInBwdIdeal.nD Cert.EvenInBwdIdeal.τ).loc Cert.EvenInBwdIdeal.main_v4_1) = v1 c
          ∧ r.2.mem ((c.tc : Thread Cert.EvenInBwdIdeal.nD Cert.EvenInBwdIdeal.τ).loc Cert.EvenInBwdIdeal.main_arg0) = m ((c.tc : Thread Cert.EvenInBwdIdeal.nD Cert.EvenInBwdIdeal.τ).loc Cert.EvenInBwdIdeal.main_arg0)
          ∧ r.2.mem ((c.tc : Thread Cert.EvenInBwdIdeal.nD Cert.EvenInBwdIdeal.τ).loc Cert.EvenInBwdIdeal.main_arg1) = m ((c.tc : Thread Cert.EvenInBwdIdeal.nD Cert.EvenInBwdIdeal.τ).loc Cert.EvenInBwdIdeal.main_arg1)
          ∧ r.2.mem ((c.tc : Thread Cert.EvenInBwdIdeal.nD Cert.EvenInBwdIdeal.τ).loc Cert.EvenInBwdIdeal.main_arg2) = m ((c.tc : Thread Cert.EvenInBwdIdeal.nD Cert.EvenInBwdIdeal.τ).loc Cert.EvenInBwdIdeal.main_arg2)
          ∧ r.2.mem ((c.tc : Thread Cert.EvenInBwdIdeal.nD Cert.EvenInBwdIdeal.τ).loc Cert.EvenInBwdIdeal.main_arg3) = m ((c.tc : Thread Cert.EvenInBwdIdeal.nD Cert.EvenInBwdIdeal.τ).loc Cert.EvenInBwdIdeal.main_arg3)
          ∧ r.2.mem ((c.tc : Thread Cert.EvenInBwdIdeal.nD Cert.EvenInBwdIdeal.τ).loc Cert.EvenInBwdIdeal.main_arg4) = m ((c.tc : Thread Cert.EvenInBwdIdeal.nD Cert.EvenInBwdIdeal.τ).loc Cert.EvenInBwdIdeal.main_arg4))
      ∧ θ_run (Cert.EvenInBwdRefIdeal.defs (F := Ideal)) (onTc (τ := Cert.EvenInBwdRefIdeal.τ) (Cert.EvenInBwdRefIdeal.main (F := Ideal))) ⟨m', fun _ => 0, g'⟩ (fun r => ∀ c : Dev Cert.EvenInBwdRefIdeal.nD,
          r.2.mem ((c.tc : Thread Cert.EvenInBwdRefIdeal.nD Cert.EvenInBwdRefIdeal.τ).loc Cert.EvenInBwdRefIdeal.main_v39) = v0 c
          ∧ r.2.mem ((c.tc : Thread Cert.EvenInBwdRefIdeal.nD Cert.EvenInBwdRefIdeal.τ).loc Cert.EvenInBwdRefIdeal.main_v40) = v1 c
          ∧ r.2.mem ((c.tc : Thread Cert.EvenInBwdRefIdeal.nD Cert.EvenInBwdRefIdeal.τ).loc Cert.EvenInBwdRefIdeal.main_arg0) = m' ((c.tc : Thread Cert.EvenInBwdRefIdeal.nD Cert.EvenInBwdRefIdeal.τ).loc Cert.EvenInBwdRefIdeal.main_arg0)
          ∧ r.2.mem ((c.tc : Thread Cert.EvenInBwdRefIdeal.nD Cert.EvenInBwdRefIdeal.τ).loc Cert.EvenInBwdRefIdeal.main_arg1) = m' ((c.tc : Thread Cert.EvenInBwdRefIdeal.nD Cert.EvenInBwdRefIdeal.τ).loc Cert.EvenInBwdRefIdeal.main_arg1)
          ∧ r.2.mem ((c.tc : Thread Cert.EvenInBwdRefIdeal.nD Cert.EvenInBwdRefIdeal.τ).loc Cert.EvenInBwdRefIdeal.main_arg2) = m' ((c.tc : Thread Cert.EvenInBwdRefIdeal.nD Cert.EvenInBwdRefIdeal.τ).loc Cert.EvenInBwdRefIdeal.main_arg2)
          ∧ r.2.mem ((c.tc : Thread Cert.EvenInBwdRefIdeal.nD Cert.EvenInBwdRefIdeal.τ).loc Cert.EvenInBwdRefIdeal.main_arg3) = m' ((c.tc : Thread Cert.EvenInBwdRefIdeal.nD Cert.EvenInBwdRefIdeal.τ).loc Cert.EvenInBwdRefIdeal.main_arg3)
          ∧ r.2.mem ((c.tc : Thread Cert.EvenInBwdRefIdeal.nD Cert.EvenInBwdRefIdeal.τ).loc Cert.EvenInBwdRefIdeal.main_arg4) = m' ((c.tc : Thread Cert.EvenInBwdRefIdeal.nD Cert.EvenInBwdRefIdeal.τ).loc Cert.EvenInBwdRefIdeal.main_arg4))

def preserves_EvenInGrad_EvenInGradIdeal : Prop :=
  True

def algebraic_EvenInGradIdeal_EvenInGradRefIdeal [hEvenInGradIdeal : Cert.EvenInGradIdeal.Facts] [hEvenInGradRefIdeal : Cert.EvenInGradRefIdeal.Facts] : Prop :=
  ∀ (m : (ℓ : Loc Cert.EvenInGradIdeal.nD Cert.EvenInGradIdeal.τ Cert.EvenInGradIdeal.sig) → Buf (Elt Ideal) ℓ) (g : Dev Cert.EvenInGradIdeal.nD → PrngReg)
    (m' : (ℓ : Loc Cert.EvenInGradRefIdeal.nD Cert.EvenInGradRefIdeal.τ Cert.EvenInGradRefIdeal.sig) → Buf (Elt Ideal) ℓ) (g' : Dev Cert.EvenInGradRefIdeal.nD → PrngReg), Pre_EvenInGradIdeal m →
    (∀ c : Dev Cert.EvenInGradIdeal.nD,
      m' ((c.tc : Thread Cert.EvenInGradRefIdeal.nD Cert.EvenInGradRefIdeal.τ).loc Cert.EvenInGradRefIdeal.main_arg0) = m ((c.tc : Thread Cert.EvenInGradIdeal.nD Cert.EvenInGradIdeal.τ).loc Cert.EvenInGradIdeal.main_arg0)
      ∧ m' ((c.tc : Thread Cert.EvenInGradRefIdeal.nD Cert.EvenInGradRefIdeal.τ).loc Cert.EvenInGradRefIdeal.main_arg1) = m ((c.tc : Thread Cert.EvenInGradIdeal.nD Cert.EvenInGradIdeal.τ).loc Cert.EvenInGradIdeal.main_arg1)
      ∧ m' ((c.tc : Thread Cert.EvenInGradRefIdeal.nD Cert.EvenInGradRefIdeal.τ).loc Cert.EvenInGradRefIdeal.main_arg2) = m ((c.tc : Thread Cert.EvenInGradIdeal.nD Cert.EvenInGradIdeal.τ).loc Cert.EvenInGradIdeal.main_arg2)) →
    ∃ (v0 : (c : Dev Cert.EvenInGradIdeal.nD) → Buf (Elt Ideal) ((c.tc : Thread Cert.EvenInGradIdeal.nD Cert.EvenInGradIdeal.τ).loc Cert.EvenInGradIdeal.main_v14_0)) (v1 : (c : Dev Cert.EvenInGradIdeal.nD) → Buf (Elt Ideal) ((c.tc : Thread Cert.EvenInGradIdeal.nD Cert.EvenInGradIdeal.τ).loc Cert.EvenInGradIdeal.main_v14_1)),
      θ_run (Cert.EvenInGradIdeal.defs (F := Ideal)) (onTc (τ := Cert.EvenInGradIdeal.τ) (Cert.EvenInGradIdeal.main (F := Ideal))) ⟨m, fun _ => 0, g⟩ (fun r => ∀ c : Dev Cert.EvenInGradIdeal.nD,
          r.2.mem ((c.tc : Thread Cert.EvenInGradIdeal.nD Cert.EvenInGradIdeal.τ).loc Cert.EvenInGradIdeal.main_v14_0) = v0 c
          ∧ r.2.mem ((c.tc : Thread Cert.EvenInGradIdeal.nD Cert.EvenInGradIdeal.τ).loc Cert.EvenInGradIdeal.main_v14_1) = v1 c
          ∧ r.2.mem ((c.tc : Thread Cert.EvenInGradIdeal.nD Cert.EvenInGradIdeal.τ).loc Cert.EvenInGradIdeal.main_arg0) = m ((c.tc : Thread Cert.EvenInGradIdeal.nD Cert.EvenInGradIdeal.τ).loc Cert.EvenInGradIdeal.main_arg0)
          ∧ r.2.mem ((c.tc : Thread Cert.EvenInGradIdeal.nD Cert.EvenInGradIdeal.τ).loc Cert.EvenInGradIdeal.main_arg1) = m ((c.tc : Thread Cert.EvenInGradIdeal.nD Cert.EvenInGradIdeal.τ).loc Cert.EvenInGradIdeal.main_arg1)
          ∧ r.2.mem ((c.tc : Thread Cert.EvenInGradIdeal.nD Cert.EvenInGradIdeal.τ).loc Cert.EvenInGradIdeal.main_arg2) = m ((c.tc : Thread Cert.EvenInGradIdeal.nD Cert.EvenInGradIdeal.τ).loc Cert.EvenInGradIdeal.main_arg2))
      ∧ θ_run (Cert.EvenInGradRefIdeal.defs (F := Ideal)) (onTc (τ := Cert.EvenInGradRefIdeal.τ) (Cert.EvenInGradRefIdeal.main (F := Ideal))) ⟨m', fun _ => 0, g'⟩ (fun r => ∀ c : Dev Cert.EvenInGradRefIdeal.nD,
          r.2.mem ((c.tc : Thread Cert.EvenInGradRefIdeal.nD Cert.EvenInGradRefIdeal.τ).loc Cert.EvenInGradRefIdeal.main_v19) = v0 c
          ∧ r.2.mem ((c.tc : Thread Cert.EvenInGradRefIdeal.nD Cert.EvenInGradRefIdeal.τ).loc Cert.EvenInGradRefIdeal.main_v20) = v1 c
          ∧ r.2.mem ((c.tc : Thread Cert.EvenInGradRefIdeal.nD Cert.EvenInGradRefIdeal.τ).loc Cert.EvenInGradRefIdeal.main_arg0) = m' ((c.tc : Thread Cert.EvenInGradRefIdeal.nD Cert.EvenInGradRefIdeal.τ).loc Cert.EvenInGradRefIdeal.main_arg0)
          ∧ r.2.mem ((c.tc : Thread Cert.EvenInGradRefIdeal.nD Cert.EvenInGradRefIdeal.τ).loc Cert.EvenInGradRefIdeal.main_arg1) = m' ((c.tc : Thread Cert.EvenInGradRefIdeal.nD Cert.EvenInGradRefIdeal.τ).loc Cert.EvenInGradRefIdeal.main_arg1)
          ∧ r.2.mem ((c.tc : Thread Cert.EvenInGradRefIdeal.nD Cert.EvenInGradRefIdeal.τ).loc Cert.EvenInGradRefIdeal.main_arg2) = m' ((c.tc : Thread Cert.EvenInGradRefIdeal.nD Cert.EvenInGradRefIdeal.τ).loc Cert.EvenInGradRefIdeal.main_arg2))

def preserves_EvenInFwd_EvenInFwdIdeal : Prop :=
  True

def algebraic_EvenInFwdIdeal_EvenInFwdRefIdeal [hEvenInFwdIdeal : Cert.EvenInFwdIdeal.Facts] [hEvenInFwdRefIdeal : Cert.EvenInFwdRefIdeal.Facts] : Prop :=
  ∀ (m : (ℓ : Loc Cert.EvenInFwdIdeal.nD Cert.EvenInFwdIdeal.τ Cert.EvenInFwdIdeal.sig) → Buf (Elt Ideal) ℓ) (g : Dev Cert.EvenInFwdIdeal.nD → PrngReg)
    (m' : (ℓ : Loc Cert.EvenInFwdRefIdeal.nD Cert.EvenInFwdRefIdeal.τ Cert.EvenInFwdRefIdeal.sig) → Buf (Elt Ideal) ℓ) (g' : Dev Cert.EvenInFwdRefIdeal.nD → PrngReg), Pre_EvenInFwdIdeal m →
    (∀ c : Dev Cert.EvenInFwdIdeal.nD,
      m' ((c.tc : Thread Cert.EvenInFwdRefIdeal.nD Cert.EvenInFwdRefIdeal.τ).loc Cert.EvenInFwdRefIdeal.main_arg0) = m ((c.tc : Thread Cert.EvenInFwdIdeal.nD Cert.EvenInFwdIdeal.τ).loc Cert.EvenInFwdIdeal.main_arg0)
      ∧ m' ((c.tc : Thread Cert.EvenInFwdRefIdeal.nD Cert.EvenInFwdRefIdeal.τ).loc Cert.EvenInFwdRefIdeal.main_arg1) = m ((c.tc : Thread Cert.EvenInFwdIdeal.nD Cert.EvenInFwdIdeal.τ).loc Cert.EvenInFwdIdeal.main_arg1)
      ∧ m' ((c.tc : Thread Cert.EvenInFwdRefIdeal.nD Cert.EvenInFwdRefIdeal.τ).loc Cert.EvenInFwdRefIdeal.main_arg2) = m ((c.tc : Thread Cert.EvenInFwdIdeal.nD Cert.EvenInFwdIdeal.τ).loc Cert.EvenInFwdIdeal.main_arg2)) →
    ∃ (v0 : (c : Dev Cert.EvenInFwdIdeal.nD) → Buf (Elt Ideal) ((c.tc : Thread Cert.EvenInFwdIdeal.nD Cert.EvenInFwdIdeal.τ).loc Cert.EvenInFwdIdeal.main_v4_0)) (v1 : (c : Dev Cert.EvenInFwdIdeal.nD) → Buf (Elt Ideal) ((c.tc : Thread Cert.EvenInFwdIdeal.nD Cert.EvenInFwdIdeal.τ).loc Cert.EvenInFwdIdeal.main_v4_1)),
      θ_run (Cert.EvenInFwdIdeal.defs (F := Ideal)) (onTc (τ := Cert.EvenInFwdIdeal.τ) (Cert.EvenInFwdIdeal.main (F := Ideal))) ⟨m, fun _ => 0, g⟩ (fun r => ∀ c : Dev Cert.EvenInFwdIdeal.nD,
          r.2.mem ((c.tc : Thread Cert.EvenInFwdIdeal.nD Cert.EvenInFwdIdeal.τ).loc Cert.EvenInFwdIdeal.main_v4_0) = v0 c
          ∧ r.2.mem ((c.tc : Thread Cert.EvenInFwdIdeal.nD Cert.EvenInFwdIdeal.τ).loc Cert.EvenInFwdIdeal.main_v4_1) = v1 c
          ∧ r.2.mem ((c.tc : Thread Cert.EvenInFwdIdeal.nD Cert.EvenInFwdIdeal.τ).loc Cert.EvenInFwdIdeal.main_arg0) = m ((c.tc : Thread Cert.EvenInFwdIdeal.nD Cert.EvenInFwdIdeal.τ).loc Cert.EvenInFwdIdeal.main_arg0)
          ∧ r.2.mem ((c.tc : Thread Cert.EvenInFwdIdeal.nD Cert.EvenInFwdIdeal.τ).loc Cert.EvenInFwdIdeal.main_arg1) = m ((c.tc : Thread Cert.EvenInFwdIdeal.nD Cert.EvenInFwdIdeal.τ).loc Cert.EvenInFwdIdeal.main_arg1)
          ∧ r.2.mem ((c.tc : Thread Cert.EvenInFwdIdeal.nD Cert.EvenInFwdIdeal.τ).loc Cert.EvenInFwdIdeal.main_arg2) = m ((c.tc : Thread Cert.EvenInFwdIdeal.nD Cert.EvenInFwdIdeal.τ).loc Cert.EvenInFwdIdeal.main_arg2))
      ∧ θ_run (Cert.EvenInFwdRefIdeal.defs (F := Ideal)) (onTc (τ := Cert.EvenInFwdRefIdeal.τ) (Cert.EvenInFwdRefIdeal.main (F := Ideal))) ⟨m', fun _ => 0, g'⟩ (fun r => ∀ c : Dev Cert.EvenInFwdRefIdeal.nD,
          r.2.mem ((c.tc : Thread Cert.EvenInFwdRefIdeal.nD Cert.EvenInFwdRefIdeal.τ).loc Cert.EvenInFwdRefIdeal.main_v14) = v0 c
          ∧ r.2.mem ((c.tc : Thread Cert.EvenInFwdRefIdeal.nD Cert.EvenInFwdRefIdeal.τ).loc Cert.EvenInFwdRefIdeal.main_v15) = v1 c
          ∧ r.2.mem ((c.tc : Thread Cert.EvenInFwdRefIdeal.nD Cert.EvenInFwdRefIdeal.τ).loc Cert.EvenInFwdRefIdeal.main_arg0) = m' ((c.tc : Thread Cert.EvenInFwdRefIdeal.nD Cert.EvenInFwdRefIdeal.τ).loc Cert.EvenInFwdRefIdeal.main_arg0)
          ∧ r.2.mem ((c.tc : Thread Cert.EvenInFwdRefIdeal.nD Cert.EvenInFwdRefIdeal.τ).loc Cert.EvenInFwdRefIdeal.main_arg1) = m' ((c.tc : Thread Cert.EvenInFwdRefIdeal.nD Cert.EvenInFwdRefIdeal.τ).loc Cert.EvenInFwdRefIdeal.main_arg1)
          ∧ r.2.mem ((c.tc : Thread Cert.EvenInFwdRefIdeal.nD Cert.EvenInFwdRefIdeal.τ).loc Cert.EvenInFwdRefIdeal.main_arg2) = m' ((c.tc : Thread Cert.EvenInFwdRefIdeal.nD Cert.EvenInFwdRefIdeal.τ).loc Cert.EvenInFwdRefIdeal.main_arg2))

def preserves_OddOutBwd_OddOutBwdIdeal : Prop :=
  True

def algebraic_OddOutBwdIdeal_OddOutBwdRefIdeal_pre_odd_out_bwd_finite [hOddOutBwdIdeal : Cert.OddOutBwdIdeal.Facts] [hOddOutBwdRefIdeal : Cert.OddOutBwdRefIdeal.Facts] [hPre_odd_out_bwd_finite : Cert.Pre_odd_out_bwd_finite.Facts] : Prop :=
  ∀ (m : (ℓ : Loc Cert.OddOutBwdIdeal.nD Cert.OddOutBwdIdeal.τ Cert.OddOutBwdIdeal.sig) → Buf (Elt Ideal) ℓ) (g : Dev Cert.OddOutBwdIdeal.nD → PrngReg)
    (m' : (ℓ : Loc Cert.OddOutBwdRefIdeal.nD Cert.OddOutBwdRefIdeal.τ Cert.OddOutBwdRefIdeal.sig) → Buf (Elt Ideal) ℓ) (g' : Dev Cert.OddOutBwdRefIdeal.nD → PrngReg), Pre_OddOutBwdIdeal_odd_out_bwd_finite m →
    (∀ c : Dev Cert.OddOutBwdIdeal.nD,
      m' ((c.tc : Thread Cert.OddOutBwdRefIdeal.nD Cert.OddOutBwdRefIdeal.τ).loc Cert.OddOutBwdRefIdeal.main_arg0) = m ((c.tc : Thread Cert.OddOutBwdIdeal.nD Cert.OddOutBwdIdeal.τ).loc Cert.OddOutBwdIdeal.main_arg0)
      ∧ m' ((c.tc : Thread Cert.OddOutBwdRefIdeal.nD Cert.OddOutBwdRefIdeal.τ).loc Cert.OddOutBwdRefIdeal.main_arg1) = m ((c.tc : Thread Cert.OddOutBwdIdeal.nD Cert.OddOutBwdIdeal.τ).loc Cert.OddOutBwdIdeal.main_arg1)
      ∧ m' ((c.tc : Thread Cert.OddOutBwdRefIdeal.nD Cert.OddOutBwdRefIdeal.τ).loc Cert.OddOutBwdRefIdeal.main_arg2) = m ((c.tc : Thread Cert.OddOutBwdIdeal.nD Cert.OddOutBwdIdeal.τ).loc Cert.OddOutBwdIdeal.main_arg2)
      ∧ m' ((c.tc : Thread Cert.OddOutBwdRefIdeal.nD Cert.OddOutBwdRefIdeal.τ).loc Cert.OddOutBwdRefIdeal.main_arg3) = m ((c.tc : Thread Cert.OddOutBwdIdeal.nD Cert.OddOutBwdIdeal.τ).loc Cert.OddOutBwdIdeal.main_arg3)
      ∧ m' ((c.tc : Thread Cert.OddOutBwdRefIdeal.nD Cert.OddOutBwdRefIdeal.τ).loc Cert.OddOutBwdRefIdeal.main_arg4) = m ((c.tc : Thread Cert.OddOutBwdIdeal.nD Cert.OddOutBwdIdeal.τ).loc Cert.OddOutBwdIdeal.main_arg4)) →
    ∃ (v0 : (c : Dev Cert.OddOutBwdIdeal.nD) → Buf (Elt Ideal) ((c.tc : Thread Cert.OddOutBwdIdeal.nD Cert.OddOutBwdIdeal.τ).loc Cert.OddOutBwdIdeal.main_v2_0)) (v1 : (c : Dev Cert.OddOutBwdIdeal.nD) → Buf (Elt Ideal) ((c.tc : Thread Cert.OddOutBwdIdeal.nD Cert.OddOutBwdIdeal.τ).loc Cert.OddOutBwdIdeal.main_v2_1)) (v2 : (c : Dev Cert.OddOutBwdIdeal.nD) → Buf (Elt Ideal) ((c.tc : Thread Cert.OddOutBwdIdeal.nD Cert.OddOutBwdIdeal.τ).loc Cert.OddOutBwdIdeal.main_v2_2)),
      θ_run (Cert.OddOutBwdIdeal.defs (F := Ideal)) (onTc (τ := Cert.OddOutBwdIdeal.τ) (Cert.OddOutBwdIdeal.main (F := Ideal))) ⟨m, fun _ => 0, g⟩ (fun r => ∀ c : Dev Cert.OddOutBwdIdeal.nD,
          r.2.mem ((c.tc : Thread Cert.OddOutBwdIdeal.nD Cert.OddOutBwdIdeal.τ).loc Cert.OddOutBwdIdeal.main_v2_0) = v0 c
          ∧ r.2.mem ((c.tc : Thread Cert.OddOutBwdIdeal.nD Cert.OddOutBwdIdeal.τ).loc Cert.OddOutBwdIdeal.main_v2_1) = v1 c
          ∧ r.2.mem ((c.tc : Thread Cert.OddOutBwdIdeal.nD Cert.OddOutBwdIdeal.τ).loc Cert.OddOutBwdIdeal.main_v2_2) = v2 c
          ∧ r.2.mem ((c.tc : Thread Cert.OddOutBwdIdeal.nD Cert.OddOutBwdIdeal.τ).loc Cert.OddOutBwdIdeal.main_arg0) = m ((c.tc : Thread Cert.OddOutBwdIdeal.nD Cert.OddOutBwdIdeal.τ).loc Cert.OddOutBwdIdeal.main_arg0)
          ∧ r.2.mem ((c.tc : Thread Cert.OddOutBwdIdeal.nD Cert.OddOutBwdIdeal.τ).loc Cert.OddOutBwdIdeal.main_arg1) = m ((c.tc : Thread Cert.OddOutBwdIdeal.nD Cert.OddOutBwdIdeal.τ).loc Cert.OddOutBwdIdeal.main_arg1)
          ∧ r.2.mem ((c.tc : Thread Cert.OddOutBwdIdeal.nD Cert.OddOutBwdIdeal.τ).loc Cert.OddOutBwdIdeal.main_arg2) = m ((c.tc : Thread Cert.OddOutBwdIdeal.nD Cert.OddOutBwdIdeal.τ).loc Cert.OddOutBwdIdeal.main_arg2)
          ∧ r.2.mem ((c.tc : Thread Cert.OddOutBwdIdeal.nD Cert.OddOutBwdIdeal.τ).loc Cert.OddOutBwdIdeal.main_arg3) = m ((c.tc : Thread Cert.OddOutBwdIdeal.nD Cert.OddOutBwdIdeal.τ).loc Cert.OddOutBwdIdeal.main_arg3)
          ∧ r.2.mem ((c.tc : Thread Cert.OddOutBwdIdeal.nD Cert.OddOutBwdIdeal.τ).loc Cert.OddOutBwdIdeal.main_arg4) = m ((c.tc : Thread Cert.OddOutBwdIdeal.nD Cert.OddOutBwdIdeal.τ).loc Cert.OddOutBwdIdeal.main_arg4))
      ∧ θ_run (Cert.OddOutBwdRefIdeal.defs (F := Ideal)) (onTc (τ := Cert.OddOutBwdRefIdeal.τ) (Cert.OddOutBwdRefIdeal.main (F := Ideal))) ⟨m', fun _ => 0, g'⟩ (fun r => ∀ c : Dev Cert.OddOutBwdRefIdeal.nD,
          r.2.mem ((c.tc : Thread Cert.OddOutBwdRefIdeal.nD Cert.OddOutBwdRefIdeal.τ).loc Cert.OddOutBwdRefIdeal.main_v49) = v0 c
          ∧ r.2.mem ((c.tc : Thread Cert.OddOutBwdRefIdeal.nD Cert.OddOutBwdRefIdeal.τ).loc Cert.OddOutBwdRefIdeal.main_v48) = v1 c
          ∧ r.2.mem ((c.tc : Thread Cert.OddOutBwdRefIdeal.nD Cert.OddOutBwdRefIdeal.τ).loc Cert.OddOutBwdRefIdeal.main_v50) = v2 c
          ∧ r.2.mem ((c.tc : Thread Cert.OddOutBwdRefIdeal.nD Cert.OddOutBwdRefIdeal.τ).loc Cert.OddOutBwdRefIdeal.main_arg0) = m' ((c.tc : Thread Cert.OddOutBwdRefIdeal.nD Cert.OddOutBwdRefIdeal.τ).loc Cert.OddOutBwdRefIdeal.main_arg0)
          ∧ r.2.mem ((c.tc : Thread Cert.OddOutBwdRefIdeal.nD Cert.OddOutBwdRefIdeal.τ).loc Cert.OddOutBwdRefIdeal.main_arg1) = m' ((c.tc : Thread Cert.OddOutBwdRefIdeal.nD Cert.OddOutBwdRefIdeal.τ).loc Cert.OddOutBwdRefIdeal.main_arg1)
          ∧ r.2.mem ((c.tc : Thread Cert.OddOutBwdRefIdeal.nD Cert.OddOutBwdRefIdeal.τ).loc Cert.OddOutBwdRefIdeal.main_arg2) = m' ((c.tc : Thread Cert.OddOutBwdRefIdeal.nD Cert.OddOutBwdRefIdeal.τ).loc Cert.OddOutBwdRefIdeal.main_arg2)
          ∧ r.2.mem ((c.tc : Thread Cert.OddOutBwdRefIdeal.nD Cert.OddOutBwdRefIdeal.τ).loc Cert.OddOutBwdRefIdeal.main_arg3) = m' ((c.tc : Thread Cert.OddOutBwdRefIdeal.nD Cert.OddOutBwdRefIdeal.τ).loc Cert.OddOutBwdRefIdeal.main_arg3)
          ∧ r.2.mem ((c.tc : Thread Cert.OddOutBwdRefIdeal.nD Cert.OddOutBwdRefIdeal.τ).loc Cert.OddOutBwdRefIdeal.main_arg4) = m' ((c.tc : Thread Cert.OddOutBwdRefIdeal.nD Cert.OddOutBwdRefIdeal.τ).loc Cert.OddOutBwdRefIdeal.main_arg4))

def preserves_EvenOutBwd_EvenOutBwdIdeal : Prop :=
  True

def algebraic_EvenOutBwdIdeal_EvenOutBwdRefIdeal_pre_even_out_bwd_finite [hEvenOutBwdIdeal : Cert.EvenOutBwdIdeal.Facts] [hEvenOutBwdRefIdeal : Cert.EvenOutBwdRefIdeal.Facts] [hPre_even_out_bwd_finite : Cert.Pre_even_out_bwd_finite.Facts] : Prop :=
  ∀ (m : (ℓ : Loc Cert.EvenOutBwdIdeal.nD Cert.EvenOutBwdIdeal.τ Cert.EvenOutBwdIdeal.sig) → Buf (Elt Ideal) ℓ) (g : Dev Cert.EvenOutBwdIdeal.nD → PrngReg)
    (m' : (ℓ : Loc Cert.EvenOutBwdRefIdeal.nD Cert.EvenOutBwdRefIdeal.τ Cert.EvenOutBwdRefIdeal.sig) → Buf (Elt Ideal) ℓ) (g' : Dev Cert.EvenOutBwdRefIdeal.nD → PrngReg), Pre_EvenOutBwdIdeal_even_out_bwd_finite m →
    (∀ c : Dev Cert.EvenOutBwdIdeal.nD,
      m' ((c.tc : Thread Cert.EvenOutBwdRefIdeal.nD Cert.EvenOutBwdRefIdeal.τ).loc Cert.EvenOutBwdRefIdeal.main_arg0) = m ((c.tc : Thread Cert.EvenOutBwdIdeal.nD Cert.EvenOutBwdIdeal.τ).loc Cert.EvenOutBwdIdeal.main_arg0)
      ∧ m' ((c.tc : Thread Cert.EvenOutBwdRefIdeal.nD Cert.EvenOutBwdRefIdeal.τ).loc Cert.EvenOutBwdRefIdeal.main_arg1) = m ((c.tc : Thread Cert.EvenOutBwdIdeal.nD Cert.EvenOutBwdIdeal.τ).loc Cert.EvenOutBwdIdeal.main_arg1)
      ∧ m' ((c.tc : Thread Cert.EvenOutBwdRefIdeal.nD Cert.EvenOutBwdRefIdeal.τ).loc Cert.EvenOutBwdRefIdeal.main_arg2) = m ((c.tc : Thread Cert.EvenOutBwdIdeal.nD Cert.EvenOutBwdIdeal.τ).loc Cert.EvenOutBwdIdeal.main_arg2)
      ∧ m' ((c.tc : Thread Cert.EvenOutBwdRefIdeal.nD Cert.EvenOutBwdRefIdeal.τ).loc Cert.EvenOutBwdRefIdeal.main_arg3) = m ((c.tc : Thread Cert.EvenOutBwdIdeal.nD Cert.EvenOutBwdIdeal.τ).loc Cert.EvenOutBwdIdeal.main_arg3)) →
    ∃ (v0 : (c : Dev Cert.EvenOutBwdIdeal.nD) → Buf (Elt Ideal) ((c.tc : Thread Cert.EvenOutBwdIdeal.nD Cert.EvenOutBwdIdeal.τ).loc Cert.EvenOutBwdIdeal.main_v4_0)) (v1 : (c : Dev Cert.EvenOutBwdIdeal.nD) → Buf (Elt Ideal) ((c.tc : Thread Cert.EvenOutBwdIdeal.nD Cert.EvenOutBwdIdeal.τ).loc Cert.EvenOutBwdIdeal.main_v4_1)) (v2 : (c : Dev Cert.EvenOutBwdIdeal.nD) → Buf (Elt Ideal) ((c.tc : Thread Cert.EvenOutBwdIdeal.nD Cert.EvenOutBwdIdeal.τ).loc Cert.EvenOutBwdIdeal.main_v4_2)),
      θ_run (Cert.EvenOutBwdIdeal.defs (F := Ideal)) (onTc (τ := Cert.EvenOutBwdIdeal.τ) (Cert.EvenOutBwdIdeal.main (F := Ideal))) ⟨m, fun _ => 0, g⟩ (fun r => ∀ c : Dev Cert.EvenOutBwdIdeal.nD,
          r.2.mem ((c.tc : Thread Cert.EvenOutBwdIdeal.nD Cert.EvenOutBwdIdeal.τ).loc Cert.EvenOutBwdIdeal.main_v4_0) = v0 c
          ∧ r.2.mem ((c.tc : Thread Cert.EvenOutBwdIdeal.nD Cert.EvenOutBwdIdeal.τ).loc Cert.EvenOutBwdIdeal.main_v4_1) = v1 c
          ∧ r.2.mem ((c.tc : Thread Cert.EvenOutBwdIdeal.nD Cert.EvenOutBwdIdeal.τ).loc Cert.EvenOutBwdIdeal.main_v4_2) = v2 c
          ∧ r.2.mem ((c.tc : Thread Cert.EvenOutBwdIdeal.nD Cert.EvenOutBwdIdeal.τ).loc Cert.EvenOutBwdIdeal.main_arg0) = m ((c.tc : Thread Cert.EvenOutBwdIdeal.nD Cert.EvenOutBwdIdeal.τ).loc Cert.EvenOutBwdIdeal.main_arg0)
          ∧ r.2.mem ((c.tc : Thread Cert.EvenOutBwdIdeal.nD Cert.EvenOutBwdIdeal.τ).loc Cert.EvenOutBwdIdeal.main_arg1) = m ((c.tc : Thread Cert.EvenOutBwdIdeal.nD Cert.EvenOutBwdIdeal.τ).loc Cert.EvenOutBwdIdeal.main_arg1)
          ∧ r.2.mem ((c.tc : Thread Cert.EvenOutBwdIdeal.nD Cert.EvenOutBwdIdeal.τ).loc Cert.EvenOutBwdIdeal.main_arg2) = m ((c.tc : Thread Cert.EvenOutBwdIdeal.nD Cert.EvenOutBwdIdeal.τ).loc Cert.EvenOutBwdIdeal.main_arg2)
          ∧ r.2.mem ((c.tc : Thread Cert.EvenOutBwdIdeal.nD Cert.EvenOutBwdIdeal.τ).loc Cert.EvenOutBwdIdeal.main_arg3) = m ((c.tc : Thread Cert.EvenOutBwdIdeal.nD Cert.EvenOutBwdIdeal.τ).loc Cert.EvenOutBwdIdeal.main_arg3))
      ∧ θ_run (Cert.EvenOutBwdRefIdeal.defs (F := Ideal)) (onTc (τ := Cert.EvenOutBwdRefIdeal.τ) (Cert.EvenOutBwdRefIdeal.main (F := Ideal))) ⟨m', fun _ => 0, g'⟩ (fun r => ∀ c : Dev Cert.EvenOutBwdRefIdeal.nD,
          r.2.mem ((c.tc : Thread Cert.EvenOutBwdRefIdeal.nD Cert.EvenOutBwdRefIdeal.τ).loc Cert.EvenOutBwdRefIdeal.main_v39) = v0 c
          ∧ r.2.mem ((c.tc : Thread Cert.EvenOutBwdRefIdeal.nD Cert.EvenOutBwdRefIdeal.τ).loc Cert.EvenOutBwdRefIdeal.main_v38) = v1 c
          ∧ r.2.mem ((c.tc : Thread Cert.EvenOutBwdRefIdeal.nD Cert.EvenOutBwdRefIdeal.τ).loc Cert.EvenOutBwdRefIdeal.main_v40) = v2 c
          ∧ r.2.mem ((c.tc : Thread Cert.EvenOutBwdRefIdeal.nD Cert.EvenOutBwdRefIdeal.τ).loc Cert.EvenOutBwdRefIdeal.main_arg0) = m' ((c.tc : Thread Cert.EvenOutBwdRefIdeal.nD Cert.EvenOutBwdRefIdeal.τ).loc Cert.EvenOutBwdRefIdeal.main_arg0)
          ∧ r.2.mem ((c.tc : Thread Cert.EvenOutBwdRefIdeal.nD Cert.EvenOutBwdRefIdeal.τ).loc Cert.EvenOutBwdRefIdeal.main_arg1) = m' ((c.tc : Thread Cert.EvenOutBwdRefIdeal.nD Cert.EvenOutBwdRefIdeal.τ).loc Cert.EvenOutBwdRefIdeal.main_arg1)
          ∧ r.2.mem ((c.tc : Thread Cert.EvenOutBwdRefIdeal.nD Cert.EvenOutBwdRefIdeal.τ).loc Cert.EvenOutBwdRefIdeal.main_arg2) = m' ((c.tc : Thread Cert.EvenOutBwdRefIdeal.nD Cert.EvenOutBwdRefIdeal.τ).loc Cert.EvenOutBwdRefIdeal.main_arg2)
          ∧ r.2.mem ((c.tc : Thread Cert.EvenOutBwdRefIdeal.nD Cert.EvenOutBwdRefIdeal.τ).loc Cert.EvenOutBwdRefIdeal.main_arg3) = m' ((c.tc : Thread Cert.EvenOutBwdRefIdeal.nD Cert.EvenOutBwdRefIdeal.τ).loc Cert.EvenOutBwdRefIdeal.main_arg3))

def preserves_OddInBwd_OddInBwdIdeal : Prop :=
  True

def algebraic_OddInBwdIdeal_OddInBwdRefIdeal_pre_odd_in_bwd_finite [hOddInBwdIdeal : Cert.OddInBwdIdeal.Facts] [hOddInBwdRefIdeal : Cert.OddInBwdRefIdeal.Facts] [hPre_odd_in_bwd_finite : Cert.Pre_odd_in_bwd_finite.Facts] : Prop :=
  ∀ (m : (ℓ : Loc Cert.OddInBwdIdeal.nD Cert.OddInBwdIdeal.τ Cert.OddInBwdIdeal.sig) → Buf (Elt Ideal) ℓ) (g : Dev Cert.OddInBwdIdeal.nD → PrngReg)
    (m' : (ℓ : Loc Cert.OddInBwdRefIdeal.nD Cert.OddInBwdRefIdeal.τ Cert.OddInBwdRefIdeal.sig) → Buf (Elt Ideal) ℓ) (g' : Dev Cert.OddInBwdRefIdeal.nD → PrngReg), Pre_OddInBwdIdeal_odd_in_bwd_finite m →
    (∀ c : Dev Cert.OddInBwdIdeal.nD,
      m' ((c.tc : Thread Cert.OddInBwdRefIdeal.nD Cert.OddInBwdRefIdeal.τ).loc Cert.OddInBwdRefIdeal.main_arg0) = m ((c.tc : Thread Cert.OddInBwdIdeal.nD Cert.OddInBwdIdeal.τ).loc Cert.OddInBwdIdeal.main_arg0)
      ∧ m' ((c.tc : Thread Cert.OddInBwdRefIdeal.nD Cert.OddInBwdRefIdeal.τ).loc Cert.OddInBwdRefIdeal.main_arg1) = m ((c.tc : Thread Cert.OddInBwdIdeal.nD Cert.OddInBwdIdeal.τ).loc Cert.OddInBwdIdeal.main_arg1)
      ∧ m' ((c.tc : Thread Cert.OddInBwdRefIdeal.nD Cert.OddInBwdRefIdeal.τ).loc Cert.OddInBwdRefIdeal.main_arg2) = m ((c.tc : Thread Cert.OddInBwdIdeal.nD Cert.OddInBwdIdeal.τ).loc Cert.OddInBwdIdeal.main_arg2)
      ∧ m' ((c.tc : Thread Cert.OddInBwdRefIdeal.nD Cert.OddInBwdRefIdeal.τ).loc Cert.OddInBwdRefIdeal.main_arg3) = m ((c.tc : Thread Cert.OddInBwdIdeal.nD Cert.OddInBwdIdeal.τ).loc Cert.OddInBwdIdeal.main_arg3)
      ∧ m' ((c.tc : Thread Cert.OddInBwdRefIdeal.nD Cert.OddInBwdRefIdeal.τ).loc Cert.OddInBwdRefIdeal.main_arg4) = m ((c.tc : Thread Cert.OddInBwdIdeal.nD Cert.OddInBwdIdeal.τ).loc Cert.OddInBwdIdeal.main_arg4)
      ∧ m' ((c.tc : Thread Cert.OddInBwdRefIdeal.nD Cert.OddInBwdRefIdeal.τ).loc Cert.OddInBwdRefIdeal.main_arg5) = m ((c.tc : Thread Cert.OddInBwdIdeal.nD Cert.OddInBwdIdeal.τ).loc Cert.OddInBwdIdeal.main_arg5)
      ∧ m' ((c.tc : Thread Cert.OddInBwdRefIdeal.nD Cert.OddInBwdRefIdeal.τ).loc Cert.OddInBwdRefIdeal.main_arg6) = m ((c.tc : Thread Cert.OddInBwdIdeal.nD Cert.OddInBwdIdeal.τ).loc Cert.OddInBwdIdeal.main_arg6)
      ∧ m' ((c.tc : Thread Cert.OddInBwdRefIdeal.nD Cert.OddInBwdRefIdeal.τ).loc Cert.OddInBwdRefIdeal.main_arg7) = m ((c.tc : Thread Cert.OddInBwdIdeal.nD Cert.OddInBwdIdeal.τ).loc Cert.OddInBwdIdeal.main_arg7)
      ∧ m' ((c.tc : Thread Cert.OddInBwdRefIdeal.nD Cert.OddInBwdRefIdeal.τ).loc Cert.OddInBwdRefIdeal.main_arg8) = m ((c.tc : Thread Cert.OddInBwdIdeal.nD Cert.OddInBwdIdeal.τ).loc Cert.OddInBwdIdeal.main_arg8)) →
    ∃ (v0 : (c : Dev Cert.OddInBwdIdeal.nD) → Buf (Elt Ideal) ((c.tc : Thread Cert.OddInBwdIdeal.nD Cert.OddInBwdIdeal.τ).loc Cert.OddInBwdIdeal.main_v4_0)) (v1 : (c : Dev Cert.OddInBwdIdeal.nD) → Buf (Elt Ideal) ((c.tc : Thread Cert.OddInBwdIdeal.nD Cert.OddInBwdIdeal.τ).loc Cert.OddInBwdIdeal.main_v4_1)),
      θ_run (Cert.OddInBwdIdeal.defs (F := Ideal)) (onTc (τ := Cert.OddInBwdIdeal.τ) (Cert.OddInBwdIdeal.main (F := Ideal))) ⟨m, fun _ => 0, g⟩ (fun r => ∀ c : Dev Cert.OddInBwdIdeal.nD,
          r.2.mem ((c.tc : Thread Cert.OddInBwdIdeal.nD Cert.OddInBwdIdeal.τ).loc Cert.OddInBwdIdeal.main_v4_0) = v0 c
          ∧ r.2.mem ((c.tc : Thread Cert.OddInBwdIdeal.nD Cert.OddInBwdIdeal.τ).loc Cert.OddInBwdIdeal.main_v4_1) = v1 c
          ∧ r.2.mem ((c.tc : Thread Cert.OddInBwdIdeal.nD Cert.OddInBwdIdeal.τ).loc Cert.OddInBwdIdeal.main_arg0) = m ((c.tc : Thread Cert.OddInBwdIdeal.nD Cert.OddInBwdIdeal.τ).loc Cert.OddInBwdIdeal.main_arg0)
          ∧ r.2.mem ((c.tc : Thread Cert.OddInBwdIdeal.nD Cert.OddInBwdIdeal.τ).loc Cert.OddInBwdIdeal.main_arg1) = m ((c.tc : Thread Cert.OddInBwdIdeal.nD Cert.OddInBwdIdeal.τ).loc Cert.OddInBwdIdeal.main_arg1)
          ∧ r.2.mem ((c.tc : Thread Cert.OddInBwdIdeal.nD Cert.OddInBwdIdeal.τ).loc Cert.OddInBwdIdeal.main_arg2) = m ((c.tc : Thread Cert.OddInBwdIdeal.nD Cert.OddInBwdIdeal.τ).loc Cert.OddInBwdIdeal.main_arg2)
          ∧ r.2.mem ((c.tc : Thread Cert.OddInBwdIdeal.nD Cert.OddInBwdIdeal.τ).loc Cert.OddInBwdIdeal.main_arg3) = m ((c.tc : Thread Cert.OddInBwdIdeal.nD Cert.OddInBwdIdeal.τ).loc Cert.OddInBwdIdeal.main_arg3)
          ∧ r.2.mem ((c.tc : Thread Cert.OddInBwdIdeal.nD Cert.OddInBwdIdeal.τ).loc Cert.OddInBwdIdeal.main_arg4) = m ((c.tc : Thread Cert.OddInBwdIdeal.nD Cert.OddInBwdIdeal.τ).loc Cert.OddInBwdIdeal.main_arg4)
          ∧ r.2.mem ((c.tc : Thread Cert.OddInBwdIdeal.nD Cert.OddInBwdIdeal.τ).loc Cert.OddInBwdIdeal.main_arg5) = m ((c.tc : Thread Cert.OddInBwdIdeal.nD Cert.OddInBwdIdeal.τ).loc Cert.OddInBwdIdeal.main_arg5)
          ∧ r.2.mem ((c.tc : Thread Cert.OddInBwdIdeal.nD Cert.OddInBwdIdeal.τ).loc Cert.OddInBwdIdeal.main_arg6) = m ((c.tc : Thread Cert.OddInBwdIdeal.nD Cert.OddInBwdIdeal.τ).loc Cert.OddInBwdIdeal.main_arg6)
          ∧ r.2.mem ((c.tc : Thread Cert.OddInBwdIdeal.nD Cert.OddInBwdIdeal.τ).loc Cert.OddInBwdIdeal.main_arg7) = m ((c.tc : Thread Cert.OddInBwdIdeal.nD Cert.OddInBwdIdeal.τ).loc Cert.OddInBwdIdeal.main_arg7)
          ∧ r.2.mem ((c.tc : Thread Cert.OddInBwdIdeal.nD Cert.OddInBwdIdeal.τ).loc Cert.OddInBwdIdeal.main_arg8) = m ((c.tc : Thread Cert.OddInBwdIdeal.nD Cert.OddInBwdIdeal.τ).loc Cert.OddInBwdIdeal.main_arg8))
      ∧ θ_run (Cert.OddInBwdRefIdeal.defs (F := Ideal)) (onTc (τ := Cert.OddInBwdRefIdeal.τ) (Cert.OddInBwdRefIdeal.main (F := Ideal))) ⟨m', fun _ => 0, g'⟩ (fun r => ∀ c : Dev Cert.OddInBwdRefIdeal.nD,
          r.2.mem ((c.tc : Thread Cert.OddInBwdRefIdeal.nD Cert.OddInBwdRefIdeal.τ).loc Cert.OddInBwdRefIdeal.main_v41) = v0 c
          ∧ r.2.mem ((c.tc : Thread Cert.OddInBwdRefIdeal.nD Cert.OddInBwdRefIdeal.τ).loc Cert.OddInBwdRefIdeal.main_v42) = v1 c
          ∧ r.2.mem ((c.tc : Thread Cert.OddInBwdRefIdeal.nD Cert.OddInBwdRefIdeal.τ).loc Cert.OddInBwdRefIdeal.main_arg0) = m' ((c.tc : Thread Cert.OddInBwdRefIdeal.nD Cert.OddInBwdRefIdeal.τ).loc Cert.OddInBwdRefIdeal.main_arg0)
          ∧ r.2.mem ((c.tc : Thread Cert.OddInBwdRefIdeal.nD Cert.OddInBwdRefIdeal.τ).loc Cert.OddInBwdRefIdeal.main_arg1) = m' ((c.tc : Thread Cert.OddInBwdRefIdeal.nD Cert.OddInBwdRefIdeal.τ).loc Cert.OddInBwdRefIdeal.main_arg1)
          ∧ r.2.mem ((c.tc : Thread Cert.OddInBwdRefIdeal.nD Cert.OddInBwdRefIdeal.τ).loc Cert.OddInBwdRefIdeal.main_arg2) = m' ((c.tc : Thread Cert.OddInBwdRefIdeal.nD Cert.OddInBwdRefIdeal.τ).loc Cert.OddInBwdRefIdeal.main_arg2)
          ∧ r.2.mem ((c.tc : Thread Cert.OddInBwdRefIdeal.nD Cert.OddInBwdRefIdeal.τ).loc Cert.OddInBwdRefIdeal.main_arg3) = m' ((c.tc : Thread Cert.OddInBwdRefIdeal.nD Cert.OddInBwdRefIdeal.τ).loc Cert.OddInBwdRefIdeal.main_arg3)
          ∧ r.2.mem ((c.tc : Thread Cert.OddInBwdRefIdeal.nD Cert.OddInBwdRefIdeal.τ).loc Cert.OddInBwdRefIdeal.main_arg4) = m' ((c.tc : Thread Cert.OddInBwdRefIdeal.nD Cert.OddInBwdRefIdeal.τ).loc Cert.OddInBwdRefIdeal.main_arg4)
          ∧ r.2.mem ((c.tc : Thread Cert.OddInBwdRefIdeal.nD Cert.OddInBwdRefIdeal.τ).loc Cert.OddInBwdRefIdeal.main_arg5) = m' ((c.tc : Thread Cert.OddInBwdRefIdeal.nD Cert.OddInBwdRefIdeal.τ).loc Cert.OddInBwdRefIdeal.main_arg5)
          ∧ r.2.mem ((c.tc : Thread Cert.OddInBwdRefIdeal.nD Cert.OddInBwdRefIdeal.τ).loc Cert.OddInBwdRefIdeal.main_arg6) = m' ((c.tc : Thread Cert.OddInBwdRefIdeal.nD Cert.OddInBwdRefIdeal.τ).loc Cert.OddInBwdRefIdeal.main_arg6)
          ∧ r.2.mem ((c.tc : Thread Cert.OddInBwdRefIdeal.nD Cert.OddInBwdRefIdeal.τ).loc Cert.OddInBwdRefIdeal.main_arg7) = m' ((c.tc : Thread Cert.OddInBwdRefIdeal.nD Cert.OddInBwdRefIdeal.τ).loc Cert.OddInBwdRefIdeal.main_arg7)
          ∧ r.2.mem ((c.tc : Thread Cert.OddInBwdRefIdeal.nD Cert.OddInBwdRefIdeal.τ).loc Cert.OddInBwdRefIdeal.main_arg8) = m' ((c.tc : Thread Cert.OddInBwdRefIdeal.nD Cert.OddInBwdRefIdeal.τ).loc Cert.OddInBwdRefIdeal.main_arg8))

def preserves_OddInGrad_OddInGradIdeal : Prop :=
  True

def algebraic_OddInGradIdeal_OddInGradRefIdeal [hOddInGradIdeal : Cert.OddInGradIdeal.Facts] [hOddInGradRefIdeal : Cert.OddInGradRefIdeal.Facts] : Prop :=
  ∀ (m : (ℓ : Loc Cert.OddInGradIdeal.nD Cert.OddInGradIdeal.τ Cert.OddInGradIdeal.sig) → Buf (Elt Ideal) ℓ) (g : Dev Cert.OddInGradIdeal.nD → PrngReg)
    (m' : (ℓ : Loc Cert.OddInGradRefIdeal.nD Cert.OddInGradRefIdeal.τ Cert.OddInGradRefIdeal.sig) → Buf (Elt Ideal) ℓ) (g' : Dev Cert.OddInGradRefIdeal.nD → PrngReg), Pre_OddInGradIdeal m →
    (∀ c : Dev Cert.OddInGradIdeal.nD,
      m' ((c.tc : Thread Cert.OddInGradRefIdeal.nD Cert.OddInGradRefIdeal.τ).loc Cert.OddInGradRefIdeal.main_arg0) = m ((c.tc : Thread Cert.OddInGradIdeal.nD Cert.OddInGradIdeal.τ).loc Cert.OddInGradIdeal.main_arg0)
      ∧ m' ((c.tc : Thread Cert.OddInGradRefIdeal.nD Cert.OddInGradRefIdeal.τ).loc Cert.OddInGradRefIdeal.main_arg1) = m ((c.tc : Thread Cert.OddInGradIdeal.nD Cert.OddInGradIdeal.τ).loc Cert.OddInGradIdeal.main_arg1)
      ∧ m' ((c.tc : Thread Cert.OddInGradRefIdeal.nD Cert.OddInGradRefIdeal.τ).loc Cert.OddInGradRefIdeal.main_arg2) = m ((c.tc : Thread Cert.OddInGradIdeal.nD Cert.OddInGradIdeal.τ).loc Cert.OddInGradIdeal.main_arg2)
      ∧ m' ((c.tc : Thread Cert.OddInGradRefIdeal.nD Cert.OddInGradRefIdeal.τ).loc Cert.OddInGradRefIdeal.main_arg3) = m ((c.tc : Thread Cert.OddInGradIdeal.nD Cert.OddInGradIdeal.τ).loc Cert.OddInGradIdeal.main_arg3)
      ∧ m' ((c.tc : Thread Cert.OddInGradRefIdeal.nD Cert.OddInGradRefIdeal.τ).loc Cert.OddInGradRefIdeal.main_arg4) = m ((c.tc : Thread Cert.OddInGradIdeal.nD Cert.OddInGradIdeal.τ).loc Cert.OddInGradIdeal.main_arg4)
      ∧ m' ((c.tc : Thread Cert.OddInGradRefIdeal.nD Cert.OddInGradRefIdeal.τ).loc Cert.OddInGradRefIdeal.main_arg5) = m ((c.tc : Thread Cert.OddInGradIdeal.nD Cert.OddInGradIdeal.τ).loc Cert.OddInGradIdeal.main_arg5)
      ∧ m' ((c.tc : Thread Cert.OddInGradRefIdeal.nD Cert.OddInGradRefIdeal.τ).loc Cert.OddInGradRefIdeal.main_arg6) = m ((c.tc : Thread Cert.OddInGradIdeal.nD Cert.OddInGradIdeal.τ).loc Cert.OddInGradIdeal.main_arg6)) →
    ∃ (v0 : (c : Dev Cert.OddInGradIdeal.nD) → Buf (Elt Ideal) ((c.tc : Thread Cert.OddInGradIdeal.nD Cert.OddInGradIdeal.τ).loc Cert.OddInGradIdeal.main_v14)),
      θ_run (Cert.OddInGradIdeal.defs (F := Ideal)) (onTc (τ := Cert.OddInGradIdeal.τ) (Cert.OddInGradIdeal.main (F := Ideal))) ⟨m, fun _ => 0, g⟩ (fun r => ∀ c : Dev Cert.OddInGradIdeal.nD,
          r.2.mem ((c.tc : Thread Cert.OddInGradIdeal.nD Cert.OddInGradIdeal.τ).loc Cert.OddInGradIdeal.main_v14) = v0 c
          ∧ r.2.mem ((c.tc : Thread Cert.OddInGradIdeal.nD Cert.OddInGradIdeal.τ).loc Cert.OddInGradIdeal.main_arg0) = m ((c.tc : Thread Cert.OddInGradIdeal.nD Cert.OddInGradIdeal.τ).loc Cert.OddInGradIdeal.main_arg0)
          ∧ r.2.mem ((c.tc : Thread Cert.OddInGradIdeal.nD Cert.OddInGradIdeal.τ).loc Cert.OddInGradIdeal.main_arg1) = m ((c.tc : Thread Cert.OddInGradIdeal.nD Cert.OddInGradIdeal.τ).loc Cert.OddInGradIdeal.main_arg1)
          ∧ r.2.mem ((c.tc : Thread Cert.OddInGradIdeal.nD Cert.OddInGradIdeal.τ).loc Cert.OddInGradIdeal.main_arg2) = m ((c.tc : Thread Cert.OddInGradIdeal.nD Cert.OddInGradIdeal.τ).loc Cert.OddInGradIdeal.main_arg2)
          ∧ r.2.mem ((c.tc : Thread Cert.OddInGradIdeal.nD Cert.OddInGradIdeal.τ).loc Cert.OddInGradIdeal.main_arg3) = m ((c.tc : Thread Cert.OddInGradIdeal.nD Cert.OddInGradIdeal.τ).loc Cert.OddInGradIdeal.main_arg3)
          ∧ r.2.mem ((c.tc : Thread Cert.OddInGradIdeal.nD Cert.OddInGradIdeal.τ).loc Cert.OddInGradIdeal.main_arg4) = m ((c.tc : Thread Cert.OddInGradIdeal.nD Cert.OddInGradIdeal.τ).loc Cert.OddInGradIdeal.main_arg4)
          ∧ r.2.mem ((c.tc : Thread Cert.OddInGradIdeal.nD Cert.OddInGradIdeal.τ).loc Cert.OddInGradIdeal.main_arg5) = m ((c.tc : Thread Cert.OddInGradIdeal.nD Cert.OddInGradIdeal.τ).loc Cert.OddInGradIdeal.main_arg5)
          ∧ r.2.mem ((c.tc : Thread Cert.OddInGradIdeal.nD Cert.OddInGradIdeal.τ).loc Cert.OddInGradIdeal.main_arg6) = m ((c.tc : Thread Cert.OddInGradIdeal.nD Cert.OddInGradIdeal.τ).loc Cert.OddInGradIdeal.main_arg6))
      ∧ θ_run (Cert.OddInGradRefIdeal.defs (F := Ideal)) (onTc (τ := Cert.OddInGradRefIdeal.τ) (Cert.OddInGradRefIdeal.main (F := Ideal))) ⟨m', fun _ => 0, g'⟩ (fun r => ∀ c : Dev Cert.OddInGradRefIdeal.nD,
          r.2.mem ((c.tc : Thread Cert.OddInGradRefIdeal.nD Cert.OddInGradRefIdeal.τ).loc Cert.OddInGradRefIdeal.main_v18) = v0 c
          ∧ r.2.mem ((c.tc : Thread Cert.OddInGradRefIdeal.nD Cert.OddInGradRefIdeal.τ).loc Cert.OddInGradRefIdeal.main_arg0) = m' ((c.tc : Thread Cert.OddInGradRefIdeal.nD Cert.OddInGradRefIdeal.τ).loc Cert.OddInGradRefIdeal.main_arg0)
          ∧ r.2.mem ((c.tc : Thread Cert.OddInGradRefIdeal.nD Cert.OddInGradRefIdeal.τ).loc Cert.OddInGradRefIdeal.main_arg1) = m' ((c.tc : Thread Cert.OddInGradRefIdeal.nD Cert.OddInGradRefIdeal.τ).loc Cert.OddInGradRefIdeal.main_arg1)
          ∧ r.2.mem ((c.tc : Thread Cert.OddInGradRefIdeal.nD Cert.OddInGradRefIdeal.τ).loc Cert.OddInGradRefIdeal.main_arg2) = m' ((c.tc : Thread Cert.OddInGradRefIdeal.nD Cert.OddInGradRefIdeal.τ).loc Cert.OddInGradRefIdeal.main_arg2)
          ∧ r.2.mem ((c.tc : Thread Cert.OddInGradRefIdeal.nD Cert.OddInGradRefIdeal.τ).loc Cert.OddInGradRefIdeal.main_arg3) = m' ((c.tc : Thread Cert.OddInGradRefIdeal.nD Cert.OddInGradRefIdeal.τ).loc Cert.OddInGradRefIdeal.main_arg3)
          ∧ r.2.mem ((c.tc : Thread Cert.OddInGradRefIdeal.nD Cert.OddInGradRefIdeal.τ).loc Cert.OddInGradRefIdeal.main_arg4) = m' ((c.tc : Thread Cert.OddInGradRefIdeal.nD Cert.OddInGradRefIdeal.τ).loc Cert.OddInGradRefIdeal.main_arg4)
          ∧ r.2.mem ((c.tc : Thread Cert.OddInGradRefIdeal.nD Cert.OddInGradRefIdeal.τ).loc Cert.OddInGradRefIdeal.main_arg5) = m' ((c.tc : Thread Cert.OddInGradRefIdeal.nD Cert.OddInGradRefIdeal.τ).loc Cert.OddInGradRefIdeal.main_arg5)
          ∧ r.2.mem ((c.tc : Thread Cert.OddInGradRefIdeal.nD Cert.OddInGradRefIdeal.τ).loc Cert.OddInGradRefIdeal.main_arg6) = m' ((c.tc : Thread Cert.OddInGradRefIdeal.nD Cert.OddInGradRefIdeal.τ).loc Cert.OddInGradRefIdeal.main_arg6))

def preserves_EvenOutGrad_EvenOutGradIdeal : Prop :=
  True

def algebraic_EvenOutGradIdeal_EvenOutGradRefIdeal [hEvenOutGradIdeal : Cert.EvenOutGradIdeal.Facts] [hEvenOutGradRefIdeal : Cert.EvenOutGradRefIdeal.Facts] : Prop :=
  ∀ (m : (ℓ : Loc Cert.EvenOutGradIdeal.nD Cert.EvenOutGradIdeal.τ Cert.EvenOutGradIdeal.sig) → Buf (Elt Ideal) ℓ) (g : Dev Cert.EvenOutGradIdeal.nD → PrngReg)
    (m' : (ℓ : Loc Cert.EvenOutGradRefIdeal.nD Cert.EvenOutGradRefIdeal.τ Cert.EvenOutGradRefIdeal.sig) → Buf (Elt Ideal) ℓ) (g' : Dev Cert.EvenOutGradRefIdeal.nD → PrngReg), Pre_EvenOutGradIdeal m →
    (∀ c : Dev Cert.EvenOutGradIdeal.nD,
      m' ((c.tc : Thread Cert.EvenOutGradRefIdeal.nD Cert.EvenOutGradRefIdeal.τ).loc Cert.EvenOutGradRefIdeal.main_arg0) = m ((c.tc : Thread Cert.EvenOutGradIdeal.nD Cert.EvenOutGradIdeal.τ).loc Cert.EvenOutGradIdeal.main_arg0)
      ∧ m' ((c.tc : Thread Cert.EvenOutGradRefIdeal.nD Cert.EvenOutGradRefIdeal.τ).loc Cert.EvenOutGradRefIdeal.main_arg1) = m ((c.tc : Thread Cert.EvenOutGradIdeal.nD Cert.EvenOutGradIdeal.τ).loc Cert.EvenOutGradIdeal.main_arg1)) →
    ∃ (v0 : (c : Dev Cert.EvenOutGradIdeal.nD) → Buf (Elt Ideal) ((c.tc : Thread Cert.EvenOutGradIdeal.nD Cert.EvenOutGradIdeal.τ).loc Cert.EvenOutGradIdeal.main_v0_0)) (v1 : (c : Dev Cert.EvenOutGradIdeal.nD) → Buf (Elt Ideal) ((c.tc : Thread Cert.EvenOutGradIdeal.nD Cert.EvenOutGradIdeal.τ).loc Cert.EvenOutGradIdeal.main_v0_1)),
      θ_run (Cert.EvenOutGradIdeal.defs (F := Ideal)) (onTc (τ := Cert.EvenOutGradIdeal.τ) (Cert.EvenOutGradIdeal.main (F := Ideal))) ⟨m, fun _ => 0, g⟩ (fun r => ∀ c : Dev Cert.EvenOutGradIdeal.nD,
          r.2.mem ((c.tc : Thread Cert.EvenOutGradIdeal.nD Cert.EvenOutGradIdeal.τ).loc Cert.EvenOutGradIdeal.main_v0_0) = v0 c
          ∧ r.2.mem ((c.tc : Thread Cert.EvenOutGradIdeal.nD Cert.EvenOutGradIdeal.τ).loc Cert.EvenOutGradIdeal.main_v0_1) = v1 c
          ∧ r.2.mem ((c.tc : Thread Cert.EvenOutGradIdeal.nD Cert.EvenOutGradIdeal.τ).loc Cert.EvenOutGradIdeal.main_arg0) = m ((c.tc : Thread Cert.EvenOutGradIdeal.nD Cert.EvenOutGradIdeal.τ).loc Cert.EvenOutGradIdeal.main_arg0)
          ∧ r.2.mem ((c.tc : Thread Cert.EvenOutGradIdeal.nD Cert.EvenOutGradIdeal.τ).loc Cert.EvenOutGradIdeal.main_arg1) = m ((c.tc : Thread Cert.EvenOutGradIdeal.nD Cert.EvenOutGradIdeal.τ).loc Cert.EvenOutGradIdeal.main_arg1))
      ∧ θ_run (Cert.EvenOutGradRefIdeal.defs (F := Ideal)) (onTc (τ := Cert.EvenOutGradRefIdeal.τ) (Cert.EvenOutGradRefIdeal.main (F := Ideal))) ⟨m', fun _ => 0, g'⟩ (fun r => ∀ c : Dev Cert.EvenOutGradRefIdeal.nD,
          r.2.mem ((c.tc : Thread Cert.EvenOutGradRefIdeal.nD Cert.EvenOutGradRefIdeal.τ).loc Cert.EvenOutGradRefIdeal.main_v6) = v0 c
          ∧ r.2.mem ((c.tc : Thread Cert.EvenOutGradRefIdeal.nD Cert.EvenOutGradRefIdeal.τ).loc Cert.EvenOutGradRefIdeal.main_v8) = v1 c
          ∧ r.2.mem ((c.tc : Thread Cert.EvenOutGradRefIdeal.nD Cert.EvenOutGradRefIdeal.τ).loc Cert.EvenOutGradRefIdeal.main_arg0) = m' ((c.tc : Thread Cert.EvenOutGradRefIdeal.nD Cert.EvenOutGradRefIdeal.τ).loc Cert.EvenOutGradRefIdeal.main_arg0)
          ∧ r.2.mem ((c.tc : Thread Cert.EvenOutGradRefIdeal.nD Cert.EvenOutGradRefIdeal.τ).loc Cert.EvenOutGradRefIdeal.main_arg1) = m' ((c.tc : Thread Cert.EvenOutGradRefIdeal.nD Cert.EvenOutGradRefIdeal.τ).loc Cert.EvenOutGradRefIdeal.main_arg1))

def preserves_OddOutGrad_OddOutGradIdeal : Prop :=
  True

def algebraic_OddOutGradIdeal_OddOutGradRefIdeal [hOddOutGradIdeal : Cert.OddOutGradIdeal.Facts] [hOddOutGradRefIdeal : Cert.OddOutGradRefIdeal.Facts] : Prop :=
  ∀ (m : (ℓ : Loc Cert.OddOutGradIdeal.nD Cert.OddOutGradIdeal.τ Cert.OddOutGradIdeal.sig) → Buf (Elt Ideal) ℓ) (g : Dev Cert.OddOutGradIdeal.nD → PrngReg)
    (m' : (ℓ : Loc Cert.OddOutGradRefIdeal.nD Cert.OddOutGradRefIdeal.τ Cert.OddOutGradRefIdeal.sig) → Buf (Elt Ideal) ℓ) (g' : Dev Cert.OddOutGradRefIdeal.nD → PrngReg), Pre_OddOutGradIdeal m →
    (∀ c : Dev Cert.OddOutGradIdeal.nD,
      m' ((c.tc : Thread Cert.OddOutGradRefIdeal.nD Cert.OddOutGradRefIdeal.τ).loc Cert.OddOutGradRefIdeal.main_arg0) = m ((c.tc : Thread Cert.OddOutGradIdeal.nD Cert.OddOutGradIdeal.τ).loc Cert.OddOutGradIdeal.main_arg0)
      ∧ m' ((c.tc : Thread Cert.OddOutGradRefIdeal.nD Cert.OddOutGradRefIdeal.τ).loc Cert.OddOutGradRefIdeal.main_arg1) = m ((c.tc : Thread Cert.OddOutGradIdeal.nD Cert.OddOutGradIdeal.τ).loc Cert.OddOutGradIdeal.main_arg1)) →
    ∃ (v0 : (c : Dev Cert.OddOutGradIdeal.nD) → Buf (Elt Ideal) ((c.tc : Thread Cert.OddOutGradIdeal.nD Cert.OddOutGradIdeal.τ).loc Cert.OddOutGradIdeal.main_v0_0)) (v1 : (c : Dev Cert.OddOutGradIdeal.nD) → Buf (Elt Ideal) ((c.tc : Thread Cert.OddOutGradIdeal.nD Cert.OddOutGradIdeal.τ).loc Cert.OddOutGradIdeal.main_v0_1)),
      θ_run (Cert.OddOutGradIdeal.defs (F := Ideal)) (onTc (τ := Cert.OddOutGradIdeal.τ) (Cert.OddOutGradIdeal.main (F := Ideal))) ⟨m, fun _ => 0, g⟩ (fun r => ∀ c : Dev Cert.OddOutGradIdeal.nD,
          r.2.mem ((c.tc : Thread Cert.OddOutGradIdeal.nD Cert.OddOutGradIdeal.τ).loc Cert.OddOutGradIdeal.main_v0_0) = v0 c
          ∧ r.2.mem ((c.tc : Thread Cert.OddOutGradIdeal.nD Cert.OddOutGradIdeal.τ).loc Cert.OddOutGradIdeal.main_v0_1) = v1 c
          ∧ r.2.mem ((c.tc : Thread Cert.OddOutGradIdeal.nD Cert.OddOutGradIdeal.τ).loc Cert.OddOutGradIdeal.main_arg0) = m ((c.tc : Thread Cert.OddOutGradIdeal.nD Cert.OddOutGradIdeal.τ).loc Cert.OddOutGradIdeal.main_arg0)
          ∧ r.2.mem ((c.tc : Thread Cert.OddOutGradIdeal.nD Cert.OddOutGradIdeal.τ).loc Cert.OddOutGradIdeal.main_arg1) = m ((c.tc : Thread Cert.OddOutGradIdeal.nD Cert.OddOutGradIdeal.τ).loc Cert.OddOutGradIdeal.main_arg1))
      ∧ θ_run (Cert.OddOutGradRefIdeal.defs (F := Ideal)) (onTc (τ := Cert.OddOutGradRefIdeal.τ) (Cert.OddOutGradRefIdeal.main (F := Ideal))) ⟨m', fun _ => 0, g'⟩ (fun r => ∀ c : Dev Cert.OddOutGradRefIdeal.nD,
          r.2.mem ((c.tc : Thread Cert.OddOutGradRefIdeal.nD Cert.OddOutGradRefIdeal.τ).loc Cert.OddOutGradRefIdeal.main_v6) = v0 c
          ∧ r.2.mem ((c.tc : Thread Cert.OddOutGradRefIdeal.nD Cert.OddOutGradRefIdeal.τ).loc Cert.OddOutGradRefIdeal.main_v8) = v1 c
          ∧ r.2.mem ((c.tc : Thread Cert.OddOutGradRefIdeal.nD Cert.OddOutGradRefIdeal.τ).loc Cert.OddOutGradRefIdeal.main_arg0) = m' ((c.tc : Thread Cert.OddOutGradRefIdeal.nD Cert.OddOutGradRefIdeal.τ).loc Cert.OddOutGradRefIdeal.main_arg0)
          ∧ r.2.mem ((c.tc : Thread Cert.OddOutGradRefIdeal.nD Cert.OddOutGradRefIdeal.τ).loc Cert.OddOutGradRefIdeal.main_arg1) = m' ((c.tc : Thread Cert.OddOutGradRefIdeal.nD Cert.OddOutGradRefIdeal.τ).loc Cert.OddOutGradRefIdeal.main_arg1))

def preserves_EvenOutFwd_EvenOutFwdIdeal : Prop :=
  True

def algebraic_EvenOutFwdIdeal_EvenOutFwdRefIdeal [hEvenOutFwdIdeal : Cert.EvenOutFwdIdeal.Facts] [hEvenOutFwdRefIdeal : Cert.EvenOutFwdRefIdeal.Facts] : Prop :=
  ∀ (m : (ℓ : Loc Cert.EvenOutFwdIdeal.nD Cert.EvenOutFwdIdeal.τ Cert.EvenOutFwdIdeal.sig) → Buf (Elt Ideal) ℓ) (g : Dev Cert.EvenOutFwdIdeal.nD → PrngReg)
    (m' : (ℓ : Loc Cert.EvenOutFwdRefIdeal.nD Cert.EvenOutFwdRefIdeal.τ Cert.EvenOutFwdRefIdeal.sig) → Buf (Elt Ideal) ℓ) (g' : Dev Cert.EvenOutFwdRefIdeal.nD → PrngReg), Pre_EvenOutFwdIdeal m →
    (∀ c : Dev Cert.EvenOutFwdIdeal.nD,
      m' ((c.tc : Thread Cert.EvenOutFwdRefIdeal.nD Cert.EvenOutFwdRefIdeal.τ).loc Cert.EvenOutFwdRefIdeal.main_arg0) = m ((c.tc : Thread Cert.EvenOutFwdIdeal.nD Cert.EvenOutFwdIdeal.τ).loc Cert.EvenOutFwdIdeal.main_arg0)
      ∧ m' ((c.tc : Thread Cert.EvenOutFwdRefIdeal.nD Cert.EvenOutFwdRefIdeal.τ).loc Cert.EvenOutFwdRefIdeal.main_arg1) = m ((c.tc : Thread Cert.EvenOutFwdIdeal.nD Cert.EvenOutFwdIdeal.τ).loc Cert.EvenOutFwdIdeal.main_arg1)
      ∧ m' ((c.tc : Thread Cert.EvenOutFwdRefIdeal.nD Cert.EvenOutFwdRefIdeal.τ).loc Cert.EvenOutFwdRefIdeal.main_arg2) = m ((c.tc : Thread Cert.EvenOutFwdIdeal.nD Cert.EvenOutFwdIdeal.τ).loc Cert.EvenOutFwdIdeal.main_arg2)
      ∧ m' ((c.tc : Thread Cert.EvenOutFwdRefIdeal.nD Cert.EvenOutFwdRefIdeal.τ).loc Cert.EvenOutFwdRefIdeal.main_arg3) = m ((c.tc : Thread Cert.EvenOutFwdIdeal.nD Cert.EvenOutFwdIdeal.τ).loc Cert.EvenOutFwdIdeal.main_arg3)) →
    ∃ (v0 : (c : Dev Cert.EvenOutFwdIdeal.nD) → Buf (Elt Ideal) ((c.tc : Thread Cert.EvenOutFwdIdeal.nD Cert.EvenOutFwdIdeal.τ).loc Cert.EvenOutFwdIdeal.main_v2_0)) (v1 : (c : Dev Cert.EvenOutFwdIdeal.nD) → Buf (Elt Ideal) ((c.tc : Thread Cert.EvenOutFwdIdeal.nD Cert.EvenOutFwdIdeal.τ).loc Cert.EvenOutFwdIdeal.main_v2_1)),
      θ_run (Cert.EvenOutFwdIdeal.defs (F := Ideal)) (onTc (τ := Cert.EvenOutFwdIdeal.τ) (Cert.EvenOutFwdIdeal.main (F := Ideal))) ⟨m, fun _ => 0, g⟩ (fun r => ∀ c : Dev Cert.EvenOutFwdIdeal.nD,
          r.2.mem ((c.tc : Thread Cert.EvenOutFwdIdeal.nD Cert.EvenOutFwdIdeal.τ).loc Cert.EvenOutFwdIdeal.main_v2_0) = v0 c
          ∧ r.2.mem ((c.tc : Thread Cert.EvenOutFwdIdeal.nD Cert.EvenOutFwdIdeal.τ).loc Cert.EvenOutFwdIdeal.main_v2_1) = v1 c
          ∧ r.2.mem ((c.tc : Thread Cert.EvenOutFwdIdeal.nD Cert.EvenOutFwdIdeal.τ).loc Cert.EvenOutFwdIdeal.main_arg0) = m ((c.tc : Thread Cert.EvenOutFwdIdeal.nD Cert.EvenOutFwdIdeal.τ).loc Cert.EvenOutFwdIdeal.main_arg0)
          ∧ r.2.mem ((c.tc : Thread Cert.EvenOutFwdIdeal.nD Cert.EvenOutFwdIdeal.τ).loc Cert.EvenOutFwdIdeal.main_arg1) = m ((c.tc : Thread Cert.EvenOutFwdIdeal.nD Cert.EvenOutFwdIdeal.τ).loc Cert.EvenOutFwdIdeal.main_arg1)
          ∧ r.2.mem ((c.tc : Thread Cert.EvenOutFwdIdeal.nD Cert.EvenOutFwdIdeal.τ).loc Cert.EvenOutFwdIdeal.main_arg2) = m ((c.tc : Thread Cert.EvenOutFwdIdeal.nD Cert.EvenOutFwdIdeal.τ).loc Cert.EvenOutFwdIdeal.main_arg2)
          ∧ r.2.mem ((c.tc : Thread Cert.EvenOutFwdIdeal.nD Cert.EvenOutFwdIdeal.τ).loc Cert.EvenOutFwdIdeal.main_arg3) = m ((c.tc : Thread Cert.EvenOutFwdIdeal.nD Cert.EvenOutFwdIdeal.τ).loc Cert.EvenOutFwdIdeal.main_arg3))
      ∧ θ_run (Cert.EvenOutFwdRefIdeal.defs (F := Ideal)) (onTc (τ := Cert.EvenOutFwdRefIdeal.τ) (Cert.EvenOutFwdRefIdeal.main (F := Ideal))) ⟨m', fun _ => 0, g'⟩ (fun r => ∀ c : Dev Cert.EvenOutFwdRefIdeal.nD,
          r.2.mem ((c.tc : Thread Cert.EvenOutFwdRefIdeal.nD Cert.EvenOutFwdRefIdeal.τ).loc Cert.EvenOutFwdRefIdeal.main_v15) = v0 c
          ∧ r.2.mem ((c.tc : Thread Cert.EvenOutFwdRefIdeal.nD Cert.EvenOutFwdRefIdeal.τ).loc Cert.EvenOutFwdRefIdeal.main_v1) = v1 c
          ∧ r.2.mem ((c.tc : Thread Cert.EvenOutFwdRefIdeal.nD Cert.EvenOutFwdRefIdeal.τ).loc Cert.EvenOutFwdRefIdeal.main_arg0) = m' ((c.tc : Thread Cert.EvenOutFwdRefIdeal.nD Cert.EvenOutFwdRefIdeal.τ).loc Cert.EvenOutFwdRefIdeal.main_arg0)
          ∧ r.2.mem ((c.tc : Thread Cert.EvenOutFwdRefIdeal.nD Cert.EvenOutFwdRefIdeal.τ).loc Cert.EvenOutFwdRefIdeal.main_arg1) = m' ((c.tc : Thread Cert.EvenOutFwdRefIdeal.nD Cert.EvenOutFwdRefIdeal.τ).loc Cert.EvenOutFwdRefIdeal.main_arg1)
          ∧ r.2.mem ((c.tc : Thread Cert.EvenOutFwdRefIdeal.nD Cert.EvenOutFwdRefIdeal.τ).loc Cert.EvenOutFwdRefIdeal.main_arg2) = m' ((c.tc : Thread Cert.EvenOutFwdRefIdeal.nD Cert.EvenOutFwdRefIdeal.τ).loc Cert.EvenOutFwdRefIdeal.main_arg2)
          ∧ r.2.mem ((c.tc : Thread Cert.EvenOutFwdRefIdeal.nD Cert.EvenOutFwdRefIdeal.τ).loc Cert.EvenOutFwdRefIdeal.main_arg3) = m' ((c.tc : Thread Cert.EvenOutFwdRefIdeal.nD Cert.EvenOutFwdRefIdeal.τ).loc Cert.EvenOutFwdRefIdeal.main_arg3))

def preserves_OddInFwd_OddInFwdIdeal : Prop :=
  True

def algebraic_OddInFwdIdeal_OddInFwdRefIdeal [hOddInFwdIdeal : Cert.OddInFwdIdeal.Facts] [hOddInFwdRefIdeal : Cert.OddInFwdRefIdeal.Facts] : Prop :=
  ∀ (m : (ℓ : Loc Cert.OddInFwdIdeal.nD Cert.OddInFwdIdeal.τ Cert.OddInFwdIdeal.sig) → Buf (Elt Ideal) ℓ) (g : Dev Cert.OddInFwdIdeal.nD → PrngReg)
    (m' : (ℓ : Loc Cert.OddInFwdRefIdeal.nD Cert.OddInFwdRefIdeal.τ Cert.OddInFwdRefIdeal.sig) → Buf (Elt Ideal) ℓ) (g' : Dev Cert.OddInFwdRefIdeal.nD → PrngReg), Pre_OddInFwdIdeal m →
    (∀ c : Dev Cert.OddInFwdIdeal.nD,
      m' ((c.tc : Thread Cert.OddInFwdRefIdeal.nD Cert.OddInFwdRefIdeal.τ).loc Cert.OddInFwdRefIdeal.main_arg0) = m ((c.tc : Thread Cert.OddInFwdIdeal.nD Cert.OddInFwdIdeal.τ).loc Cert.OddInFwdIdeal.main_arg0)
      ∧ m' ((c.tc : Thread Cert.OddInFwdRefIdeal.nD Cert.OddInFwdRefIdeal.τ).loc Cert.OddInFwdRefIdeal.main_arg1) = m ((c.tc : Thread Cert.OddInFwdIdeal.nD Cert.OddInFwdIdeal.τ).loc Cert.OddInFwdIdeal.main_arg1)
      ∧ m' ((c.tc : Thread Cert.OddInFwdRefIdeal.nD Cert.OddInFwdRefIdeal.τ).loc Cert.OddInFwdRefIdeal.main_arg2) = m ((c.tc : Thread Cert.OddInFwdIdeal.nD Cert.OddInFwdIdeal.τ).loc Cert.OddInFwdIdeal.main_arg2)) →
    ∃ (v0 : (c : Dev Cert.OddInFwdIdeal.nD) → Buf (Elt Ideal) ((c.tc : Thread Cert.OddInFwdIdeal.nD Cert.OddInFwdIdeal.τ).loc Cert.OddInFwdIdeal.main_v4_0)) (v1 : (c : Dev Cert.OddInFwdIdeal.nD) → Buf (Elt Ideal) ((c.tc : Thread Cert.OddInFwdIdeal.nD Cert.OddInFwdIdeal.τ).loc Cert.OddInFwdIdeal.main_v4_1)),
      θ_run (Cert.OddInFwdIdeal.defs (F := Ideal)) (onTc (τ := Cert.OddInFwdIdeal.τ) (Cert.OddInFwdIdeal.main (F := Ideal))) ⟨m, fun _ => 0, g⟩ (fun r => ∀ c : Dev Cert.OddInFwdIdeal.nD,
          r.2.mem ((c.tc : Thread Cert.OddInFwdIdeal.nD Cert.OddInFwdIdeal.τ).loc Cert.OddInFwdIdeal.main_v4_0) = v0 c
          ∧ r.2.mem ((c.tc : Thread Cert.OddInFwdIdeal.nD Cert.OddInFwdIdeal.τ).loc Cert.OddInFwdIdeal.main_v4_1) = v1 c
          ∧ r.2.mem ((c.tc : Thread Cert.OddInFwdIdeal.nD Cert.OddInFwdIdeal.τ).loc Cert.OddInFwdIdeal.main_arg0) = m ((c.tc : Thread Cert.OddInFwdIdeal.nD Cert.OddInFwdIdeal.τ).loc Cert.OddInFwdIdeal.main_arg0)
          ∧ r.2.mem ((c.tc : Thread Cert.OddInFwdIdeal.nD Cert.OddInFwdIdeal.τ).loc Cert.OddInFwdIdeal.main_arg1) = m ((c.tc : Thread Cert.OddInFwdIdeal.nD Cert.OddInFwdIdeal.τ).loc Cert.OddInFwdIdeal.main_arg1)
          ∧ r.2.mem ((c.tc : Thread Cert.OddInFwdIdeal.nD Cert.OddInFwdIdeal.τ).loc Cert.OddInFwdIdeal.main_arg2) = m ((c.tc : Thread Cert.OddInFwdIdeal.nD Cert.OddInFwdIdeal.τ).loc Cert.OddInFwdIdeal.main_arg2))
      ∧ θ_run (Cert.OddInFwdRefIdeal.defs (F := Ideal)) (onTc (τ := Cert.OddInFwdRefIdeal.τ) (Cert.OddInFwdRefIdeal.main (F := Ideal))) ⟨m', fun _ => 0, g'⟩ (fun r => ∀ c : Dev Cert.OddInFwdRefIdeal.nD,
          r.2.mem ((c.tc : Thread Cert.OddInFwdRefIdeal.nD Cert.OddInFwdRefIdeal.τ).loc Cert.OddInFwdRefIdeal.main_v14) = v0 c
          ∧ r.2.mem ((c.tc : Thread Cert.OddInFwdRefIdeal.nD Cert.OddInFwdRefIdeal.τ).loc Cert.OddInFwdRefIdeal.main_v15) = v1 c
          ∧ r.2.mem ((c.tc : Thread Cert.OddInFwdRefIdeal.nD Cert.OddInFwdRefIdeal.τ).loc Cert.OddInFwdRefIdeal.main_arg0) = m' ((c.tc : Thread Cert.OddInFwdRefIdeal.nD Cert.OddInFwdRefIdeal.τ).loc Cert.OddInFwdRefIdeal.main_arg0)
          ∧ r.2.mem ((c.tc : Thread Cert.OddInFwdRefIdeal.nD Cert.OddInFwdRefIdeal.τ).loc Cert.OddInFwdRefIdeal.main_arg1) = m' ((c.tc : Thread Cert.OddInFwdRefIdeal.nD Cert.OddInFwdRefIdeal.τ).loc Cert.OddInFwdRefIdeal.main_arg1)
          ∧ r.2.mem ((c.tc : Thread Cert.OddInFwdRefIdeal.nD Cert.OddInFwdRefIdeal.τ).loc Cert.OddInFwdRefIdeal.main_arg2) = m' ((c.tc : Thread Cert.OddInFwdRefIdeal.nD Cert.OddInFwdRefIdeal.τ).loc Cert.OddInFwdRefIdeal.main_arg2))

def preserves_OddOutFwd_OddOutFwdIdeal : Prop :=
  True

def algebraic_OddOutFwdIdeal_OddOutFwdRefIdeal_pre_odd_out_fwd_finite [hOddOutFwdIdeal : Cert.OddOutFwdIdeal.Facts] [hOddOutFwdRefIdeal : Cert.OddOutFwdRefIdeal.Facts] [hPre_odd_out_fwd_finite : Cert.Pre_odd_out_fwd_finite.Facts] : Prop :=
  ∀ (m : (ℓ : Loc Cert.OddOutFwdIdeal.nD Cert.OddOutFwdIdeal.τ Cert.OddOutFwdIdeal.sig) → Buf (Elt Ideal) ℓ) (g : Dev Cert.OddOutFwdIdeal.nD → PrngReg)
    (m' : (ℓ : Loc Cert.OddOutFwdRefIdeal.nD Cert.OddOutFwdRefIdeal.τ Cert.OddOutFwdRefIdeal.sig) → Buf (Elt Ideal) ℓ) (g' : Dev Cert.OddOutFwdRefIdeal.nD → PrngReg), Pre_OddOutFwdIdeal_odd_out_fwd_finite m →
    (∀ c : Dev Cert.OddOutFwdIdeal.nD,
      m' ((c.tc : Thread Cert.OddOutFwdRefIdeal.nD Cert.OddOutFwdRefIdeal.τ).loc Cert.OddOutFwdRefIdeal.main_arg0) = m ((c.tc : Thread Cert.OddOutFwdIdeal.nD Cert.OddOutFwdIdeal.τ).loc Cert.OddOutFwdIdeal.main_arg0)
      ∧ m' ((c.tc : Thread Cert.OddOutFwdRefIdeal.nD Cert.OddOutFwdRefIdeal.τ).loc Cert.OddOutFwdRefIdeal.main_arg1) = m ((c.tc : Thread Cert.OddOutFwdIdeal.nD Cert.OddOutFwdIdeal.τ).loc Cert.OddOutFwdIdeal.main_arg1)
      ∧ m' ((c.tc : Thread Cert.OddOutFwdRefIdeal.nD Cert.OddOutFwdRefIdeal.τ).loc Cert.OddOutFwdRefIdeal.main_arg2) = m ((c.tc : Thread Cert.OddOutFwdIdeal.nD Cert.OddOutFwdIdeal.τ).loc Cert.OddOutFwdIdeal.main_arg2)
      ∧ m' ((c.tc : Thread Cert.OddOutFwdRefIdeal.nD Cert.OddOutFwdRefIdeal.τ).loc Cert.OddOutFwdRefIdeal.main_arg3) = m ((c.tc : Thread Cert.OddOutFwdIdeal.nD Cert.OddOutFwdIdeal.τ).loc Cert.OddOutFwdIdeal.main_arg3)
      ∧ m' ((c.tc : Thread Cert.OddOutFwdRefIdeal.nD Cert.OddOutFwdRefIdeal.τ).loc Cert.OddOutFwdRefIdeal.main_arg4) = m ((c.tc : Thread Cert.OddOutFwdIdeal.nD Cert.OddOutFwdIdeal.τ).loc Cert.OddOutFwdIdeal.main_arg4)
      ∧ m' ((c.tc : Thread Cert.OddOutFwdRefIdeal.nD Cert.OddOutFwdRefIdeal.τ).loc Cert.OddOutFwdRefIdeal.main_arg5) = m ((c.tc : Thread Cert.OddOutFwdIdeal.nD Cert.OddOutFwdIdeal.τ).loc Cert.OddOutFwdIdeal.main_arg5)
      ∧ m' ((c.tc : Thread Cert.OddOutFwdRefIdeal.nD Cert.OddOutFwdRefIdeal.τ).loc Cert.OddOutFwdRefIdeal.main_arg6) = m ((c.tc : Thread Cert.OddOutFwdIdeal.nD Cert.OddOutFwdIdeal.τ).loc Cert.OddOutFwdIdeal.main_arg6)) →
    ∃ (v0 : (c : Dev Cert.OddOutFwdIdeal.nD) → Buf (Elt Ideal) ((c.tc : Thread Cert.OddOutFwdIdeal.nD Cert.OddOutFwdIdeal.τ).loc Cert.OddOutFwdIdeal.main_v3_0)) (v1 : (c : Dev Cert.OddOutFwdIdeal.nD) → Buf (Elt Ideal) ((c.tc : Thread Cert.OddOutFwdIdeal.nD Cert.OddOutFwdIdeal.τ).loc Cert.OddOutFwdIdeal.main_v3_1)) (v2 : (c : Dev Cert.OddOutFwdIdeal.nD) → Buf (Elt Ideal) ((c.tc : Thread Cert.OddOutFwdIdeal.nD Cert.OddOutFwdIdeal.τ).loc Cert.OddOutFwdIdeal.main_v3_2)) (v3 : (c : Dev Cert.OddOutFwdIdeal.nD) → Buf (Elt Ideal) ((c.tc : Thread Cert.OddOutFwdIdeal.nD Cert.OddOutFwdIdeal.τ).loc Cert.OddOutFwdIdeal.main_v3_3)) (v4 : (c : Dev Cert.OddOutFwdIdeal.nD) → Buf (Elt Ideal) ((c.tc : Thread Cert.OddOutFwdIdeal.nD Cert.OddOutFwdIdeal.τ).loc Cert.OddOutFwdIdeal.main_v3_4)),
      θ_run (Cert.OddOutFwdIdeal.defs (F := Ideal)) (onTc (τ := Cert.OddOutFwdIdeal.τ) (Cert.OddOutFwdIdeal.main (F := Ideal))) ⟨m, fun _ => 0, g⟩ (fun r => ∀ c : Dev Cert.OddOutFwdIdeal.nD,
          r.2.mem ((c.tc : Thread Cert.OddOutFwdIdeal.nD Cert.OddOutFwdIdeal.τ).loc Cert.OddOutFwdIdeal.main_v3_0) = v0 c
          ∧ r.2.mem ((c.tc : Thread Cert.OddOutFwdIdeal.nD Cert.OddOutFwdIdeal.τ).loc Cert.OddOutFwdIdeal.main_v3_1) = v1 c
          ∧ r.2.mem ((c.tc : Thread Cert.OddOutFwdIdeal.nD Cert.OddOutFwdIdeal.τ).loc Cert.OddOutFwdIdeal.main_v3_2) = v2 c
          ∧ r.2.mem ((c.tc : Thread Cert.OddOutFwdIdeal.nD Cert.OddOutFwdIdeal.τ).loc Cert.OddOutFwdIdeal.main_v3_3) = v3 c
          ∧ r.2.mem ((c.tc : Thread Cert.OddOutFwdIdeal.nD Cert.OddOutFwdIdeal.τ).loc Cert.OddOutFwdIdeal.main_v3_4) = v4 c
          ∧ r.2.mem ((c.tc : Thread Cert.OddOutFwdIdeal.nD Cert.OddOutFwdIdeal.τ).loc Cert.OddOutFwdIdeal.main_arg0) = m ((c.tc : Thread Cert.OddOutFwdIdeal.nD Cert.OddOutFwdIdeal.τ).loc Cert.OddOutFwdIdeal.main_arg0)
          ∧ r.2.mem ((c.tc : Thread Cert.OddOutFwdIdeal.nD Cert.OddOutFwdIdeal.τ).loc Cert.OddOutFwdIdeal.main_arg1) = m ((c.tc : Thread Cert.OddOutFwdIdeal.nD Cert.OddOutFwdIdeal.τ).loc Cert.OddOutFwdIdeal.main_arg1)
          ∧ r.2.mem ((c.tc : Thread Cert.OddOutFwdIdeal.nD Cert.OddOutFwdIdeal.τ).loc Cert.OddOutFwdIdeal.main_arg2) = m ((c.tc : Thread Cert.OddOutFwdIdeal.nD Cert.OddOutFwdIdeal.τ).loc Cert.OddOutFwdIdeal.main_arg2)
          ∧ r.2.mem ((c.tc : Thread Cert.OddOutFwdIdeal.nD Cert.OddOutFwdIdeal.τ).loc Cert.OddOutFwdIdeal.main_arg3) = m ((c.tc : Thread Cert.OddOutFwdIdeal.nD Cert.OddOutFwdIdeal.τ).loc Cert.OddOutFwdIdeal.main_arg3)
          ∧ r.2.mem ((c.tc : Thread Cert.OddOutFwdIdeal.nD Cert.OddOutFwdIdeal.τ).loc Cert.OddOutFwdIdeal.main_arg4) = m ((c.tc : Thread Cert.OddOutFwdIdeal.nD Cert.OddOutFwdIdeal.τ).loc Cert.OddOutFwdIdeal.main_arg4)
          ∧ r.2.mem ((c.tc : Thread Cert.OddOutFwdIdeal.nD Cert.OddOutFwdIdeal.τ).loc Cert.OddOutFwdIdeal.main_arg5) = m ((c.tc : Thread Cert.OddOutFwdIdeal.nD Cert.OddOutFwdIdeal.τ).loc Cert.OddOutFwdIdeal.main_arg5)
          ∧ r.2.mem ((c.tc : Thread Cert.OddOutFwdIdeal.nD Cert.OddOutFwdIdeal.τ).loc Cert.OddOutFwdIdeal.main_arg6) = m ((c.tc : Thread Cert.OddOutFwdIdeal.nD Cert.OddOutFwdIdeal.τ).loc Cert.OddOutFwdIdeal.main_arg6))
      ∧ θ_run (Cert.OddOutFwdRefIdeal.defs (F := Ideal)) (onTc (τ := Cert.OddOutFwdRefIdeal.τ) (Cert.OddOutFwdRefIdeal.main (F := Ideal))) ⟨m', fun _ => 0, g'⟩ (fun r => ∀ c : Dev Cert.OddOutFwdRefIdeal.nD,
          r.2.mem ((c.tc : Thread Cert.OddOutFwdRefIdeal.nD Cert.OddOutFwdRefIdeal.τ).loc Cert.OddOutFwdRefIdeal.main_v71) = v0 c
          ∧ r.2.mem ((c.tc : Thread Cert.OddOutFwdRefIdeal.nD Cert.OddOutFwdRefIdeal.τ).loc Cert.OddOutFwdRefIdeal.main_v72) = v1 c
          ∧ r.2.mem ((c.tc : Thread Cert.OddOutFwdRefIdeal.nD Cert.OddOutFwdRefIdeal.τ).loc Cert.OddOutFwdRefIdeal.main_v50) = v2 c
          ∧ r.2.mem ((c.tc : Thread Cert.OddOutFwdRefIdeal.nD Cert.OddOutFwdRefIdeal.τ).loc Cert.OddOutFwdRefIdeal.main_v73) = v3 c
          ∧ r.2.mem ((c.tc : Thread Cert.OddOutFwdRefIdeal.nD Cert.OddOutFwdRefIdeal.τ).loc Cert.OddOutFwdRefIdeal.main_v74) = v4 c
          ∧ r.2.mem ((c.tc : Thread Cert.OddOutFwdRefIdeal.nD Cert.OddOutFwdRefIdeal.τ).loc Cert.OddOutFwdRefIdeal.main_arg0) = m' ((c.tc : Thread Cert.OddOutFwdRefIdeal.nD Cert.OddOutFwdRefIdeal.τ).loc Cert.OddOutFwdRefIdeal.main_arg0)
          ∧ r.2.mem ((c.tc : Thread Cert.OddOutFwdRefIdeal.nD Cert.OddOutFwdRefIdeal.τ).loc Cert.OddOutFwdRefIdeal.main_arg1) = m' ((c.tc : Thread Cert.OddOutFwdRefIdeal.nD Cert.OddOutFwdRefIdeal.τ).loc Cert.OddOutFwdRefIdeal.main_arg1)
          ∧ r.2.mem ((c.tc : Thread Cert.OddOutFwdRefIdeal.nD Cert.OddOutFwdRefIdeal.τ).loc Cert.OddOutFwdRefIdeal.main_arg2) = m' ((c.tc : Thread Cert.OddOutFwdRefIdeal.nD Cert.OddOutFwdRefIdeal.τ).loc Cert.OddOutFwdRefIdeal.main_arg2)
          ∧ r.2.mem ((c.tc : Thread Cert.OddOutFwdRefIdeal.nD Cert.OddOutFwdRefIdeal.τ).loc Cert.OddOutFwdRefIdeal.main_arg3) = m' ((c.tc : Thread Cert.OddOutFwdRefIdeal.nD Cert.OddOutFwdRefIdeal.τ).loc Cert.OddOutFwdRefIdeal.main_arg3)
          ∧ r.2.mem ((c.tc : Thread Cert.OddOutFwdRefIdeal.nD Cert.OddOutFwdRefIdeal.τ).loc Cert.OddOutFwdRefIdeal.main_arg4) = m' ((c.tc : Thread Cert.OddOutFwdRefIdeal.nD Cert.OddOutFwdRefIdeal.τ).loc Cert.OddOutFwdRefIdeal.main_arg4)
          ∧ r.2.mem ((c.tc : Thread Cert.OddOutFwdRefIdeal.nD Cert.OddOutFwdRefIdeal.τ).loc Cert.OddOutFwdRefIdeal.main_arg5) = m' ((c.tc : Thread Cert.OddOutFwdRefIdeal.nD Cert.OddOutFwdRefIdeal.τ).loc Cert.OddOutFwdRefIdeal.main_arg5)
          ∧ r.2.mem ((c.tc : Thread Cert.OddOutFwdRefIdeal.nD Cert.OddOutFwdRefIdeal.τ).loc Cert.OddOutFwdRefIdeal.main_arg6) = m' ((c.tc : Thread Cert.OddOutFwdRefIdeal.nD Cert.OddOutFwdRefIdeal.τ).loc Cert.OddOutFwdRefIdeal.main_arg6))

def preserves_GateRankBwd_GateRankBwdIdeal : Prop :=
  True

def algebraic_GateRankBwdIdeal_GateRankBwdRefIdeal [hGateRankBwdIdeal : Cert.GateRankBwdIdeal.Facts] [hGateRankBwdRefIdeal : Cert.GateRankBwdRefIdeal.Facts] : Prop :=
  ∀ (m : (ℓ : Loc Cert.GateRankBwdIdeal.nD Cert.GateRankBwdIdeal.τ Cert.GateRankBwdIdeal.sig) → Buf (Elt Ideal) ℓ) (g : Dev Cert.GateRankBwdIdeal.nD → PrngReg)
    (m' : (ℓ : Loc Cert.GateRankBwdRefIdeal.nD Cert.GateRankBwdRefIdeal.τ Cert.GateRankBwdRefIdeal.sig) → Buf (Elt Ideal) ℓ) (g' : Dev Cert.GateRankBwdRefIdeal.nD → PrngReg), Pre_GateRankBwdIdeal m →
    (∀ c : Dev Cert.GateRankBwdIdeal.nD,
      m' ((c.tc : Thread Cert.GateRankBwdRefIdeal.nD Cert.GateRankBwdRefIdeal.τ).loc Cert.GateRankBwdRefIdeal.main_arg0) = m ((c.tc : Thread Cert.GateRankBwdIdeal.nD Cert.GateRankBwdIdeal.τ).loc Cert.GateRankBwdIdeal.main_arg0)
      ∧ m' ((c.tc : Thread Cert.GateRankBwdRefIdeal.nD Cert.GateRankBwdRefIdeal.τ).loc Cert.GateRankBwdRefIdeal.main_arg1) = m ((c.tc : Thread Cert.GateRankBwdIdeal.nD Cert.GateRankBwdIdeal.τ).loc Cert.GateRankBwdIdeal.main_arg1)
      ∧ m' ((c.tc : Thread Cert.GateRankBwdRefIdeal.nD Cert.GateRankBwdRefIdeal.τ).loc Cert.GateRankBwdRefIdeal.main_arg2) = m ((c.tc : Thread Cert.GateRankBwdIdeal.nD Cert.GateRankBwdIdeal.τ).loc Cert.GateRankBwdIdeal.main_arg2)
      ∧ m' ((c.tc : Thread Cert.GateRankBwdRefIdeal.nD Cert.GateRankBwdRefIdeal.τ).loc Cert.GateRankBwdRefIdeal.main_arg3) = m ((c.tc : Thread Cert.GateRankBwdIdeal.nD Cert.GateRankBwdIdeal.τ).loc Cert.GateRankBwdIdeal.main_arg3)) →
    ∃ (v0 : (c : Dev Cert.GateRankBwdIdeal.nD) → Buf (Elt Ideal) ((c.tc : Thread Cert.GateRankBwdIdeal.nD Cert.GateRankBwdIdeal.τ).loc Cert.GateRankBwdIdeal.main_v10_0)) (v1 : (c : Dev Cert.GateRankBwdIdeal.nD) → Buf (Elt Ideal) ((c.tc : Thread Cert.GateRankBwdIdeal.nD Cert.GateRankBwdIdeal.τ).loc Cert.GateRankBwdIdeal.main_v10_1)) (v2 : (c : Dev Cert.GateRankBwdIdeal.nD) → Buf (Elt Ideal) ((c.tc : Thread Cert.GateRankBwdIdeal.nD Cert.GateRankBwdIdeal.τ).loc Cert.GateRankBwdIdeal.main_v10_2)),
      θ_run (Cert.GateRankBwdIdeal.defs (F := Ideal)) (onTc (τ := Cert.GateRankBwdIdeal.τ) (Cert.GateRankBwdIdeal.main (F := Ideal))) ⟨m, fun _ => 0, g⟩ (fun r => ∀ c : Dev Cert.GateRankBwdIdeal.nD,
          r.2.mem ((c.tc : Thread Cert.GateRankBwdIdeal.nD Cert.GateRankBwdIdeal.τ).loc Cert.GateRankBwdIdeal.main_v10_0) = v0 c
          ∧ r.2.mem ((c.tc : Thread Cert.GateRankBwdIdeal.nD Cert.GateRankBwdIdeal.τ).loc Cert.GateRankBwdIdeal.main_v10_1) = v1 c
          ∧ r.2.mem ((c.tc : Thread Cert.GateRankBwdIdeal.nD Cert.GateRankBwdIdeal.τ).loc Cert.GateRankBwdIdeal.main_v10_2) = v2 c
          ∧ r.2.mem ((c.tc : Thread Cert.GateRankBwdIdeal.nD Cert.GateRankBwdIdeal.τ).loc Cert.GateRankBwdIdeal.main_arg0) = m ((c.tc : Thread Cert.GateRankBwdIdeal.nD Cert.GateRankBwdIdeal.τ).loc Cert.GateRankBwdIdeal.main_arg0)
          ∧ r.2.mem ((c.tc : Thread Cert.GateRankBwdIdeal.nD Cert.GateRankBwdIdeal.τ).loc Cert.GateRankBwdIdeal.main_arg1) = m ((c.tc : Thread Cert.GateRankBwdIdeal.nD Cert.GateRankBwdIdeal.τ).loc Cert.GateRankBwdIdeal.main_arg1)
          ∧ r.2.mem ((c.tc : Thread Cert.GateRankBwdIdeal.nD Cert.GateRankBwdIdeal.τ).loc Cert.GateRankBwdIdeal.main_arg2) = m ((c.tc : Thread Cert.GateRankBwdIdeal.nD Cert.GateRankBwdIdeal.τ).loc Cert.GateRankBwdIdeal.main_arg2)
          ∧ r.2.mem ((c.tc : Thread Cert.GateRankBwdIdeal.nD Cert.GateRankBwdIdeal.τ).loc Cert.GateRankBwdIdeal.main_arg3) = m ((c.tc : Thread Cert.GateRankBwdIdeal.nD Cert.GateRankBwdIdeal.τ).loc Cert.GateRankBwdIdeal.main_arg3))
      ∧ θ_run (Cert.GateRankBwdRefIdeal.defs (F := Ideal)) (onTc (τ := Cert.GateRankBwdRefIdeal.τ) (Cert.GateRankBwdRefIdeal.main (F := Ideal))) ⟨m', fun _ => 0, g'⟩ (fun r => ∀ c : Dev Cert.GateRankBwdRefIdeal.nD,
          r.2.mem ((c.tc : Thread Cert.GateRankBwdRefIdeal.nD Cert.GateRankBwdRefIdeal.τ).loc Cert.GateRankBwdRefIdeal.main_v19) = v0 c
          ∧ r.2.mem ((c.tc : Thread Cert.GateRankBwdRefIdeal.nD Cert.GateRankBwdRefIdeal.τ).loc Cert.GateRankBwdRefIdeal.main_v14) = v1 c
          ∧ r.2.mem ((c.tc : Thread Cert.GateRankBwdRefIdeal.nD Cert.GateRankBwdRefIdeal.τ).loc Cert.GateRankBwdRefIdeal.main_v12) = v2 c
          ∧ r.2.mem ((c.tc : Thread Cert.GateRankBwdRefIdeal.nD Cert.GateRankBwdRefIdeal.τ).loc Cert.GateRankBwdRefIdeal.main_arg0) = m' ((c.tc : Thread Cert.GateRankBwdRefIdeal.nD Cert.GateRankBwdRefIdeal.τ).loc Cert.GateRankBwdRefIdeal.main_arg0)
          ∧ r.2.mem ((c.tc : Thread Cert.GateRankBwdRefIdeal.nD Cert.GateRankBwdRefIdeal.τ).loc Cert.GateRankBwdRefIdeal.main_arg1) = m' ((c.tc : Thread Cert.GateRankBwdRefIdeal.nD Cert.GateRankBwdRefIdeal.τ).loc Cert.GateRankBwdRefIdeal.main_arg1)
          ∧ r.2.mem ((c.tc : Thread Cert.GateRankBwdRefIdeal.nD Cert.GateRankBwdRefIdeal.τ).loc Cert.GateRankBwdRefIdeal.main_arg2) = m' ((c.tc : Thread Cert.GateRankBwdRefIdeal.nD Cert.GateRankBwdRefIdeal.τ).loc Cert.GateRankBwdRefIdeal.main_arg2)
          ∧ r.2.mem ((c.tc : Thread Cert.GateRankBwdRefIdeal.nD Cert.GateRankBwdRefIdeal.τ).loc Cert.GateRankBwdRefIdeal.main_arg3) = m' ((c.tc : Thread Cert.GateRankBwdRefIdeal.nD Cert.GateRankBwdRefIdeal.τ).loc Cert.GateRankBwdRefIdeal.main_arg3))

def preserves_EvenMixFwd_EvenMixFwdIdeal : Prop :=
  True

def algebraic_EvenMixFwdIdeal_EvenMixFwdRefIdeal [hEvenMixFwdIdeal : Cert.EvenMixFwdIdeal.Facts] [hEvenMixFwdRefIdeal : Cert.EvenMixFwdRefIdeal.Facts] : Prop :=
  ∀ (m : (ℓ : Loc Cert.EvenMixFwdIdeal.nD Cert.EvenMixFwdIdeal.τ Cert.EvenMixFwdIdeal.sig) → Buf (Elt Ideal) ℓ) (g : Dev Cert.EvenMixFwdIdeal.nD → PrngReg)
    (m' : (ℓ : Loc Cert.EvenMixFwdRefIdeal.nD Cert.EvenMixFwdRefIdeal.τ Cert.EvenMixFwdRefIdeal.sig) → Buf (Elt Ideal) ℓ) (g' : Dev Cert.EvenMixFwdRefIdeal.nD → PrngReg), Pre_EvenMixFwdIdeal m →
    (∀ c : Dev Cert.EvenMixFwdIdeal.nD,
      m' ((c.tc : Thread Cert.EvenMixFwdRefIdeal.nD Cert.EvenMixFwdRefIdeal.τ).loc Cert.EvenMixFwdRefIdeal.main_arg0) = m ((c.tc : Thread Cert.EvenMixFwdIdeal.nD Cert.EvenMixFwdIdeal.τ).loc Cert.EvenMixFwdIdeal.main_arg0)
      ∧ m' ((c.tc : Thread Cert.EvenMixFwdRefIdeal.nD Cert.EvenMixFwdRefIdeal.τ).loc Cert.EvenMixFwdRefIdeal.main_arg1) = m ((c.tc : Thread Cert.EvenMixFwdIdeal.nD Cert.EvenMixFwdIdeal.τ).loc Cert.EvenMixFwdIdeal.main_arg1)
      ∧ m' ((c.tc : Thread Cert.EvenMixFwdRefIdeal.nD Cert.EvenMixFwdRefIdeal.τ).loc Cert.EvenMixFwdRefIdeal.main_arg2) = m ((c.tc : Thread Cert.EvenMixFwdIdeal.nD Cert.EvenMixFwdIdeal.τ).loc Cert.EvenMixFwdIdeal.main_arg2)
      ∧ m' ((c.tc : Thread Cert.EvenMixFwdRefIdeal.nD Cert.EvenMixFwdRefIdeal.τ).loc Cert.EvenMixFwdRefIdeal.main_arg3) = m ((c.tc : Thread Cert.EvenMixFwdIdeal.nD Cert.EvenMixFwdIdeal.τ).loc Cert.EvenMixFwdIdeal.main_arg3)) →
    ∃ (v0 : (c : Dev Cert.EvenMixFwdIdeal.nD) → Buf (Elt Ideal) ((c.tc : Thread Cert.EvenMixFwdIdeal.nD Cert.EvenMixFwdIdeal.τ).loc Cert.EvenMixFwdIdeal.main_v0)),
      θ_run (Cert.EvenMixFwdIdeal.defs (F := Ideal)) (onTc (τ := Cert.EvenMixFwdIdeal.τ) (Cert.EvenMixFwdIdeal.main (F := Ideal))) ⟨m, fun _ => 0, g⟩ (fun r => ∀ c : Dev Cert.EvenMixFwdIdeal.nD,
          r.2.mem ((c.tc : Thread Cert.EvenMixFwdIdeal.nD Cert.EvenMixFwdIdeal.τ).loc Cert.EvenMixFwdIdeal.main_v0) = v0 c
          ∧ r.2.mem ((c.tc : Thread Cert.EvenMixFwdIdeal.nD Cert.EvenMixFwdIdeal.τ).loc Cert.EvenMixFwdIdeal.main_arg0) = m ((c.tc : Thread Cert.EvenMixFwdIdeal.nD Cert.EvenMixFwdIdeal.τ).loc Cert.EvenMixFwdIdeal.main_arg0)
          ∧ r.2.mem ((c.tc : Thread Cert.EvenMixFwdIdeal.nD Cert.EvenMixFwdIdeal.τ).loc Cert.EvenMixFwdIdeal.main_arg1) = m ((c.tc : Thread Cert.EvenMixFwdIdeal.nD Cert.EvenMixFwdIdeal.τ).loc Cert.EvenMixFwdIdeal.main_arg1)
          ∧ r.2.mem ((c.tc : Thread Cert.EvenMixFwdIdeal.nD Cert.EvenMixFwdIdeal.τ).loc Cert.EvenMixFwdIdeal.main_arg2) = m ((c.tc : Thread Cert.EvenMixFwdIdeal.nD Cert.EvenMixFwdIdeal.τ).loc Cert.EvenMixFwdIdeal.main_arg2)
          ∧ r.2.mem ((c.tc : Thread Cert.EvenMixFwdIdeal.nD Cert.EvenMixFwdIdeal.τ).loc Cert.EvenMixFwdIdeal.main_arg3) = m ((c.tc : Thread Cert.EvenMixFwdIdeal.nD Cert.EvenMixFwdIdeal.τ).loc Cert.EvenMixFwdIdeal.main_arg3))
      ∧ θ_run (Cert.EvenMixFwdRefIdeal.defs (F := Ideal)) (onTc (τ := Cert.EvenMixFwdRefIdeal.τ) (Cert.EvenMixFwdRefIdeal.main (F := Ideal))) ⟨m', fun _ => 0, g'⟩ (fun r => ∀ c : Dev Cert.EvenMixFwdRefIdeal.nD,
          r.2.mem ((c.tc : Thread Cert.EvenMixFwdRefIdeal.nD Cert.EvenMixFwdRefIdeal.τ).loc Cert.EvenMixFwdRefIdeal.main_v38) = v0 c
          ∧ r.2.mem ((c.tc : Thread Cert.EvenMixFwdRefIdeal.nD Cert.EvenMixFwdRefIdeal.τ).loc Cert.EvenMixFwdRefIdeal.main_arg0) = m' ((c.tc : Thread Cert.EvenMixFwdRefIdeal.nD Cert.EvenMixFwdRefIdeal.τ).loc Cert.EvenMixFwdRefIdeal.main_arg0)
          ∧ r.2.mem ((c.tc : Thread Cert.EvenMixFwdRefIdeal.nD Cert.EvenMixFwdRefIdeal.τ).loc Cert.EvenMixFwdRefIdeal.main_arg1) = m' ((c.tc : Thread Cert.EvenMixFwdRefIdeal.nD Cert.EvenMixFwdRefIdeal.τ).loc Cert.EvenMixFwdRefIdeal.main_arg1)
          ∧ r.2.mem ((c.tc : Thread Cert.EvenMixFwdRefIdeal.nD Cert.EvenMixFwdRefIdeal.τ).loc Cert.EvenMixFwdRefIdeal.main_arg2) = m' ((c.tc : Thread Cert.EvenMixFwdRefIdeal.nD Cert.EvenMixFwdRefIdeal.τ).loc Cert.EvenMixFwdRefIdeal.main_arg2)
          ∧ r.2.mem ((c.tc : Thread Cert.EvenMixFwdRefIdeal.nD Cert.EvenMixFwdRefIdeal.τ).loc Cert.EvenMixFwdRefIdeal.main_arg3) = m' ((c.tc : Thread Cert.EvenMixFwdRefIdeal.nD Cert.EvenMixFwdRefIdeal.τ).loc Cert.EvenMixFwdRefIdeal.main_arg3))

def preserves_EvenMixBwd_EvenMixBwdIdeal : Prop :=
  True

def algebraic_EvenMixBwdIdeal_EvenMixBwdRefIdeal_pre_even_mix_bwd_finite [hEvenMixBwdIdeal : Cert.EvenMixBwdIdeal.Facts] [hEvenMixBwdRefIdeal : Cert.EvenMixBwdRefIdeal.Facts] [hPre_even_mix_bwd_finite : Cert.Pre_even_mix_bwd_finite.Facts] : Prop :=
  ∀ (m : (ℓ : Loc Cert.EvenMixBwdIdeal.nD Cert.EvenMixBwdIdeal.τ Cert.EvenMixBwdIdeal.sig) → Buf (Elt Ideal) ℓ) (g : Dev Cert.EvenMixBwdIdeal.nD → PrngReg)
    (m' : (ℓ : Loc Cert.EvenMixBwdRefIdeal.nD Cert.EvenMixBwdRefIdeal.τ Cert.EvenMixBwdRefIdeal.sig) → Buf (Elt Ideal) ℓ) (g' : Dev Cert.EvenMixBwdRefIdeal.nD → PrngReg), Pre_EvenMixBwdIdeal_even_mix_bwd_finite m →
    (∀ c : Dev Cert.EvenMixBwdIdeal.nD,
      m' ((c.tc : Thread Cert.EvenMixBwdRefIdeal.nD Cert.EvenMixBwdRefIdeal.τ).loc Cert.EvenMixBwdRefIdeal.main_arg0) = m ((c.tc : Thread Cert.EvenMixBwdIdeal.nD Cert.EvenMixBwdIdeal.τ).loc Cert.EvenMixBwdIdeal.main_arg0)
      ∧ m' ((c.tc : Thread Cert.EvenMixBwdRefIdeal.nD Cert.EvenMixBwdRefIdeal.τ).loc Cert.EvenMixBwdRefIdeal.main_arg1) = m ((c.tc : Thread Cert.EvenMixBwdIdeal.nD Cert.EvenMixBwdIdeal.τ).loc Cert.EvenMixBwdIdeal.main_arg1)
      ∧ m' ((c.tc : Thread Cert.EvenMixBwdRefIdeal.nD Cert.EvenMixBwdRefIdeal.τ).loc Cert.EvenMixBwdRefIdeal.main_arg2) = m ((c.tc : Thread Cert.EvenMixBwdIdeal.nD Cert.EvenMixBwdIdeal.τ).loc Cert.EvenMixBwdIdeal.main_arg2)
      ∧ m' ((c.tc : Thread Cert.EvenMixBwdRefIdeal.nD Cert.EvenMixBwdRefIdeal.τ).loc Cert.EvenMixBwdRefIdeal.main_arg3) = m ((c.tc : Thread Cert.EvenMixBwdIdeal.nD Cert.EvenMixBwdIdeal.τ).loc Cert.EvenMixBwdIdeal.main_arg3)
      ∧ m' ((c.tc : Thread Cert.EvenMixBwdRefIdeal.nD Cert.EvenMixBwdRefIdeal.τ).loc Cert.EvenMixBwdRefIdeal.main_arg4) = m ((c.tc : Thread Cert.EvenMixBwdIdeal.nD Cert.EvenMixBwdIdeal.τ).loc Cert.EvenMixBwdIdeal.main_arg4)
      ∧ m' ((c.tc : Thread Cert.EvenMixBwdRefIdeal.nD Cert.EvenMixBwdRefIdeal.τ).loc Cert.EvenMixBwdRefIdeal.main_arg5) = m ((c.tc : Thread Cert.EvenMixBwdIdeal.nD Cert.EvenMixBwdIdeal.τ).loc Cert.EvenMixBwdIdeal.main_arg5)
      ∧ m' ((c.tc : Thread Cert.EvenMixBwdRefIdeal.nD Cert.EvenMixBwdRefIdeal.τ).loc Cert.EvenMixBwdRefIdeal.main_arg6) = m ((c.tc : Thread Cert.EvenMixBwdIdeal.nD Cert.EvenMixBwdIdeal.τ).loc Cert.EvenMixBwdIdeal.main_arg6)) →
    ∃ (v0 : (c : Dev Cert.EvenMixBwdIdeal.nD) → Buf (Elt Ideal) ((c.tc : Thread Cert.EvenMixBwdIdeal.nD Cert.EvenMixBwdIdeal.τ).loc Cert.EvenMixBwdIdeal.main_v0_0)) (v1 : (c : Dev Cert.EvenMixBwdIdeal.nD) → Buf (Elt Ideal) ((c.tc : Thread Cert.EvenMixBwdIdeal.nD Cert.EvenMixBwdIdeal.τ).loc Cert.EvenMixBwdIdeal.main_v0_1)) (v2 : (c : Dev Cert.EvenMixBwdIdeal.nD) → Buf (Elt Ideal) ((c.tc : Thread Cert.EvenMixBwdIdeal.nD Cert.EvenMixBwdIdeal.τ).loc Cert.EvenMixBwdIdeal.main_v0_2)) (v3 : (c : Dev Cert.EvenMixBwdIdeal.nD) → Buf (Elt Ideal) ((c.tc : Thread Cert.EvenMixBwdIdeal.nD Cert.EvenMixBwdIdeal.τ).loc Cert.EvenMixBwdIdeal.main_v0_3)),
      θ_run (Cert.EvenMixBwdIdeal.defs (F := Ideal)) (onTc (τ := Cert.EvenMixBwdIdeal.τ) (Cert.EvenMixBwdIdeal.main (F := Ideal))) ⟨m, fun _ => 0, g⟩ (fun r => ∀ c : Dev Cert.EvenMixBwdIdeal.nD,
          r.2.mem ((c.tc : Thread Cert.EvenMixBwdIdeal.nD Cert.EvenMixBwdIdeal.τ).loc Cert.EvenMixBwdIdeal.main_v0_0) = v0 c
          ∧ r.2.mem ((c.tc : Thread Cert.EvenMixBwdIdeal.nD Cert.EvenMixBwdIdeal.τ).loc Cert.EvenMixBwdIdeal.main_v0_1) = v1 c
          ∧ r.2.mem ((c.tc : Thread Cert.EvenMixBwdIdeal.nD Cert.EvenMixBwdIdeal.τ).loc Cert.EvenMixBwdIdeal.main_v0_2) = v2 c
          ∧ r.2.mem ((c.tc : Thread Cert.EvenMixBwdIdeal.nD Cert.EvenMixBwdIdeal.τ).loc Cert.EvenMixBwdIdeal.main_v0_3) = v3 c
          ∧ r.2.mem ((c.tc : Thread Cert.EvenMixBwdIdeal.nD Cert.EvenMixBwdIdeal.τ).loc Cert.EvenMixBwdIdeal.main_arg0) = m ((c.tc : Thread Cert.EvenMixBwdIdeal.nD Cert.EvenMixBwdIdeal.τ).loc Cert.EvenMixBwdIdeal.main_arg0)
          ∧ r.2.mem ((c.tc : Thread Cert.EvenMixBwdIdeal.nD Cert.EvenMixBwdIdeal.τ).loc Cert.EvenMixBwdIdeal.main_arg1) = m ((c.tc : Thread Cert.EvenMixBwdIdeal.nD Cert.EvenMixBwdIdeal.τ).loc Cert.EvenMixBwdIdeal.main_arg1)
          ∧ r.2.mem ((c.tc : Thread Cert.EvenMixBwdIdeal.nD Cert.EvenMixBwdIdeal.τ).loc Cert.EvenMixBwdIdeal.main_arg2) = m ((c.tc : Thread Cert.EvenMixBwdIdeal.nD Cert.EvenMixBwdIdeal.τ).loc Cert.EvenMixBwdIdeal.main_arg2)
          ∧ r.2.mem ((c.tc : Thread Cert.EvenMixBwdIdeal.nD Cert.EvenMixBwdIdeal.τ).loc Cert.EvenMixBwdIdeal.main_arg3) = m ((c.tc : Thread Cert.EvenMixBwdIdeal.nD Cert.EvenMixBwdIdeal.τ).loc Cert.EvenMixBwdIdeal.main_arg3)
          ∧ r.2.mem ((c.tc : Thread Cert.EvenMixBwdIdeal.nD Cert.EvenMixBwdIdeal.τ).loc Cert.EvenMixBwdIdeal.main_arg4) = m ((c.tc : Thread Cert.EvenMixBwdIdeal.nD Cert.EvenMixBwdIdeal.τ).loc Cert.EvenMixBwdIdeal.main_arg4)
          ∧ r.2.mem ((c.tc : Thread Cert.EvenMixBwdIdeal.nD Cert.EvenMixBwdIdeal.τ).loc Cert.EvenMixBwdIdeal.main_arg5) = m ((c.tc : Thread Cert.EvenMixBwdIdeal.nD Cert.EvenMixBwdIdeal.τ).loc Cert.EvenMixBwdIdeal.main_arg5)
          ∧ r.2.mem ((c.tc : Thread Cert.EvenMixBwdIdeal.nD Cert.EvenMixBwdIdeal.τ).loc Cert.EvenMixBwdIdeal.main_arg6) = m ((c.tc : Thread Cert.EvenMixBwdIdeal.nD Cert.EvenMixBwdIdeal.τ).loc Cert.EvenMixBwdIdeal.main_arg6))
      ∧ θ_run (Cert.EvenMixBwdRefIdeal.defs (F := Ideal)) (onTc (τ := Cert.EvenMixBwdRefIdeal.τ) (Cert.EvenMixBwdRefIdeal.main (F := Ideal))) ⟨m', fun _ => 0, g'⟩ (fun r => ∀ c : Dev Cert.EvenMixBwdRefIdeal.nD,
          r.2.mem ((c.tc : Thread Cert.EvenMixBwdRefIdeal.nD Cert.EvenMixBwdRefIdeal.τ).loc Cert.EvenMixBwdRefIdeal.main_v171) = v0 c
          ∧ r.2.mem ((c.tc : Thread Cert.EvenMixBwdRefIdeal.nD Cert.EvenMixBwdRefIdeal.τ).loc Cert.EvenMixBwdRefIdeal.main_v164) = v1 c
          ∧ r.2.mem ((c.tc : Thread Cert.EvenMixBwdRefIdeal.nD Cert.EvenMixBwdRefIdeal.τ).loc Cert.EvenMixBwdRefIdeal.main_v172) = v2 c
          ∧ r.2.mem ((c.tc : Thread Cert.EvenMixBwdRefIdeal.nD Cert.EvenMixBwdRefIdeal.τ).loc Cert.EvenMixBwdRefIdeal.main_v111) = v3 c
          ∧ r.2.mem ((c.tc : Thread Cert.EvenMixBwdRefIdeal.nD Cert.EvenMixBwdRefIdeal.τ).loc Cert.EvenMixBwdRefIdeal.main_arg0) = m' ((c.tc : Thread Cert.EvenMixBwdRefIdeal.nD Cert.EvenMixBwdRefIdeal.τ).loc Cert.EvenMixBwdRefIdeal.main_arg0)
          ∧ r.2.mem ((c.tc : Thread Cert.EvenMixBwdRefIdeal.nD Cert.EvenMixBwdRefIdeal.τ).loc Cert.EvenMixBwdRefIdeal.main_arg1) = m' ((c.tc : Thread Cert.EvenMixBwdRefIdeal.nD Cert.EvenMixBwdRefIdeal.τ).loc Cert.EvenMixBwdRefIdeal.main_arg1)
          ∧ r.2.mem ((c.tc : Thread Cert.EvenMixBwdRefIdeal.nD Cert.EvenMixBwdRefIdeal.τ).loc Cert.EvenMixBwdRefIdeal.main_arg2) = m' ((c.tc : Thread Cert.EvenMixBwdRefIdeal.nD Cert.EvenMixBwdRefIdeal.τ).loc Cert.EvenMixBwdRefIdeal.main_arg2)
          ∧ r.2.mem ((c.tc : Thread Cert.EvenMixBwdRefIdeal.nD Cert.EvenMixBwdRefIdeal.τ).loc Cert.EvenMixBwdRefIdeal.main_arg3) = m' ((c.tc : Thread Cert.EvenMixBwdRefIdeal.nD Cert.EvenMixBwdRefIdeal.τ).loc Cert.EvenMixBwdRefIdeal.main_arg3)
          ∧ r.2.mem ((c.tc : Thread Cert.EvenMixBwdRefIdeal.nD Cert.EvenMixBwdRefIdeal.τ).loc Cert.EvenMixBwdRefIdeal.main_arg4) = m' ((c.tc : Thread Cert.EvenMixBwdRefIdeal.nD Cert.EvenMixBwdRefIdeal.τ).loc Cert.EvenMixBwdRefIdeal.main_arg4)
          ∧ r.2.mem ((c.tc : Thread Cert.EvenMixBwdRefIdeal.nD Cert.EvenMixBwdRefIdeal.τ).loc Cert.EvenMixBwdRefIdeal.main_arg5) = m' ((c.tc : Thread Cert.EvenMixBwdRefIdeal.nD Cert.EvenMixBwdRefIdeal.τ).loc Cert.EvenMixBwdRefIdeal.main_arg5)
          ∧ r.2.mem ((c.tc : Thread Cert.EvenMixBwdRefIdeal.nD Cert.EvenMixBwdRefIdeal.τ).loc Cert.EvenMixBwdRefIdeal.main_arg6) = m' ((c.tc : Thread Cert.EvenMixBwdRefIdeal.nD Cert.EvenMixBwdRefIdeal.τ).loc Cert.EvenMixBwdRefIdeal.main_arg6))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v3_0)) (v1 : (c : Dev Cert.AdamGateIdeal.nD) → Buf (Elt Ideal) ((c.tc : Thread Cert.AdamGateIdeal.nD Cert.AdamGateIdeal.τ).loc Cert.AdamGateIdeal.main_v3_1)) (v2 : (c : Dev Cert.AdamGateIdeal.nD) → Buf (Elt Ideal) ((c.tc : Thread Cert.AdamGateIdeal.nD Cert.AdamGateIdeal.τ).loc Cert.AdamGateIdeal.main_v3_2)) (v3 : (c : Dev Cert.AdamGateIdeal.nD) → Buf (Elt Ideal) ((c.tc : Thread Cert.AdamGateIdeal.nD Cert.AdamGateIdeal.τ).loc Cert.AdamGateIdeal.main_v3_3)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v3_0) = v0 c
          ∧ r.2.mem ((c.tc : Thread Cert.AdamGateIdeal.nD Cert.AdamGateIdeal.τ).loc Cert.AdamGateIdeal.main_v3_1) = v1 c
          ∧ r.2.mem ((c.tc : Thread Cert.AdamGateIdeal.nD Cert.AdamGateIdeal.τ).loc Cert.AdamGateIdeal.main_v3_2) = v2 c
          ∧ r.2.mem ((c.tc : Thread Cert.AdamGateIdeal.nD Cert.AdamGateIdeal.τ).loc Cert.AdamGateIdeal.main_v3_3) = v3 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_arg1) = v0 c
          ∧ r.2.mem ((c.tc : Thread Cert.AdamGateRefIdeal.nD Cert.AdamGateRefIdeal.τ).loc Cert.AdamGateRefIdeal.main_v26) = v1 c
          ∧ r.2.mem ((c.tc : Thread Cert.AdamGateRefIdeal.nD Cert.AdamGateRefIdeal.τ).loc Cert.AdamGateRefIdeal.main_v7) = v2 c
          ∧ r.2.mem ((c.tc : Thread Cert.AdamGateRefIdeal.nD Cert.AdamGateRefIdeal.τ).loc Cert.AdamGateRefIdeal.main_v13) = v3 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def Claim : Prop :=
  ∃ (hEvenInBwd : Cert.EvenInBwd.Facts) (hEvenInBwdIdeal : Cert.EvenInBwdIdeal.Facts) (hEvenInBwdRefIdeal : Cert.EvenInBwdRefIdeal.Facts) (hEvenInGrad : Cert.EvenInGrad.Facts) (hEvenInGradIdeal : Cert.EvenInGradIdeal.Facts) (hEvenInGradRefIdeal : Cert.EvenInGradRefIdeal.Facts) (hEvenInFwd : Cert.EvenInFwd.Facts) (hEvenInFwdIdeal : Cert.EvenInFwdIdeal.Facts) (hEvenInFwdRefIdeal : Cert.EvenInFwdRefIdeal.Facts) (hOddOutBwd : Cert.OddOutBwd.Facts) (hOddOutBwdIdeal : Cert.OddOutBwdIdeal.Facts) (hOddOutBwdRefIdeal : Cert.OddOutBwdRefIdeal.Facts) (hEvenOutBwd : Cert.EvenOutBwd.Facts) (hEvenOutBwdIdeal : Cert.EvenOutBwdIdeal.Facts) (hEvenOutBwdRefIdeal : Cert.EvenOutBwdRefIdeal.Facts) (hOddInBwd : Cert.OddInBwd.Facts) (hOddInBwdIdeal : Cert.OddInBwdIdeal.Facts) (hOddInBwdRefIdeal : Cert.OddInBwdRefIdeal.Facts) (hOddInGrad : Cert.OddInGrad.Facts) (hOddInGradIdeal : Cert.OddInGradIdeal.Facts) (hOddInGradRefIdeal : Cert.OddInGradRefIdeal.Facts) (hEvenOutGrad : Cert.EvenOutGrad.Facts) (hEvenOutGradIdeal : Cert.EvenOutGradIdeal.Facts) (hEvenOutGradRefIdeal : Cert.EvenOutGradRefIdeal.Facts) (hOddOutGrad : Cert.OddOutGrad.Facts) (hOddOutGradIdeal : Cert.OddOutGradIdeal.Facts) (hOddOutGradRefIdeal : Cert.OddOutGradRefIdeal.Facts) (hEvenOutFwd : Cert.EvenOutFwd.Facts) (hEvenOutFwdIdeal : Cert.EvenOutFwdIdeal.Facts) (hEvenOutFwdRefIdeal : Cert.EvenOutFwdRefIdeal.Facts) (hOddInFwd : Cert.OddInFwd.Facts) (hOddInFwdIdeal : Cert.OddInFwdIdeal.Facts) (hOddInFwdRefIdeal : Cert.OddInFwdRefIdeal.Facts) (hOddOutFwd : Cert.OddOutFwd.Facts) (hOddOutFwdIdeal : Cert.OddOutFwdIdeal.Facts) (hOddOutFwdRefIdeal : Cert.OddOutFwdRefIdeal.Facts) (hGateRankBwd : Cert.GateRankBwd.Facts) (hGateRankBwdIdeal : Cert.GateRankBwdIdeal.Facts) (hGateRankBwdRefIdeal : Cert.GateRankBwdRefIdeal.Facts) (hEvenMixFwd : Cert.EvenMixFwd.Facts) (hEvenMixFwdIdeal : Cert.EvenMixFwdIdeal.Facts) (hEvenMixFwdRefIdeal : Cert.EvenMixFwdRefIdeal.Facts) (hEvenMixBwd : Cert.EvenMixBwd.Facts) (hEvenMixBwdIdeal : Cert.EvenMixBwdIdeal.Facts) (hEvenMixBwdRefIdeal : Cert.EvenMixBwdRefIdeal.Facts) (hAdamGate : Cert.AdamGate.Facts) (hAdamGateIdeal : Cert.AdamGateIdeal.Facts) (hAdamGateRefIdeal : Cert.AdamGateRefIdeal.Facts) (hPre_even_in_bwd_finite : Cert.Pre_even_in_bwd_finite.Facts) (hPre_odd_out_bwd_finite : Cert.Pre_odd_out_bwd_finite.Facts) (hPre_even_out_bwd_finite : Cert.Pre_even_out_bwd_finite.Facts) (hPre_odd_in_bwd_finite : Cert.Pre_odd_in_bwd_finite.Facts) (hPre_odd_out_fwd_finite : Cert.Pre_odd_out_fwd_finite.Facts) (hPre_even_mix_bwd_finite : Cert.Pre_even_mix_bwd_finite.Facts),
    quiescent_EvenInBwd (hEvenInBwd := hEvenInBwd)
    ∧ quiescent_EvenInBwdIdeal (hEvenInBwdIdeal := hEvenInBwdIdeal)
    ∧ quiescent_EvenInBwdIdeal_pre_even_in_bwd_finite (hEvenInBwdIdeal := hEvenInBwdIdeal) (hPre_even_in_bwd_finite := hPre_even_in_bwd_finite)
    ∧ quiescent_EvenInBwdRefIdeal (hEvenInBwdRefIdeal := hEvenInBwdRefIdeal)
    ∧ quiescent_EvenInBwdRefIdeal_pre_even_in_bwd_finite (hEvenInBwdRefIdeal := hEvenInBwdRefIdeal) (hPre_even_in_bwd_finite := hPre_even_in_bwd_finite)
    ∧ quiescent_EvenInGrad (hEvenInGrad := hEvenInGrad)
    ∧ quiescent_EvenInGradIdeal (hEvenInGradIdeal := hEvenInGradIdeal)
    ∧ quiescent_EvenInGradRefIdeal (hEvenInGradRefIdeal := hEvenInGradRefIdeal)
    ∧ quiescent_EvenInFwd (hEvenInFwd := hEvenInFwd)
    ∧ quiescent_EvenInFwdIdeal (hEvenInFwdIdeal := hEvenInFwdIdeal)
    ∧ quiescent_EvenInFwdRefIdeal (hEvenInFwdRefIdeal := hEvenInFwdRefIdeal)
    ∧ quiescent_OddOutBwd (hOddOutBwd := hOddOutBwd)
    ∧ quiescent_OddOutBwdIdeal (hOddOutBwdIdeal := hOddOutBwdIdeal)
    ∧ quiescent_OddOutBwdIdeal_pre_odd_out_bwd_finite (hOddOutBwdIdeal := hOddOutBwdIdeal) (hPre_odd_out_bwd_finite := hPre_odd_out_bwd_finite)
    ∧ quiescent_OddOutBwdRefIdeal (hOddOutBwdRefIdeal := hOddOutBwdRefIdeal)
    ∧ quiescent_OddOutBwdRefIdeal_pre_odd_out_bwd_finite (hOddOutBwdRefIdeal := hOddOutBwdRefIdeal) (hPre_odd_out_bwd_finite := hPre_odd_out_bwd_finite)
    ∧ quiescent_EvenOutBwd (hEvenOutBwd := hEvenOutBwd)
    ∧ quiescent_EvenOutBwdIdeal (hEvenOutBwdIdeal := hEvenOutBwdIdeal)
    ∧ quiescent_EvenOutBwdIdeal_pre_even_out_bwd_finite (hEvenOutBwdIdeal := hEvenOutBwdIdeal) (hPre_even_out_bwd_finite := hPre_even_out_bwd_finite)
    ∧ quiescent_EvenOutBwdRefIdeal (hEvenOutBwdRefIdeal := hEvenOutBwdRefIdeal)
    ∧ quiescent_EvenOutBwdRefIdeal_pre_even_out_bwd_finite (hEvenOutBwdRefIdeal := hEvenOutBwdRefIdeal) (hPre_even_out_bwd_finite := hPre_even_out_bwd_finite)
    ∧ quiescent_OddInBwd (hOddInBwd := hOddInBwd)
    ∧ quiescent_OddInBwdIdeal (hOddInBwdIdeal := hOddInBwdIdeal)
    ∧ quiescent_OddInBwdIdeal_pre_odd_in_bwd_finite (hOddInBwdIdeal := hOddInBwdIdeal) (hPre_odd_in_bwd_finite := hPre_odd_in_bwd_finite)
    ∧ quiescent_OddInBwdRefIdeal (hOddInBwdRefIdeal := hOddInBwdRefIdeal)
    ∧ quiescent_OddInBwdRefIdeal_pre_odd_in_bwd_finite (hOddInBwdRefIdeal := hOddInBwdRefIdeal) (hPre_odd_in_bwd_finite := hPre_odd_in_bwd_finite)
    ∧ quiescent_OddInGrad (hOddInGrad := hOddInGrad)
    ∧ quiescent_OddInGradIdeal (hOddInGradIdeal := hOddInGradIdeal)
    ∧ quiescent_OddInGradRefIdeal (hOddInGradRefIdeal := hOddInGradRefIdeal)
    ∧ quiescent_EvenOutGrad (hEvenOutGrad := hEvenOutGrad)
    ∧ quiescent_EvenOutGradIdeal (hEvenOutGradIdeal := hEvenOutGradIdeal)
    ∧ quiescent_EvenOutGradRefIdeal (hEvenOutGradRefIdeal := hEvenOutGradRefIdeal)
    ∧ quiescent_OddOutGrad (hOddOutGrad := hOddOutGrad)
    ∧ quiescent_OddOutGradIdeal (hOddOutGradIdeal := hOddOutGradIdeal)
    ∧ quiescent_OddOutGradRefIdeal (hOddOutGradRefIdeal := hOddOutGradRefIdeal)
    ∧ quiescent_EvenOutFwd (hEvenOutFwd := hEvenOutFwd)
    ∧ quiescent_EvenOutFwdIdeal (hEvenOutFwdIdeal := hEvenOutFwdIdeal)
    ∧ quiescent_EvenOutFwdRefIdeal (hEvenOutFwdRefIdeal := hEvenOutFwdRefIdeal)
    ∧ quiescent_OddInFwd (hOddInFwd := hOddInFwd)
    ∧ quiescent_OddInFwdIdeal (hOddInFwdIdeal := hOddInFwdIdeal)
    ∧ quiescent_OddInFwdRefIdeal (hOddInFwdRefIdeal := hOddInFwdRefIdeal)
    ∧ quiescent_OddOutFwd (hOddOutFwd := hOddOutFwd)
    ∧ quiescent_OddOutFwdIdeal (hOddOutFwdIdeal := hOddOutFwdIdeal)
    ∧ quiescent_OddOutFwdIdeal_pre_odd_out_fwd_finite (hOddOutFwdIdeal := hOddOutFwdIdeal) (hPre_odd_out_fwd_finite := hPre_odd_out_fwd_finite)
    ∧ quiescent_OddOutFwdRefIdeal (hOddOutFwdRefIdeal := hOddOutFwdRefIdeal)
    ∧ quiescent_OddOutFwdRefIdeal_pre_odd_out_fwd_finite (hOddOutFwdRefIdeal := hOddOutFwdRefIdeal) (hPre_odd_out_fwd_finite := hPre_odd_out_fwd_finite)
    ∧ quiescent_GateRankBwd (hGateRankBwd := hGateRankBwd)
    ∧ quiescent_GateRankBwdIdeal (hGateRankBwdIdeal := hGateRankBwdIdeal)
    ∧ quiescent_GateRankBwdRefIdeal (hGateRankBwdRefIdeal := hGateRankBwdRefIdeal)
    ∧ quiescent_EvenMixFwd (hEvenMixFwd := hEvenMixFwd)
    ∧ quiescent_EvenMixFwdIdeal (hEvenMixFwdIdeal := hEvenMixFwdIdeal)
    ∧ quiescent_EvenMixFwdRefIdeal (hEvenMixFwdRefIdeal := hEvenMixFwdRefIdeal)
    ∧ quiescent_EvenMixBwd (hEvenMixBwd := hEvenMixBwd)
    ∧ quiescent_EvenMixBwdIdeal (hEvenMixBwdIdeal := hEvenMixBwdIdeal)
    ∧ quiescent_EvenMixBwdIdeal_pre_even_mix_bwd_finite (hEvenMixBwdIdeal := hEvenMixBwdIdeal) (hPre_even_mix_bwd_finite := hPre_even_mix_bwd_finite)
    ∧ quiescent_EvenMixBwdRefIdeal (hEvenMixBwdRefIdeal := hEvenMixBwdRefIdeal)
    ∧ quiescent_EvenMixBwdRefIdeal_pre_even_mix_bwd_finite (hEvenMixBwdRefIdeal := hEvenMixBwdRefIdeal) (hPre_even_mix_bwd_finite := hPre_even_mix_bwd_finite)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ preserves_EvenInBwd_EvenInBwdIdeal
    ∧ algebraic_EvenInBwdIdeal_EvenInBwdRefIdeal_pre_even_in_bwd_finite (hEvenInBwdIdeal := hEvenInBwdIdeal) (hEvenInBwdRefIdeal := hEvenInBwdRefIdeal) (hPre_even_in_bwd_finite := hPre_even_in_bwd_finite)
    ∧ preserves_EvenInGrad_EvenInGradIdeal
    ∧ algebraic_EvenInGradIdeal_EvenInGradRefIdeal (hEvenInGradIdeal := hEvenInGradIdeal) (hEvenInGradRefIdeal := hEvenInGradRefIdeal)
    ∧ preserves_EvenInFwd_EvenInFwdIdeal
    ∧ algebraic_EvenInFwdIdeal_EvenInFwdRefIdeal (hEvenInFwdIdeal := hEvenInFwdIdeal) (hEvenInFwdRefIdeal := hEvenInFwdRefIdeal)
    ∧ preserves_OddOutBwd_OddOutBwdIdeal
    ∧ algebraic_OddOutBwdIdeal_OddOutBwdRefIdeal_pre_odd_out_bwd_finite (hOddOutBwdIdeal := hOddOutBwdIdeal) (hOddOutBwdRefIdeal := hOddOutBwdRefIdeal) (hPre_odd_out_bwd_finite := hPre_odd_out_bwd_finite)
    ∧ preserves_EvenOutBwd_EvenOutBwdIdeal
    ∧ algebraic_EvenOutBwdIdeal_EvenOutBwdRefIdeal_pre_even_out_bwd_finite (hEvenOutBwdIdeal := hEvenOutBwdIdeal) (hEvenOutBwdRefIdeal := hEvenOutBwdRefIdeal) (hPre_even_out_bwd_finite := hPre_even_out_bwd_finite)
    ∧ preserves_OddInBwd_OddInBwdIdeal
    ∧ algebraic_OddInBwdIdeal_OddInBwdRefIdeal_pre_odd_in_bwd_finite (hOddInBwdIdeal := hOddInBwdIdeal) (hOddInBwdRefIdeal := hOddInBwdRefIdeal) (hPre_odd_in_bwd_finite := hPre_odd_in_bwd_finite)
    ∧ preserves_OddInGrad_OddInGradIdeal
    ∧ algebraic_OddInGradIdeal_OddInGradRefIdeal (hOddInGradIdeal := hOddInGradIdeal) (hOddInGradRefIdeal := hOddInGradRefIdeal)
    ∧ preserves_EvenOutGrad_EvenOutGradIdeal
    ∧ algebraic_EvenOutGradIdeal_EvenOutGradRefIdeal (hEvenOutGradIdeal := hEvenOutGradIdeal) (hEvenOutGradRefIdeal := hEvenOutGradRefIdeal)
    ∧ preserves_OddOutGrad_OddOutGradIdeal
    ∧ algebraic_OddOutGradIdeal_OddOutGradRefIdeal (hOddOutGradIdeal := hOddOutGradIdeal) (hOddOutGradRefIdeal := hOddOutGradRefIdeal)
    ∧ preserves_EvenOutFwd_EvenOutFwdIdeal
    ∧ algebraic_EvenOutFwdIdeal_EvenOutFwdRefIdeal (hEvenOutFwdIdeal := hEvenOutFwdIdeal) (hEvenOutFwdRefIdeal := hEvenOutFwdRefIdeal)
    ∧ preserves_OddInFwd_OddInFwdIdeal
    ∧ algebraic_OddInFwdIdeal_OddInFwdRefIdeal (hOddInFwdIdeal := hOddInFwdIdeal) (hOddInFwdRefIdeal := hOddInFwdRefIdeal)
    ∧ preserves_OddOutFwd_OddOutFwdIdeal
    ∧ algebraic_OddOutFwdIdeal_OddOutFwdRefIdeal_pre_odd_out_fwd_finite (hOddOutFwdIdeal := hOddOutFwdIdeal) (hOddOutFwdRefIdeal := hOddOutFwdRefIdeal) (hPre_odd_out_fwd_finite := hPre_odd_out_fwd_finite)
    ∧ preserves_GateRankBwd_GateRankBwdIdeal
    ∧ algebraic_GateRankBwdIdeal_GateRankBwdRefIdeal (hGateRankBwdIdeal := hGateRankBwdIdeal) (hGateRankBwdRefIdeal := hGateRankBwdRefIdeal)
    ∧ preserves_EvenMixFwd_EvenMixFwdIdeal
    ∧ algebraic_EvenMixFwdIdeal_EvenMixFwdRefIdeal (hEvenMixFwdIdeal := hEvenMixFwdIdeal) (hEvenMixFwdRefIdeal := hEvenMixFwdRefIdeal)
    ∧ preserves_EvenMixBwd_EvenMixBwdIdeal
    ∧ algebraic_EvenMixBwdIdeal_EvenMixBwdRefIdeal_pre_even_mix_bwd_finite (hEvenMixBwdIdeal := hEvenMixBwdIdeal) (hEvenMixBwdRefIdeal := hEvenMixBwdRefIdeal) (hPre_even_mix_bwd_finite := hPre_even_mix_bwd_finite)
    ∧ preserves_AdamGate_AdamGateIdeal
    ∧ algebraic_AdamGateIdeal_AdamGateRefIdeal (hAdamGateIdeal := hAdamGateIdeal) (hAdamGateRefIdeal := hAdamGateRefIdeal)
-- ==== Pre_even_in_bwd_finite.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  bcast_S_S1024x6144 : S_.BroadcastsInDim S1024x6144 (![] : Fin 0 → Fin S1024x6144.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x6144 .bf16) (main_arg1 : FVec F S1024x6144 .f32) (main_arg2 : FVec F S4096x1024 .f32) (main_arg3 : FVec F S1024 .f32) (main_arg4 : FVec F S4096x1024 .f32) : IVec S4096x6144 1 × IVec S1024x6144 1 × IVec S4096x1024 1 × IVec S1024 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  (main_v3, main_v6, main_v9, main_v12)
-- ==== Pre_even_mix_bwd_finite.lean ====
abbrev S4096x6144 : Shape := ⟨2, ![4096, 6144]⟩
abbrev S4096x2048 : Shape := ⟨2, ![4096, 2048]⟩
abbrev S4096x1024 : Shape := ⟨2, ![4096, 1024]⟩
abbrev S4x1024 : Shape := ⟨2, ![4, 1024]⟩
abbrev S3x1024 : Shape := ⟨2, ![3, 1024]⟩
abbrev S4096x3072 : Shape := ⟨2, ![4096, 3072]⟩
abbrev S_ : Shape := ⟨0, ![]⟩

class Facts : Prop where
  slices_S4096x6144_S4096x3072_0_2048 : S4096x6144.Slices ![0, 2048] S4096x3072
  bitsLt_bf16_f32 : FTy.bits .bf16 < FTy.bits .f32
  bcast_S_S4096x3072 : S_.BroadcastsInDim S4096x3072 (![] : Fin 0 → Fin S4096x3072.rank)
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S3x1024 : S_.BroadcastsInDim S3x1024 (![] : Fin 0 → Fin S3x1024.rank)

variable [Facts]

def fn {F : FTy → Type} [FloatOps F] (main_arg0 : FVec F S4096x6144 .bf16) (main_arg1 : FVec F S4096x2048 .f32) (main_arg2 : FVec F S4096x1024 .f32) (main_arg3 : FVec F S4096x1024 .f32) (main_arg4 : FVec F S4096x1024 .f32) (main_arg5 : FVec F S4x1024 .f32) (main_arg6 : FVec F S3x1024 .f32) : IVec S4096x3072 1 × IVec S4096x2048 1 × IVec S4096x1024 1 × IVec S4096x1024 1 × IVec S3x1024 1 :=
  let main_v0 : FVec F S4096x3072 .bf16 := (extractStridedSlice S4096x3072 ![0, 2048] · slices_S4096x6144_S4096x3072_0_2048) main_arg0
  let main_v1 : FVec F S4096x3072 .f32 := (extf .f32 · bitsLt_bf16_f32) main_v0
  let main_v2 : FVec F S4096x3072 .f32 := Host.absf main_v1
  let main_cst : FVec F S_ .f32 := constant S_ .f32 0x7F800000#32
  let main_v3 : FVec F S4096x3072 .f32 := broadcastInDim S4096x3072 ![] bcast_S_S4096x3072 main_cst
  let main_v4 : IVec S4096x3072 1 := cmpf .olt main_v2 main_v3
  let main_v5 : FVec F S4096x2048 .f32 := Host.absf main_arg1
  let main_cst_0 : FVec F S_ .f32 := constant S_ .f32 0x7F800000#32
  let main_v6 : FVec F S4096x2048 .f32 := broadcastInDim S4096x2048 ![] bcast_S_S4096x2048 main_cst_0
  let main_v7 : IVec S4096x2048 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_arg3
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S3x1024 .f32 := Host.absf main_arg6
  let main_cst_3 : FVec F S_ .f32 := constant S_ .f32 0x7F800000#32
  let main_v15 : FVec F S3x1024 .f32 := broadcastInDim S3x1024 ![] bcast_S_S3x1024 main_cst_3
  let main_v16 : IVec S3x1024 1 := cmpf .olt main_v14 main_v15
  (main_v4, main_v7, main_v10, main_v13, main_v16)
-- ==== Pre_even_out_bwd_finite.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x2048 : S_.BroadcastsInDim S4096x2048 (![] : Fin 0 → Fin S4096x2048.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x2048 .bf16) (main_arg2 : FVec F S2048x1024 .f32) (main_arg3 : FVec F S1024 .f32) : IVec S4096x1024 1 × IVec S4096x2048 1 × IVec S2048x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x2048 .f32 := (extf .f32 · bitsLt_bf16_f32) main_arg1
  let main_v4 : FVec F S4096x2048 .f32 := Host.absf main_v3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : FVec F S1024 .f32 := Host.absf main_arg3
  let main_cst_2 : FVec F S_ .f32 := constant S_ .f32 0x7F800000#32
  let main_v11 : FVec F S1024 .f32 := broadcastInDim S1024 ![] bcast_S_S1024 main_cst_2
  let main_v12 : IVec S1024 1 := cmpf .olt main_v10 main_v11
  (main_v2, main_v6, main_v9, main_v12)
-- ==== Pre_odd_in_bwd_finite.lean ====
abbrev S4096x512 : Shape := ⟨2, ![4096, 512]⟩
abbrev S4096x1024 : Shape := ⟨2, ![4096, 1024]⟩
abbrev S4096x128 : Shape := ⟨2, ![4096, 128]⟩
abbrev S1024x3104 : Shape := ⟨2, ![1024, 3104]⟩
abbrev S1024 : Shape := ⟨1, ![1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S4096x1024 : S_.BroadcastsInDim S4096x1024 (![] : Fin 0 → Fin S4096x1024.rank)
  bcast_S_S4096x128 : S_.BroadcastsInDim S4096x128 (![] : Fin 0 → Fin S4096x128.rank)
  bcast_S_S1024x3104 : S_.BroadcastsInDim S1024x3104 (![] : Fin 0 → Fin S1024x3104.rank)
  bcast_S_S1024 : S_.BroadcastsInDim S1024 (![] : Fin 0 → Fin S1024.rank)

variable [Facts]

def fn_part1 {F : FTy → Type} [FloatOps F] (main_arg5 : FVec F S1024x3104 .f32) (main_arg6 : FVec F S4096x1024 .f32) (main_arg7 : FVec F S1024 .f32) (main_v3 : IVec S4096x512 1) (main_v7 : IVec S4096x512 1) (main_v11 : IVec S4096x1024 1) (main_v15 : IVec S4096x1024 1) (main_v17 : FVec F S4096x128 .f32) (main_v18 : FVec F S4096x128 .f32) : IVec S4096x512 1 × IVec S4096x512 1 × IVec S4096x1024 1 × IVec S4096x1024 1 × IVec S4096x128 1 × IVec S1024x3104 1 × IVec S4096x1024 1 × IVec S1024 1 :=
  let main_v19 : IVec S4096x128 1 := cmpf .olt main_v17 main_v18
  let main_v20 : FVec F S1024x3104 .f32 := Host.absf main_arg5
  let main_cst_4 : FVec F S_ .f32 := constant S_ .f32 0x7F800000#32
  let main_v21 : FVec F S1024x3104 .f32 := broadcastInDim S1024x3104 ![] bcast_S_S1024x3104 main_cst_4
  let main_v22 : IVec S1024x3104 1 := cmpf .olt main_v20 main_v21
  let main_v23 : FVec F S4096x1024 .f32 := Host.absf main_arg6
  let main_cst_5 : FVec F S_ .f32 := constant S_ .f32 0x7F800000#32
  let main_v24 : FVec F S4096x1024 .f32 := broadcastInDim S4096x1024 ![] bcast_S_S4096x1024 main_cst_5
  let main_v25 : IVec S4096x1024 1 := cmpf .olt main_v23 main_v24
  let main_v26 : FVec F S1024 .f32 := Host.absf main_arg7
  let main_cst_6 : FVec F S_ .f32 := constant S_ .f32 0x7F800000#32
  let main_v27 : FVec F S1024 .f32 := broadcastInDim S1024 ![] bcast_S_S1024 main_cst_6
  let main_v28 : IVec S1024 1 := cmpf .olt main_v26 main_v27
  (main_v3, main_v7, main_v11, main_v15, main_v19, main_v22, main_v25, main_v28)

def fn {F : FTy → Type} [FloatOps F] (main_arg0 : FVec F S4096x512 .bf16) (main_arg1 : FVec F S4096x512 .bf16) (main_arg2 : FVec F S4096x1024 .bf16) (main_arg3 : FVec F S4096x1024 .bf16) (main_arg4 : FVec F S4096x128 .bf16) (main_arg5 : FVec F S1024x3104 .f32) (main_arg6 : FVec F S4096x1024 .f32) (main_arg7 : FVec F S1024 .f32) (main_arg8 : FVec F S4096x1024 .f32) : IVec S4096x512 1 × IVec S4096x512 1 × IVec S4096x1024 1 × IVec S4096x1024 1 × IVec S4096x128 1 × IVec S1024x3104 1 × IVec S4096x1024 1 × IVec S1024 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x1024 .f32 := (extf .f32 · bitsLt_bf16_f32) main_arg2
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  let main_v12 : FVec F S4096x1024 .f32 := (extf .f32 · bitsLt_bf16_f32) main_arg3
  let main_v13 : FVec F S4096x1024 .f32 := Host.absf main_v12
  let main_cst_2 : FVec F S_ .f32 := constant S_ .f32 0x7F800000#32
  let main_v14 : FVec F S4096x1024 .f32 := broadcastInDim S4096x1024 ![] bcast_S_S4096x1024 main_cst_2
  let main_v15 : IVec S4096x1024 1 := cmpf .olt main_v13 main_v14
  let main_v16 : FVec F S4096x128 .f32 := (extf .f32 · bitsLt_bf16_f32) main_arg4
  let main_v17 : FVec F S4096x128 .f32 := Host.absf main_v16
  let main_cst_3 : FVec F S_ .f32 := constant S_ .f32 0x7F800000#32
  let main_v18 : FVec F S4096x128 .f32 := broadcastInDim S4096x128 ![] bcast_S_S4096x128 main_cst_3
  fn_part1 (F := F) main_arg5 main_arg6 main_arg7 main_v3 main_v7 main_v11 main_v15 main_v17 main_v18
-- ==== Pre_odd_out_bwd_finite.lean ====
abbrev S4096x1024 : Shape := ⟨2, ![4096, 1024]⟩
abbrev S1024x1024 : Shape := ⟨2, ![1024, 1024]⟩
abbrev S4096x3200 : Shape := ⟨2, ![4096, 3200]⟩
abbrev S256 : Shape := ⟨1, ![256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S1024x1024 : S_.BroadcastsInDim S1024x1024 (![] : Fin 0 → Fin S1024x1024.rank)
  slices_S4096x3200_S4096x1024_0_2048 : S4096x3200.Slices ![0, 2048] S4096x1024
  bcast_S_S256 : S_.BroadcastsInDim S256 (![] : Fin 0 → Fin S256.rank)

variable [Facts]

def fn {F : FTy → Type} [FloatOps F] (main_arg0 : FVec F S4096x1024 .bf16) (main_arg1 : FVec F S1024x1024 .f32) (main_arg2 : FVec F S4096x1024 .f32) (main_arg3 : FVec F S4096x3200 .f32) (main_arg4 : FVec F S256 .f32) : IVec S4096x1024 1 × IVec S1024x1024 1 × IVec S4096x1024 1 × IVec S4096x1024 1 × IVec S256 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_v7 : FVec F S4096x1024 .f32 := Host.absf main_arg2
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_v7 main_v8
  let main_v10 : FVec F S4096x1024 .f32 := (extractStridedSlice S4096x1024 ![0, 2048] · slices_S4096x3200_S4096x1024_0_2048) main_arg3
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_v14 : FVec F S256 .f32 := Host.absf main_arg4
  let main_cst_3 : FVec F S_ .f32 := constant S_ .f32 0x7F800000#32
  let main_v15 : FVec F S256 .f32 := broadcastInDim S256 ![] bcast_S_S256 main_cst_3
  let main_v16 : IVec S256 1 := cmpf .olt main_v14 main_v15
  (main_v3, main_v6, main_v9, main_v13, main_v16)
-- ==== Pre_odd_out_fwd_finite.lean ====
abbrev S4096x1024 : Shape := ⟨2, ![4096, 1024]⟩
abbrev S4096x3200 : Shape := ⟨2, ![4096, 3200]⟩
abbrev S256 : Shape := ⟨1, ![256]⟩
abbrev S1024x1024 : Shape := ⟨2, ![1024, 1024]⟩
abbrev S1024 : Shape := ⟨1, ![1024]⟩
abbrev S_ : Shape := ⟨0, ![]⟩

class Facts : Prop where
  slices_S4096x3200_S4096x1024_0_2048 : S4096x3200.Slices ![0, 2048] S4096x1024
  bcast_S_S4096x1024 : S_.BroadcastsInDim S4096x1024 (![] : Fin 0 → Fin S4096x1024.rank)
  bcast_S_S256 : S_.BroadcastsInDim S256 (![] : Fin 0 → Fin S256.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn_part1 {F : FTy → Type} [FloatOps F] (main_arg6 : FVec F S4096x1024 .f32) (main_v3 : IVec S4096x1024 1) (main_v6 : IVec S4096x1024 1) (main_v9 : IVec S256 1) (main_v12 : IVec S1024x1024 1) (main_v15 : IVec S1024 1) (main_v16 : FVec F S4096x1024 .f32) (main_v17 : FVec F S4096x1024 .f32) : IVec S4096x1024 1 × IVec S4096x1024 1 × IVec S256 1 × IVec S1024x1024 1 × IVec S1024 1 × IVec S4096x1024 1 × IVec S4096x1024 1 :=
  let main_v18 : IVec S4096x1024 1 := cmpf .olt main_v16 main_v17
  let main_v19 : FVec F S4096x1024 .f32 := Host.absf main_arg6
  let main_cst_5 : FVec F S_ .f32 := constant S_ .f32 0x7F800000#32
  let main_v20 : FVec F S4096x1024 .f32 := broadcastInDim S4096x1024 ![] bcast_S_S4096x1024 main_cst_5
  let main_v21 : IVec S4096x1024 1 := cmpf .olt main_v19 main_v20
  (main_v3, main_v6, main_v9, main_v12, main_v15, main_v18, main_v21)

def fn {F : FTy → Type} [FloatOps F] (main_arg0 : FVec F S4096x1024 .f32) (main_arg1 : FVec F S4096x3200 .f32) (main_arg2 : FVec F S256 .f32) (main_arg3 : FVec F S1024x1024 .f32) (main_arg4 : FVec F S1024 .f32) (main_arg5 : FVec F S4096x1024 .f32) (main_arg6 : FVec F S4096x1024 .f32) : IVec S4096x1024 1 × IVec S4096x1024 1 × IVec S256 1 × IVec S1024x1024 1 × IVec S1024 1 × IVec S4096x1024 1 × IVec S4096x1024 1 :=
  let main_v0 : FVec F S4096x1024 .f32 := (extractStridedSlice S4096x1024 ![0, 2048] · slices_S4096x3200_S4096x1024_0_2048) main_arg1
  let main_v1 : FVec F S4096x1024 .f32 := Host.absf main_arg0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := Host.absf main_v0
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S256 .f32 := Host.absf main_arg2
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : FVec F S1024x1024 .f32 := Host.absf main_arg3
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : FVec F S1024 .f32 := Host.absf main_arg4
  let main_cst_3 : FVec F S_ .f32 := constant S_ .f32 0x7F800000#32
  let main_v14 : FVec F S1024 .f32 := broadcastInDim S1024 ![] bcast_S_S1024 main_cst_3
  let main_v15 : IVec S1024 1 := cmpf .olt main_v13 main_v14
  let main_v16 : FVec F S4096x1024 .f32 := Host.absf main_arg5
  let main_cst_4 : FVec F S_ .f32 := constant S_ .f32 0x7F800000#32
  let main_v17 : FVec F S4096x1024 .f32 := broadcastInDim S4096x1024 ![] bcast_S_S4096x1024 main_cst_4
  fn_part1 (F := F) main_arg6 main_v3 main_v6 main_v9 main_v12 main_v15 main_v16 main_v17
-- ==== EvenInBwd.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S1024x4x1536 : Shape := ⟨3, ![1024, 4, 1536]⟩
abbrev S4x1024x1536 : Shape := ⟨3, ![4, 1024, 1536]⟩
abbrev S1x1024 : Shape := ⟨2, ![1, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v50 : BitVec 1 := Scalar.cmpi .eq arg0 c0_i32
  let v51 : BitVec 32 := Scalar.extui v50
  let c0_i32_30 : BitVec 32 := 0#32
  let v52 : BitVec 1 := Scalar.cmpi .ne v51 c0_i32_30
  v52

def k0_cond2 (i : grid0.Coords) : BitVec 1 :=
  let arg0 : BitVec 32 := BitVec.ofNat 32 (i 0).val
  let c0_i32_31 : BitVec 32 := 0#32
  let v53 : BitVec 1 := Scalar.cmpi .sgt arg0 c0_i32_31
  let v54 : BitVec 32 := Scalar.extui v53
  let c0_i32_32 : BitVec 32 := 0#32
  let v55 : BitVec 1 := Scalar.cmpi .ne v54 c0_i32_32
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== EvenInBwdRefIdeal.lean ====
abbrev S4096x6144 : Shape := ⟨2, ![4096, 6144]⟩
abbrev S1024x6144 : Shape := ⟨2, ![1024, 6144]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== EvenInGrad.lean ====
abbrev S4096x1024 : Shape := ⟨2, ![4096, 1024]⟩
abbrev S1024 : Shape := ⟨1, ![1024]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 22
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x6144, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4x1024x1536, .f32⟩
  | .hbm, ⟨21, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let v8 : BitVec 32 := Scalar.extui v7
  let c0_i32_5 : BitVec 32 := 0#32
  let v9 : BitVec 1 := Scalar.cmpi .ne v8 c0_i32_5
  v9

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== EvenInGradRefIdeal.lean ====
abbrev S4096x1024 : Shape := ⟨2, ![4096, 1024]⟩
abbrev S1024 : Shape := ⟨1, ![1024]⟩
abbrev S4096x6144 : Shape := ⟨2, ![4096, 6144]⟩
abbrev S_ : Shape := ⟨0, ![]⟩
abbrev S1024x6144 : Shape := ⟨2, ![1024, 6144]⟩
abbrev S4096 : Shape := ⟨1, ![4096]⟩
abbrev S4096x1 : Shape := ⟨2, ![4096, 1]⟩
abbrev S1x1024 : Shape := ⟨2, ![1, 1024]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x6144, .bf16⟩
  | .hbm, ⟨3, _⟩ => ⟨S_, .f32⟩
  | .hbm, ⟨4, _⟩ => ⟨S1024x6144, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x6144, .f32⟩
  | .hbm, ⟨22, _⟩ => ⟨S4096x6144, .f32⟩
  | .hbm, ⟨23, _⟩ => ⟨S6144x1024, .f32⟩
  | .hbm, ⟨24, _⟩ => ⟨S1024x6144, .f32⟩
  | .hbm, ⟨25, _⟩ => ⟨S1024x4x1536, .f32⟩
  | .hbm, ⟨26, _⟩ => ⟨S4x1024x1536, .f32⟩
  | .hbm, ⟨27, _⟩ => ⟨S4x1024x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== EvenInFwd.lean ====
abbrev S4096x1024 : Shape := ⟨2, ![4096, 1024]⟩
abbrev S1024 : Shape := ⟨1, ![1024]⟩
abbrev S1024x6144 : Shape := ⟨2, ![1024, 6144]⟩
abbrev S1x1024 : Shape := ⟨2, ![1, 1024]⟩
abbrev S1024x4x1536 : Shape := ⟨3, ![1024, 4, 1536]⟩
abbrev S4x1024x1536 : Shape := ⟨3, ![4, 1024, 1536]⟩
abbrev S4096x6144 : Shape := ⟨2, ![4096, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S1x1024, .f32⟩
  | .hbm, ⟨4, _⟩ => ⟨S1024x6144, .bf16⟩
  | .hbm, ⟨5, _⟩ => ⟨S1024x4x1536, .bf16⟩
  | .hbm, ⟨6, _⟩ => ⟨S4x1024x1536, .bf16⟩
  | .hbm, ⟨7, _⟩ => ⟨S4096x6144, .bf16⟩
  | .hbm, ⟨8, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1536, .bf16⟩
  | .local _ .vmem, ⟨4, _⟩ => ⟨S512x6144, .bf16⟩
  | .local _ .vmem, ⟨5, _⟩ => ⟨S512x6144, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EvenInFwdRefIdeal.lean ====
abbrev S4096x1024 : Shape := ⟨2, ![4096, 1024]⟩
abbrev S1024 : Shape := ⟨1, ![1024]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x6144, .f32⟩
  | .hbm, ⟨20, _⟩ => ⟨S4096x6144, .bf16⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== OddOutBwd.lean ====
abbrev S4096x1024 : Shape := ⟨2, ![4096, 1024]⟩
abbrev S1024x1024 : Shape := ⟨2, ![1024, 1024]⟩
abbrev S4096x3200 : Shape := ⟨2, ![4096, 3200]⟩
abbrev S256 : Shape := ⟨1, ![256]⟩
abbrev S1x256 : Shape := ⟨2, ![1, 256]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x3200, .f32⟩
  | .hbm, ⟨4, _⟩ => ⟨S256, .f32⟩
  | .hbm, ⟨5, _⟩ => ⟨S1024x1024, .bf16⟩
  | .hbm, ⟨6, _⟩ => ⟨S1x256, .f32⟩
  | .hbm, ⟨7, _⟩ => ⟨S4096x1024, .bf16⟩
  | .hbm, ⟨8, _⟩ => ⟨S4096x1024, .f32⟩
  | .hbm, ⟨9, _⟩ => ⟨S1x256, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x256, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v149 : BitVec 1 := Scalar.cmpi .eq arg0 c0_i32
  let v150 : BitVec 32 := Scalar.extui v149
  let c0_i32_42 : BitVec 32 := 0#32
  let v151 : BitVec 1 := Scalar.cmpi .ne v150 c0_i32_42
  v151

def k0_cond2 (i : grid0.Coords) : BitVec 1 :=
  let arg0 : BitVec 32 := BitVec.ofNat 32 (i 0).val
  let c0_i32_43 : BitVec 32 := 0#32
  let v152 : BitVec 1 := Scalar.cmpi .sgt arg0 c0_i32_43
  let v153 : BitVec 32 := Scalar.extui v152
  let c0_i32_44 : BitVec 32 := 0#32
  let v154 : BitVec 1 := Scalar.cmpi .ne v153 c0_i32_44
  v154

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OddOutBwdRefIdeal.lean ====
abbrev S4096x1024 : Shape := ⟨2, ![4096, 1024]⟩
abbrev S1024x1024 : Shape := ⟨2, ![1024, 1024]⟩
abbrev S4096x3200 : Shape := ⟨2, ![4096, 3200]⟩
abbrev S256 : Shape := ⟨1, ![256]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x3200, .f32⟩
  | .hbm, ⟨4, _⟩ => ⟨S256, .f32⟩
  | .hbm, ⟨5, _⟩ => ⟨S4096x1024, .f32⟩
  | .hbm, ⟨6, _⟩ => ⟨S16384x256, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x256, .f32⟩
  | .hbm, ⟨23, _⟩ => ⟨S16384x256, .f32⟩
  | .hbm, ⟨24, _⟩ => ⟨S1x256, .f32⟩
  | .hbm, ⟨25, _⟩ => ⟨S16384x256, .f32⟩
  | .hbm, ⟨26, _⟩ => ⟨S16384x256, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S16384x256, .f32⟩
  | .hbm, ⟨52, _⟩ => ⟨S16384x256, .f32⟩
  | .hbm, ⟨53, _⟩ => ⟨S_, .f32⟩
  | .hbm, ⟨54, _⟩ => ⟨S256, .f32⟩
  | .hbm, ⟨55, _⟩ => ⟨S1x256, .f32⟩
  | .hbm, ⟨56, _⟩ => ⟨S16384x256, .f32⟩
  | .hbm, ⟨57, _⟩ => ⟨S16384x256, .f32⟩
  | .hbm, ⟨58, _⟩ => ⟨S_, .f32⟩
  | .hbm, ⟨59, _⟩ => ⟨S256, .f32⟩
  | .hbm, ⟨60, _⟩ => ⟨S16384x256, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x256, .f32⟩
  | .hbm, ⟨65, _⟩ => ⟨S16384x256, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384, .f32⟩
  | .hbm, ⟨72, _⟩ => ⟨S16384x256, .f32⟩
  | .hbm, ⟨73, _⟩ => ⟨S16384x256, .f32⟩
  | .hbm, ⟨74, _⟩ => ⟨S16384x256, .f32⟩
  | .hbm, ⟨75, _⟩ => ⟨S16384x256, .f32⟩
  | .hbm, ⟨76, _⟩ => ⟨S16384x256, .f32⟩
  | .hbm, ⟨77, _⟩ => ⟨S4096x1024, .f32⟩
  | .hbm, ⟨78, _⟩ => ⟨S4096x1024, .bf16⟩
  | .hbm, ⟨79, _⟩ => ⟨S1x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== EvenOutBwd.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .f32⟩
  | .hbm, ⟨3, _⟩ => ⟨S1024, .f32⟩
  | .hbm, ⟨4, _⟩ => ⟨S4096x2048, .f32⟩
  | .hbm, ⟨5, _⟩ => ⟨S4096x1024, .f32⟩
  | .hbm, ⟨6, _⟩ => ⟨S1x1024, .f32⟩
  | .hbm, ⟨7, _⟩ => ⟨S2048x1024, .bf16⟩
  | .hbm, ⟨8, _⟩ => ⟨S4096x1024, .bf16⟩
  | .hbm, ⟨9, _⟩ => ⟨S4096x2048, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_17 : BitVec 32 := 0#32
  let v38 : BitVec 1 := Scalar.cmpi .ne v37 c0_i32_17
  v38

def k0_cond2 (i : grid0.Coords) : BitVec 1 :=
  let arg0 : BitVec 32 := BitVec.ofNat 32 (i 0).val
  let c0_i32_18 : BitVec 32 := 0#32
  let v39 : BitVec 1 := Scalar.cmpi .sgt arg0 c0_i32_18
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== EvenOutBwdRefIdeal.lean ====
abbrev S4096x1024 : Shape := ⟨2, ![4096, 1024]⟩
abbrev S4096x2048 : Shape := ⟨2, ![4096, 2048]⟩
abbrev S2048x1024 : Shape := ⟨2, ![2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S2048x1024, .f32⟩
  | .hbm, ⟨3, _⟩ => ⟨S1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x2048, .f32⟩
  | .hbm, ⟨52, _⟩ => ⟨S4096x1024, .bf16⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== OddInBwd.lean ====
abbrev S4096x512 : Shape := ⟨2, ![4096, 512]⟩
abbrev S4096x1024 : Shape := ⟨2, ![4096, 1024]⟩
abbrev S4096x128 : Shape := ⟨2, ![4096, 128]⟩
abbrev S1024x3104 : Shape := ⟨2, ![1024, 3104]⟩
abbrev S1024 : Shape := ⟨1, ![1024]⟩
abbrev S_ : Shape := ⟨0, ![]⟩
abbrev S1024x3200 : Shape := ⟨2, ![1024, 3200]⟩
abbrev S1x1024x3200 : Shape := ⟨3, ![1, 1024, 3200]⟩
abbrev S1x1024 : Shape := ⟨2, ![1, 1024]⟩
abbrev S512x512 : Shape := ⟨2, ![512, 512]⟩
abbrev S512x1024 : Shape := ⟨2, ![512, 1024]⟩
abbrev S512x128 : Shape := ⟨2, ![512, 128]⟩
abbrev S512x3200 : Shape := ⟨2, ![512, 3200]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x128, .bf16⟩
  | .hbm, ⟨5, _⟩ => ⟨S1024x3104, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S1024x3104, .bf16⟩
  | .hbm, ⟨10, _⟩ => ⟨S_, .i32⟩
  | .hbm, ⟨11, _⟩ => ⟨S_, .bf16⟩
  | .hbm, ⟨12, _⟩ => ⟨S1024x3200, .bf16⟩
  | .hbm, ⟨13, _⟩ => ⟨S1x1024x3200, .bf16⟩
  | .hbm, ⟨14, _⟩ => ⟨S1x1024, .f32⟩
  | .hbm, ⟨15, _⟩ => ⟨S4096x1024, .f32⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S1x1024x3200, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_26 : BitVec 32 := 0#32
  let v42 : BitVec 1 := Scalar.cmpi .ne v41 c0_i32_26
  v42

def k0_cond2 (i : grid0.Coords) : BitVec 1 :=
  let arg0 : BitVec 32 := BitVec.ofNat 32 (i 0).val
  let c0_i32_27 : BitVec 32 := 0#32
  let v43 : BitVec 1 := Scalar.cmpi .sgt arg0 c0_i32_27
  let v44 : BitVec 32 := Scalar.extui v43
  let c0_i32_28 : BitVec 32 := 0#32
  let v45 : BitVec 1 := Scalar.cmpi .ne v44 c0_i32_28
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x3200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== OddInBwdRefIdeal.lean ====
abbrev S4096x512 : Shape := ⟨2, ![4096, 512]⟩
abbrev S4096x1024 : Shape := ⟨2, ![4096, 1024]⟩
abbrev S4096x128 : Shape := ⟨2, ![4096, 128]⟩
abbrev S1024x3104 : Shape := ⟨2, ![1024, 3104]⟩
abbrev S1024 : Shape := ⟨1, ![1024]⟩
abbrev S4096x32 : Shape := ⟨2, ![4096, 32]⟩
abbrev S4096x3104 : Shape := ⟨2, ![4096, 3104]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .bf16⟩
  | .hbm, ⟨3, _⟩ => ⟨S4096x1024, .bf16⟩
  | .hbm, ⟨4, _⟩ => ⟨S4096x128, .bf16⟩
  | .hbm, ⟨5, _⟩ => ⟨S1024x3104, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S4096x32, .bf16⟩
  | .hbm, ⟨10, _⟩ => ⟨S4096x3104, .bf16⟩
  | .hbm, ⟨11, _⟩ => ⟨S4096x3104, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3104, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S1x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== OddInGrad.lean ====
abbrev S4096x1024 : Shape := ⟨2, ![4096, 1024]⟩
abbrev S1024 : Shape := ⟨1, ![1024]⟩
abbrev S4096x512 : Shape := ⟨2, ![4096, 512]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x3200 : Shape := ⟨2, ![1024, 3200]⟩
abbrev S1024x1024 : Shape := ⟨2, ![1024, 1024]⟩
abbrev S1024x512 : Shape := ⟨2, ![1024, 512]⟩
abbrev S1024x128 : Shape := ⟨2, ![1024, 128]⟩

abbrev nBuf : Space → Nat
  | .hbm => 25
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x128, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S1024x3200, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_11 : BitVec 32 := 0#32
  let v11 : BitVec 1 := Scalar.cmpi .ne v10 c0_i32_11
  v11

def k0_cond2 (i : grid0.Coords) : BitVec 1 :=
  let arg0 : BitVec 32 := BitVec.ofNat 32 (i 0).val
  let c0_i32_12 : BitVec 32 := 0#32
  let v12 : BitVec 1 := Scalar.cmpi .sgt arg0 c0_i32_12
  let v13 : BitVec 32 := Scalar.extui v12
  let c0_i32_13 : BitVec 32 := 0#32
  let v14 : BitVec 1 := Scalar.cmpi .ne v13 c0_i32_13
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x3200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== OddInGradRefIdeal.lean ====
abbrev S4096x1024 : Shape := ⟨2, ![4096, 1024]⟩
abbrev S1024 : Shape := ⟨1, ![1024]⟩
abbrev S4096x512 : Shape := ⟨2, ![4096, 512]⟩
abbrev S4096x128 : Shape := ⟨2, ![4096, 128]⟩
abbrev S4096x3200 : Shape := ⟨2, ![4096, 3200]⟩
abbrev S_ : Shape := ⟨0, ![]⟩
abbrev S1024x3200 : Shape := ⟨2, ![1024, 3200]⟩
abbrev S4096 : Shape := ⟨1, ![4096]⟩
abbrev S4096x1 : Shape := ⟨2, ![4096, 1]⟩
abbrev S1x1024 : Shape := ⟨2, ![1, 1024]⟩
abbrev S3200x1024 : Shape := ⟨2, ![3200, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x1024, .bf16⟩
  | .hbm, ⟨6, _⟩ => ⟨S4096x128, .bf16⟩
  | .hbm, ⟨7, _⟩ => ⟨S4096x3200, .bf16⟩
  | .hbm, ⟨8, _⟩ => ⟨S4096x3200, .f32⟩
  | .hbm, ⟨9, _⟩ => ⟨S_, .f32⟩
  | .hbm, ⟨10, _⟩ => ⟨S1024x3200, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x3200, .f32⟩
  | .hbm, ⟨28, _⟩ => ⟨S3200x1024, .f32⟩
  | .hbm, ⟨29, _⟩ => ⟨S1024x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== EvenOutGrad.lean ====
abbrev S4096x2048 : Shape := ⟨2, ![4096, 2048]⟩
abbrev S4096x1024 : Shape := ⟨2, ![4096, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1x2048x1024, .f32⟩
  | .hbm, ⟨3, _⟩ => ⟨S1x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .f32⟩
  | .local _ .vmem, ⟨5, _⟩ => ⟨S1x2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== EvenOutGradRefIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S1x2048x1024, .f32⟩
  | .hbm, ⟨10, _⟩ => ⟨S1x2048x1024, .f32⟩
  | .hbm, ⟨11, _⟩ => ⟨S1x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OddOutGrad.lean ====
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024x1024, .f32⟩
  | .hbm, ⟨3, _⟩ => ⟨S1x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== OddOutGradRefIdeal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1x1024x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== EvenOutFwd.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S2048x1024, .bf16⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== EvenOutFwdRefIdeal.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== OddInFwd.lean ====
abbrev S4096x1024 : Shape := ⟨2, ![4096, 1024]⟩
abbrev S1024 : Shape := ⟨1, ![1024]⟩
abbrev S1024x3104 : Shape := ⟨2, ![1024, 3104]⟩
abbrev S_ : Shape := ⟨0, ![]⟩
abbrev S1024x3200 : Shape := ⟨2, ![1024, 3200]⟩
abbrev S1x1024x3200 : Shape := ⟨3, ![1, 1024, 3200]⟩
abbrev S1x1024 : Shape := ⟨2, ![1, 1024]⟩
abbrev S4096x3200 : Shape := ⟨2, ![4096, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3104, .f32⟩
  | .hbm, ⟨3, _⟩ => ⟨S1024x3104, .bf16⟩
  | .hbm, ⟨4, _⟩ => ⟨S_, .i32⟩
  | .hbm, ⟨5, _⟩ => ⟨S_, .bf16⟩
  | .hbm, ⟨6, _⟩ => ⟨S1024x3200, .bf16⟩
  | .hbm, ⟨7, _⟩ => ⟨S1x1024x3200, .bf16⟩
  | .hbm, ⟨8, _⟩ => ⟨S1x1024, .f32⟩
  | .hbm, ⟨9, _⟩ => ⟨S4096x3200, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3200, .bf16⟩
  | .local _ .vmem, ⟨4, _⟩ => ⟨S512x3200, .f32⟩
  | .local _ .vmem, ⟨5, _⟩ => ⟨S512x3200, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OddInFwdRefIdeal.lean ====
abbrev S4096x1024 : Shape := ⟨2, ![4096, 1024]⟩
abbrev S1024 : Shape := ⟨1, ![1024]⟩
abbrev S1024x3104 : Shape := ⟨2, ![1024, 3104]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3104 : Shape := ⟨2, ![4096, 3104]⟩
abbrev S4096x3200 : Shape := ⟨2, ![4096, 3200]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3104, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x3104, .f32⟩
  | .hbm, ⟨20, _⟩ => ⟨S_, .i32⟩
  | .hbm, ⟨21, _⟩ => ⟨S_, .f32⟩
  | .hbm, ⟨22, _⟩ => ⟨S4096x3200, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== OddOutFwd.lean ====
abbrev S4096x1024 : Shape := ⟨2, ![4096, 1024]⟩
abbrev S4096x3200 : Shape := ⟨2, ![4096, 3200]⟩
abbrev S256 : Shape := ⟨1, ![256]⟩
abbrev S1024x1024 : Shape := ⟨2, ![1024, 1024]⟩
abbrev S1024 : Shape := ⟨1, ![1024]⟩
abbrev S1x256 : Shape := ⟨2, ![1, 256]⟩
abbrev S1x1024 : Shape := ⟨2, ![1, 1024]⟩
abbrev S8x128 : Shape := ⟨2, ![8, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 15
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S256, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S1x256, .f32⟩
  | .hbm, ⟨8, _⟩ => ⟨S1024x1024, .bf16⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S8x128, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x256, .f32⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S8x128, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v128 : BitVec 1 := Scalar.cmpi .eq arg0 c0_i32
  let v129 : BitVec 32 := Scalar.extui v128
  let c0_i32_47 : BitVec 32 := 0#32
  let v130 : BitVec 1 := Scalar.cmpi .ne v129 c0_i32_47
  v130

def k0_cond2 (i : grid0.Coords) : BitVec 1 :=
  let arg0 : BitVec 32 := BitVec.ofNat 32 (i 0).val
  let c0_i32_48 : BitVec 32 := 0#32
  let v131 : BitVec 1 := Scalar.cmpi .sgt arg0 c0_i32_48
  let v132 : BitVec 32 := Scalar.extui v131
  let c0_i32_49 : BitVec 32 := 0#32
  let v133 : BitVec 1 := Scalar.cmpi .ne v132 c0_i32_49
  v133

def k0_cond3 (i : grid0.Coords) : BitVec 1 :=
  let arg0 : BitVec 32 := BitVec.ofNat 32 (i 0).val
  let c0_i32_51 : BitVec 32 := 0#32
  let v136 : BitVec 1 := Scalar.cmpi .eq arg0 c0_i32_51
  let v137 : BitVec 32 := Scalar.extui v136
  let c0_i32_52 : BitVec 32 := 0#32
  let v138 : BitVec 1 := Scalar.cmpi .ne v137 c0_i32_52
  v138

def k0_cond4 (i : grid0.Coords) : BitVec 1 :=
  let arg0 : BitVec 32 := BitVec.ofNat 32 (i 0).val
  let c0_i32_53 : BitVec 32 := 0#32
  let v139 : BitVec 1 := Scalar.cmpi .sgt arg0 c0_i32_53
  let v140 : BitVec 32 := Scalar.extui v139
  let c0_i32_54 : BitVec 32 := 0#32
  let v141 : BitVec 1 := Scalar.cmpi .ne v140 c0_i32_54
  v141

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OddOutFwdRefIdeal.lean ====
abbrev S4096x1024 : Shape := ⟨2, ![4096, 1024]⟩
abbrev S4096x3200 : Shape := ⟨2, ![4096, 3200]⟩
abbrev S256 : Shape := ⟨1, ![256]⟩
abbrev S1024x1024 : Shape := ⟨2, ![1024, 1024]⟩
abbrev S1024 : Shape := ⟨1, ![1024]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S256, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S16384x256, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x256, .f32⟩
  | .hbm, ⟨20, _⟩ => ⟨S16384x256, .f32⟩
  | .hbm, ⟨21, _⟩ => ⟨S1x256, .f32⟩
  | .hbm, ⟨22, _⟩ => ⟨S16384x256, .f32⟩
  | .hbm, ⟨23, _⟩ => ⟨S16384x256, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S4096x1024, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x1024, .f32⟩
  | .hbm, ⟨94, _⟩ => ⟨S4096x1024, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S_, .f32⟩
  | .hbm, ⟨100, _⟩ => ⟨S4096, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1024, .bf16⟩
  | .hbm, ⟨107, _⟩ => ⟨S4096x1024, .bf16⟩
  | .hbm, ⟨108, _⟩ => ⟨S8x128, .f32⟩
  | .hbm, ⟨109, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_cst_11 : Ref sig .tc := ⟨.hbm, 72, rfl⟩
abbrev main_cst_12 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_cst_18 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩

abbrev nD : Nat := 1
abbrev τ : Topo := Topo.v7x

variable {F : FTy → Type} [FloatOps F]
-- ==== GateRankBwd.lean ====
abbrev S4096x3200 : Shape := ⟨2, ![4096, 3200]⟩
abbrev S4096x512 : Shape := ⟨2, ![4096, 512]⟩
abbrev S2x16x512 : Shape := ⟨3, ![2, 16, 512]⟩
abbrev S1x16x512 : Shape := ⟨3, ![1, 16, 512]⟩
abbrev S16x512 : Shape := ⟨2, ![16, 512]⟩
abbrev S_ : Shape := ⟨0, ![]⟩
abbrev S128x512 : Shape := ⟨2, ![128, 512]⟩
abbrev S1x128x512 : Shape := ⟨3, ![1, 128, 512]⟩
abbrev S2x128x512 : Shape := ⟨3, ![2, 128, 512]⟩
abbrev S4096x128 : Shape := ⟨2, ![4096, 128]⟩
abbrev S2x512 : Shape := ⟨2, ![2, 512]⟩
abbrev S512x128 : Shape := ⟨2, ![512, 128]⟩
abbrev S512x512 : Shape := ⟨2, ![512, 512]⟩
abbrev S512 : Shape := ⟨1, ![512]⟩
abbrev S1x512 : Shape := ⟨2, ![1, 512]⟩

abbrev nBuf : Space → Nat
  | .hbm => 21
  | .vmem => 11
  | .smem => 0
  | _ => 0

abbrev bufTy : (tb : Table) → Fin (tcTables nBuf tb) → BufTy
  | .hbm, ⟨0, _⟩ => ⟨S4096x3200, .f32⟩
  | .hbm, ⟨1, _⟩ => ⟨S4096x512, .f32⟩
  | .hbm, ⟨2, _⟩ => ⟨S4096x512, .f32⟩
  | .hbm, ⟨3, _⟩ => ⟨S2x16x512, .f32⟩
  | .hbm, ⟨4, _⟩ => ⟨S2x16x512, .bf16⟩
  | .hbm, ⟨5, _⟩ => ⟨S1x16x512, .bf16⟩
  | .hbm, ⟨6, _⟩ => ⟨S16x512, .bf16⟩
  | .hbm, ⟨7, _⟩ => ⟨S_, .i32⟩
  | .hbm, ⟨8, _⟩ => ⟨S_, .bf16⟩
  | .hbm, ⟨9, _⟩ => ⟨S128x512, .bf16⟩
  | .hbm, ⟨10, _⟩ => ⟨S1x16x512, .bf16⟩
  | .hbm, ⟨11, _⟩ => ⟨S16x512, .bf16⟩
  | .hbm, ⟨12, _⟩ => ⟨S_, .i32⟩
  | .hbm, ⟨13, _⟩ => ⟨S_, .bf16⟩
  | .hbm, ⟨14, _⟩ => ⟨S128x512, .bf16⟩
  | .hbm, ⟨15, _⟩ => ⟨S1x128x512, .bf16⟩
  | .hbm, ⟨16, _⟩ => ⟨S1x128x512, .bf16⟩
  | .hbm, ⟨17, _⟩ => ⟨S2x128x512, .bf16⟩
  | .hbm, ⟨18, _⟩ => ⟨S4096x128, .bf16⟩
  | .hbm, ⟨19, _⟩ => ⟨S2x16x512, .f32⟩
  | .hbm, ⟨20, _⟩ => ⟨S2x512, .f32⟩
  | .local _ .vmem, ⟨0, _⟩ => ⟨S512x128, .f32⟩
  | .local _ .vmem, ⟨1, _⟩ => ⟨S512x128, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S2x128x512, .bf16⟩
  | .local _ .vmem, ⟨7, _⟩ => ⟨S512x128, .bf16⟩
  | .local _ .vmem, ⟨8, _⟩ => ⟨S512x128, .bf16⟩
  | .local _ .vmem, ⟨9, _⟩ => ⟨S2x16x512, .f32⟩
  | .local _ .vmem, ⟨10, _⟩ => ⟨S2x512, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v26 : BitVec 1 := Scalar.cmpi .eq arg0 c0_i32
  let v27 : BitVec 32 := Scalar.extui v26
  let c0_i32_17 : BitVec 32 := 0#32
  let v28 : BitVec 1 := Scalar.cmpi .ne v27 c0_i32_17
  v28

def k0_cond2 (i : grid0.Coords) : BitVec 1 :=
  let arg0 : BitVec 32 := BitVec.ofNat 32 (i 0).val
  let c0_i32_18 : BitVec 32 := 0#32
  let v29 : BitVec 1 := Scalar.cmpi .sgt arg0 c0_i32_18
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateRankBwdRefIdeal.lean ====
abbrev S4096x3200 : Shape := ⟨2, ![4096, 3200]⟩
abbrev S4096x512 : Shape := ⟨2, ![4096, 512]⟩
abbrev S2x16x512 : Shape := ⟨3, ![2, 16, 512]⟩
abbrev S_ : Shape := ⟨0, ![]⟩
abbrev S2x512 : Shape := ⟨2, ![2, 512]⟩
abbrev S4096x32 : Shape := ⟨2, ![4096, 32]⟩
abbrev S4096x2x16 : Shape := ⟨3, ![4096, 2, 16]⟩
abbrev S2x4096x512 : Shape := ⟨3, ![2, 4096, 512]⟩
abbrev S2x1x512 : Shape := ⟨3, ![2, 1, 512]⟩
abbrev S1x4096x512 : Shape := ⟨3, ![1, 4096, 512]⟩
abbrev S2x512x16 : Shape := ⟨3, ![2, 512, 16]⟩
abbrev S2x4096x16 : Shape := ⟨3, ![2, 4096, 16]⟩
abbrev S4096x128 : Shape := ⟨2, ![4096, 128]⟩

abbrev nBuf : Space → Nat
  | .hbm => 29
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S4096x512, .f32⟩
  | .hbm, ⟨2, _⟩ => ⟨S4096x512, .f32⟩
  | .hbm, ⟨3, _⟩ => ⟨S2x16x512, .f32⟩
  | .hbm, ⟨4, _⟩ => ⟨S_, .f32⟩
  | .hbm, ⟨5, _⟩ => ⟨S2x512, .f32⟩
  | .hbm, ⟨6, _⟩ => ⟨S4096x32, .f32⟩
  | .hbm, ⟨7, _⟩ => ⟨S4096x2x16, .f32⟩
  | .hbm, ⟨8, _⟩ => ⟨S2x4096x512, .f32⟩
  | .hbm, ⟨9, _⟩ => ⟨S2x1x512, .f32⟩
  | .hbm, ⟨10, _⟩ => ⟨S2x4096x512, .f32⟩
  | .hbm, ⟨11, _⟩ => ⟨S2x4096x512, .f32⟩
  | .hbm, ⟨12, _⟩ => ⟨S1x4096x512, .f32⟩
  | .hbm, ⟨13, _⟩ => ⟨S1x4096x512, .f32⟩
  | .hbm, ⟨14, _⟩ => ⟨S2x4096x512, .f32⟩
  | .hbm, ⟨15, _⟩ => ⟨S_, .f32⟩
  | .hbm, ⟨16, _⟩ => ⟨S2x512, .f32⟩
  | .hbm, ⟨17, _⟩ => ⟨S2x1x512, .f32⟩
  | .hbm, ⟨18, _⟩ => ⟨S_, .f32⟩
  | .hbm, ⟨19, _⟩ => ⟨S2x512, .f32⟩
  | .hbm, ⟨20, _⟩ => ⟨S2x512x16, .f32⟩
  | .hbm, ⟨21, _⟩ => ⟨S2x16x512, .f32⟩
  | .hbm, ⟨22, _⟩ => ⟨S2x4096x16, .f32⟩
  | .hbm, ⟨23, _⟩ => ⟨S4096x2x16, .f32⟩
  | .hbm, ⟨24, _⟩ => ⟨S4096x32, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x128, .bf16⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== EvenMixFwd.lean ====
abbrev S4096x6144 : Shape := ⟨2, ![4096, 6144]⟩
abbrev S4096x1024 : Shape := ⟨2, ![4096, 1024]⟩
abbrev S3x1024 : Shape := ⟨2, ![3, 1024]⟩
abbrev S4096x2048 : Shape := ⟨2, ![4096, 2048]⟩
abbrev S512x1024 : Shape := ⟨2, ![512, 1024]⟩
abbrev S16x1024 : Shape := ⟨2, ![16, 1024]⟩
abbrev S512x2048 : Shape := ⟨2, ![512, 2048]⟩
abbrev S544x1024 : Shape := ⟨2, ![544, 1024]⟩
abbrev S1x1024 : Shape := ⟨2, ![1, 1024]⟩

abbrev nBuf : Space → Nat
  | .hbm => 5
  | .vmem => 25
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x1024, .f32⟩
  | .hbm, ⟨3, _⟩ => ⟨S3x1024, .f32⟩
  | .hbm, ⟨4, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .bf16⟩
  | .local _ .vmem, ⟨7, _⟩ => ⟨S16x1024, .bf16⟩
  | .local _ .vmem, ⟨8, _⟩ => ⟨S512x1024, .bf16⟩
  | .local _ .vmem, ⟨9, _⟩ => ⟨S512x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S16x1024, .bf16⟩
  | .local _ .vmem, ⟨14, _⟩ => ⟨S512x1024, .bf16⟩
  | .local _ .vmem, ⟨15, _⟩ => ⟨S512x1024, .bf16⟩
  | .local _ .vmem, ⟨16, _⟩ => ⟨S16x1024, .bf16⟩
  | .local _ .vmem, ⟨17, _⟩ => ⟨S16x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S3x1024, .f32⟩
  | .local _ .vmem, ⟨23, _⟩ => ⟨S512x2048, .bf16⟩
  | .local _ .vmem, ⟨24, _⟩ => ⟨S512x2048, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c2_i32 : BitVec 32 := 2#32
  let c0_i32 : BitVec 32 := 0#32
  ![v2.toNat, c2_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c4_i32 : BitVec 32 := 4#32
  let c0_i32 : BitVec 32 := 0#32
  ![v2.toNat, c4_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== EvenMixFwdRefIdeal.lean ====
abbrev S4096x6144 : Shape := ⟨2, ![4096, 6144]⟩
abbrev S4096x1024 : Shape := ⟨2, ![4096, 1024]⟩
abbrev S3x1024 : Shape := ⟨2, ![3, 1024]⟩
abbrev S_ : Shape := ⟨0, ![]⟩
abbrev S1x1024 : Shape := ⟨2, ![1, 1024]⟩
abbrev S4098x1024 : Shape := ⟨2, ![4098, 1024]⟩
abbrev S1024 : Shape := ⟨1, ![1024]⟩
abbrev S4096x2048 : Shape := ⟨2, ![4096, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x1024, .f32⟩
  | .hbm, ⟨3, _⟩ => ⟨S3x1024, .f32⟩
  | .hbm, ⟨4, _⟩ => ⟨S4096x6144, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S4098x1024, .f32⟩
  | .hbm, ⟨28, _⟩ => ⟨S4096x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x2048, .f32⟩
  | .hbm, ⟨60, _⟩ => ⟨S4096x2048, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]
-- ==== EvenMixBwd.lean ====
abbrev S4096x6144 : Shape := ⟨2, ![4096, 6144]⟩
abbrev S4096x2048 : Shape := ⟨2, ![4096, 2048]⟩
abbrev S4096x1024 : Shape := ⟨2, ![4096, 1024]⟩
abbrev S4x1024 : Shape := ⟨2, ![4, 1024]⟩
abbrev S3x1024 : Shape := ⟨2, ![3, 1024]⟩
abbrev S1x1024 : Shape := ⟨2, ![1, 1024]⟩
abbrev S16x6144 : Shape := ⟨2, ![16, 6144]⟩
abbrev S256x6144 : Shape := ⟨2, ![256, 6144]⟩
abbrev S16x2048 : Shape := ⟨2, ![16, 2048]⟩
abbrev S256x2048 : Shape := ⟨2, ![256, 2048]⟩
abbrev S256x1024 : Shape := ⟨2, ![256, 1024]⟩
abbrev S16x1024 : Shape := ⟨2, ![16, 1024]⟩
abbrev S288x1024 : Shape := ⟨2, ![288, 1024]⟩
abbrev S1024 : Shape := ⟨1, ![1024]⟩

abbrev nBuf : Space → Nat
  | .hbm => 11
  | .vmem => 29
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4x1024, .f32⟩
  | .hbm, ⟨6, _⟩ => ⟨S3x1024, .f32⟩
  | .hbm, ⟨7, _⟩ => ⟨S4096x6144, .bf16⟩
  | .hbm, ⟨8, _⟩ => ⟨S4x1024, .f32⟩
  | .hbm, ⟨9, _⟩ => ⟨S1x1024, .f32⟩
  | .hbm, ⟨10, _⟩ => ⟨S3x1024, .f32⟩
  | .local _ .vmem, ⟨0, _⟩ => ⟨S16x6144, .bf16⟩
  | .local _ .vmem, ⟨1, _⟩ => ⟨S16x6144, .bf16⟩
  | .local _ .vmem, ⟨2, _⟩ => ⟨S256x6144, .bf16⟩
  | .local _ .vmem, ⟨3, _⟩ => ⟨S256x6144, .bf16⟩
  | .local _ .vmem, ⟨4, _⟩ => ⟨S16x6144, .bf16⟩
  | .local _ .vmem, ⟨5, _⟩ => ⟨S16x6144, .bf16⟩
  | .local _ .vmem, ⟨6, _⟩ => ⟨S16x2048, .f32⟩
  | .local _ .vmem, ⟨7, _⟩ => ⟨S16x2048, .f32⟩
  | .local _ .vmem, ⟨8, _⟩ => ⟨S256x2048, .f32⟩
  | .local _ .vmem, ⟨9, _⟩ => ⟨S256x2048, .f32⟩
  | .local _ .vmem, ⟨10, _⟩ => ⟨S16x2048, .f32⟩
  | .local _ .vmem, ⟨11, _⟩ => ⟨S16x2048, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S16x1024, .f32⟩
  | .local _ .vmem, ⟨17, _⟩ => ⟨S16x1024, .f32⟩
  | .local _ .vmem, ⟨18, _⟩ => ⟨S256x1024, .f32⟩
  | .local _ .vmem, ⟨19, _⟩ => ⟨S256x1024, .f32⟩
  | .local _ .vmem, ⟨20, _⟩ => ⟨S16x1024, .f32⟩
  | .local _ .vmem, ⟨21, _⟩ => ⟨S16x1024, .f32⟩
  | .local _ .vmem, ⟨22, _⟩ => ⟨S4x1024, .f32⟩
  | .local _ .vmem, ⟨23, _⟩ => ⟨S3x1024, .f32⟩
  | .local _ .vmem, ⟨24, _⟩ => ⟨S256x6144, .bf16⟩
  | .local _ .vmem, ⟨25, _⟩ => ⟨S256x6144, .bf16⟩
  | .local _ .vmem, ⟨26, _⟩ => ⟨S4x1024, .f32⟩
  | .local _ .vmem, ⟨27, _⟩ => ⟨S1x1024, .f32⟩
  | .local _ .vmem, ⟨28, _⟩ => ⟨S3x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem13_1 : DmaSem sig := 25
abbrev cc0_sem14_0 : DmaSem sig := 26
abbrev cc0_sem15_0 : DmaSem sig := 27
abbrev cc0_sem16_0 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_97 : BitVec 32 := 0#32
  let v227 : BitVec 1 := Scalar.cmpi .eq arg0 c0_i32_97
  let v228 : BitVec 32 := Scalar.extui v227
  let c0_i32_98 : BitVec 32 := 0#32
  let v229 : BitVec 1 := Scalar.cmpi .ne v228 c0_i32_98
  v229

def k0_cond2 (i : grid0.Coords) : BitVec 1 :=
  let arg0 : BitVec 32 := BitVec.ofNat 32 (i 0).val
  let c0_i32_99 : BitVec 32 := 0#32
  let v230 : BitVec 1 := Scalar.cmpi .sgt arg0 c0_i32_99
  let v231 : BitVec 32 := Scalar.extui v230
  let c0_i32_100 : BitVec 32 := 0#32
  let v232 : BitVec 1 := Scalar.cmpi .ne v231 c0_i32_100
  v232

def k0_cond3 (i : grid0.Coords) : BitVec 1 :=
  let arg0 : BitVec 32 := BitVec.ofNat 32 (i 0).val
  let c0_i32_101 : BitVec 32 := 0#32
  let v233 : BitVec 1 := Scalar.cmpi .eq arg0 c0_i32_101
  let v234 : BitVec 32 := Scalar.extui v233
  let c0_i32_102 : BitVec 32 := 0#32
  let v235 : BitVec 1 := Scalar.cmpi .ne v234 c0_i32_102
  v235

def k0_cond4 (i : grid0.Coords) : BitVec 1 :=
  let arg0 : BitVec 32 := BitVec.ofNat 32 (i 0).val
  let c0_i32_103 : BitVec 32 := 0#32
  let v236 : BitVec 1 := Scalar.cmpi .sgt arg0 c0_i32_103
  let v237 : BitVec 32 := Scalar.extui v236
  let c0_i32_104 : BitVec 32 := 0#32
  let v238 : BitVec 1 := Scalar.cmpi .ne v237 c0_i32_104
  v238

def k0_cond5 (i : grid0.Coords) : BitVec 1 :=
  let arg0 : BitVec 32 := BitVec.ofNat 32 (i 0).val
  let c0_i32_105 : BitVec 32 := 0#32
  let v239 : BitVec 1 := Scalar.cmpi .eq arg0 c0_i32_105
  let v240 : BitVec 32 := Scalar.extui v239
  let c0_i32_106 : BitVec 32 := 0#32
  let v241 : BitVec 1 := Scalar.cmpi .ne v240 c0_i32_106
  v241

def k0_cond6 (i : grid0.Coords) : BitVec 1 :=
  let arg0 : BitVec 32 := BitVec.ofNat 32 (i 0).val
  let c0_i32_107 : BitVec 32 := 0#32
  let v242 : BitVec 1 := Scalar.cmpi .sgt arg0 c0_i32_107
  let v243 : BitVec 32 := Scalar.extui v242
  let c0_i32_108 : BitVec 32 := 0#32
  let v244 : BitVec 1 := Scalar.cmpi .ne v243 c0_i32_108
  v244

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== EvenMixBwdRefIdeal.lean ====
abbrev S4096x6144 : Shape := ⟨2, ![4096, 6144]⟩
abbrev S4096x2048 : Shape := ⟨2, ![4096, 2048]⟩
abbrev S4096x1024 : Shape := ⟨2, ![4096, 1024]⟩
abbrev S4x1024 : Shape := ⟨2, ![4, 1024]⟩
abbrev S3x1024 : Shape := ⟨2, ![3, 1024]⟩
abbrev S_ : Shape := ⟨0, ![]⟩
abbrev S1024 : Shape := ⟨1, ![1024]⟩
abbrev S2x1024 : Shape := ⟨2, ![2, 1024]⟩
abbrev S1x1024 : Shape := ⟨2, ![1, 1024]⟩
abbrev S4099x1024 : Shape := ⟨2, ![4099, 1024]⟩
abbrev S4098x1024 : Shape := ⟨2, ![4098, 1024]⟩

abbrev nBuf : Space → Nat
  | .hbm => 249
  | .vmem => 0
  | .smem => 0
  | _ => 0

abbrev hbmTy0_0 (i : Nat) : BufTy := match i % 128 with
  | 0 => ⟨S4096x6144, .bf16⟩
  | 1 => ⟨S4096x2048, .f32⟩
  | 2 => ⟨S4096x1024, .f32⟩
  | 3 => ⟨S4096x1024, .f32⟩
  | 4 => ⟨S4096x1024, .f32⟩
  | 5 => ⟨S4x1024, .f32⟩
  | 6 => ⟨S3x1024, .f32⟩
  | 7 => ⟨S4096x6144, .f32⟩
  | 8 => ⟨S_, .f32⟩
  | 9 => ⟨S1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S_, .f32⟩
  | 17 => ⟨S2x1024, .f32⟩
  | 18 => ⟨S_, .f32⟩
  | 19 => ⟨S1x1024, .f32⟩
  | 20 => ⟨S4099x1024, .f32⟩
  | 21 => ⟨S_, .f32⟩
  | 22 => ⟨S2x1024, .f32⟩
  | 23 => ⟨S_, .f32⟩
  | 24 => ⟨S1x1024, .f32⟩
  | 25 => ⟨S4096x1024, .f32⟩
  | 26 => ⟨S1x1024, .f32⟩
  | 27 => ⟨S1024, .f32⟩
  | 28 => ⟨S1x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S4096x1024, .f32⟩
  | 63 => ⟨S4096x1024, .f32⟩
  | 64 => ⟨S_, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S1x1024, .f32⟩
  | 73 => ⟨S_, .f32⟩
  | 74 => ⟨S1x1024, .f32⟩
  | 75 => ⟨S4098x1024, .f32⟩
  | 76 => ⟨S_, .f32⟩
  | 77 => ⟨S1x1024, .f32⟩
  | 78 => ⟨S_, .f32⟩
  | 79 => ⟨S1x1024, .f32⟩
  | 80 => ⟨S4096x1024, .f32⟩
  | 81 => ⟨S1x1024, .f32⟩
  | 82 => ⟨S1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S1x1024, .f32⟩
  | 90 => ⟨S4096x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S1x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S_, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x2048, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x6144, .bf16⟩

abbrev hbmTy0_1 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S_, .f32⟩
  | 8 => ⟨S3x1024, .f32⟩
  | 9 => ⟨S_, .f32⟩
  | 10 => ⟨S4098x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S_, .f32⟩
  | 18 => ⟨S1024, .f32⟩
  | 19 => ⟨S1x1024, .f32⟩
  | 20 => ⟨S_, .f32⟩
  | 21 => ⟨S3x1024, .f32⟩
  | 22 => ⟨S3x1024, .f32⟩
  | 23 => ⟨S_, .f32⟩
  | 24 => ⟨S4098x1024, .f32⟩
  | 25 => ⟨S4098x1024, .f32⟩
  | 26 => ⟨S4096x1024, .f32⟩
  | 27 => ⟨S_, .f32⟩
  | 28 => ⟨S1024, .f32⟩
  | 29 => ⟨S1x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S_, .f32⟩
  | 36 => ⟨S3x1024, .f32⟩
  | 37 => ⟨S3x1024, .f32⟩
  | 38 => ⟨S_, .f32⟩
  | 39 => ⟨S4098x1024, .f32⟩
  | 40 => ⟨S4098x1024, .f32⟩
  | 41 => ⟨S1x1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S1024, .f32⟩
  | 54 => ⟨S1x1024, .f32⟩
  | 55 => ⟨S_, .f32⟩
  | 56 => ⟨S1024, .f32⟩
  | 57 => ⟨S4096x1024, .f32⟩
  | 58 => ⟨S_, .f32⟩
  | 59 => ⟨S1024, .f32⟩
  | 60 => ⟨S1x1024, .f32⟩
  | 61 => ⟨S4096x1024, .f32⟩
  | 62 => ⟨S4096x1024, .f32⟩
  | 63 => ⟨S_, .f32⟩
  | 64 => ⟨S1024, .f32⟩
  | 65 => ⟨S1x1024, .f32⟩
  | 66 => ⟨S_, .f32⟩
  | 67 => ⟨S4x1024, .f32⟩
  | 68 => ⟨S_, .f32⟩
  | 69 => ⟨S4099x1024, .f32⟩
  | 70 => ⟨S4096x1024, .f32⟩
  | 71 => ⟨S_, .f32⟩
  | 72 => ⟨S1024, .f32⟩
  | 73 => ⟨S1x1024, .f32⟩
  | 74 => ⟨S4096x1024, .f32⟩
  | 75 => ⟨S4096x1024, .f32⟩
  | 76 => ⟨S_, .f32⟩
  | 77 => ⟨S1024, .f32⟩
  | 78 => ⟨S1x1024, .f32⟩
  | 79 => ⟨S_, .f32⟩
  | 80 => ⟨S4x1024, .f32⟩
  | 81 => ⟨S4x1024, .f32⟩
  | 82 => ⟨S_, .f32⟩
  | 83 => ⟨S4099x1024, .f32⟩
  | 84 => ⟨S4099x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S_, .f32⟩
  | 95 => ⟨S4x1024, .f32⟩
  | 96 => ⟨S4x1024, .f32⟩
  | 97 => ⟨S_, .f32⟩
  | 98 => ⟨S4099x1024, .f32⟩
  | 99 => ⟨S4099x1024, .f32⟩
  | 100 => ⟨S4096x1024, .f32⟩
  | 101 => ⟨S_, .f32⟩
  | 102 => ⟨S1024, .f32⟩
  | 103 => ⟨S1x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S_, .f32⟩
  | 110 => ⟨S4x1024, .f32⟩
  | 111 => ⟨S4x1024, .f32⟩
  | 112 => ⟨S_, .f32⟩
  | 113 => ⟨S4099x1024, .f32⟩
  | 114 => ⟨S4099x1024, .f32⟩
  | 115 => ⟨S2x1024, .f32⟩
  | 116 => ⟨S4096x1024, .f32⟩
  | 117 => ⟨S1x1024, .f32⟩
  | 118 => ⟨S4096x6144, .f32⟩
  | 119 => ⟨S4096x6144, .bf16⟩
  | 120 => ⟨S1x1024, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v44_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v44_1 : Ref sig .tc := ⟨.hbm, 67, rfl⟩
abbrev main_v44_0 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_v73_2 : Ref sig .tc := ⟨.hbm, 108, rfl⟩
abbrev main_call1_cst_1 : Ref sig .tc := ⟨.hbm, 109, rfl⟩
abbrev main_call1_v6 : Ref sig .tc := ⟨.hbm, 110, rfl⟩
abbrev main_call1_v7 : Ref sig .tc := ⟨.hbm, 111, rfl⟩
abbrev main_v73_1 : Ref sig .tc := ⟨.hbm, 112, rfl⟩
abbrev main_v73_0 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_8 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_9 : Ref sig .tc := ⟨.hbm, 132, rfl⟩
abbrev main_v88 : Ref sig .tc := ⟨.hbm, 133, rfl⟩
abbrev main_v89 : Ref sig .tc := ⟨.hbm, 134, rfl⟩
abbrev main_cst_10 : Ref sig .tc := ⟨.hbm, 135, rfl⟩
abbrev main_v90 : Ref sig .tc := ⟨.hbm, 136, rfl⟩
abbrev main_cst_11 : Ref sig .tc := ⟨.hbm, 137, rfl⟩
abbrev main_v91 : Ref sig .tc := ⟨.hbm, 138, rfl⟩
abbrev main_v92 : Ref sig .tc := ⟨.hbm, 139, rfl⟩
abbrev main_cst_12 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_13 : Ref sig .tc := ⟨.hbm, 145, rfl⟩
abbrev main_v97 : Ref sig .tc := ⟨.hbm, 146, rfl⟩
abbrev main_v98 : Ref sig .tc := ⟨.hbm, 147, rfl⟩
abbrev main_cst_14 : Ref sig .tc := ⟨.hbm, 148, rfl⟩
abbrev main_v99 : Ref sig .tc := ⟨.hbm, 149, rfl⟩
abbrev main_v100 : Ref sig .tc := ⟨.hbm, 150, rfl⟩
abbrev main_cst_15 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_cst_16 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_17 : Ref sig .tc := ⟨.hbm, 160, rfl⟩
abbrev main_v108 : Ref sig .tc := ⟨.hbm, 161, rfl⟩
abbrev main_v109 : Ref sig .tc := ⟨.hbm, 162, rfl⟩
abbrev main_cst_18 : Ref sig .tc := ⟨.hbm, 163, rfl⟩
abbrev main_v110 : Ref sig .tc := ⟨.hbm, 164, rfl⟩
abbrev main_v111 : Ref sig .tc := ⟨.hbm, 165, rfl⟩
abbrev main_cst_19 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_v120 : Ref sig .tc := ⟨.hbm, 178, rfl⟩
abbrev main_v121 : Ref sig .tc := ⟨.hbm, 179, rfl⟩
abbrev main_cst_20 : Ref sig .tc := ⟨.hbm, 180, rfl⟩
abbrev main_v122 : Ref sig .tc := ⟨.hbm, 181, rfl⟩
abbrev main_v123 : Ref sig .tc := ⟨.hbm, 182, rfl⟩
abbrev main_cst_21 : Ref sig .tc := ⟨.hbm, 183, rfl⟩
abbrev main_v124 : Ref sig .tc := ⟨.hbm, 184, rfl⟩
abbrev main_v125 : Ref sig .tc := ⟨.hbm, 185, rfl⟩
abbrev main_cst_22 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_cst_23 : Ref sig .tc := ⟨.hbm, 191, rfl⟩
abbrev main_v130 : Ref sig .tc := ⟨.hbm, 192, rfl⟩
abbrev main_v131 : Ref sig .tc := ⟨.hbm, 193, rfl⟩
abbrev main_cst_24 : Ref sig .tc := ⟨.hbm, 194, rfl⟩
abbrev main_v132 : Ref sig .tc := ⟨.hbm, 195, rfl⟩
abbrev main_cst_25 : Ref sig .tc := ⟨.hbm, 196, rfl⟩
abbrev main_v133 : Ref sig .tc := ⟨.hbm, 197, rfl⟩
abbrev main_v134 : Ref sig .tc := ⟨.hbm, 198, rfl⟩
abbrev main_cst_26 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_cst_27 : Ref sig .tc := ⟨.hbm, 204, rfl⟩
abbrev main_v139 : Ref sig .tc := ⟨.hbm, 205, rfl⟩
abbrev main_v140 : Ref sig .tc := ⟨.hbm, 206, rfl⟩
abbrev main_cst_28 : Ref sig .tc := ⟨.hbm, 207, rfl⟩
abbrev main_v141 : Ref sig .tc := ⟨.hbm, 208, rfl⟩
abbrev main_v142 : Ref sig .tc := ⟨.hbm, 209, rfl⟩
abbrev main_cst_29 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_cst_30 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_cst_31 : Ref sig .tc := ⟨.hbm, 219, rfl⟩
abbrev main_v150 : Ref sig .tc := ⟨.hbm, 220, rfl⟩
abbrev main_v151 : Ref sig .tc := ⟨.hbm, 221, rfl⟩
abbrev main_cst_32 : Ref sig .tc := ⟨.hbm, 222, rfl⟩
abbrev main_v152 : Ref sig .tc := ⟨.hbm, 223, rfl⟩
abbrev main_v153 : Ref sig .tc := ⟨.hbm, 224, rfl⟩
abbrev main_cst_33 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_cst_34 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_cst_35 : Ref sig .tc := ⟨.hbm, 234, rfl⟩
abbrev main_v161 : Ref sig .tc := ⟨.hbm, 235, rfl⟩
abbrev main_v162 : Ref sig .tc := ⟨.hbm, 236, rfl⟩
abbrev main_cst_36 : Ref sig .tc := ⟨.hbm, 237, rfl⟩
abbrev main_v163 : Ref sig .tc := ⟨.hbm, 238, rfl⟩
abbrev main_v164 : Ref sig .tc := ⟨.hbm, 239, rfl⟩
abbrev main_cst_37 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩

abbrev nD : Nat := 1
abbrev τ : Topo := Topo.v7x

variable {F : FTy → Type} [FloatOps F]
-- ==== AdamGate.lean ====
abbrev S2x2x8x128x128 : Shape := ⟨5, ![2, 2, 8, 128, 128]⟩
abbrev S4096x128 : Shape := ⟨2, ![4096, 128]⟩

abbrev nBuf : Space → Nat
  | .hbm => 11
  | .vmem => 8
  | .smem => 0
  | _ => 0

abbrev bufTy : (tb : Table) → Fin (tcTables nBuf tb) → BufTy
  | .hbm, ⟨0, _⟩ => ⟨S2x2x8x128x128, .f32⟩
  | .hbm, ⟨1, _⟩ => ⟨S4096x128, .f32⟩
  | .hbm, ⟨2, _⟩ => ⟨S2x2x8x128x128, .f32⟩
  | .hbm, ⟨3, _⟩ => ⟨S2x2x8x128x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | _, _ => ⟨S2x2x8x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGateRefIdeal.lean ====
abbrev S2x2x8x128x128 : Shape := ⟨5, ![2, 2, 8, 128, 128]⟩
abbrev S4096x128 : Shape := ⟨2, ![4096, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2x2x8x128x128, .f32⟩
  | .hbm, ⟨1, _⟩ => ⟨S4096x128, .f32⟩
  | .hbm, ⟨2, _⟩ => ⟨S2x2x8x128x128, .f32⟩
  | .hbm, ⟨3, _⟩ => ⟨S2x2x8x128x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S_, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .f32⟩
  | _, _ => ⟨S2x2x8x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.NormGrad.lean ====
/- The gradient of a root-mean-square norm along one row: the two ways of writing it, over the
   extended reals, are one where the row and the gradient flowing in are finite. -/
module

public import Idealize.ShloMosaic.Lib.Pointwise
public import Idealize.ShloMosaic.Lib.Claim

@[expose] public section

noncomputable section

namespace Cert.Proof

open Idealize.ShloMosaic

/-- The value is a real number: neither infinity. -/
def Finite (a : EReal) : Prop := ∃ r : ℝ, a = (r : EReal)

theorem Finite.mul {a b : EReal} : Finite a → Finite b → Finite (a * b)
  | ⟨r, hr⟩, ⟨s, hs⟩ => ⟨r * s, by rw [hr, hs, EReal.coe_mul]⟩

theorem Finite.add {a b : EReal} : Finite a → Finite b → Finite (a + b)
  | ⟨r, hr⟩, ⟨s, hs⟩ => ⟨r + s, by rw [hr, hs, EReal.coe_add]⟩

/-- A finite sum of reals, taken in the extended reals, is the real sum. -/
theorem coe_sum {ι : Type*} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

theorem Finite.sum {ι : Type*} (S : Finset ι) {f : ι → EReal} (h : ∀ k, Finite (f k)) : Finite (∑ k ∈ S, f k) := by
  choose g hg using h
  exact ⟨_, (Finset.sum_congr rfl fun k _ => hg k).trans (coe_sum S g)⟩

/-- A value whose magnitude compares below `+∞` is finite. -/
theorem finite_of_abs_lt {a : EReal} (h : Ideal.cmp .olt (max a (-a)) (Ideal.ofBits .f32 0x7F800000#32) = 1#1) : Finite a := by
  have htop : Ideal.ofBits .f32 0x7F800000#32 = ⊤ := by simp [Ideal.ofBits, Ideal.ieee]
  rw [htop] at h
  induction a with
  | bot => simp [Ideal.cmp] at h
  | top => simp [Ideal.cmp] at h
  | coe r => exact ⟨r, rfl⟩

/-- The two row lengths as the words the programs divide by. -/
theorem word_len : ∃ l : ℝ, 0 < l ∧ Ideal.ofBits .f32 1149239296#32 = (l : EReal) :=
  ⟨1024, by norm_num, by simp [Ideal.ofBits, Ideal.ieee, -EReal.coe_mul]; norm_num⟩

theorem word_head : ∃ l : ℝ, 0 < l ∧ Ideal.ofBits .f32 1132462080#32 = (l : EReal) :=
  ⟨256, by norm_num, by simp [Ideal.ofBits, Ideal.ieee, -EReal.coe_mul]; norm_num⟩

/-- The small constant under the root is a positive real. -/
theorem word_eps : ∃ e : ℝ, 0 < e ∧ Ideal.ofBits .f32 897988541#32 = (e : EReal) :=
  ⟨8796093 / 2 ^ 43, by norm_num, by simp [Ideal.ofBits, Ideal.ieee, -EReal.coe_mul]; norm_num⟩

/-- The factor the derivative of a reciprocal root carries. -/
theorem word_neg_half : Ideal.ofBits .f32 3204448256#32 = ((-(1 / 2) : ℝ) : EReal) := by
  simp [Ideal.ofBits, Ideal.ieee, -EReal.coe_mul, -EReal.coe_neg]; norm_num

variable {n : ℕ} {w : EReal}

/-- The mean square of a row plus the small constant; `w` is the row's length. -/
def meanSq (w : EReal) (x : Fin n → EReal) : EReal :=
  Ideal.div (∑ k, x k * x k) w + Ideal.ofBits .f32 897988541#32

theorem meanSq_pos (hw : ∃ l : ℝ, 0 < l ∧ w = (l : EReal)) {x : Fin n → EReal} (hx : ∀ k, Finite (x k)) :
    ∃ v : ℝ, 0 < v ∧ meanSq w x = (v : EReal) := by
  obtain ⟨e, he, hε⟩ := word_eps
  obtain ⟨l, hl, rfl⟩ := hw
  choose X hX using hx
  refine ⟨(∑ k, X k * X k) * (1 / l) + e, add_pos_of_nonneg_of_pos
    (mul_nonneg (Finset.sum_nonneg fun k _ => mul_self_nonneg _) (by positivity)) he, ?_⟩
  unfold meanSq
  simp only [hX, hε, ← EReal.coe_mul, coe_sum, Ideal.div_coe hl.ne', ← EReal.coe_add]

/-- The reciprocal root of a row's mean square is finite. -/
theorem rsqrt_meanSq (hw : ∃ l : ℝ, 0 < l ∧ w = (l : EReal)) {x : Fin n → EReal} (hx : ∀ k, Finite (x k)) :
    Finite (Ideal.rsqrt (meanSq w x)) := by
  obtain ⟨v, hv, hm⟩ := meanSq_pos hw hx
  exact ⟨(√v)⁻¹, by rw [hm, Ideal.rsqrt_coe, if_neg (not_lt.mpr hv.le), if_neg hv.ne']⟩

/-- The norm's gradient: on the left through the normalised row and its mean product with the gradient, on the right
    as the derivative of the product of the row and the reciprocal root of its mean square, the two halves of the
    square's derivative apart. -/
theorem norm_grad (hw : ∃ l : ℝ, 0 < l ∧ w = (l : EReal)) {x u : Fin n → EReal} (hx : ∀ k, Finite (x k))
    (hu : ∀ k, Finite (u k)) (j : Fin n) :
    Ideal.rsqrt (meanSq w x) * (u j - x j * Ideal.rsqrt (meanSq w x)
        * Ideal.div (∑ k, u k * (x k * Ideal.rsqrt (meanSq w x))) w)
      = u j * Ideal.rsqrt (meanSq w x)
        + x j * Ideal.div ((∑ k, x k * u k) * (Ideal.ofBits .f32 3204448256#32 * Ideal.div (Ideal.rsqrt (meanSq w x)) (meanSq w x))) w
        + Ideal.div ((∑ k, x k * u k) * (Ideal.ofBits .f32 3204448256#32 * Ideal.div (Ideal.rsqrt (meanSq w x)) (meanSq w x))) w * x j := by
  obtain ⟨v, hv, hm⟩ := meanSq_pos hw hx
  obtain ⟨l, hl, rfl⟩ := hw
  choose X hX using hx
  choose U hU using hu
  have hrs : Ideal.rsqrt (v : EReal) = (((√v)⁻¹ : ℝ) : EReal) := by
    rw [Ideal.rsqrt_coe, if_neg (not_lt.mpr hv.le), if_neg hv.ne']
  simp only [hm, hrs, hX, hU, word_neg_half, ← EReal.coe_mul, coe_sum, Ideal.div_coe hl.ne',
    Ideal.div_coe hv.ne', ← EReal.coe_sub, ← EReal.coe_add]
  congr 1
  have hs : (√v)⁻¹ * (√v)⁻¹ = 1 / v := by rw [← mul_inv, Real.mul_self_sqrt hv.le, one_div]
  have hsum : ∑ k, U k * (X k * (√v)⁻¹) = (√v)⁻¹ * ∑ k, X k * U k := by
    rw [Finset.mul_sum]; exact Finset.sum_congr rfl fun k _ => by ring
  rw [hsum, ← hs]
  ring

/-- The same with an addend `d`, which may be any value, in front. -/
theorem norm_grad_add (hw : ∃ l : ℝ, 0 < l ∧ w = (l : EReal)) {x u : Fin n → EReal} (hx : ∀ k, Finite (x k))
    (hu : ∀ k, Finite (u k)) (d : EReal) (j : Fin n) :
    d + Ideal.rsqrt (meanSq w x) * (u j - x j * Ideal.rsqrt (meanSq w x)
        * Ideal.div (∑ k, u k * (x k * Ideal.rsqrt (meanSq w x))) w)
      = d + u j * Ideal.rsqrt (meanSq w x)
        + x j * Ideal.div ((∑ k, x k * u k) * (Ideal.ofBits .f32 3204448256#32 * Ideal.div (Ideal.rsqrt (meanSq w x)) (meanSq w x))) w
        + Ideal.div ((∑ k, x k * u k) * (Ideal.ofBits .f32 3204448256#32 * Ideal.div (Ideal.rsqrt (meanSq w x)) (meanSq w x))) w * x j := by
  rw [norm_grad hw hx hu j, add_assoc d, add_assoc d]

/-- The integer zero, as a value. -/
theorem int_zero (φ : FTy) : FloatOps.sitofp (F := Ideal) φ 0#32 = (0 : EReal) := by
  show (((0#32 : BitVec 32).toInt : ℝ) : EReal) = 0
  simp

/-- A sum of products whose second factor is padded with zeros is the sum over the columns it has. -/
theorem sum_padded {n p q : Nat} (hq : q = n + p) (f : Fin q → EReal) (g : Fin n → EReal) :
    (∑ x : Fin q, f x * if h : x.val < n then g ⟨x.val, h⟩ else 0) = ∑ x : Fin n, f ⟨x.val, by omega⟩ * g x := by
  subst hq
  rw [Fin.sum_univ_add]
  simp only [Fin.val_castAdd, Fin.val_natAdd, Fin.is_lt, dite_true, show ∀ k : Fin p, ¬ n + k.val < n from fun k => by omega,
    dite_false, mul_zero, Finset.sum_const_zero, add_zero]
  rfl

end Cert.Proof

end
-- ==== Proof.EvenInBwd.lean ====
/- The even layer's input projection, backward. -/
module

public import proofs.«01_k».proof.Proof.Gen.EvenInBwdIdeal.Value
public import proofs.«01_k».proof.Proof.Gen.EvenInBwdRefIdeal.Read
public import Idealize.ShloMosaic.Lib.Pipeline.ValueKit
public import Idealize.ShloMosaic.Lib.Pointwise
public import Idealize.ShloMosaic.Lib.Claim
public import proofs.«01_k».proof.Proof.Gen.Pre_even_in_bwd_finite
public import proofs.«01_k».proof.Proof.Gen.EvenInBwdRefIdeal.Run
public import proofs.«01_k».proof.Proof.Gen.EvenInBwd.Frame
public import proofs.«01_k».proof.Defs
public import proofs.«01_k».proof.Proof.NormGrad

@[expose] public section

set_option maxRecDepth 16384

noncomputable section

namespace Cert.Proof.EvenInBwd

open Cert.EvenInBwdIdeal Cert.EvenInBwdIdeal.Gen Idealize.ShloMosaic Idealize.ShloMosaic.TcCoe Idealize.SL.Sem

variable (m : (ℓ : Loc nD τ sig) → Buf (Elt Ideal) ℓ)

/-- The blocks' indices at a grid point. -/
theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (c : Dev nD) (t : Fin cfg0.N)

/-- The argument arrays, as arrays of extended reals. -/
abbrev dproj : Shape.Idx ⟨2, ![4096, 6144]⟩ → EReal := m ((c : Thread nD τ).loc main_arg0)
abbrev w : Shape.Idx ⟨2, ![1024, 6144]⟩ → EReal := m ((c : Thread nD τ).loc main_arg1)
abbrev x : Shape.Idx ⟨2, ![4096, 1024]⟩ → EReal := m ((c : Thread nD τ).loc main_arg2)
abbrev gain : Shape.Idx ⟨1, ![1024]⟩ → EReal := m ((c : Thread nD τ).loc main_arg3)
abbrev dres : Shape.Idx ⟨2, ![4096, 1024]⟩ → EReal := m ((c : Thread nD τ).loc main_arg4)

/-- The blocks of the projection's gradient and of the weight at a grid point. -/
abbrev dprojBlk : Shape.Idx ⟨2, ![512, 6144]⟩ → EReal := iblk m c 0 t
abbrev wBlk : Shape.Idx ⟨3, ![4, 1024, 1536]⟩ → EReal := iblk m c 1 t

/-- The array row a block row is. -/
def row (t : Fin cfg0.N) (a : Fin 512) : Fin 4096 := ⟨t.val * 512 + a.val, by have := t.isLt; have : cfg0.N = 8 := rfl; omega⟩

theorem read_dproj (a : Fin 512) (k : Fin 6144) :
    iblk m c 0 t (ix2 a k) = dproj m c (ix2 (row t a) k) := by
  blk_ext [iblk, V, row, idx t]

theorem read_w (q : Fin 4) (a : Fin 1024) (k : Fin 1536) :
    iblk m c 1 t (ix3 q a k) = w m c (ix2 a ⟨q.val * 1536 + k.val, by omega⟩) := by
  blk_point [iblk, V, idx t]

theorem read_x (a : Fin 512) (k : Fin 1024) :
    iblk m c 2 t (ix2 a k) = x m c (ix2 (row t a) k) := by
  blk_ext [iblk, V, row, idx t]

theorem read_gain (k : Fin 1024) : iblk m c 3 t (ix2 0 k) = gain m c (ix1 k) := by
  blk_point [iblk, V, idx t]

theorem read_dres (a : Fin 512) (k : Fin 1024) :
    iblk m c 4 t (ix2 a k) = dres m c (ix2 (row t a) k) := by
  blk_ext [iblk, V, row, idx t]

/-- The gradient of the normalised row at one element: the row of the projection's gradient against a row of the weight. -/
def dh (r : Fin 4096) (j : Fin 1024) : EReal :=
  ∑ k : Fin 6144, dproj m c (ix2 r k) * w m c (ix2 j k)

/-- The four column tiles' products add up to it. -/
theorem dh_eq (a : Fin 512) (j : Fin 1024) :
    ∑ k : Fin 1536, dprojBlk m c t (ix2 a ⟨k.val, by omega⟩) * wBlk m c t (ix3 0 j k)
        + ∑ k : Fin 1536, dprojBlk m c t (ix2 a ⟨1536 + k.val, by omega⟩) * wBlk m c t (ix3 1 j k)
        + ∑ k : Fin 1536, dprojBlk m c t (ix2 a ⟨3072 + k.val, by omega⟩) * wBlk m c t (ix3 2 j k)
        + ∑ k : Fin 1536, dprojBlk m c t (ix2 a ⟨4608 + k.val, by omega⟩) * wBlk m c t (ix3 3 j k)
      = dh m c (row t a) j := by
  rw [dh, Fin.sum_univ_tiles 4 1536 rfl, Fin.sum_univ_four]
  simp [read_dproj, read_w]

/-- The arguments the gradient of the input needs finite. -/
structure FiniteArgs : Prop where
  hdproj : ∀ i, Finite (dproj m c i)
  hw : ∀ i, Finite (w m c i)
  hx : ∀ i, Finite (x m c i)
  hgain : ∀ i, Finite (gain m c i)

set_option maxHeartbeats 1000000 in
open Cert.EvenInBwdRefIdeal.Read in
/-- The gradient of the layer's input, the residual's gradient added. -/
theorem dx (hfin : FiniteArgs m c) : (dats m 0 c).arrAt 5 cfg0.N
    = val_main_v39 (dproj m c) (w m c) (x m c) (gain m c) (dres m c) := by
  refine (dats m 0 c).arrAt_eq_of_covers 5 _ (by decide +kernel) fun t hf y => ?_
  have hemb : ((View.whole main_v4_0).slice (win0_5.rect t)).emb y = ix2 (row t (y 0)) (y 1) := by
    blk_ext [row, idx t]
  obtain ⟨a, j, rfl⟩ : ∃ a j, y = ix2 a j := ⟨y 0, y 1, by idx_vars y⟩
  blk_simp
  rw [after0_5]
  have h : t.val < 8 := t.isLt
  by_cases h0 : t.val % 8 = 0
  on_goal 1 => rw [outsAt0_A m c t h0 (by omega)]
  on_goal 2 => rw [outsAt0_B m c t h0 (by omega)]
  all_goals
    frame_out
    pointwise [k0_pay1, k0_pay4, k0_pay5, k0_pay6, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
    rw [hemb]
    simp only [dh_eq, read_x, read_gain, read_dres, Finset.univ_unique, Finset.sum_const, Finset.card_singleton, one_smul]
    exact norm_grad_add word_len (x := fun k => x m c (ix2 (row t a) k)) (u := fun k => dh m c (row t a) k * gain m c (ix1 k))
      (fun k => hfin.hx _) (fun k => (Finite.sum _ fun _ => (hfin.hdproj _).mul (hfin.hw _)).mul (hfin.hgain _)) _ j

/-- One row's term of the gain's gradient. -/
def gainTerm (r : Fin 4096) (j : Fin 1024) : EReal :=
  dh m c r j * (x m c (ix2 r j) * Ideal.rsqrt (meanSq (Ideal.ofBits .f32 1149239296#32) fun k => x m c (ix2 r k)))

set_option maxHeartbeats 1000000 in
open Cert.EvenInBwdRefIdeal.Read in
/-- The gradient of the norm's gain: the row blocks' column sums added up. -/
theorem dgain (c : Dev nD) : (dats m 0 c).arrAt 6 cfg0.N = val_main_v40 (dproj m c) (w m c) (x m c) := by
  refine (dats m 0 c).arrAt_eq_of_after_last 6 t0_7 (by decide +kernel) _ fun j => ?_
  obtain ⟨z, j, rfl⟩ : ∃ z j', j = ix2 z j' := ⟨j 0, j 1, by idx_vars j⟩
  blk_simp
  rw [after0_6]
  refine (Pipeline.eq_sum_fin_of_reset_step_apply_last (fun n h => (outsAt0 m c n h).2) 8 (fun _ => 0)
    (fun t i => ∑ a : Fin 512, gainTerm m c (row t a) (i 1)) (fun t h0 j => ?_) (fun t h0 j => ?_) (by decide) t0_7 rfl (ix2 z j)).trans ?_
  · obtain ⟨z, j, rfl⟩ : ∃ z j', j = ix2 z j' := ⟨j 0, j 1, by idx_vars j⟩
    have h : t.val < 8 := t.isLt
    rw [outsAt0_A m c t h0 (by omega)]
    frame_out
    pointwise [k0_pay1, k0_pay2, k0_pay4, k0_pay5, k0_pay6]
    simp only [dh_eq, read_x, gainTerm, meanSq, zero_add]
  · obtain ⟨z, j, rfl⟩ : ∃ z j', j = ix2 z j' := ⟨j 0, j 1, by idx_vars j⟩
    have h : t.val < 8 := t.isLt
    rw [outsAt0_B m c t h0 (by omega)]
    frame_out
    pointwise [k0_pay1, k0_pay2, k0_pay3, k0_pay4, k0_pay5, k0_pay6]
    simp only [dh_eq, read_x, gainTerm, meanSq]
  · refine (zero_add _).trans ((Fin.sum_univ_tiles 8 512 rfl fun r => gainTerm m c r j).symm.trans ?_)
    pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_v19, val_main_cst_3, val_main_v20, val_main_v21, val_main_v22, val_main_v23, val_main_cst_4, val_main_v24, val_main_v25, val_main_cst_5, val_main_v26, val_main_v27, val_main_v28, val_main_v29, val_main_v30, val_main_v31, val_main_cst_6, val_main_v32, val_main_v33, val_main_cst_7, val_main_v34, val_main_v35, val_main_v36, val_main_v37, val_main_v38, val_main_v39, val_main_v40]
    simp only [Finset.univ_unique, Finset.sum_const, Finset.card_singleton, one_smul]
    exact Finset.sum_congr rfl fun r _ => mul_comm _ _

/-- What the precondition says: every element compares below `+∞` in magnitude. -/
theorem finiteArgs (hpre : Cert.Pre_EvenInBwdIdeal_even_in_bwd_finite m) (c : Dev nD) : FiniteArgs m c where
  hdproj i := finite_of_abs_lt (congrFun (hpre c).1 i)
  hw i := finite_of_abs_lt (congrFun (hpre c).2.1 i)
  hx i := finite_of_abs_lt (congrFun (hpre c).2.2.1 i)
  hgain i := finite_of_abs_lt (congrFun (hpre c).2.2.2 i)

/-- The kernel and the reference end with the same arrays. -/
theorem algebraic : Cert.algebraic_EvenInBwdIdeal_EvenInBwdRefIdeal_pre_even_in_bwd_finite := by
  pair_intro
  · run_from Cert.EvenInBwdIdeal.Gen.run_main m g
  · run_from Cert.EvenInBwdRefIdeal.Value.run m' g'
    · obtain ⟨h0, h1, h2, h3, h4⟩ := hagree c
      refine (Cert.EvenInBwdRefIdeal.Read.val_main_v39_eq m' c).trans ?_
      rw [h0, h1, h2, h3, h4]
      exact (dx m c (finiteArgs m hpre c)).symm
    · exact (dgain m c).symm

theorem frame_kernel : Cert.quiescent_EvenInBwd := fun m ρ _ => Cert.EvenInBwd.Gen.frame m ρ
theorem frame_ideal : Cert.quiescent_EvenInBwdIdeal := fun m ρ _ => Cert.EvenInBwdIdeal.Gen.frame m ρ
theorem frame_ref : Cert.quiescent_EvenInBwdRefIdeal := fun m ρ _ =>
  (θ_run Cert.EvenInBwdRefIdeal.defs _ _).mono (fun r h => ⟨fun c => (h c).2.2, sem_eq_zero_of_no_sems (by decide) r.2⟩)
    (Cert.EvenInBwdRefIdeal.Value.run (F := Ideal) m ρ)

end Cert.Proof.EvenInBwd

end
-- ==== Proof.EvenInGrad.lean ====
/- The even layer's input projection, backward: the gradient of its weight. -/
module

public import proofs.«01_k».proof.Proof.Gen.EvenInGradIdeal.Value
public import proofs.«01_k».proof.Proof.Gen.EvenInGradRefIdeal.Read
public import Idealize.ShloMosaic.Lib.Pipeline.ValueKit
public import Idealize.ShloMosaic.Lib.Pointwise
public import Idealize.ShloMosaic.Lib.Claim
public import proofs.«01_k».proof.Proof.Gen.EvenInGradRefIdeal.Run
public import proofs.«01_k».proof.Proof.Gen.EvenInGrad.Frame
public import proofs.«01_k».proof.Defs
public import proofs.«01_k».proof.Proof.NormGrad

@[expose] public section

set_option maxRecDepth 16384

noncomputable section

namespace Cert.Proof.EvenInGrad

open Cert.EvenInGradIdeal Cert.EvenInGradIdeal.Gen Idealize.ShloMosaic Idealize.ShloMosaic.TcCoe Idealize.SL.Sem

variable (m : (ℓ : Loc nD τ sig) → Buf (Elt Ideal) ℓ)

/-- The blocks' indices at a grid point: the weight's column tile is the outer coordinate, the rows summed over the inner. -/
theorem idx : ∀ t : Fin cfg0.N, win0_0.index t = ![t.val % 2, 0] ∧ win0_1.index t = ![t.val % 2, t.val / 2]
    ∧ win0_2.index t = ![t.val / 2, 0, 0] ∧ win0_3.index t = ![t.val / 2, 0, 0] :=
  (by decide +kernel : ∀ t : Fin grid0.N, _)

variable (c : Dev nD)

/-- The two operands' blocks at a grid point. -/
abbrev hBlk (t : Fin cfg0.N) : Shape.Idx ⟨2, ![2048, 1024]⟩ → EReal := iblk m c 0 t
abbrev dprojBlk (t : Fin cfg0.N) : Shape.Idx ⟨2, ![2048, 1536]⟩ → EReal := iblk m c 1 t

/-- At a point that writes back, the accumulator holds the sums over both halves of the rows. -/
theorem acc (t : Fin cfg0.N) (hr : t.val % 2 = 2 - 1) (y : (⟨3, ![1, 1024, 1536]⟩ : Shape).Idx) :
    (outsAt0 m c t.val t.isLt).1 y = (0 : EReal) + ∑ s : Fin 2, ∑ k : Fin 2048,
      hBlk m c ⟨2 * (t.val / 2) + s.val, Pipeline.run_point_lt_of_flush t hr s⟩ (ix2 k (y 1))
        * dprojBlk m c ⟨2 * (t.val / 2) + s.val, Pipeline.run_point_lt_of_flush t hr s⟩ (ix2 k (y 2)) := by
  refine Pipeline.eq_sum_fin_of_reset_step_apply_of_flush (fun n h => (outsAt0 m c n h).1) 2 (fun _ => (0 : EReal))
    (fun t i => ∑ k : Fin 2048, hBlk m c t (ix2 k (i 1)) * dprojBlk m c t (ix2 k (i 2))) (fun t h0 j => ?_) (fun t h0 j => ?_) t hr y
  · rw [outsAt0_A m c t h0 (by omega) (by omega)]
    frame_out
    pointwise [k0_pay1, k0_pay2]
  · rw [outsAt0_B m c t h0 (by omega) (by omega)]
    frame_out
    pointwise [k0_pay1, k0_pay3]

/-- The array row a block row is: the inner coordinate picks the half. -/
def row (t : Fin cfg0.N) (a : Fin 2048) : Fin 4096 := ⟨t.val % 2 * 2048 + a.val, by omega⟩

/-- The argument arrays, as arrays of extended reals. -/
abbrev x : Shape.Idx ⟨2, ![4096, 1024]⟩ → EReal := m ((c : Thread nD τ).loc main_arg0)
abbrev gain : Shape.Idx ⟨1, ![1024]⟩ → EReal := m ((c : Thread nD τ).loc main_arg1)
abbrev dproj : Shape.Idx ⟨2, ![4096, 6144]⟩ → EReal := m ((c : Thread nD τ).loc main_arg2)

theorem read_dproj (t : Fin cfg0.N) (a : Fin 2048) (k : Fin 1536) :
    iblk m c 1 t (ix2 a k) = dproj m c (ix2 (row t a) ⟨t.val / 2 * 1536 + k.val, by have := t.isLt; have : cfg0.N = 8 := rfl; omega⟩) := by
  blk_ext [iblk, V, row, idx t]

/-- The normalised row the host forms. -/
theorem read_h (t : Fin cfg0.N) (a : Fin 2048) (k : Fin 1024) :
    iblk m c 0 t (ix2 a k) = x m c (ix2 (row t a) k) * Ideal.rsqrt (meanSq (Ideal.ofBits .f32 1149239296#32) fun l => x m c (ix2 (row t a) l)) * gain m c (ix1 k) := by
  have hi : (win0_0.blk t).view.emb (ix2 a k) = ix2 (row t a) k := by blk_ext [row, idx t]
  show V m c main_v13 ((win0_0.blk t).view.emb (ix2 a k)) = _
  rw [hi]
  entry_read
  pointwise
  rfl

open Cert.EvenInGradRefIdeal.Read in
/-- The weight's gradient at a point that writes back. -/
theorem dw_block (t : Fin cfg0.N) (hr : t.val % 2 = 2 - 1) (y : (⟨3, ![1, 1024, 1536]⟩ : Shape).Idx) :
    (outsAt0 m c t.val t.isLt).1 y = val_main_v19 (x m c) (gain m c) (dproj m c)
      (ix3 ⟨t.val / 2, by have := t.isLt; have : cfg0.N = 8 := rfl; omega⟩ (y 1) (y 2)) := by
  obtain ⟨z, i, j, rfl⟩ : ∃ z i j, y = ix3 z i j := ⟨y 0, y 1, y 2, by idx_vars y⟩
  refine (acc m c t hr _).trans ?_
  rw [zero_add]
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16, val_main_v17, val_main_v18, val_main_v19, val_main_v20]
  rw [Fin.sum_univ_tiles 2 2048 rfl]
  refine Finset.sum_congr rfl fun s _ => Finset.sum_congr rfl fun k _ => ?_
  rw [mul_comm]
  have hs := s.isLt
  have h1 : (2 * (t.val / 2) + s.val) % 2 = s.val := by omega
  have h2 : (2 * (t.val / 2) + s.val) / 2 = t.val / 2 := by omega
  simp only [read_h, read_dproj, row, h1, h2]
  rfl

open Cert.EvenInGradRefIdeal.Read in
theorem dw : (dats m 0 c).arrAt 2 cfg0.N = val_main_v19 (x m c) (gain m c) (dproj m c) := by
  refine (dats m 0 c).arrAt_eq_of_covers 2 _ (by decide +kernel) fun t hf y => ?_
  blk_simp
  rw [after0_2]
  refine (dw_block m c t ((flush0_2 t).mp hf) y).trans (congrArg _ ?_)
  blk_ext [idx t]

open Cert.EvenInGradRefIdeal.Read in
theorem dw16 : (dats m 0 c).arrAt 3 cfg0.N = val_main_v20 (x m c) (gain m c) (dproj m c) := by
  refine (dats m 0 c).arrAt_eq_of_covers 3 _ (by decide +kernel) fun t hf y => ?_
  blk_simp
  rw [after0_3]
  have hr := (flush0_3 t).mp hf
  have h2 : (outsAt0 m c t.val t.isLt).2 y = (outsAt0 m c t.val t.isLt).1 y := by
    rw [outsAt0_B m c t (by omega) (by omega) (by omega)]
    frame_out
    pointwise [k0_pay4]
  rw [h2]
  refine (dw_block m c t hr y).trans ?_
  rw [val_main_v20_apply]
  refine congrArg (val_main_v19 _ _ _) ?_
  blk_ext [idx t]

/-- The kernel and the reference end with the same arrays. -/
theorem algebraic : Cert.algebraic_EvenInGradIdeal_EvenInGradRefIdeal := by
  pair_intro
  · run_from Cert.EvenInGradIdeal.Gen.run_main m g
  · run_from Cert.EvenInGradRefIdeal.Value.run m' g'
    · exact (dw m c).symm
    · exact (dw16 m c).symm

theorem frame_kernel : Cert.quiescent_EvenInGrad := fun m ρ _ => Cert.EvenInGrad.Gen.frame m ρ
theorem frame_ideal : Cert.quiescent_EvenInGradIdeal := fun m ρ _ => Cert.EvenInGradIdeal.Gen.frame m ρ
theorem frame_ref : Cert.quiescent_EvenInGradRefIdeal := fun m ρ _ =>
  (θ_run Cert.EvenInGradRefIdeal.defs _ _).mono (fun r h => ⟨fun c => (h c).2.2, sem_eq_zero_of_no_sems (by decide) r.2⟩)
    (Cert.EvenInGradRefIdeal.Value.run (F := Ideal) m ρ)

end Cert.Proof.EvenInGrad

end
-- ==== Proof.EvenInFwd.lean ====
/- The even layer's input projection, forward. -/
module

public import proofs.«01_k».proof.Proof.Gen.EvenInFwdIdeal.Value
public import proofs.«01_k».proof.Proof.Gen.EvenInFwdRefIdeal.Read
public import Idealize.ShloMosaic.Lib.Pipeline.ValueKit
public import Idealize.ShloMosaic.Lib.Pointwise
public import Idealize.ShloMosaic.Lib.Claim
public import proofs.«01_k».proof.Defs
public import proofs.«01_k».proof.Proof.Gen.EvenInFwd.Frame
public import proofs.«01_k».proof.Proof.Gen.EvenInFwdRefIdeal.Run

@[expose] public section

set_option maxRecDepth 16384

noncomputable section

namespace Cert.Proof.EvenInFwd

open Cert.EvenInFwdIdeal Cert.EvenInFwdIdeal.Gen Idealize.ShloMosaic Idealize.ShloMosaic.TcCoe Idealize.SL.Sem

variable (m : (ℓ : Loc nD τ sig) → Buf (Elt Ideal) ℓ)

/-- The blocks' indices at a grid point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

open Cert.EvenInFwdRefIdeal.Read in
theorem hidden (c : Dev nD) : (dats m 0 c).arrAt 4 cfg0.N
    = Cert.EvenInFwdRefIdeal.Read.val_main_v15 (m ((c : Thread nD τ).loc main_arg0)) (m ((c : Thread nD τ).loc main_arg1)) := by
  refine (dats m 0 c).arrAt_eq_of_covers 4 _ (by decide +kernel) fun t hf y => ?_
  blk_simp
  rw [after0_4]
  frame_out
  pointwise [k0_pay2, val_main_v15, val_main_v12, val_main_v9, val_main_v8, val_main_v7, val_main_v6, val_main_v5, val_main_v4,
    val_main_v3, val_main_v2, val_main_v1, val_main_v0, val_main_v10, val_main_v11, val_main_cst, val_main_cst_0, val_main_cst_1]
  blk_point [iblk, V, idx t]

open Cert.EvenInFwdRefIdeal.Read in
theorem proj (c : Dev nD) : (dats m 0 c).arrAt 3 cfg0.N
    = Cert.EvenInFwdRefIdeal.Read.val_main_v14 (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  canon_tiles x h
  all_goals
    pointwise [k0_pay1, k0_pay2, k0_pay3, k0_pay4, k0_pay5, val_main_v14, val_main_v13, val_main_v12, val_main_v9, val_main_v8, val_main_v7, val_main_v6, val_main_v5, val_main_v4,
    val_main_v3, val_main_v2, val_main_v1, val_main_v0, val_main_v10, val_main_v11, val_main_cst, val_main_cst_0, val_main_cst_1]
    blk_point [iblk, V, idx t]

/-- The kernel and the reference end with the same arrays. -/
theorem algebraic : Cert.algebraic_EvenInFwdIdeal_EvenInFwdRefIdeal := by
  pair_intro
  · run_from Cert.EvenInFwdIdeal.Gen.run_main m g
  · run_from Cert.EvenInFwdRefIdeal.Value.run m' g'
    · exact (proj m c).symm
    · exact (hidden m c).symm

theorem frame_kernel : Cert.quiescent_EvenInFwd := fun m ρ _ => Cert.EvenInFwd.Gen.frame m ρ
theorem frame_ideal : Cert.quiescent_EvenInFwdIdeal := fun m ρ _ => Cert.EvenInFwdIdeal.Gen.frame m ρ
theorem frame_ref : Cert.quiescent_EvenInFwdRefIdeal := fun m ρ _ =>
  (θ_run Cert.EvenInFwdRefIdeal.defs _ _).mono (fun r h => ⟨fun c => (h c).2.2, sem_eq_zero_of_no_sems (by decide) r.2⟩)
    (Cert.EvenInFwdRefIdeal.Value.run (F := Ideal) m ρ)

end Cert.Proof.EvenInFwd

end
-- ==== Proof.Heads.lean ====
/- Heads of 256 columns, side by side in a row of 1024, and their gate. -/
module

public import proofs.«01_k».proof.Proof.NormGrad

@[expose] public section

namespace Cert.Proof

open Idealize.ShloMosaic

/-- Column `k` of head `h`. -/
def col (h : Fin 4) (k : Fin 256) : Fin 1024 := ⟨h.val * 256 + k.val, by omega⟩

theorem exists_col (j : Fin 1024) : ∃ h k, j = col h k :=
  ⟨⟨j.val / 256, by omega⟩, ⟨j.val % 256, by omega⟩, Fin.ext (by simp only [col]; omega)⟩

/-- A column's head and its place there, as they come out of an array of the heads' rows. -/
theorem col_div (r : Fin 4096) (h : Fin 4) (k x : Fin 256) (p) :
    (⟨(r.val * 4 + (col h k).val / 256) % 4 * 256 + x.val, p⟩ : Fin 1024) = col h x :=
  Fin.ext (by simp only [col]; omega)

theorem col_mod (h : Fin 4) (k : Fin 256) (p) : (⟨(col h k).val % 256, p⟩ : Fin 256) = k :=
  Fin.ext (by simp only [col]; omega)

/-- A row and a head out of the heads' rows counted through. -/
theorem row_div (r : Fin 4096) (h : Fin 4) (p) : (⟨(r.val * 4 + h.val) / 4, p⟩ : Fin 4096) = r :=
  Fin.ext (by simp only []; omega)
theorem row_mod (r : Fin 4096) (h : Fin 4) (x : Fin 256) (p) : (⟨(r.val * 4 + h.val) % 4 * 256 + x.val, p⟩ : Fin 1024) = col h x :=
  Fin.ext (by simp only [col]; omega)

/-- A column's place in its head, as it comes out of the pieces laid side by side. -/
theorem col_0 (k : Fin 256) : (col 0 k).val = k.val := by simp [col]
theorem col_1 (k : Fin 256) : (col 1 k).val - 256 = k.val := by simp [col]
theorem col_2 (k : Fin 256) : (col 2 k).val - 256 - 256 = k.val := by simp [col]; omega
theorem col_3 (k : Fin 256) : (col 3 k).val - 256 - 256 - 256 = k.val := by simp [col]; omega

/-- A piece's column, as the sum of the piece's first column and its place. -/
theorem at_0 (x : Fin 256) (p) : (⟨x.val, p⟩ : Fin 1024) = col 0 x := Fin.ext (by simp [col])
theorem at_1 (x : Fin 256) (p) : (⟨256 + x.val, p⟩ : Fin 1024) = col 1 x := rfl
theorem at_2 (x : Fin 256) (p) : (⟨512 + x.val, p⟩ : Fin 1024) = col 2 x := rfl
theorem at_3 (x : Fin 256) (p) : (⟨768 + x.val, p⟩ : Fin 1024) = col 3 x := rfl

/-- The pieces before a head's own do not hold its columns. -/
theorem not_1 (k : Fin 256) : ¬ (col 1 k).val < 256 := by simp [col]
theorem not_2 (k : Fin 256) : ¬ (col 2 k).val < 256 := by simp [col]; omega
theorem not_2' (k : Fin 256) : ¬ (col 2 k).val - 256 < 256 := by simp [col]; omega
theorem not_3 (k : Fin 256) : ¬ (col 3 k).val < 256 := by simp [col]; omega
theorem not_3' (k : Fin 256) : ¬ (col 3 k).val - 256 < 256 := by simp [col]; omega
theorem not_3'' (k : Fin 256) : ¬ (col 3 k).val - 256 - 256 < 256 := by simp [col]; omega

theorem head_cases (h : Fin 4) : h = 0 ∨ h = 1 ∨ h = 2 ∨ h = 3 := by omega

/-- The word a half. -/
theorem word_half : Ideal.ofBits .f32 1056964608#32 = ((1 / 2 : ℝ) : EReal) := by
  simp [Ideal.ofBits, Ideal.ieee, -EReal.coe_mul]; norm_num

/-- The words two and one part in 1024. -/
theorem word_two : Ideal.ofBits .f32 1073741824#32 = ((2 : ℝ) : EReal) := by
  simp [Ideal.ofBits, Ideal.ieee, -EReal.coe_mul]; norm_num

theorem word_inv_len : Ideal.ofBits .f32 981467136#32 = ((1 / 1024 : ℝ) : EReal) := by
  simp [Ideal.ofBits, Ideal.ieee, -EReal.coe_mul]; norm_num

theorem word_1024 : Ideal.ofBits .f32 1149239296#32 = ((1024 : ℝ) : EReal) := by
  simp [Ideal.ofBits, Ideal.ieee, -EReal.coe_mul]; norm_num

theorem Finite.sub {a b : EReal} : Finite a → Finite b → Finite (a - b)
  | ⟨r, hr⟩, ⟨s, hs⟩ => ⟨r - s, by rw [hr, hs, EReal.coe_sub]⟩

/-- A finite factor goes into a sum of finite terms. -/
theorem Finite.mul_sum {ι : Type*} (S : Finset ι) {a : EReal} {f : ι → EReal} (ha : Finite a) (hf : ∀ k, Finite (f k)) :
    a * ∑ k ∈ S, f k = ∑ k ∈ S, a * f k := by
  obtain ⟨r, rfl⟩ := ha
  choose g hg using hf
  simp only [hg, coe_sum, ← EReal.coe_mul, Finset.mul_sum]

/-- The sigmoid of a number. -/
noncomputable def sigmoid (r : EReal) : EReal := Ideal.div 1 (1 + Ideal.exp (-r))

theorem sigmoid_coe (s : ℝ) : sigmoid (s : EReal) = ((1 / (1 + Real.exp (-s)) : ℝ) : EReal) := by
  have h : (1 + Real.exp (-s)) ≠ 0 := by positivity
  unfold sigmoid
  rw [← EReal.coe_one, ← EReal.coe_neg, Ideal.exp_coe, ← EReal.coe_add, Ideal.div_coe h, ← EReal.coe_mul, one_mul]

theorem Finite.sigmoid {r : EReal} : Finite r → Finite (sigmoid r)
  | ⟨s, hs⟩ => ⟨_, by rw [hs, sigmoid_coe]⟩

/-- The sigmoid formed from the hyperbolic tangent of half the number. -/
theorem sigmoid_eq {r : EReal} (hr : Finite r) :
    Ideal.ofBits .f32 1056964608#32 + Ideal.ofBits .f32 1056964608#32 * Ideal.tanh (Ideal.ofBits .f32 1056964608#32 * r)
      = sigmoid r := by
  obtain ⟨s, rfl⟩ := hr
  rw [sigmoid_coe]
  simp only [word_half, ← EReal.coe_mul, Ideal.tanh_coe, ← EReal.coe_add]
  congr 1
  have he : Real.exp (-s) = (Real.exp (1 / 2 * s))⁻¹ * (Real.exp (1 / 2 * s))⁻¹ := by
    rw [← Real.exp_neg, ← Real.exp_add]; congr 1; ring
  rw [Real.tanh_eq_sinh_div_cosh, Real.sinh_eq, Real.cosh_eq, he, Real.exp_neg]
  have h := Real.exp_pos (1 / 2 * s)
  field_simp
  ring

/-- The gate's gradient: on the left as one product, on the right its two terms apart. -/
theorem gate_grad {d n r : EReal} (hd : Finite d) (hn : Finite n) (hr : Finite r) :
    d * n * (sigmoid r * (1 + r * (1 - sigmoid r)))
      = n * d * sigmoid r + r * (n * d) * (sigmoid r * (1 - sigmoid r)) := by
  obtain ⟨s, hs⟩ := hr.sigmoid
  obtain ⟨d, rfl⟩ := hd
  obtain ⟨n, rfl⟩ := hn
  obtain ⟨r, rfl⟩ := hr
  rw [hs]
  simp only [← EReal.coe_one, ← EReal.coe_mul, ← EReal.coe_sub, ← EReal.coe_add]
  congr 1
  ring

end Cert.Proof

end
-- ==== Proof.OddOutBwd.lean ====
/- The odd layer's output projection, backward: the gradients of the heads' outputs, of the gate and of the heads' gain. -/
module

public import proofs.«01_k».proof.Proof.Gen.OddOutBwdIdeal.Value
public import proofs.«01_k».proof.Proof.Gen.OddOutBwdRefIdeal.Read
public import Idealize.ShloMosaic.Lib.Pipeline.ValueKit
public import Idealize.ShloMosaic.Lib.Pointwise
public import Idealize.ShloMosaic.Lib.Claim
public import proofs.«01_k».proof.Proof.Gen.Pre_odd_out_bwd_finite
public import proofs.«01_k».proof.Proof.Gen.OddOutBwdRefIdeal.Run
public import proofs.«01_k».proof.Proof.Gen.OddOutBwd.Frame
public import proofs.«01_k».proof.Defs
public import proofs.«01_k».proof.Proof.NormGrad
public import proofs.«01_k».proof.Proof.Heads

@[expose] public section

set_option maxRecDepth 16384

noncomputable section

namespace Cert.Proof.OddOutBwd

open Cert.OddOutBwdIdeal Cert.OddOutBwdIdeal.Gen Idealize.ShloMosaic Idealize.ShloMosaic.TcCoe Idealize.SL.Sem

variable (m : (ℓ : Loc nD τ sig) → Buf (Elt Ideal) ℓ)

/-- The blocks' indices at a grid point; the gate is the projection's third column block. -/
theorem idx : ∀ t : Fin cfg0.N, win0_0.index t = ![t.val, 0] ∧ win0_1.index t = ![0, 0] ∧ win0_2.index t = ![t.val, 0]
    ∧ win0_3.index t = ![t.val, 2] ∧ win0_4.index t = ![0, 0] ∧ win0_5.index t = ![t.val, 0] ∧ win0_6.index t = ![t.val, 0]
    ∧ win0_7.index t = ![0, 0] :=
  (by decide +kernel : ∀ t : Fin grid0.N, _)

variable (c : Dev nD) (t : Fin cfg0.N)

/-- The argument arrays, as arrays of extended reals. -/
abbrev dy : Shape.Idx ⟨2, ![4096, 1024]⟩ → EReal := m ((c : Thread nD τ).loc main_arg0)
abbrev w : Shape.Idx ⟨2, ![1024, 1024]⟩ → EReal := m ((c : Thread nD τ).loc main_arg1)
abbrev o : Shape.Idx ⟨2, ![4096, 1024]⟩ → EReal := m ((c : Thread nD τ).loc main_arg2)
abbrev proj : Shape.Idx ⟨2, ![4096, 3200]⟩ → EReal := m ((c : Thread nD τ).loc main_arg3)
abbrev gain : Shape.Idx ⟨1, ![256]⟩ → EReal := m ((c : Thread nD τ).loc main_arg4)

/-- The array row a block row is. -/
def row (t : Fin cfg0.N) (a : Fin 512) : Fin 4096 := ⟨t.val * 512 + a.val, by have := t.isLt; have : cfg0.N = 8 := rfl; omega⟩

theorem read_dy (a : Fin 512) (k : Fin 1024) : iblk m c 0 t (ix2 a k) = dy m c (ix2 (row t a) k) := by
  blk_ext [iblk, V, row, idx t]

theorem read_w (k j : Fin 1024) : iblk m c 1 t (ix2 k j) = w m c (ix2 k j) := by
  blk_point [iblk, V, idx t]

theorem read_o (a : Fin 512) (k : Fin 1024) : iblk m c 2 t (ix2 a k) = o m c (ix2 (row t a) k) := by
  blk_ext [iblk, V, row, idx t]

theorem read_r (a : Fin 512) (k : Fin 1024) : X0_3 m c t (ix2 a k) = proj m c (ix2 (row t a) ⟨2048 + k.val, by omega⟩) := by
  unfold X0_3 Pipeline.Window.fill
  rw [dif_pos (moved0_3 t _)]
  blk_ext [iblk, V, row, idx t]

theorem read_gain (k : Fin 256) : iblk m c 4 t (ix2 0 k) = gain m c (ix1 k) := by
  blk_point [iblk, V, idx t]

/-- The arguments the gradients need finite. -/
structure FiniteArgs : Prop where
  hdy : ∀ i, Finite (dy m c i)
  hw : ∀ i, Finite (w m c i)
  ho : ∀ i, Finite (o m c i)
  hgate : ∀ r (j : Fin 1024), Finite (proj m c (ix2 r ⟨2048 + j.val, by omega⟩))
  hgain : ∀ i, Finite (gain m c i)

/-- The gate's number at one element. -/
def gate (r : Fin 4096) (j : Fin 1024) : EReal := proj m c (ix2 r ⟨2048 + j.val, by omega⟩)

/-- The gradient of the gated heads, and of the heads before the gate. -/
def dGated (r : Fin 4096) (j : Fin 1024) : EReal := ∑ x : Fin 1024, dy m c (ix2 r x) * w m c (ix2 j x)
def dNormed (r : Fin 4096) (j : Fin 1024) : EReal := dGated m c r j * (gate m c r j * sigmoid (gate m c r j))

/-- One head's row, its reciprocal root mean square, and the normalised element times its gain. -/
def head (r : Fin 4096) (h : Fin 4) : Fin 256 → EReal := fun x => o m c (ix2 r (col h x))
def rstd (r : Fin 4096) (h : Fin 4) : EReal := Ideal.rsqrt (meanSq (Ideal.ofBits .f32 1132462080#32) (head m c r h))
def normed (r : Fin 4096) (h : Fin 4) (k : Fin 256) : EReal := o m c (ix2 r (col h k)) * rstd m c r h * gain m c (ix1 k)

variable {m c} in
theorem FiniteArgs.dGated (hfin : FiniteArgs m c) (r j) : Finite (dGated m c r j) :=
  Finite.sum _ fun _ => (hfin.hdy _).mul (hfin.hw _)

variable {m c} in
theorem FiniteArgs.dNormed (hfin : FiniteArgs m c) (r j) : Finite (dNormed m c r j) :=
  (hfin.dGated r j).mul ((hfin.hgate _ _).mul (hfin.hgate _ _).sigmoid)

variable {m c} in
theorem FiniteArgs.normed (hfin : FiniteArgs m c) (r h k) : Finite (normed m c r h k) :=
  ((hfin.ho _).mul (rsqrt_meanSq word_head fun _ => hfin.ho _)).mul (hfin.hgain _)

set_option maxHeartbeats 1000000 in
open Cert.OddOutBwdRefIdeal.Read in
/-- The gate's gradient: one block's element. -/
theorem dr_block (hfin : FiniteArgs m c) (a : Fin 512) (j : Fin 1024) :
    (k0_pay21 (F := Ideal) (k0_pay3 (iblk m c 0 t) (iblk m c 1 t)) (k0_pay4 (iblk m c 4 t)) (iblk m c 2 t)
      (k0_pay8 (iblk m c 4 t) (iblk m c 2 t)) (k0_pay12 (iblk m c 4 t) (iblk m c 2 t)) (k0_pay13 (iblk m c 2 t))
      (k0_pay14 (iblk m c 2 t)) (X0_3 m c t) (ix2 a j) : EReal)
      = (val_main_v49 (F := Ideal) (dy m c) (w m c) (o m c) (proj m c) (gain m c) (ix2 (row t a) j) : EReal) := by
  obtain ⟨h, k, rfl⟩ := exists_col j
  pointwise [k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay21, val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_v25, val_main_call1_v0, val_main_call1_v1, val_main_call1_v2, val_main_v26, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50]
  simp only [read_dy, read_w, read_r, read_o, read_gain, col_div, col_mod, sigmoid_eq (hfin.hgate _ _)]
  have key := gate_grad (hfin.dGated (row t a) (col h k)) (hfin.normed (row t a) h k) (hfin.hgate (row t a) (col h k))
  obtain rfl | rfl | rfl | rfl := head_cases h
  · simp only [col_0, Fin.is_lt, dite_true, at_0] at key ⊢
    exact key
  · simp only [not_1, col_1, Fin.is_lt, dite_true, dite_false, at_1]
    exact key
  · simp only [not_2, not_2', col_2, Fin.is_lt, dite_true, dite_false, at_2]
    exact key
  · simp only [not_3, not_3', not_3'', col_3, dite_false, at_3]
    exact key

/-- The gradient of the heads before the gate: one block's element. -/
theorem dNormed_block (hfin : FiniteArgs m c) (a : Fin 512) (j : Fin 1024) :
    (k0_pay22 (F := Ideal) (k0_pay3 (iblk m c 0 t) (iblk m c 1 t)) (X0_3 m c t) (ix2 a j) : EReal) = dNormed m c (row t a) j := by
  pointwise [k0_pay3, k0_pay20, k0_pay22]
  simp only [read_dy, read_w, read_r, sigmoid_eq (hfin.hgate _ _)]
  rfl

open Cert.OddOutBwdRefIdeal.Read in
theorem dNormed_ref (r : Fin 4096) (j : Fin 1024) :
    (val_main_v25 (F := Ideal) (dy m c) (w m c) (proj m c) (ix2 r j) : EReal) = dNormed m c r j := by
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_v25, val_main_call1_v0, val_main_call1_v1, val_main_call1_v2, val_main_v26, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50]
  rfl

set_option maxHeartbeats 1000000 in
open Cert.OddOutBwdRefIdeal.Read in
/-- The heads' gradient: one block's element. -/
theorem do_block (hfin : FiniteArgs m c) (a : Fin 512) (j : Fin 1024) :
    (k0_pay1 (F := Ideal) (k0_pay18 (iblk m c 2 t)) (k0_pay19 (iblk m c 2 t))
      (k0_pay27 (k0_pay6 (iblk m c 2 t)) (k0_pay7 (iblk m c 2 t))
        (k0_pay25 (k0_pay3 (iblk m c 0 t) (iblk m c 1 t)) (k0_pay4 (iblk m c 4 t)) (X0_3 m c t))
        (k0_pay26 (k0_pay3 (iblk m c 0 t) (iblk m c 1 t)) (k0_pay4 (iblk m c 4 t)) (k0_pay7 (iblk m c 2 t))
          (X0_3 m c t)))
      (k0_pay29 (k0_pay4 (iblk m c 4 t)) (k0_pay10 (iblk m c 2 t)) (k0_pay11 (iblk m c 2 t))
        (k0_pay22 (k0_pay3 (iblk m c 0 t) (iblk m c 1 t)) (X0_3 m c t)))
      (k0_pay31 (k0_pay4 (iblk m c 4 t)) (k0_pay15 (k0_pay14 (iblk m c 2 t)))
        (k0_pay16 (k0_pay13 (iblk m c 2 t)) (k0_pay14 (iblk m c 2 t)))
        (k0_pay22 (k0_pay3 (iblk m c 0 t) (iblk m c 1 t)) (X0_3 m c t)))
      (k0_pay34 (k0_pay4 (iblk m c 4 t)) (k0_pay22 (k0_pay3 (iblk m c 0 t) (iblk m c 1 t)) (X0_3 m c t)))
      (k0_pay35 (k0_pay4 (iblk m c 4 t)) (k0_pay19 (iblk m c 2 t))
        (k0_pay22 (k0_pay3 (iblk m c 0 t) (iblk m c 1 t)) (X0_3 m c t))) (ix2 a j) : EReal)
      = (val_main_v48 (F := Ideal) (dy m c) (w m c) (o m c) (proj m c) (gain m c) (ix2 (row t a) j) : EReal) := by
  obtain ⟨h, k, rfl⟩ := exists_col j
  pointwise [k0_pay1, k0_pay4, k0_pay5, k0_pay6, k0_pay7, k0_pay9, k0_pay10, k0_pay11, k0_pay13,
    k0_pay14, k0_pay15, k0_pay16, k0_pay17, k0_pay18, k0_pay19, k0_pay23, k0_pay25, k0_pay26, k0_pay27, k0_pay28, k0_pay29,
    k0_pay30, k0_pay31, k0_pay32, k0_pay34, k0_pay35, val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_call1_v0, val_main_call1_v1, val_main_call1_v2, val_main_v26, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50]
  simp only [read_o, read_gain, col_div, col_mod, dNormed_block m c t hfin, dNormed_ref, Finset.univ_unique, Finset.sum_const,
    Finset.card_singleton, one_smul]
  have key := norm_grad word_head (x := head m c (row t a) h) (u := fun x => dNormed m c (row t a) (col h x) * gain m c (ix1 x))
    (fun x => hfin.ho _) (fun x => (hfin.dNormed _ _).mul (hfin.hgain _)) k
  obtain rfl | rfl | rfl | rfl := head_cases h
  · simp only [col_0, Fin.is_lt, dite_true, at_0]
    exact key
  · simp only [not_1, col_1, Fin.is_lt, dite_true, dite_false, at_1]
    exact key
  · simp only [not_2, not_2', col_2, Fin.is_lt, dite_true, dite_false, at_2]
    exact key
  · simp only [not_3, not_3', not_3'', col_3, dite_false, at_3]
    exact key

open Cert.OddOutBwdRefIdeal.Read in
theorem dr (hfin : FiniteArgs m c) : (dats m 0 c).arrAt 5 cfg0.N
    = val_main_v49 (dy m c) (w m c) (o m c) (proj m c) (gain m c) := by
  refine (dats m 0 c).arrAt_eq_of_covers 5 _ (by decide +kernel) fun t hf y => ?_
  have hemb : ((View.whole main_v2_0).slice (win0_5.rect t)).emb y = ix2 (row t (y 0)) (y 1) := by
    blk_ext [row, idx t]
  obtain ⟨a, j, rfl⟩ : ∃ a j, y = ix2 a j := ⟨y 0, y 1, by idx_vars y⟩
  blk_simp
  rw [after0_5]
  have h : t.val < 8 := t.isLt
  by_cases h0 : t.val % 8 = 0
  on_goal 1 => rw [outsAt0_A m c t h0 (by omega)]
  on_goal 2 => rw [outsAt0_B m c t h0 (by omega)]
  all_goals
    frame_out
    rw [hemb]
    exact dr_block m c t hfin a j

open Cert.OddOutBwdRefIdeal.Read in
/-- The gradient of the heads' outputs. -/
theorem dHeads (hfin : FiniteArgs m c) : (dats m 0 c).arrAt 6 cfg0.N
    = val_main_v48 (dy m c) (w m c) (o m c) (proj m c) (gain m c) := by
  refine (dats m 0 c).arrAt_eq_of_covers 6 _ (by decide +kernel) fun t hf y => ?_
  have hemb : ((View.whole main_v2_1).slice (win0_6.rect t)).emb y = ix2 (row t (y 0)) (y 1) := by
    blk_ext [row, idx t]
  obtain ⟨a, j, rfl⟩ : ∃ a j, y = ix2 a j := ⟨y 0, y 1, by idx_vars y⟩
  blk_simp
  rw [after0_6]
  have h : t.val < 8 := t.isLt
  by_cases h0 : t.val % 8 = 0
  on_goal 1 => rw [outsAt0_A m c t h0 (by omega)]
  on_goal 2 => rw [outsAt0_B m c t h0 (by omega)]
  all_goals
    frame_out
    rw [hemb]
    exact do_block m c t hfin a j

/-- One row's term of the gain's gradient: its four heads' products. -/
def gainTerm (r : Fin 4096) (k : Fin 256) : EReal :=
  ∑ h : Fin 4, dNormed m c r (col h k) * (o m c (ix2 r (col h k)) * rstd m c r h)

set_option maxHeartbeats 1000000 in
open Cert.OddOutBwdRefIdeal.Read in
theorem gain_block (hfin : FiniteArgs m c) (z : Fin 1) (k : Fin 256) :
    (k0_pay33 (F := Ideal) (k0_pay11 (iblk m c 2 t)) (k0_pay16 (k0_pay13 (iblk m c 2 t)) (k0_pay14 (iblk m c 2 t)))
      (k0_pay19 (iblk m c 2 t)) (k0_pay22 (k0_pay3 (iblk m c 0 t) (iblk m c 1 t)) (X0_3 m c t))
      (k0_pay24 (k0_pay3 (iblk m c 0 t) (iblk m c 1 t)) (k0_pay7 (iblk m c 2 t)) (X0_3 m c t)) (ix2 z k) : EReal)
      = ∑ a : Fin 512, gainTerm m c (row t a) k := by
  pointwise [k0_pay5, k0_pay6, k0_pay7, k0_pay9, k0_pay10, k0_pay11, k0_pay13,
    k0_pay14, k0_pay15, k0_pay16, k0_pay17, k0_pay18, k0_pay19, k0_pay23, k0_pay24, k0_pay28, k0_pay30, k0_pay32, k0_pay33]
  simp only [read_o, dNormed_block m c t hfin]
  simp only [at_0, at_1, at_2, at_3, gainTerm, rstd, meanSq, head, Fin.sum_univ_four, Finset.sum_add_distrib]

set_option maxHeartbeats 1000000 in
open Cert.OddOutBwdRefIdeal.Read in
theorem gain_ref (z : Fin 1) (k : Fin 256) : (val_main_v50 (F := Ideal) (dy m c) (w m c) (o m c) (proj m c) (ix2 z k) : EReal)
      = ∑ r : Fin 4096, gainTerm m c r k := by
  pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_call0_v0, val_main_call0_v1, val_main_call0_cst, val_main_call0_v2, val_main_call0_v3, val_main_call0_cst_0, val_main_call0_v4, val_main_v19_2, val_main_call0_cst_1, val_main_call0_v6, val_main_call0_v7, val_main_v19_1, val_main_v19_0, val_main_v20, val_main_v21, val_main_v22, val_main_v23, val_main_v24, val_main_call1_v0, val_main_call1_v1, val_main_call1_v2, val_main_v26, val_main_v27, val_main_v28, val_main_cst_3, val_main_v29, val_main_v30, val_main_v31, val_main_v32, val_main_cst_4, val_main_v33, val_main_v34, val_main_cst_5, val_main_v35, val_main_v36, val_main_v37, val_main_v38, val_main_v39, val_main_cst_6, val_main_v40, val_main_v41, val_main_cst_7, val_main_v42, val_main_v43, val_main_v44, val_main_v45, val_main_v46, val_main_v47, val_main_v48, val_main_v49, val_main_v50]
  simp only [Finset.univ_unique, Finset.sum_const, Finset.card_singleton, one_smul, dNormed_ref]
  refine (Fin.sum_univ_tiles 4096 4 rfl _).trans (Finset.sum_congr rfl fun r _ => Finset.sum_congr rfl fun h _ => ?_)
  simp only [row_div, row_mod]
  exact mul_comm _ _

set_option maxHeartbeats 1000000 in
open Cert.OddOutBwdRefIdeal.Read in
/-- The gradient of the heads' gain: the row blocks' column sums added up. -/
theorem dgain (hfin : FiniteArgs m c) : (dats m 0 c).arrAt 7 cfg0.N = val_main_v50 (dy m c) (w m c) (o m c) (proj m c) := by
  refine (dats m 0 c).arrAt_eq_of_after_last 7 t0_7 (by decide +kernel) _ fun j => ?_
  obtain ⟨z, j, rfl⟩ : ∃ z j', j = ix2 z j' := ⟨j 0, j 1, by idx_vars j⟩
  blk_simp
  rw [after0_7]
  refine (Pipeline.eq_sum_fin_of_reset_step_apply_last (fun n h => (outsAt0 m c n h).2.2) 8 (fun _ => 0)
    (fun t i => ∑ a : Fin 512, gainTerm m c (row t a) (i 1)) (fun t h0 j => ?_) (fun t h0 j => ?_) (by decide) t0_7 rfl (ix2 z j)).trans ?_
  · obtain ⟨z, j, rfl⟩ : ∃ z j', j = ix2 z j' := ⟨j 0, j 1, by idx_vars j⟩
    have h : t.val < 8 := t.isLt
    rw [outsAt0_A m c t h0 (by omega)]
    frame_out
    rw [gain_block m c t hfin, zero_add]
    rfl
  · obtain ⟨z, j, rfl⟩ : ∃ z j', j = ix2 z j' := ⟨j 0, j 1, by idx_vars j⟩
    have h : t.val < 8 := t.isLt
    rw [outsAt0_B m c t h0 (by omega)]
    frame_out
    pointwise [k0_pay2]
    rw [gain_block m c t hfin]
  · exact (zero_add _).trans ((Fin.sum_univ_tiles 8 512 rfl fun r => gainTerm m c r j).symm.trans (gain_ref m c z j).symm)

/-- What the precondition says: every element it names compares below `+∞` in magnitude. -/
theorem finiteArgs (hpre : Cert.Pre_OddOutBwdIdeal_odd_out_bwd_finite m) (c : Dev nD) : FiniteArgs m c where
  hdy i := finite_of_abs_lt (congrFun (hpre c).1 i)
  hw i := finite_of_abs_lt (congrFun (hpre c).2.1 i)
  ho i := finite_of_abs_lt (congrFun (hpre c).2.2.1 i)
  hgate r j := by
    have h := finite_of_abs_lt (congrFun (hpre c).2.2.2.1 (ix2 r j))
    convert h using 2
    exact (extractStridedSlice_apply ![0, 2048] (proj m c) _ (ix2 r j) (ix2 r ⟨2048 + j.val, by omega⟩)
      (fun a => match a with | ⟨0, _⟩ => (Nat.zero_add _).symm | ⟨1, _⟩ => rfl)).symm
  hgain i := finite_of_abs_lt (congrFun (hpre c).2.2.2.2 i)

/-- The kernel and the reference end with the same arrays. -/
theorem algebraic : Cert.algebraic_OddOutBwdIdeal_OddOutBwdRefIdeal_pre_odd_out_bwd_finite := by
  pair_intro
  · run_from Cert.OddOutBwdIdeal.Gen.run_main m g
  · run_from Cert.OddOutBwdRefIdeal.Value.run m' g'
    · exact (dr m c (finiteArgs m hpre c)).symm
    · obtain ⟨h0, h1, h2, h3, h4⟩ := hagree c
      refine (Cert.OddOutBwdRefIdeal.Read.val_main_v48_eq m' c).trans ?_
      rw [h0, h1, h2, h3, h4]
      exact (dHeads m c (finiteArgs m hpre c)).symm
    · exact (dgain m c (finiteArgs m hpre c)).symm

theorem frame_kernel : Cert.quiescent_OddOutBwd := fun m ρ _ => Cert.OddOutBwd.Gen.frame m ρ
theorem frame_ideal : Cert.quiescent_OddOutBwdIdeal := fun m ρ _ => Cert.OddOutBwdIdeal.Gen.frame m ρ
theorem frame_ref : Cert.quiescent_OddOutBwdRefIdeal := fun m ρ _ =>
  (θ_run Cert.OddOutBwdRefIdeal.defs _ _).mono (fun r h => ⟨fun c => (h c).2.2.2, sem_eq_zero_of_no_sems (by decide) r.2⟩)
    (Cert.OddOutBwdRefIdeal.Value.run (F := Ideal) m ρ)

end Cert.Proof.OddOutBwd

end
-- ==== Proof.EvenOutBwd.lean ====
/- The even layer's output projection, backward. -/
module

public import proofs.«01_k».proof.Proof.Gen.EvenOutBwdIdeal.Value
public import proofs.«01_k».proof.Proof.Gen.EvenOutBwdRefIdeal.Read
public import Idealize.ShloMosaic.Lib.Pipeline.ValueKit
public import Idealize.ShloMosaic.Lib.Pointwise
public import Idealize.ShloMosaic.Lib.Claim
public import proofs.«01_k».proof.Proof.Gen.Pre_even_out_bwd_finite
public import proofs.«01_k».proof.Proof.Gen.EvenOutBwdRefIdeal.Run
public import proofs.«01_k».proof.Proof.Gen.EvenOutBwd.Frame
public import proofs.«01_k».proof.Defs
public import proofs.«01_k».proof.Proof.NormGrad

@[expose] public section

set_option maxRecDepth 16384

noncomputable section

namespace Cert.Proof.EvenOutBwd

open Cert.EvenOutBwdIdeal Cert.EvenOutBwdIdeal.Gen Idealize.ShloMosaic Idealize.ShloMosaic.TcCoe Idealize.SL.Sem

variable (m : (ℓ : Loc nD τ sig) → Buf (Elt Ideal) ℓ)

/-- The blocks' indices at a grid point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0] :=
  (by decide +kernel : ∀ t : Fin grid0.N, _)

variable (c : Dev nD) (t : Fin cfg0.N)

/-- The argument arrays, as arrays of extended reals. -/
abbrev dx1 : Shape.Idx ⟨2, ![4096, 1024]⟩ → EReal := m ((c : Thread nD τ).loc main_arg0)
abbrev ycat : Shape.Idx ⟨2, ![4096, 2048]⟩ → EReal := m ((c : Thread nD τ).loc main_arg1)
abbrev w : Shape.Idx ⟨2, ![2048, 1024]⟩ → EReal := m ((c : Thread nD τ).loc main_arg2)
abbrev gain : Shape.Idx ⟨1, ![1024]⟩ → EReal := m ((c : Thread nD τ).loc main_arg3)

/-- The array row a block row is. -/
def row (t : Fin cfg0.N) (a : Fin 512) : Fin 4096 := ⟨t.val * 512 + a.val, by have := t.isLt; have : cfg0.N = 8 := rfl; omega⟩

/-- The projection's output at one element. -/
def y (r : Fin 4096) (j : Fin 1024) : EReal := ∑ k : Fin 2048, ycat m c (ix2 r k) * w m c (ix2 k j)

theorem read_dx1 (a : Fin 512) (k : Fin 1024) : iblk m c 0 t (ix2 a k) = dx1 m c (ix2 (row t a) k) := by
  blk_ext [iblk, V, row, idx t]

/-- The projection's output the host forms. -/
theorem read_y (a : Fin 512) (k : Fin 1024) : iblk m c 1 t (ix2 a k) = y m c (row t a) k := by
  have hi : (win0_1.blk t).view.emb (ix2 a k) = ix2 (row t a) k := by blk_ext [row, idx t]
  show V m c main_v1 ((win0_1.blk t).view.emb (ix2 a k)) = _
  rw [hi]
  entry_read
  pointwise
  rfl

theorem read_gain (k : Fin 1024) : iblk m c 2 t (ix2 0 k) = gain m c (ix1 k) := by
  blk_point [iblk, V, idx t]

theorem read_w (k : Fin 2048) (j : Fin 1024) : iblk m c 3 t (ix2 k j) = w m c (ix2 k j) := by
  blk_point [iblk, V, idx t]

/-- The arguments the norm's gradient needs finite. -/
structure FiniteArgs : Prop where
  hdx1 : ∀ i, Finite (dx1 m c i)
  hycat : ∀ i, Finite (ycat m c i)
  hw : ∀ i, Finite (w m c i)
  hgain : ∀ i, Finite (gain m c i)

set_option maxHeartbeats 1000000 in
open Cert.EvenOutBwdRefIdeal.Read in
/-- The gradient of the projection's output: one block's element. -/
theorem dy_block (hfin : FiniteArgs m c) (a : Fin 512) (j : Fin 1024) :
    (k0_pay5 (F := Ideal) (iblk m c 0 t) (iblk m c 1 t) (iblk m c 2 t) (ix2 a j) : EReal)
      = (val_main_v37 (F := Ideal) (dx1 m c) (ycat m c) (w m c) (gain m c) (ix2 (row t a) j) : EReal) := by
  pointwise [k0_pay2, k0_pay3, k0_pay4, k0_pay5, val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40]
  simp only [read_dx1, read_y, read_gain, Finset.univ_unique, Finset.sum_const, Finset.card_singleton, one_smul]
  exact norm_grad word_len (x := fun k => y m c (row t a) k) (u := fun k => dx1 m c (ix2 (row t a) k) * gain m c (ix1 k))
    (fun k => Finite.sum _ fun _ => (hfin.hycat _).mul (hfin.hw _)) (fun k => (hfin.hdx1 _).mul (hfin.hgain _)) j

open Cert.EvenOutBwdRefIdeal.Read in
/-- The gradient of the projection's input: one block's element. -/
theorem dycat_block (hfin : FiniteArgs m c) (a : Fin 512) (k : Fin 2048) :
    (k0_pay6 (F := Ideal) (iblk m c 0 t) (iblk m c 1 t) (iblk m c 2 t) (iblk m c 3 t) (ix2 a k) : EReal)
      = (val_main_v38 (F := Ideal) (dx1 m c) (ycat m c) (w m c) (gain m c) (ix2 (row t a) k) : EReal) := by
  pointwise [k0_pay6, val_main_v38]
  simp only [read_w]
  exact Finset.sum_congr rfl fun x _ => congrArg (· * _) (dy_block m c t hfin a x)

open Cert.EvenOutBwdRefIdeal.Read in
theorem dy (hfin : FiniteArgs m c) : (dats m 0 c).arrAt 4 cfg0.N
    = val_main_v39 (dx1 m c) (ycat m c) (w m c) (gain m c) := by
  refine (dats m 0 c).arrAt_eq_of_covers 4 _ (by decide +kernel) fun t hf y => ?_
  have hemb : ((View.whole main_v4_0).slice (win0_4.rect t)).emb y = ix2 (row t (y 0)) (y 1) := by
    blk_ext [row, idx t]
  obtain ⟨a, j, rfl⟩ : ∃ a j, y = ix2 a j := ⟨y 0, y 1, by idx_vars y⟩
  blk_simp
  rw [after0_4]
  have h : t.val < 8 := t.isLt
  by_cases h0 : t.val % 8 = 0
  on_goal 1 => rw [outsAt0_A m c t h0 (by omega)]
  on_goal 2 => rw [outsAt0_B m c t h0 (by omega)]
  all_goals
    frame_out
    rw [hemb]
    exact dy_block m c t hfin a j

open Cert.EvenOutBwdRefIdeal.Read in
/-- The gradient of the projection's input. -/
theorem dycat (hfin : FiniteArgs m c) : (dats m 0 c).arrAt 5 cfg0.N
    = val_main_v38 (dx1 m c) (ycat m c) (w m c) (gain m c) := by
  refine (dats m 0 c).arrAt_eq_of_covers 5 _ (by decide +kernel) fun t hf y => ?_
  have hemb : ((View.whole main_v4_1).slice (win0_5.rect t)).emb y = ix2 (row t (y 0)) (y 1) := by
    blk_ext [row, idx t]
  obtain ⟨a, k, rfl⟩ : ∃ a k, y = ix2 a k := ⟨y 0, y 1, by idx_vars y⟩
  blk_simp
  rw [after0_5]
  have h : t.val < 8 := t.isLt
  by_cases h0 : t.val % 8 = 0
  on_goal 1 => rw [outsAt0_A m c t h0 (by omega)]
  on_goal 2 => rw [outsAt0_B m c t h0 (by omega)]
  all_goals
    frame_out
    rw [hemb]
    exact dycat_block m c t hfin a k

/-- One row's term of the gain's gradient. -/
def gainTerm (r : Fin 4096) (j : Fin 1024) : EReal :=
  dx1 m c (ix2 r j) * (y m c r j * Ideal.rsqrt (meanSq (Ideal.ofBits .f32 1149239296#32) fun k => y m c r k))

set_option maxHeartbeats 1000000 in
open Cert.EvenOutBwdRefIdeal.Read in
/-- The gradient of the norm's gain: the row blocks' column sums added up. -/
theorem dgain (c : Dev nD) : (dats m 0 c).arrAt 6 cfg0.N = val_main_v40 (dx1 m c) (ycat m c) (w m c) := by
  refine (dats m 0 c).arrAt_eq_of_after_last 6 t0_7 (by decide +kernel) _ fun j => ?_
  obtain ⟨z, j, rfl⟩ : ∃ z j', j = ix2 z j' := ⟨j 0, j 1, by idx_vars j⟩
  blk_simp
  rw [after0_6]
  refine (Pipeline.eq_sum_fin_of_reset_step_apply_last (fun n h => (outsAt0 m c n h).2.2) 8 (fun _ => 0)
    (fun t i => ∑ a : Fin 512, gainTerm m c (row t a) (i 1)) (fun t h0 j => ?_) (fun t h0 j => ?_) (by decide) t0_7 rfl (ix2 z j)).trans ?_
  · obtain ⟨z, j, rfl⟩ : ∃ z j', j = ix2 z j' := ⟨j 0, j 1, by idx_vars j⟩
    have h : t.val < 8 := t.isLt
    rw [outsAt0_A m c t h0 (by omega)]
    frame_out
    pointwise [k0_pay2, k0_pay3, k0_pay4, k0_pay7]
    simp only [read_dx1, read_y, gainTerm, meanSq, zero_add]
  · obtain ⟨z, j, rfl⟩ : ∃ z j', j = ix2 z j' := ⟨j 0, j 1, by idx_vars j⟩
    have h : t.val < 8 := t.isLt
    rw [outsAt0_B m c t h0 (by omega)]
    frame_out
    pointwise [k0_pay1, k0_pay2, k0_pay3, k0_pay4, k0_pay7]
    simp only [read_dx1, read_y, gainTerm, meanSq]
  · refine (zero_add _).trans ((Fin.sum_univ_tiles 8 512 rfl fun r => gainTerm m c r j).symm.trans ?_)
    pointwise [val_main_v0, val_main_v1, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_cst_6, val_main_v30, val_main_v31, val_main_cst_7, val_main_v32, val_main_v33, val_main_v34, val_main_v35, val_main_v36, val_main_v37, val_main_v38, val_main_v39, val_main_v40]
    simp only [Finset.univ_unique, Finset.sum_const, Finset.card_singleton, one_smul]
    exact Finset.sum_congr rfl fun r _ => mul_comm _ _

/-- What the precondition says: every element compares below `+∞` in magnitude. -/
theorem finiteArgs (hpre : Cert.Pre_EvenOutBwdIdeal_even_out_bwd_finite m) (c : Dev nD) : FiniteArgs m c where
  hdx1 i := finite_of_abs_lt (congrFun (hpre c).1 i)
  hycat i := finite_of_abs_lt (congrFun (hpre c).2.1 i)
  hw i := finite_of_abs_lt (congrFun (hpre c).2.2.1 i)
  hgain i := finite_of_abs_lt (congrFun (hpre c).2.2.2 i)

/-- The kernel and the reference end with the same arrays. -/
theorem algebraic : Cert.algebraic_EvenOutBwdIdeal_EvenOutBwdRefIdeal_pre_even_out_bwd_finite := by
  pair_intro
  · run_from Cert.EvenOutBwdIdeal.Gen.run_main m g
  · run_from Cert.EvenOutBwdRefIdeal.Value.run m' g'
    · obtain ⟨h0, h1, h2, h3⟩ := hagree c
      refine (Cert.EvenOutBwdRefIdeal.Read.val_main_v39_eq m' c).trans ?_
      rw [h0, h1, h2, h3]
      exact (dy m c (finiteArgs m hpre c)).symm
    · obtain ⟨h0, h1, h2, h3⟩ := hagree c
      refine (Cert.EvenOutBwdRefIdeal.Read.val_main_v38_eq m' c).trans ?_
      rw [h0, h1, h2, h3]
      exact (dycat m c (finiteArgs m hpre c)).symm
    · exact (dgain m c).symm

theorem frame_kernel : Cert.quiescent_EvenOutBwd := fun m ρ _ => Cert.EvenOutBwd.Gen.frame m ρ
theorem frame_ideal : Cert.quiescent_EvenOutBwdIdeal := fun m ρ _ => Cert.EvenOutBwdIdeal.Gen.frame m ρ
theorem frame_ref : Cert.quiescent_EvenOutBwdRefIdeal := fun m ρ _ =>
  (θ_run Cert.EvenOutBwdRefIdeal.defs _ _).mono (fun r h => ⟨fun c => (h c).2.2.2, sem_eq_zero_of_no_sems (by decide) r.2⟩)
    (Cert.EvenOutBwdRefIdeal.Value.run (F := Ideal) m ρ)

end Cert.Proof.EvenOutBwd

end
-- ==== Proof.OddInBwd.lean ====
/- The odd layer's input projection and its norm, backward. -/
module

public import proofs.«01_k».proof.Proof.Gen.OddInBwdIdeal.Value
public import proofs.«01_k».proof.Proof.Gen.OddInBwdRefIdeal.Read
public import Idealize.ShloMosaic.Lib.Pipeline.ValueKit
public import Idealize.ShloMosaic.Lib.Pointwise
public import Idealize.ShloMosaic.Lib.Claim
public import proofs.«01_k».proof.Proof.Gen.Pre_odd_in_bwd_finite
public import proofs.«01_k».proof.Proof.Gen.OddInBwdRefIdeal.Run
public import proofs.«01_k».proof.Proof.Gen.OddInBwd.Frame
public import proofs.«01_k».proof.Defs
public import proofs.«01_k».proof.Proof.NormGrad
public import Idealize.ShloMosaic.Lib.StableHlo.ReadAt

@[expose] public section

set_option maxRecDepth 16384

noncomputable section

namespace Cert.Proof.OddInBwd

open Cert.OddInBwdIdeal Cert.OddInBwdIdeal.Gen Idealize.ShloMosaic Idealize.ShloMosaic.TcCoe Idealize.SL.Sem

variable (m : (ℓ : Loc nD τ sig) → Buf (Elt Ideal) ℓ)

/-- The blocks' indices at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

variable (c : Dev nD) (t : Fin cfg0.N)

/-- The argument arrays, as arrays of extended reals. -/
abbrev dq : Shape.Idx ⟨2, ![4096, 512]⟩ → EReal := m ((c : Thread nD τ).loc main_arg0)
abbrev dk : Shape.Idx ⟨2, ![4096, 512]⟩ → EReal := m ((c : Thread nD τ).loc main_arg1)
abbrev dv : Shape.Idx ⟨2, ![4096, 1024]⟩ → EReal := m ((c : Thread nD τ).loc main_arg2)
abbrev dr : Shape.Idx ⟨2, ![4096, 1024]⟩ → EReal := m ((c : Thread nD τ).loc main_arg3)
abbrev dlr : Shape.Idx ⟨2, ![4096, 128]⟩ → EReal := m ((c : Thread nD τ).loc main_arg4)
abbrev w : Shape.Idx ⟨2, ![1024, 3104]⟩ → EReal := m ((c : Thread nD τ).loc main_arg5)
abbrev x : Shape.Idx ⟨2, ![4096, 1024]⟩ → EReal := m ((c : Thread nD τ).loc main_arg6)
abbrev gain : Shape.Idx ⟨1, ![1024]⟩ → EReal := m ((c : Thread nD τ).loc main_arg7)
abbrev dres : Shape.Idx ⟨2, ![4096, 1024]⟩ → EReal := m ((c : Thread nD τ).loc main_arg8)

/-- The array row a block row is. -/
def row (t : Fin cfg0.N) (a : Fin 512) : Fin 4096 := ⟨t.val * 512 + a.val, by have := t.isLt; have : cfg0.N = 8 := rfl; omega⟩

theorem read_dq (a : Fin 512) (k : Fin 512) : iblk m c 0 t (ix2 a k) = dq m c (ix2 (row t a) k) := by
  blk_ext [iblk, V, row, idx t]

theorem read_dk (a : Fin 512) (k : Fin 512) : iblk m c 1 t (ix2 a k) = dk m c (ix2 (row t a) k) := by
  blk_ext [iblk, V, row, idx t]

theorem read_dv (a : Fin 512) (k : Fin 1024) : iblk m c 2 t (ix2 a k) = dv m c (ix2 (row t a) k) := by
  blk_ext [iblk, V, row, idx t]

theorem read_dr (a : Fin 512) (k : Fin 1024) : iblk m c 3 t (ix2 a k) = dr m c (ix2 (row t a) k) := by
  blk_ext [iblk, V, row, idx t]

theorem read_dlr (a : Fin 512) (k : Fin 128) : iblk m c 4 t (ix2 a k) = dlr m c (ix2 (row t a) k) := by
  blk_ext [iblk, V, row, idx t]

/-- The weight the kernel reads: its own columns, then zero columns up to a tile's width. -/
theorem read_w (k : Fin 1024) (j : Fin 3200) :
    iblk m c 5 t (ix3 0 k j) = if h : j.val < 3104 then w m c (ix2 k ⟨j.val, h⟩) else (0 : EReal) := by
  have hi : (win0_5.blk t).view.emb (ix3 0 k j) = ix3 0 k j := by blk_ext [idx t]
  show V m c main_v2 ((win0_5.blk t).view.emb (ix3 0 k j)) = _
  rw [hi]
  after_reads_at
  simp only [int_zero]

theorem read_x (a : Fin 512) (k : Fin 1024) : iblk m c 6 t (ix2 a k) = x m c (ix2 (row t a) k) := by
  blk_ext [iblk, V, row, idx t]

theorem read_gain (k : Fin 1024) : iblk m c 7 t (ix2 0 k) = gain m c (ix1 k) := by
  have hi : (win0_7.blk t).view.emb (ix2 0 k) = ix2 0 k := by blk_ext [idx t]
  show V m c main_v3 ((win0_7.blk t).view.emb (ix2 0 k)) = _
  rw [hi]
  after_reads_at

theorem read_dres (a : Fin 512) (k : Fin 1024) : iblk m c 8 t (ix2 a k) = dres m c (ix2 (row t a) k) := by
  blk_ext [iblk, V, row, idx t]

open Cert.OddInBwdRefIdeal.Read in
/-- The gradient of the normalised row at one element. -/
def dh (r : Fin 4096) (j : Fin 1024) : EReal :=
  val_main_v20 (F := Ideal) (dq m c) (dk m c) (dv m c) (dr m c) (dlr m c) (w m c) (ix2 r j)

open Cert.OddInBwdRefIdeal.Read in
/-- The product with the padded weight: the columns past its own width add zeros. -/
theorem dh_block (a : Fin 512) (j : Fin 1024) :
    (k0_pay4 (F := Ideal) (iblk m c 0 t) (iblk m c 1 t) (iblk m c 2 t) (iblk m c 3 t) (iblk m c 4 t) (iblk m c 5 t) (ix2 a j) : EReal)
      = dh m c (row t a) j := by
  unfold dh
  pointwise [k0_pay4, val_main_v20, val_main_v2, val_main_v1, val_main_v0]
  simp only [read_dq, read_dk, read_dv, read_dr, read_dlr, read_w]
  exact sum_padded (p := 96) rfl _ fun k => w m c (ix2 j k)

/-- The arguments the norm's gradient needs finite. -/
structure FiniteArgs : Prop where
  hdq : ∀ i, Finite (dq m c i)
  hdk : ∀ i, Finite (dk m c i)
  hdv : ∀ i, Finite (dv m c i)
  hdr : ∀ i, Finite (dr m c i)
  hdlr : ∀ i, Finite (dlr m c i)
  hw : ∀ i, Finite (w m c i)
  hx : ∀ i, Finite (x m c i)
  hgain : ∀ i, Finite (gain m c i)

open Cert.OddInBwdRefIdeal.Read in
theorem FiniteArgs.dh (hfin : FiniteArgs m c) (r : Fin 4096) (j : Fin 1024) : Finite (dh m c r j) := by
  unfold OddInBwd.dh
  pointwise [val_main_v20, val_main_v2, val_main_v1, val_main_v0]
  refine Finite.sum _ fun k => Finite.mul ?_ (hfin.hw _)
  split_ifs <;> first | exact hfin.hdq _ | exact hfin.hdk _ | exact hfin.hdv _ | exact hfin.hdr _ | exact hfin.hdlr _

open Cert.OddInBwdRefIdeal.Read in
theorem dh_eq (r : Fin 4096) (j : Fin 1024) :
    (val_main_v20 (F := Ideal) (dq m c) (dk m c) (dv m c) (dr m c) (dlr m c) (w m c) (ix2 r j) : EReal) = dh m c r j := rfl

set_option maxHeartbeats 1000000 in
open Cert.OddInBwdRefIdeal.Read in
/-- The gradient of the stream: one block's element. -/
theorem dx_block (hfin : FiniteArgs m c) (a : Fin 512) (j : Fin 1024) :
    (k0_pay1 (F := Ideal) (iblk m c 8 t)
        (k0_pay7 (iblk m c 0 t) (iblk m c 1 t) (iblk m c 2 t) (iblk m c 3 t) (iblk m c 4 t) (iblk m c 5 t) (iblk m c 6 t) (iblk m c 7 t))
        (k0_pay8 (iblk m c 6 t)) (ix2 a j) : EReal)
      = (val_main_v41 (F := Ideal) (dq m c) (dk m c) (dv m c) (dr m c) (dlr m c) (w m c) (x m c) (gain m c) (dres m c)
          (ix2 (row t a) j) : EReal) := by
  pointwise [k0_pay1, k0_pay5, k0_pay6, k0_pay7, k0_pay8, val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42]
  simp only [dh_block, dh_eq, read_x, read_gain, read_dres, Finset.univ_unique, Finset.sum_const, Finset.card_singleton, one_smul]
  exact norm_grad_add word_len (x := fun k => x m c (ix2 (row t a) k)) (u := fun k => dh m c (row t a) k * gain m c (ix1 k))
    (fun k => hfin.hx _) (fun k => (hfin.dh m c _ _).mul (hfin.hgain _)) _ j

open Cert.OddInBwdRefIdeal.Read in
theorem dx (hfin : FiniteArgs m c) : (dats m 0 c).arrAt 9 cfg0.N
    = val_main_v41 (dq m c) (dk m c) (dv m c) (dr m c) (dlr m c) (w m c) (x m c) (gain m c) (dres m c) := by
  refine (dats m 0 c).arrAt_eq_of_covers 9 _ (by decide +kernel) fun t hf y => ?_
  have hemb : ((View.whole main_v4_0).slice (win0_9.rect t)).emb y = ix2 (row t (y 0)) (y 1) := by
    blk_ext [row, idx t]
  obtain ⟨a, j, rfl⟩ : ∃ a j, y = ix2 a j := ⟨y 0, y 1, by idx_vars y⟩
  blk_simp
  rw [after0_9]
  have h : t.val < 8 := t.isLt
  by_cases h0 : t.val % 8 = 0
  on_goal 1 => rw [outsAt0_A m c t h0 (by omega)]
  on_goal 2 => rw [outsAt0_B m c t h0 (by omega)]
  all_goals
    frame_out
    rw [hemb]
    exact dx_block m c t hfin a j

/-- One row's term of the gain's gradient. -/
def gainTerm (r : Fin 4096) (j : Fin 1024) : EReal :=
  dh m c r j * (x m c (ix2 r j) * Ideal.rsqrt (meanSq (Ideal.ofBits .f32 1149239296#32) fun k => x m c (ix2 r k)))

set_option maxHeartbeats 1000000 in
open Cert.OddInBwdRefIdeal.Read in
/-- The gradient of the norm's gain: the row blocks' column sums added up. -/
theorem dgain (c : Dev nD) : (dats m 0 c).arrAt 10 cfg0.N
    = val_main_v42 (dq m c) (dk m c) (dv m c) (dr m c) (dlr m c) (w m c) (x m c) := by
  refine (dats m 0 c).arrAt_eq_of_after_last 10 t0_7 (by decide +kernel) _ fun j => ?_
  obtain ⟨z, j, rfl⟩ : ∃ z j', j = ix2 z j' := ⟨j 0, j 1, by idx_vars j⟩
  blk_simp
  rw [after0_10]
  refine (Pipeline.eq_sum_fin_of_reset_step_apply_last (fun n h => (outsAt0 m c n h).2) 8 (fun _ => 0)
    (fun t i => ∑ a : Fin 512, gainTerm m c (row t a) (i 1)) (fun t h0 j => ?_) (fun t h0 j => ?_) (by decide) t0_7 rfl (ix2 z j)).trans ?_
  · obtain ⟨z, j, rfl⟩ : ∃ z j', j = ix2 z j' := ⟨j 0, j 1, by idx_vars j⟩
    have h : t.val < 8 := t.isLt
    rw [outsAt0_A m c t h0 (by omega)]
    frame_out
    pointwise [k0_pay2, k0_pay5, k0_pay6]
    simp only [dh_block, read_x, gainTerm, meanSq, zero_add]
  · obtain ⟨z, j, rfl⟩ : ∃ z j', j = ix2 z j' := ⟨j 0, j 1, by idx_vars j⟩
    have h : t.val < 8 := t.isLt
    rw [outsAt0_B m c t h0 (by omega)]
    frame_out
    pointwise [k0_pay2, k0_pay3, k0_pay5, k0_pay6]
    simp only [dh_block, read_x, gainTerm, meanSq]
  · refine (zero_add _).trans ((Fin.sum_univ_tiles 8 512 rfl fun r => gainTerm m c r j).symm.trans ?_)
    pointwise [val_main_v3, val_main_cst, val_main_v4, val_main_v5, val_main_cst_0, val_main_v6, val_main_v7, val_main_cst_1, val_main_v8, val_main_v9, val_main_v10, val_main_v11, val_main_cst_2, val_main_v12, val_main_v13, val_main_v14, val_main_v15, val_main_v16, val_main_v17, val_main_v18, val_main_v19, val_main_v21, val_main_cst_3, val_main_v22, val_main_v23, val_main_v24, val_main_v25, val_main_cst_4, val_main_v26, val_main_v27, val_main_cst_5, val_main_v28, val_main_v29, val_main_v30, val_main_v31, val_main_v32, val_main_v33, val_main_cst_6, val_main_v34, val_main_v35, val_main_cst_7, val_main_v36, val_main_v37, val_main_v38, val_main_v39, val_main_v40, val_main_v41, val_main_v42]
    simp only [dh_eq, Finset.univ_unique, Finset.sum_const, Finset.card_singleton, one_smul]
    exact Finset.sum_congr rfl fun r _ => mul_comm _ _

/-- What the precondition says: every element compares below `+∞` in magnitude. -/
theorem finiteArgs (hpre : Cert.Pre_OddInBwdIdeal_odd_in_bwd_finite m) (c : Dev nD) : FiniteArgs m c where
  hdq i := finite_of_abs_lt (congrFun (hpre c).1 i)
  hdk i := finite_of_abs_lt (congrFun (hpre c).2.1 i)
  hdv i := finite_of_abs_lt (congrFun (hpre c).2.2.1 i)
  hdr i := finite_of_abs_lt (congrFun (hpre c).2.2.2.1 i)
  hdlr i := finite_of_abs_lt (congrFun (hpre c).2.2.2.2.1 i)
  hw i := finite_of_abs_lt (congrFun (hpre c).2.2.2.2.2.1 i)
  hx i := finite_of_abs_lt (congrFun (hpre c).2.2.2.2.2.2.1 i)
  hgain i := finite_of_abs_lt (congrFun (hpre c).2.2.2.2.2.2.2 i)

/-- The kernel and the reference end with the same arrays. -/
theorem algebraic : Cert.algebraic_OddInBwdIdeal_OddInBwdRefIdeal_pre_odd_in_bwd_finite := by
  pair_intro
  · run_from Cert.OddInBwdIdeal.Gen.run_main m g
    · exact V_main_arg5 m c
    · exact V_main_arg7 m c
  · run_from Cert.OddInBwdRefIdeal.Value.run m' g'
    · obtain ⟨h0, h1, h2, h3, h4, h5, h6, h7, h8⟩ := hagree c
      refine (Cert.OddInBwdRefIdeal.Read.val_main_v41_eq m' c).trans ?_
      rw [h0, h1, h2, h3, h4, h5, h6, h7, h8]
      exact (dx m c (finiteArgs m hpre c)).symm
    · obtain ⟨h0, h1, h2, h3, h4, h5, h6, h7, h8⟩ := hagree c
      rw [h4]
      exact (dgain m c).symm

theorem frame_kernel : Cert.quiescent_OddInBwd := fun m ρ _ => Cert.OddInBwd.Gen.frame m ρ
theorem frame_ideal : Cert.quiescent_OddInBwdIdeal := fun m ρ _ => Cert.OddInBwdIdeal.Gen.frame m ρ
theorem frame_ref : Cert.quiescent_OddInBwdRefIdeal := fun m ρ _ =>
  (θ_run Cert.OddInBwdRefIdeal.defs _ _).mono (fun r h => ⟨fun c => (h c).2.2, sem_eq_zero_of_no_sems (by decide) r.2⟩)
    (Cert.OddInBwdRefIdeal.Value.run (F := Ideal) m ρ)

end Cert.Proof.OddInBwd

end
-- ==== Proof.OddInGrad.lean ====
/- The odd layer's input projection, backward: the gradient of its weight. -/
module

public import proofs.«01_k».proof.Proof.Gen.OddInGradIdeal.Value
public import proofs.«01_k».proof.Proof.Gen.OddInGradRefIdeal.Read
public import Idealize.ShloMosaic.Lib.Pipeline.ValueKit
public import Idealize.ShloMosaic.Lib.Pointwise
public import Idealize.ShloMosaic.Lib.Claim
public import proofs.«01_k».proof.Proof.Gen.OddInGradRefIdeal.Run
public import proofs.«01_k».proof.Proof.Gen.OddInGrad.Frame
public import proofs.«01_k».proof.Defs
public import proofs.«01_k».proof.Proof.NormGrad

@[expose] public section

set_option maxRecDepth 16384

noncomputable section

namespace Cert.Proof.OddInGrad

open Cert.OddInGradIdeal Cert.OddInGradIdeal.Gen Idealize.ShloMosaic Idealize.ShloMosaic.TcCoe Idealize.SL.Sem

variable (m : (ℓ : Loc nD τ sig) → Buf (Elt Ideal) ℓ)

/-- The blocks' indices at a grid point: the rows summed over are tiled, the weight is not. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

variable (c : Dev nD)

/-- The argument arrays, as arrays of extended reals. -/
abbrev x : Shape.Idx ⟨2, ![4096, 1024]⟩ → EReal := m ((c : Thread nD τ).loc main_arg0)
abbrev gain : Shape.Idx ⟨1, ![1024]⟩ → EReal := m ((c : Thread nD τ).loc main_arg1)
abbrev dq : Shape.Idx ⟨2, ![4096, 512]⟩ → EReal := m ((c : Thread nD τ).loc main_arg2)
abbrev dk : Shape.Idx ⟨2, ![4096, 512]⟩ → EReal := m ((c : Thread nD τ).loc main_arg3)
abbrev dv : Shape.Idx ⟨2, ![4096, 1024]⟩ → EReal := m ((c : Thread nD τ).loc main_arg4)
abbrev dr : Shape.Idx ⟨2, ![4096, 1024]⟩ → EReal := m ((c : Thread nD τ).loc main_arg5)
abbrev dlr : Shape.Idx ⟨2, ![4096, 128]⟩ → EReal := m ((c : Thread nD τ).loc main_arg6)

/-- The array row a block row is. -/
def row (t : Fin cfg0.N) (a : Fin 1024) : Fin 4096 := ⟨t.val * 1024 + a.val, by have := t.isLt; have : cfg0.N = 4 := rfl; omega⟩

/-- The normalised row the host forms. -/
def hidden (r : Fin 4096) (k : Fin 1024) : EReal :=
  x m c (ix2 r k) * Ideal.rsqrt (meanSq (Ideal.ofBits .f32 1149239296#32) fun l => x m c (ix2 r l)) * gain m c (ix1 k)

theorem read_h (t : Fin cfg0.N) (a : Fin 1024) (k : Fin 1024) : iblk m c 0 t (ix2 a k) = hidden m c (row t a) k := by
  have hi : (win0_0.blk t).view.emb (ix2 a k) = ix2 (row t a) k := by blk_ext [row, idx t]
  show V m c main_v13 ((win0_0.blk t).view.emb (ix2 a k)) = _
  rw [hi]
  entry_read
  pointwise
  rfl

theorem read_dq (t : Fin cfg0.N) (a : Fin 1024) (k : Fin 512) : iblk m c 1 t (ix2 a k) = dq m c (ix2 (row t a) k) := by
  blk_ext [iblk, V, row, idx t]

theorem read_dk (t : Fin cfg0.N) (a : Fin 1024) (k : Fin 512) : iblk m c 2 t (ix2 a k) = dk m c (ix2 (row t a) k) := by
  blk_ext [iblk, V, row, idx t]

theorem read_dv (t : Fin cfg0.N) (a : Fin 1024) (k : Fin 1024) : iblk m c 3 t (ix2 a k) = dv m c (ix2 (row t a) k) := by
  blk_ext [iblk, V, row, idx t]

theorem read_dr (t : Fin cfg0.N) (a : Fin 1024) (k : Fin 1024) : iblk m c 4 t (ix2 a k) = dr m c (ix2 (row t a) k) := by
  blk_ext [iblk, V, row, idx t]

theorem read_dlr (t : Fin cfg0.N) (a : Fin 1024) (k : Fin 128) : iblk m c 5 t (ix2 a k) = dlr m c (ix2 (row t a) k) := by
  blk_ext [iblk, V, row, idx t]

open Cert.OddInGradRefIdeal.Read in
/-- The gradient flowing in, its five pieces side by side, at one element. -/
def dproj (r : Fin 4096) (j : Fin 3200) : EReal :=
  val_main_v0 (F := Ideal) (dq m c) (dk m c) (dv m c) (dr m c) (dlr m c) (ix2 r j)

open Cert.OddInGradRefIdeal.Read in
/-- One point's product. -/
theorem prod_block (t : Fin cfg0.N) (i : Fin 1024) (j : Fin 3200) :
    (k0_pay1 (F := Ideal) (iblk m c 1 t) (iblk m c 2 t) (iblk m c 3 t) (iblk m c 4 t) (iblk m c 5 t) (iblk m c 0 t) (ix2 i j) : EReal)
      = ∑ a : Fin 1024, hidden m c (row t a) i * dproj m c (row t a) j := by
  unfold dproj
  pointwise [k0_pay1, val_main_v0]
  simp only [read_h, read_dq, read_dk, read_dv, read_dr, read_dlr]

set_option maxHeartbeats 1000000 in
open Cert.OddInGradRefIdeal.Read in
/-- The weight's gradient: the row blocks' products added up. -/
theorem dw : (dats m 0 c).arrAt 6 cfg0.N
    = val_main_v18 (x m c) (gain m c) (dq m c) (dk m c) (dv m c) (dr m c) (dlr m c) := by
  refine (dats m 0 c).arrAt_eq_of_after_last 6 t0_3 (by decide +kernel) _ fun y => ?_
  blk_simp
  rw [after0_6]
  refine (Pipeline.eq_sum_fin_of_reset_step_apply_last (fun n h => outsAt0 m c n h) 4 (fun _ => (0 : EReal))
    (fun t i => ∑ a : Fin 1024, hidden m c (row t a) (i 0) * dproj m c (row t a) (i 1)) (fun t h0 j => ?_) (fun t h0 j => ?_)
    (by decide) t0_3 rfl y).trans ?_
  · obtain ⟨i, j, rfl⟩ : ∃ i j', j = ix2 i j' := ⟨j 0, j 1, by idx_vars j⟩
    have h : t.val < 4 := t.isLt
    rw [outsAt0_A m c t h0 (by omega)]
    frame_out
    exact (prod_block m c t i j).trans (zero_add _).symm
  · obtain ⟨i, j, rfl⟩ : ∃ i j', j = ix2 i j' := ⟨j 0, j 1, by idx_vars j⟩
    have h : t.val < 4 := t.isLt
    rw [outsAt0_B m c t h0 (by omega)]
    frame_out
    pointwise [k0_pay2]
    simp only [prod_block]
  · obtain ⟨i, j, rfl⟩ : ∃ i j, y = ix2 i j := ⟨y 0, y 1, by idx_vars y⟩
    refine (zero_add _).trans ((Fin.sum_univ_tiles 4 1024 rfl fun r => hidden m c r i * dproj m c r j).symm.trans ?_)
    pointwise [val_main_v1, val_main_cst, val_main_v2, val_main_v3, val_main_cst_0, val_main_v4, val_main_v5, val_main_cst_1, val_main_v6, val_main_v7, val_main_cst_2, val_main_v8, val_main_v9, val_main_v10, val_main_v11, val_main_v12, val_main_v13, val_main_v14, val_main_v15, val_main_v16, val_main_v17, val_main_v18]
    exact Finset.sum_congr rfl fun r _ => mul_comm _ _

/-- The kernel and the reference end with the same arrays. -/
theorem algebraic : Cert.algebraic_OddInGradIdeal_OddInGradRefIdeal := by
  pair_intro
  · run_from Cert.OddInGradIdeal.Gen.run_main m g
  · run_from Cert.OddInGradRefIdeal.Value.run m' g'
    obtain ⟨h0, h1, h2, h3, h4, h5, h6⟩ := hagree c
    rw [h2, h3, h4, h5, h6]
    exact (dw m c).symm

theorem frame_kernel : Cert.quiescent_OddInGrad := fun m ρ _ => Cert.OddInGrad.Gen.frame m ρ
theorem frame_ideal : Cert.quiescent_OddInGradIdeal := fun m ρ _ => Cert.OddInGradIdeal.Gen.frame m ρ
theorem frame_ref : Cert.quiescent_OddInGradRefIdeal := fun m ρ _ =>
  (θ_run Cert.OddInGradRefIdeal.defs _ _).mono (fun r h => ⟨fun c => (h c).2, sem_eq_zero_of_no_sems (by decide) r.2⟩)
    (Cert.OddInGradRefIdeal.Value.run (F := Ideal) m ρ)

end Cert.Proof.OddInGrad

end
-- ==== Proof.EvenOutGrad.lean ====
/- The even layer's output projection, backward: the gradient of its weight. -/
module

public import proofs.«01_k».proof.Proof.Gen.EvenOutGradIdeal.Value
public import proofs.«01_k».proof.Proof.Gen.EvenOutGradRefIdeal.Read
public import Idealize.ShloMosaic.Lib.Pipeline.ValueKit
public import Idealize.ShloMosaic.Lib.Pointwise
public import Idealize.ShloMosaic.Lib.Claim
public import proofs.«01_k».proof.Proof.Gen.EvenOutGradRefIdeal.Run
public import proofs.«01_k».proof.Proof.Gen.EvenOutGrad.Frame
public import proofs.«01_k».proof.Defs
public import proofs.«01_k».proof.Proof.NormGrad

@[expose] public section

set_option maxRecDepth 16384

noncomputable section

namespace Cert.Proof.EvenOutGrad

open Cert.EvenOutGradIdeal Cert.EvenOutGradIdeal.Gen Idealize.ShloMosaic Idealize.ShloMosaic.TcCoe Idealize.SL.Sem

variable (m : (ℓ : Loc nD τ sig) → Buf (Elt Ideal) ℓ)

/-- The blocks' indices at a grid point: the rows summed over are tiled, the weight is not. -/
theorem idx : ∀ t : Fin cfg0.N, win0_0.index t = ![t.val, 0] ∧ win0_1.index t = ![t.val, 0]
    ∧ win0_2.index t = ![0, 0, 0] ∧ win0_3.index t = ![0, 0, 0] :=
  (by decide +kernel : ∀ t : Fin grid0.N, _)

variable (c : Dev nD)

/-- The argument arrays, as arrays of extended reals. -/
abbrev ycat : Shape.Idx ⟨2, ![4096, 2048]⟩ → EReal := m ((c : Thread nD τ).loc main_arg0)
abbrev dy : Shape.Idx ⟨2, ![4096, 1024]⟩ → EReal := m ((c : Thread nD τ).loc main_arg1)

/-- The array row a block row is. -/
def row (t : Fin cfg0.N) (a : Fin 1024) : Fin 4096 := ⟨t.val * 1024 + a.val, by have := t.isLt; have : cfg0.N = 4 := rfl; omega⟩

theorem read_ycat (t : Fin cfg0.N) (a : Fin 1024) (k : Fin 2048) : iblk m c 0 t (ix2 a k) = ycat m c (ix2 (row t a) k) := by
  blk_ext [iblk, V, row, idx t]

theorem read_dy (t : Fin cfg0.N) (a : Fin 1024) (k : Fin 1024) : iblk m c 1 t (ix2 a k) = dy m c (ix2 (row t a) k) := by
  blk_ext [iblk, V, row, idx t]

open Cert.EvenOutGradRefIdeal.Read in
/-- The accumulator after the last point: the sums over all the rows. -/
theorem acc (y : (⟨3, ![1, 2048, 1024]⟩ : Shape).Idx) :
    (outsAt0 m c t0_3.val t0_3.isLt).1 y = val_main_v6 (ycat m c) (dy m c) y := by
  refine (Pipeline.eq_sum_fin_of_reset_step_apply_last (fun n h => (outsAt0 m c n h).1) 4 (fun _ => (0 : EReal))
    (fun t i => ∑ a : Fin 1024, ycat m c (ix2 (row t a) (i 1)) * dy m c (ix2 (row t a) (i 2))) (fun t h0 j => ?_) (fun t h0 j => ?_)
    (by decide) t0_3 rfl y).trans ?_
  · obtain ⟨z, i, j, rfl⟩ : ∃ z i j', j = ix3 z i j' := ⟨j 0, j 1, j 2, by idx_vars j⟩
    obtain rfl : z = 0 := Subsingleton.elim _ _
    have h : t.val < 4 := t.isLt
    rw [outsAt0_A m c t h0 (by omega) (by omega)]
    frame_out
    pointwise [k0_pay1, k0_pay2]
    simp only [read_ycat, read_dy, zero_add]
  · obtain ⟨z, i, j, rfl⟩ : ∃ z i j', j = ix3 z i j' := ⟨j 0, j 1, j 2, by idx_vars j⟩
    obtain rfl : z = 0 := Subsingleton.elim _ _
    have h : t.val < 4 := t.isLt
    by_cases h3 : t.val % 4 = 3
    on_goal 1 => rw [outsAt0_C m c t h0 (by omega) h3]
    on_goal 2 => rw [outsAt0_B m c t h0 (by omega) h3]
    all_goals
      frame_out
      pointwise [k0_pay1, k0_pay3]
      simp only [read_ycat, read_dy]
  · obtain ⟨z, i, j, rfl⟩ : ∃ z i j, y = ix3 z i j := ⟨y 0, y 1, y 2, by idx_vars y⟩
    refine (zero_add _).trans ((Fin.sum_univ_tiles 4 1024 rfl fun r => ycat m c (ix2 r i) * dy m c (ix2 r j)).symm.trans ?_)
    pointwise [val_main_cst, val_main_v0, val_main_v1, val_main_v2, val_main_v3, val_main_v4, val_main_v5, val_main_v6, val_main_v7, val_main_v8]
    exact Finset.sum_congr rfl fun r _ => mul_comm _ _

open Cert.EvenOutGradRefIdeal.Read in
theorem dw : (dats m 0 c).arrAt 2 cfg0.N = val_main_v6 (ycat m c) (dy m c) := by
  refine (dats m 0 c).arrAt_eq_of_after_last 2 t0_3 (by decide +kernel) _ fun y => ?_
  blk_simp
  rw [after0_2]
  exact acc m c y

open Cert.EvenOutGradRefIdeal.Read in
theorem dw16 : (dats m 0 c).arrAt 3 cfg0.N = val_main_v8 (ycat m c) (dy m c) := by
  refine (dats m 0 c).arrAt_eq_of_after_last 3 t0_3 (by decide +kernel) _ fun y => ?_
  blk_simp
  rw [after0_3]
  have h2 : (outsAt0 m c t0_3.val t0_3.isLt).2 y = (outsAt0 m c t0_3.val t0_3.isLt).1 y := by
    rw [outsAt0_C m c t0_3 (by decide) (by decide) (by decide)]
    frame_out
    obtain ⟨z, i, j, rfl⟩ : ∃ z i j, y = ix3 z i j := ⟨y 0, y 1, y 2, by idx_vars y⟩
    obtain rfl : z = 0 := Subsingleton.elim _ _
    pointwise [k0_pay4]
  exact h2.trans ((acc m c y).trans rfl)

/-- The kernel and the reference end with the same arrays. -/
theorem algebraic : Cert.algebraic_EvenOutGradIdeal_EvenOutGradRefIdeal := by
  pair_intro
  · run_from Cert.EvenOutGradIdeal.Gen.run_main m g
  · run_from Cert.EvenOutGradRefIdeal.Value.run m' g'
    · exact (dw m c).symm
    · exact (dw16 m c).symm

theorem frame_kernel : Cert.quiescent_EvenOutGrad := fun m ρ _ => Cert.EvenOutGrad.Gen.frame m ρ
theorem frame_ideal : Cert.quiescent_EvenOutGradIdeal := fun m ρ _ => Cert.EvenOutGradIdeal.Gen.frame m ρ
theorem frame_ref : Cert.quiescent_EvenOutGradRefIdeal := fun m ρ _ =>
  (θ_run Cert.EvenOutGradRefIdeal.defs _ _).mono (fun r h => ⟨fun c => (h c).2.2, sem_eq_zero_of_no_sems (by decide) r.2⟩)
    (Cert.EvenOutGradRefIdeal.Value.run (F := Ideal) m ρ)

end Cert.Proof.EvenOutGrad

end
-- ==== Proof.OddOutGrad.lean ====
/- The odd layer's output projection, backward: the gradient of its weight. -/
module

public import proofs.«01_k».proof.Proof.Gen.OddOutGradIdeal.Value
public import proofs.«01_k».proof.Proof.Gen.OddOutGradRefIdeal.Read
public import Idealize.ShloMosaic.Lib.Pipeline.ValueKit
public import Idealize.ShloMosaic.Lib.Pointwise
public import Idealize.ShloMosaic.Lib.Claim
public import proofs.«01_k».proof.Proof.Gen.OddOutGradRefIdeal.Run
public import proofs.«01_k».proof.Proof.Gen.OddOutGrad.Frame
public import proofs.«01_k».proof.Defs
public import proofs.«01_k».proof.Proof.NormGrad

@[expose] public section

set_option maxRecDepth 16384

noncomputable section

namespace Cert.Proof.OddOutGrad

open Cert.OddOutGradIdeal Cert.OddOutGradIdeal.Gen Idealize.ShloMosaic Idealize.ShloMosaic.TcCoe Idealize.SL.Sem

variable (m : (ℓ : Loc nD τ sig) → Buf (Elt Ideal) ℓ)

/-- The blocks' indices at a grid point: the rows summed over are tiled, the weight is not. -/
theorem idx : ∀ t : Fin cfg0.N, win0_0.index t = ![t.val, 0] ∧ win0_1.index t = ![t.val, 0]
    ∧ win0_2.index t = ![0, 0, 0] ∧ win0_3.index t = ![0, 0, 0] :=
  (by decide +kernel : ∀ t : Fin grid0.N, _)

variable (c : Dev nD)

/-- The argument arrays, as arrays of extended reals. -/
abbrev y2 : Shape.Idx ⟨2, ![4096, 1024]⟩ → EReal := m ((c : Thread nD τ).loc main_arg0)
abbrev dy : Shape.Idx ⟨2, ![4096, 1024]⟩ → EReal := m ((c : Thread nD τ).loc main_arg1)

/-- The array row a block row is. -/
def row (t : Fin cfg0.N) (a : Fin 1024) : Fin 4096 := ⟨t.val * 1024 + a.val, by have := t.isLt; have : cfg0.N = 4 := rfl; omega⟩

theorem read_y2 (t : Fin cfg0.N) (a : Fin 1024) (k : Fin 1024) : iblk m c 0 t (ix2 a k) = y2 m c (ix2 (row t a) k) := by
  blk_ext [iblk, V, row, idx t]

theorem read_dy (t : Fin cfg0.N) (a : Fin 1024) (k : Fin 1024) : iblk m c 1 t (ix2 a k) = dy m c (ix2 (row t a) k) := by
  blk_ext [iblk, V, row, idx t]

open Cert.OddOutGradRefIdeal.Read in
/-- The accumulator after the last point: the sums over all the rows. -/
theorem acc (y : (⟨3, ![1, 1024, 1024]⟩ : Shape).Idx) :
    (outsAt0 m c t0_3.val t0_3.isLt).1 y = val_main_v6 (y2 m c) (dy m c) y := by
  refine (Pipeline.eq_sum_fin_of_reset_step_apply_last (fun n h => (outsAt0 m c n h).1) 4 (fun _ => (0 : EReal))
    (fun t i => ∑ a : Fin 1024, y2 m c (ix2 (row t a) (i 1)) * dy m c (ix2 (row t a) (i 2))) (fun t h0 j => ?_) (fun t h0 j => ?_)
    (by decide) t0_3 rfl y).trans ?_
  · obtain ⟨z, i, j, rfl⟩ : ∃ z i j', j = ix3 z i j' := ⟨j 0, j 1, j 2, by idx_vars j⟩
    obtain rfl : z = 0 := Subsingleton.elim _ _
    have h : t.val < 4 := t.isLt
    rw [outsAt0_A m c t h0 (by omega) (by omega)]
    frame_out
    pointwise [k0_pay1, k0_pay2]
    simp only [read_y2, read_dy, zero_add]
  · obtain ⟨z, i, j, rfl⟩ : ∃ z i j', j = ix3 z i j' := ⟨j 0, j 1, j 2, by idx_vars j⟩
    obtain rfl : z = 0 := Subsingleton.elim _ _
    have h : t.val < 4 := t.isLt
    by_cases h3 : t.val % 4 = 3
    on_goal 1 => rw [outsAt0_C m c t h0 (by omega) h3]
    on_goal 2 => rw [outsAt0_B m c t h0 (by omega) h3]
    all_goals
      frame_out
      pointwise [k0_pay1, k0_pay3]
      simp only [read_y2, read_dy]
  · obtain ⟨z, i, j, rfl⟩ : ∃ z i j, y = ix3 z i j := ⟨y 0, y 1, y 2, by idx_vars y⟩
    refine (zero_add _).trans ((Fin.sum_univ_tiles 4 1024 rfl fun r => y2 m c (ix2 r i) * dy m c (ix2 r j)).symm.trans ?_)
    pointwise [val_main_cst, val_main_v0, val_main_v1, val_main_v2, val_main_v3, val_main_v4, val_main_v5, val_main_v6, val_main_v7, val_main_v8]
    exact Finset.sum_congr rfl fun r _ => mul_comm _ _

open Cert.OddOutGradRefIdeal.Read in
theorem dw : (dats m 0 c).arrAt 2 cfg0.N = val_main_v6 (y2 m c) (dy m c) := by
  refine (dats m 0 c).arrAt_eq_of_after_last 2 t0_3 (by decide +kernel) _ fun y => ?_
  blk_simp
  rw [after0_2]
  exact acc m c y

open Cert.OddOutGradRefIdeal.Read in
theorem dw16 : (dats m 0 c).arrAt 3 cfg0.N = val_main_v8 (y2 m c) (dy m c) := by
  refine (dats m 0 c).arrAt_eq_of_after_last 3 t0_3 (by decide +kernel) _ fun y => ?_
  blk_simp
  rw [after0_3]
  have h2 : (outsAt0 m c t0_3.val t0_3.isLt).2 y = (outsAt0 m c t0_3.val t0_3.isLt).1 y := by
    rw [outsAt0_C m c t0_3 (by decide) (by decide) (by decide)]
    frame_out
    obtain ⟨z, i, j, rfl⟩ : ∃ z i j, y = ix3 z i j := ⟨y 0, y 1, y 2, by idx_vars y⟩
    obtain rfl : z = 0 := Subsingleton.elim _ _
    pointwise [k0_pay4]
  exact h2.trans ((acc m c y).trans rfl)

/-- The kernel and the reference end with the same arrays. -/
theorem algebraic : Cert.algebraic_OddOutGradIdeal_OddOutGradRefIdeal := by
  pair_intro
  · run_from Cert.OddOutGradIdeal.Gen.run_main m g
  · run_from Cert.OddOutGradRefIdeal.Value.run m' g'
    · exact (dw m c).symm
    · exact (dw16 m c).symm

theorem frame_kernel : Cert.quiescent_OddOutGrad := fun m ρ _ => Cert.OddOutGrad.Gen.frame m ρ
theorem frame_ideal : Cert.quiescent_OddOutGradIdeal := fun m ρ _ => Cert.OddOutGradIdeal.Gen.frame m ρ
theorem frame_ref : Cert.quiescent_OddOutGradRefIdeal := fun m ρ _ =>
  (θ_run Cert.OddOutGradRefIdeal.defs _ _).mono (fun r h => ⟨fun c => (h c).2.2, sem_eq_zero_of_no_sems (by decide) r.2⟩)
    (Cert.OddOutGradRefIdeal.Value.run (F := Ideal) m ρ)

end Cert.Proof.OddOutGrad

end
-- ==== Proof.EvenOutFwd.lean ====
/- The even layer's output projection, its norm and the residual. -/
module

public import proofs.«01_k».proof.Proof.Gen.EvenOutFwdIdeal.Value
public import proofs.«01_k».proof.Proof.Gen.EvenOutFwdRefIdeal.Read
public import Idealize.ShloMosaic.Lib.Pipeline.ValueKit
public import Idealize.ShloMosaic.Lib.Pointwise
public import Idealize.ShloMosaic.Lib.Claim
public import proofs.«01_k».proof.Proof.Gen.EvenOutFwdRefIdeal.Run
public import proofs.«01_k».proof.Proof.Gen.EvenOutFwd.Frame
public import proofs.«01_k».proof.Defs
public import proofs.«01_k».proof.Proof.NormGrad

@[expose] public section

set_option maxRecDepth 16384

noncomputable section

namespace Cert.Proof.EvenOutFwd

open Cert.EvenOutFwdIdeal Cert.EvenOutFwdIdeal.Gen Idealize.ShloMosaic Idealize.ShloMosaic.TcCoe Idealize.SL.Sem

variable (m : (ℓ : Loc nD τ sig) → Buf (Elt Ideal) ℓ)

/-- The blocks' indices at a grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

variable (c : Dev nD)

/-- The argument arrays, as arrays of extended reals. -/
abbrev ycat : Shape.Idx ⟨2, ![4096, 2048]⟩ → EReal := m ((c : Thread nD τ).loc main_arg0)
abbrev w : Shape.Idx ⟨2, ![2048, 1024]⟩ → EReal := m ((c : Thread nD τ).loc main_arg1)
abbrev gain : Shape.Idx ⟨1, ![1024]⟩ → EReal := m ((c : Thread nD τ).loc main_arg2)
abbrev x : Shape.Idx ⟨2, ![4096, 1024]⟩ → EReal := m ((c : Thread nD τ).loc main_arg3)

open Cert.EvenOutFwdRefIdeal.Read in
/-- The stream after the layer. -/
theorem x1 : (dats m 0 c).arrAt 4 cfg0.N = val_main_v15 (ycat m c) (w m c) (gain m c) (x m c) := by
  refine (dats m 0 c).arrAt_eq_of_covers 4 _ (by decide +kernel) fun t hf y => ?_
  blk_simp
  rw [after0_4]
  frame_out
  pointwise [k0_pay1, k0_pay2, val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15]
  blk_point [iblk, V, idx t]

open Cert.EvenOutFwdRefIdeal.Read in
/-- The projection's output. -/
theorem y : (dats m 0 c).arrAt 5 cfg0.N = val_main_v1 (ycat m c) (w m c) := by
  refine (dats m 0 c).arrAt_eq_of_covers 5 _ (by decide +kernel) fun t hf y => ?_
  blk_simp
  rw [after0_5]
  frame_out
  pointwise [k0_pay1, val_main_v0, val_main_v1]
  blk_point [iblk, V, idx t]

/-- The kernel and the reference end with the same arrays. -/
theorem algebraic : Cert.algebraic_EvenOutFwdIdeal_EvenOutFwdRefIdeal := by
  pair_intro
  · run_from Cert.EvenOutFwdIdeal.Gen.run_main m g
  · run_from Cert.EvenOutFwdRefIdeal.Value.run m' g'
    · exact (x1 m c).symm
    · exact (y m c).symm

theorem frame_kernel : Cert.quiescent_EvenOutFwd := fun m ρ _ => Cert.EvenOutFwd.Gen.frame m ρ
theorem frame_ideal : Cert.quiescent_EvenOutFwdIdeal := fun m ρ _ => Cert.EvenOutFwdIdeal.Gen.frame m ρ
theorem frame_ref : Cert.quiescent_EvenOutFwdRefIdeal := fun m ρ _ =>
  (θ_run Cert.EvenOutFwdRefIdeal.defs _ _).mono (fun r h => ⟨fun c => (h c).2.2, sem_eq_zero_of_no_sems (by decide) r.2⟩)
    (Cert.EvenOutFwdRefIdeal.Value.run (F := Ideal) m ρ)

end Cert.Proof.EvenOutFwd

end
-- ==== Proof.OddInFwd.lean ====
/- The odd layer's norm and input projection. -/
module

public import proofs.«01_k».proof.Proof.Gen.OddInFwdIdeal.Value
public import proofs.«01_k».proof.Proof.Gen.OddInFwdRefIdeal.Read
public import Idealize.ShloMosaic.Lib.Pipeline.ValueKit
public import Idealize.ShloMosaic.Lib.Pointwise
public import Idealize.ShloMosaic.Lib.Claim
public import proofs.«01_k».proof.Proof.Gen.OddInFwdRefIdeal.Run
public import proofs.«01_k».proof.Proof.Gen.OddInFwd.Frame
public import proofs.«01_k».proof.Defs
public import proofs.«01_k».proof.Proof.NormGrad
public import Idealize.ShloMosaic.Lib.StableHlo.ReadAt

@[expose] public section

set_option maxRecDepth 16384

noncomputable section

namespace Cert.Proof.OddInFwd

open Cert.OddInFwdIdeal Cert.OddInFwdIdeal.Gen Idealize.ShloMosaic Idealize.ShloMosaic.TcCoe Idealize.SL.Sem

variable (m : (ℓ : Loc nD τ sig) → Buf (Elt Ideal) ℓ)

/-- The blocks' indices at a grid point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

variable (c : Dev nD)

/-- The argument arrays, as arrays of extended reals. -/
abbrev x : Shape.Idx ⟨2, ![4096, 1024]⟩ → EReal := m ((c : Thread nD τ).loc main_arg0)
abbrev gain : Shape.Idx ⟨1, ![1024]⟩ → EReal := m ((c : Thread nD τ).loc main_arg1)
abbrev w : Shape.Idx ⟨2, ![1024, 3104]⟩ → EReal := m ((c : Thread nD τ).loc main_arg2)

/-- The array row a block row is. -/
def row (t : Fin cfg0.N) (a : Fin 512) : Fin 4096 := ⟨t.val * 512 + a.val, by have := t.isLt; have : cfg0.N = 8 := rfl; omega⟩

theorem read_x (t : Fin cfg0.N) (a : Fin 512) (k : Fin 1024) : iblk m c 0 t (ix2 a k) = x m c (ix2 (row t a) k) := by
  blk_ext [iblk, V, row, idx t]

theorem read_gain (t : Fin cfg0.N) (k : Fin 1024) : iblk m c 1 t (ix2 0 k) = gain m c (ix1 k) := by
  have hi : (win0_1.blk t).view.emb (ix2 0 k) = ix2 0 k := by blk_ext [idx t]
  show V m c main_v3 ((win0_1.blk t).view.emb (ix2 0 k)) = _
  rw [hi]
  after_reads_at

/-- The weight the kernel reads: its own columns, then zero columns up to a tile's width. -/
theorem read_w (t : Fin cfg0.N) (k : Fin 1024) (j : Fin 3200) :
    iblk m c 2 t (ix3 0 k j) = if h : j.val < 3104 then w m c (ix2 k ⟨j.val, h⟩) else (0 : EReal) := by
  have hi : (win0_2.blk t).view.emb (ix3 0 k j) = ix3 0 k j := by blk_ext [idx t]
  show V m c main_v2 ((win0_2.blk t).view.emb (ix3 0 k j)) = _
  rw [hi]
  after_reads_at
  simp only [int_zero]

open Cert.OddInFwdRefIdeal.Read in
/-- The normalised row. -/
theorem h_block (t : Fin cfg0.N) (a : Fin 512) (k : Fin 1024) :
    (k0_pay1 (F := Ideal) (iblk m c 0 t) (iblk m c 1 t) (ix2 a k) : EReal)
      = (val_main_v12 (F := Ideal) (x m c) (gain m c) (ix2 (row t a) k) : EReal) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_c, val_main_call0_v0, val_main_v14, val_main_v15]
  simp only [read_x, read_gain]

open Cert.OddInFwdRefIdeal.Read in
theorem hidden : (dats m 0 c).arrAt 4 cfg0.N = val_main_v15 (x m c) (gain m c) := by
  refine (dats m 0 c).arrAt_eq_of_covers 4 _ (by decide +kernel) fun t hf y => ?_
  have hemb : ((View.whole main_v4_1).slice (win0_4.rect t)).emb y = ix2 (row t (y 0)) (y 1) := by
    blk_ext [row, idx t]
  obtain ⟨a, k, rfl⟩ : ∃ a k, y = ix2 a k := ⟨y 0, y 1, by idx_vars y⟩
  blk_simp
  rw [after0_4]
  frame_out
  rw [hemb]
  exact h_block m c t a k

open Cert.OddInFwdRefIdeal.Read in
/-- The projection's block: the padding columns are zero on both sides. -/
theorem proj_block (t : Fin cfg0.N) (a : Fin 512) (j : Fin 3200) :
    (k0_pay2 (F := Ideal) (iblk m c 0 t) (iblk m c 1 t) (iblk m c 2 t) (ix2 a j) : EReal)
      = (val_main_v14 (F := Ideal) (x m c) (gain m c) (w m c) (ix2 (row t a) j) : EReal) := by
  pointwise [k0_pay2, val_main_v14]
  simp only [read_w, h_block]
  split_ifs with h
  · pointwise [val_main_v13]
  · pointwise [val_main_call0_v0, val_main_c]
    simp only [int_zero, mul_zero, Finset.sum_const_zero]

open Cert.OddInFwdRefIdeal.Read in
theorem proj : (dats m 0 c).arrAt 3 cfg0.N = val_main_v14 (x m c) (gain m c) (w m c) := by
  refine (dats m 0 c).arrAt_eq_of_covers 3 _ (by decide +kernel) fun t hf y => ?_
  have hemb : ((View.whole main_v4_0).slice (win0_3.rect t)).emb y = ix2 (row t (y 0)) (y 1) := by
    blk_ext [row, idx t]
  obtain ⟨a, k, rfl⟩ : ∃ a k, y = ix2 a k := ⟨y 0, y 1, by idx_vars y⟩
  blk_simp
  rw [after0_3]
  frame_out
  rw [hemb]
  exact proj_block m c t a k

/-- The kernel and the reference end with the same arrays. -/
theorem algebraic : Cert.algebraic_OddInFwdIdeal_OddInFwdRefIdeal := by
  pair_intro
  · run_from Cert.OddInFwdIdeal.Gen.run_main m g
    · exact V_main_arg1 m c
    · exact V_main_arg2 m c
  · run_from Cert.OddInFwdRefIdeal.Value.run m' g'
    · exact (proj m c).symm
    · exact (hidden m c).symm

theorem frame_kernel : Cert.quiescent_OddInFwd := fun m ρ _ => Cert.OddInFwd.Gen.frame m ρ
theorem frame_ideal : Cert.quiescent_OddInFwdIdeal := fun m ρ _ => Cert.OddInFwdIdeal.Gen.frame m ρ
theorem frame_ref : Cert.quiescent_OddInFwdRefIdeal := fun m ρ _ =>
  (θ_run Cert.OddInFwdRefIdeal.defs _ _).mono (fun r h => ⟨fun c => (h c).2.2, sem_eq_zero_of_no_sems (by decide) r.2⟩)
    (Cert.OddInFwdRefIdeal.Value.run (F := Ideal) m ρ)

end Cert.Proof.OddInFwd

end
-- ==== Proof.OddOutFwd.lean ====
/- The odd layer's output projection, forward, with the loss: the gated heads, the loss and the gradients of the
   projection's output, of the residual and of the norm's gain. -/
module

public import proofs.«01_k».proof.Proof.Gen.OddOutFwdIdeal.Value
public import proofs.«01_k».proof.Proof.Gen.OddOutFwdRefIdeal.Read
public import Idealize.ShloMosaic.Lib.Pipeline.ValueKit
public import Idealize.ShloMosaic.Lib.Pointwise
public import Idealize.ShloMosaic.Lib.Claim
public import proofs.«01_k».proof.Proof.Gen.Pre_odd_out_fwd_finite
public import proofs.«01_k».proof.Proof.Gen.OddOutFwdRefIdeal.Run
public import proofs.«01_k».proof.Proof.Gen.OddOutFwd.Frame
public import proofs.«01_k».proof.Defs
public import proofs.«01_k».proof.Proof.NormGrad
public import proofs.«01_k».proof.Proof.Heads

@[expose] public section

set_option maxRecDepth 16384

noncomputable section

namespace Cert.Proof.OddOutFwd

open Cert.OddOutFwdIdeal Cert.OddOutFwdIdeal.Gen Idealize.ShloMosaic Idealize.ShloMosaic.TcCoe Idealize.SL.Sem

variable (m : (ℓ : Loc nD τ sig) → Buf (Elt Ideal) ℓ)

/-- The blocks' indices at a grid point; the gate is the projection's third column block. -/
theorem idx : ∀ t : Fin cfg0.N, win0_0.index t = ![t.val, 0] ∧ win0_1.index t = ![t.val, 2] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, 0]
    ∧ win0_11.index t = ![0, 0] :=
  (by decide +kernel : ∀ t : Fin grid0.N, _)

variable (c : Dev nD) (t : Fin cfg0.N)

/-- The argument arrays, as arrays of extended reals. -/
abbrev o : Shape.Idx ⟨2, ![4096, 1024]⟩ → EReal := m ((c : Thread nD τ).loc main_arg0)
abbrev proj : Shape.Idx ⟨2, ![4096, 3200]⟩ → EReal := m ((c : Thread nD τ).loc main_arg1)
abbrev gain : Shape.Idx ⟨1, ![256]⟩ → EReal := m ((c : Thread nD τ).loc main_arg2)
abbrev w : Shape.Idx ⟨2, ![1024, 1024]⟩ → EReal := m ((c : Thread nD τ).loc main_arg3)
abbrev post : Shape.Idx ⟨1, ![1024]⟩ → EReal := m ((c : Thread nD τ).loc main_arg4)
abbrev x : Shape.Idx ⟨2, ![4096, 1024]⟩ → EReal := m ((c : Thread nD τ).loc main_arg5)
abbrev target : Shape.Idx ⟨2, ![4096, 1024]⟩ → EReal := m ((c : Thread nD τ).loc main_arg6)

/-- The array row a block row is. -/
def row (t : Fin cfg0.N) (a : Fin 512) : Fin 4096 := ⟨t.val * 512 + a.val, by have := t.isLt; have : cfg0.N = 8 := rfl; omega⟩

theorem read_o (a : Fin 512) (k : Fin 1024) : iblk m c 0 t (ix2 a k) = o m c (ix2 (row t a) k) := by
  blk_ext [iblk, V, row, idx t]

theorem read_r (a : Fin 512) (k : Fin 1024) : X0_1 m c t (ix2 a k) = proj m c (ix2 (row t a) ⟨2048 + k.val, by omega⟩) := by
  unfold X0_1 Pipeline.Window.fill
  rw [dif_pos (moved0_1 t _)]
  blk_ext [iblk, V, row, idx t]

theorem read_gain (k : Fin 256) : iblk m c 2 t (ix2 0 k) = gain m c (ix1 k) := by
  blk_point [iblk, V, idx t]

theorem read_w (k j : Fin 1024) : iblk m c 3 t (ix2 k j) = w m c (ix2 k j) := by
  blk_point [iblk, V, idx t]

theorem read_post (k : Fin 1024) : iblk m c 4 t (ix2 0 k) = post m c (ix1 k) := by
  blk_point [iblk, V, idx t]

theorem read_x (a : Fin 512) (k : Fin 1024) : iblk m c 5 t (ix2 a k) = x m c (ix2 (row t a) k) := by
  blk_ext [iblk, V, row, idx t]

theorem read_target (a : Fin 512) (k : Fin 1024) : iblk m c 6 t (ix2 a k) = target m c (ix2 (row t a) k) := by
  blk_ext [iblk, V, row, idx t]

/-- The arguments the gradients need finite. -/
structure FiniteArgs : Prop where
  ho : ∀ i, Finite (o m c i)
  hgate : ∀ r (j : Fin 1024), Finite (proj m c (ix2 r ⟨2048 + j.val, by omega⟩))
  hgain : ∀ i, Finite (gain m c i)
  hw : ∀ i, Finite (w m c i)
  hpost : ∀ i, Finite (post m c i)
  hx : ∀ i, Finite (x m c i)
  htarget : ∀ i, Finite (target m c i)

/-- The gate's number at one element. -/
def gate (r : Fin 4096) (j : Fin 1024) : EReal := proj m c (ix2 r ⟨2048 + j.val, by omega⟩)

/-- One head's row, its reciprocal root mean square, and the normalised element times its gain. -/
def head (r : Fin 4096) (h : Fin 4) : Fin 256 → EReal := fun k => o m c (ix2 r (col h k))
def normed (r : Fin 4096) (h : Fin 4) (k : Fin 256) : EReal :=
  o m c (ix2 r (col h k)) * Ideal.rsqrt (meanSq (Ideal.ofBits .f32 1132462080#32) (head m c r h)) * gain m c (ix1 k)

/-- The gated heads at one element. -/
def gated (r : Fin 4096) (j : Fin 1024) : EReal :=
  Cert.OddOutFwdRefIdeal.Read.val_main_v17 (F := Ideal) (o m c) (proj m c) (gain m c) (ix2 r j)

set_option maxHeartbeats 1000000 in
open Cert.OddOutFwdRefIdeal.Read in
theorem gated_col (r : Fin 4096) (h : Fin 4) (k : Fin 256) :
    gated m c r (col h k) = normed m c r h k * (gate m c r (col h k) * sigmoid (gate m c r (col h k))) := by
  unfold gated
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_v0, val_main_call0_v1, val_main_call0_cst, val_main_call0_v2, val_main_call0_v3, val_main_call0_cst_0, val_main_call0_v4, val_main_call0_v5, val_main_v16, val_main_v17, val_main_v18, val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_v32, val_main_v33, val_main_v34, val_main_v35, val_main_v36, val_main_v37, val_main_cst_6, val_main_v38, val_main_v39, val_main_cst_7, val_main_v40, val_main_cst_8, val_main_v41, val_main_v42, val_main_cst_9, val_main_v43, val_main_cst_10, val_main_v44, val_main_cst_11, val_main_cst_12, val_main_v45, val_main_v46, val_main_cst_13, val_main_v47, val_main_v48, val_main_v49, val_main_v50, val_main_v51, val_main_cst_14, val_main_v52, val_main_v53, val_main_v54, val_main_v55, val_main_cst_15, val_main_v56, val_main_v57, val_main_cst_16, val_main_v58, val_main_v59, val_main_v60, val_main_v61, val_main_v62, val_main_cst_17, val_main_v63, val_main_v64, val_main_cst_18, val_main_v65, val_main_v66, val_main_v67, val_main_v68, val_main_v69, val_main_v70, val_main_v71, val_main_v72, val_main_v73, val_main_v74]
  simp only [col_div, col_mod]
  rfl

/-- The projection's output, its row's reciprocal root mean square, and the normalised output at one element. -/
def y (r : Fin 4096) (j : Fin 1024) : EReal := ∑ k : Fin 1024, gated m c r k * w m c (ix2 k j)
def rstd (r : Fin 4096) : EReal := Ideal.rsqrt (meanSq (Ideal.ofBits .f32 1149239296#32) (y m c r))
def hat (r : Fin 4096) (j : Fin 1024) : EReal := y m c r j * rstd m c r

/-- The output's difference to its target, and its gradient, at one element. -/
def diff (r : Fin 4096) (j : Fin 1024) : EReal := x m c (ix2 r j) + hat m c r j * post m c (ix1 j) - target m c (ix2 r j)
def dx (r : Fin 4096) (j : Fin 1024) : EReal := diff m c r j * Ideal.ofBits .f32 981467136#32

variable {m c}

theorem FiniteArgs.gated (hfin : FiniteArgs m c) (r j) : Finite (gated m c r j) := by
  obtain ⟨h, k, rfl⟩ := exists_col j
  rw [gated_col]
  exact (((hfin.ho _).mul (rsqrt_meanSq word_head fun _ => hfin.ho _)).mul (hfin.hgain _)).mul ((hfin.hgate _ _).mul (hfin.hgate _ _).sigmoid)

theorem FiniteArgs.y (hfin : FiniteArgs m c) (r j) : Finite (y m c r j) :=
  Finite.sum _ fun _ => (hfin.gated _ _).mul (hfin.hw _)

theorem FiniteArgs.diff (hfin : FiniteArgs m c) (r j) : Finite (diff m c r j) :=
  ((hfin.hx _).add (((hfin.y r j).mul (rsqrt_meanSq word_len fun _ => hfin.y r _)).mul (hfin.hpost _))).sub (hfin.htarget _)

theorem FiniteArgs.dx (hfin : FiniteArgs m c) (r j) : Finite (dx m c r j) :=
  (hfin.diff r j).mul ⟨_, word_inv_len⟩

variable (m c)

/-- A block's gated heads, projection and normalised output, as the kernel forms them. -/
abbrev gatedB := k0_pay11 (F := Ideal) (k0_pay5 (iblk m c 2 t)) (k0_pay6 (iblk m c 0 t) (iblk m c 2 t)) (k0_pay7 (iblk m c 0 t) (iblk m c 2 t))
  (k0_pay8 (iblk m c 0 t) (iblk m c 2 t)) (k0_pay9 (iblk m c 0 t)) (k0_pay10 (iblk m c 0 t)) (X0_1 m c t)
abbrev yB := k0_pay12 (F := Ideal) (k0_pay5 (iblk m c 2 t)) (k0_pay6 (iblk m c 0 t) (iblk m c 2 t)) (k0_pay7 (iblk m c 0 t) (iblk m c 2 t))
  (k0_pay8 (iblk m c 0 t) (iblk m c 2 t)) (k0_pay9 (iblk m c 0 t)) (k0_pay10 (iblk m c 0 t)) (X0_1 m c t) (iblk m c 3 t)
abbrev hatB := k0_pay14 (F := Ideal) (k0_pay5 (iblk m c 2 t)) (k0_pay6 (iblk m c 0 t) (iblk m c 2 t)) (k0_pay7 (iblk m c 0 t) (iblk m c 2 t))
  (k0_pay8 (iblk m c 0 t) (iblk m c 2 t)) (k0_pay9 (iblk m c 0 t)) (k0_pay10 (iblk m c 0 t)) (X0_1 m c t) (iblk m c 3 t)

set_option maxHeartbeats 1000000 in
theorem gated_block (hfin : FiniteArgs m c) (a : Fin 512) (j : Fin 1024) :
    (gatedB m c t (ix2 a j) : EReal) = gated m c (row t a) j := by
  obtain ⟨h, k, rfl⟩ := exists_col j
  have key := gated_col m c (row t a) h k
  rw [key]
  pointwise [k0_pay5, k0_pay6, k0_pay7, k0_pay8, k0_pay9, k0_pay10, k0_pay11]
  simp only [read_r, read_o, read_gain, sigmoid_eq (hfin.hgate _ _)]
  obtain rfl | rfl | rfl | rfl := head_cases h
  · simp only [gate, col_0, Fin.is_lt, dite_true, at_0]
    rfl
  · simp only [not_1, col_1, Fin.is_lt, dite_true, dite_false, at_1]
    rfl
  · simp only [not_2, not_2', col_2, Fin.is_lt, dite_true, dite_false, at_2]
    rfl
  · simp only [not_3, not_3', not_3'', col_3, dite_false, at_3]
    rfl

theorem y_block (hfin : FiniteArgs m c) (a : Fin 512) (j : Fin 1024) : (yB m c t (ix2 a j) : EReal) = y m c (row t a) j := by
  pointwise [k0_pay12]
  simp only [read_w]
  exact Finset.sum_congr rfl fun k _ => congrArg (· * _) (gated_block m c t hfin a k)

open Cert.OddOutFwdRefIdeal.Read in
theorem y_ref (r : Fin 4096) (j : Fin 1024) :
    (val_main_v18 (F := Ideal) (o m c) (proj m c) (gain m c) (w m c) (ix2 r j) : EReal) = y m c r j := by
  pointwise [val_main_v18]
  rfl

theorem hat_block (hfin : FiniteArgs m c) (a : Fin 512) (j : Fin 1024) : (hatB m c t (ix2 a j) : EReal) = hat m c (row t a) j := by
  pointwise [k0_pay14]
  simp only [y_block m c t hfin]
  rfl

theorem diff_block (hfin : FiniteArgs m c) (a : Fin 512) (j : Fin 1024) :
    (k0_pay16 (F := Ideal) (iblk m c 5 t) (hatB m c t) (k0_pay15 (iblk m c 4 t)) (iblk m c 6 t) (ix2 a j) : EReal) = diff m c (row t a) j := by
  pointwise [k0_pay13, k0_pay15, k0_pay16]
  simp only [hat_block m c t hfin, read_x, read_post, read_target]
  rfl

open Cert.OddOutFwdRefIdeal.Read in
theorem diff_ref (r : Fin 4096) (j : Fin 1024) :
    (val_main_v36 (F := Ideal) (o m c) (proj m c) (gain m c) (w m c) (post m c) (x m c) (target m c) (ix2 r j) : EReal) = diff m c r j := by
  pointwise [val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_v32, val_main_v33, val_main_v34, val_main_v35, val_main_v36, val_main_v37, val_main_cst_6, val_main_v38, val_main_v39, val_main_cst_7, val_main_v40, val_main_cst_8, val_main_v41, val_main_v42, val_main_cst_9, val_main_v43, val_main_cst_10, val_main_v44, val_main_cst_11, val_main_cst_12, val_main_v45, val_main_v46, val_main_cst_13, val_main_v47, val_main_v48, val_main_v49, val_main_v50, val_main_v51, val_main_cst_14, val_main_v52, val_main_v53, val_main_v54, val_main_v55, val_main_cst_15, val_main_v56, val_main_v57, val_main_cst_16, val_main_v58, val_main_v59, val_main_v60, val_main_v61, val_main_v62, val_main_cst_17, val_main_v63, val_main_v64, val_main_cst_18, val_main_v65, val_main_v66, val_main_v67, val_main_v68, val_main_v69, val_main_v70, val_main_v71, val_main_v72, val_main_v73, val_main_v74]
  simp only [y_ref]
  rfl

/-- The output's gradient: one block's element. -/
theorem dx_block (hfin : FiniteArgs m c) (a : Fin 512) (j : Fin 1024) :
    (k0_pay17 (F := Ideal) (iblk m c 5 t) (hatB m c t) (k0_pay15 (iblk m c 4 t)) (iblk m c 6 t) (ix2 a j) : EReal) = dx m c (row t a) j := by
  pointwise [k0_pay17]
  rw [diff_block m c t hfin]
  rfl

open Cert.OddOutFwdRefIdeal.Read in
theorem dx_ref (hfin : FiniteArgs m c) (r : Fin 4096) (j : Fin 1024) :
    (val_main_v50 (F := Ideal) (o m c) (proj m c) (gain m c) (w m c) (post m c) (x m c) (target m c) (ix2 r j) : EReal) = dx m c r j := by
  pointwise [val_main_v37, val_main_cst_6, val_main_v38, val_main_v39, val_main_cst_7, val_main_v40, val_main_cst_8, val_main_v41, val_main_v42, val_main_cst_9, val_main_v43, val_main_cst_10, val_main_v44, val_main_cst_11, val_main_cst_12, val_main_v45, val_main_v46, val_main_cst_13, val_main_v47, val_main_v48, val_main_v49, val_main_v50, val_main_v51, val_main_cst_14, val_main_v52, val_main_v53, val_main_v54, val_main_v55, val_main_cst_15, val_main_v56, val_main_v57, val_main_cst_16, val_main_v58, val_main_v59, val_main_v60, val_main_v61, val_main_v62, val_main_cst_17, val_main_v63, val_main_v64, val_main_cst_18, val_main_v65, val_main_v66, val_main_v67, val_main_v68, val_main_v69, val_main_v70, val_main_v71, val_main_v72, val_main_v73, val_main_v74]
  obtain ⟨d, hd⟩ := hfin.diff r j
  rw [diff_ref, dx, hd, word_half, word_two, word_inv_len, word_1024, Ideal.div_coe (by norm_num)]
  simp only [← EReal.coe_mul]
  congr 1
  ring

set_option maxHeartbeats 1000000 in
open Cert.OddOutFwdRefIdeal.Read in
/-- The gradient of the projection's output: one block's element. -/
theorem dy_block (hfin : FiniteArgs m c) (a : Fin 512) (j : Fin 1024) :
    (k0_pay21 (F := Ideal) (yB m c t) (k0_pay13 (iblk m c 4 t)) (iblk m c 5 t) (hatB m c t) (k0_pay15 (iblk m c 4 t)) (iblk m c 6 t) (ix2 a j) : EReal)
      = val_main_v72 (F := Ideal) (o m c) (proj m c) (gain m c) (w m c) (post m c) (x m c) (target m c) (ix2 (row t a) j) := by
  pointwise [k0_pay13, k0_pay18, k0_pay19, k0_pay21, val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_v32, val_main_v33, val_main_v34, val_main_v35, val_main_v36, val_main_v37, val_main_cst_6, val_main_v38, val_main_v39, val_main_cst_7, val_main_v40, val_main_cst_8, val_main_v41, val_main_v42, val_main_cst_9, val_main_v43, val_main_cst_10, val_main_v44, val_main_cst_11, val_main_cst_12, val_main_v45, val_main_v46, val_main_cst_13, val_main_v47, val_main_v48, val_main_v49, val_main_v51, val_main_cst_14, val_main_v52, val_main_v53, val_main_v54, val_main_v55, val_main_cst_15, val_main_v56, val_main_v57, val_main_cst_16, val_main_v58, val_main_v59, val_main_v60, val_main_v61, val_main_v62, val_main_cst_17, val_main_v63, val_main_v64, val_main_cst_18, val_main_v65, val_main_v66, val_main_v67, val_main_v68, val_main_v69, val_main_v70, val_main_v71, val_main_v72, val_main_v73, val_main_v74]
  simp only [y_block m c t hfin, y_ref, dx_block m c t hfin, dx_ref m c hfin, read_post, Finset.univ_unique, Finset.sum_const, Finset.card_singleton, one_smul]
  exact norm_grad word_len (x := y m c (row t a)) (u := fun k => dx m c (row t a) k * post m c (ix1 k))
    (hfin.y _) (fun k => (hfin.dx _ _).mul (hfin.hpost _)) j

/-- One row's term of the loss. -/
def lossTerm (r : Fin 4096) : EReal := Ideal.div (∑ j, diff m c r j * diff m c r j) (Ideal.ofBits .f32 1149239296#32)

theorem FiniteArgs.lossTerm {m} {c : Dev nD} (hfin : FiniteArgs m c) (r : Fin 4096) : Finite (lossTerm m c r) := by
  obtain ⟨v, hv⟩ := Finite.sum Finset.univ fun j => (hfin.diff r j).mul (hfin.diff r j)
  exact ⟨_, by rw [OddOutFwd.lossTerm, hv, word_1024, Ideal.div_coe (by norm_num), ← EReal.coe_mul]⟩

theorem loss_block (hfin : FiniteArgs m c) (i : Fin 8) (j : Fin 128) :
    (k0_pay1 (F := Ideal) (k0_pay22 (iblk m c 5 t) (hatB m c t) (k0_pay15 (iblk m c 4 t)) (iblk m c 6 t)) (ix2 i j) : EReal)
      = Ideal.ofBits .f32 1056964608#32 * ∑ a : Fin 512, lossTerm m c (row t a) := by
  pointwise [k0_pay1, k0_pay22]
  simp only [diff_block m c t hfin]
  rfl

open Cert.OddOutFwdRefIdeal.Read in
theorem loss_ref (i : Fin 8) (j : Fin 128) :
    (val_main_v73 (F := Ideal) (o m c) (proj m c) (gain m c) (w m c) (post m c) (x m c) (target m c) (ix2 i j) : EReal)
      = Ideal.ofBits .f32 1056964608#32 * ∑ r : Fin 4096, lossTerm m c r := by
  pointwise [val_main_v37, val_main_cst_6, val_main_v38, val_main_v39, val_main_cst_7, val_main_v40, val_main_cst_8, val_main_v41, val_main_v42, val_main_cst_9, val_main_v43, val_main_cst_10, val_main_v44, val_main_cst_11, val_main_cst_12, val_main_v45, val_main_v46, val_main_cst_13, val_main_v47, val_main_v48, val_main_v49, val_main_v50, val_main_v51, val_main_cst_14, val_main_v52, val_main_v53, val_main_v54, val_main_v55, val_main_cst_15, val_main_v56, val_main_v57, val_main_cst_16, val_main_v58, val_main_v59, val_main_v60, val_main_v61, val_main_v62, val_main_cst_17, val_main_v63, val_main_v64, val_main_cst_18, val_main_v65, val_main_v66, val_main_v67, val_main_v68, val_main_v69, val_main_v70, val_main_v71, val_main_v72, val_main_v73, val_main_v74]
  simp only [diff_ref]
  rfl

theorem gain_block (hfin : FiniteArgs m c) (z : Fin 1) (j : Fin 1024) :
    (k0_pay3 (F := Ideal) (k0_pay20 (yB m c t) (iblk m c 5 t) (hatB m c t) (k0_pay15 (iblk m c 4 t)) (iblk m c 6 t)) (ix2 z j) : EReal)
      = ∑ a : Fin 512, dx m c (row t a) j * hat m c (row t a) j := by
  pointwise [k0_pay3, k0_pay18, k0_pay19, k0_pay20]
  simp only [y_block m c t hfin, dx_block m c t hfin]
  rfl

open Cert.OddOutFwdRefIdeal.Read in
theorem gain_ref (hfin : FiniteArgs m c) (z : Fin 1) (j : Fin 1024) :
    (val_main_v74 (F := Ideal) (o m c) (proj m c) (gain m c) (w m c) (post m c) (x m c) (target m c) (ix2 z j) : EReal)
      = ∑ r : Fin 4096, dx m c r j * hat m c r j := by
  pointwise [val_main_v19, val_main_cst_2, val_main_v20, val_main_v21, val_main_cst_3, val_main_v22, val_main_v23, val_main_cst_4, val_main_v24, val_main_v25, val_main_v26, val_main_v27, val_main_cst_5, val_main_v28, val_main_v29, val_main_v30, val_main_v31, val_main_v32, val_main_v33, val_main_v34, val_main_v35, val_main_v36, val_main_v37, val_main_cst_6, val_main_v38, val_main_v39, val_main_cst_7, val_main_v40, val_main_cst_8, val_main_v41, val_main_v42, val_main_cst_9, val_main_v43, val_main_cst_10, val_main_v44, val_main_cst_11, val_main_cst_12, val_main_v45, val_main_v46, val_main_cst_13, val_main_v47, val_main_v48, val_main_v49, val_main_v51, val_main_cst_14, val_main_v52, val_main_v53, val_main_v54, val_main_v55, val_main_cst_15, val_main_v56, val_main_v57, val_main_cst_16, val_main_v58, val_main_v59, val_main_v60, val_main_v61, val_main_v62, val_main_cst_17, val_main_v63, val_main_v64, val_main_cst_18, val_main_v65, val_main_v66, val_main_v67, val_main_v68, val_main_v69, val_main_v70, val_main_v71, val_main_v72, val_main_v73, val_main_v74]
  simp only [y_ref, dx_ref m c hfin, Finset.univ_unique, Finset.sum_const, Finset.card_singleton, one_smul]
  exact Finset.sum_congr rfl fun r _ => mul_comm _ _

open Cert.OddOutFwdRefIdeal.Read in
/-- The gated heads. -/
theorem gatedHeads (hfin : FiniteArgs m c) : (dats m 0 c).arrAt 7 cfg0.N
    = val_main_v71 (o m c) (proj m c) (gain m c) := by
  refine (dats m 0 c).arrAt_eq_of_covers 7 _ (by decide +kernel) fun t hf y => ?_
  have hemb : ((View.whole main_v3_0).slice (win0_7.rect t)).emb y = ix2 (row t (y 0)) (y 1) := by
    blk_ext [row, idx t]
  obtain ⟨a, j, rfl⟩ : ∃ a j, y = ix2 a j := ⟨y 0, y 1, by idx_vars y⟩
  blk_simp
  rw [after0_7]
  have h : t.val < 8 := t.isLt
  by_cases h0 : t.val % 8 = 0
  on_goal 1 => rw [outsAt0_A m c t h0 (by omega) h0 (by omega)]
  on_goal 2 => rw [outsAt0_B m c t h0 (by omega) h0 (by omega)]
  all_goals
    frame_out
    rw [hemb]
    exact gated_block m c t hfin a j

open Cert.OddOutFwdRefIdeal.Read in
/-- The gradient of the projection's output. -/
theorem dOut (hfin : FiniteArgs m c) : (dats m 0 c).arrAt 8 cfg0.N
    = val_main_v72 (o m c) (proj m c) (gain m c) (w m c) (post m c) (x m c) (target m c) := by
  refine (dats m 0 c).arrAt_eq_of_covers 8 _ (by decide +kernel) fun t hf y => ?_
  have hemb : ((View.whole main_v3_1).slice (win0_8.rect t)).emb y = ix2 (row t (y 0)) (y 1) := by
    blk_ext [row, idx t]
  obtain ⟨a, j, rfl⟩ : ∃ a j, y = ix2 a j := ⟨y 0, y 1, by idx_vars y⟩
  blk_simp
  rw [after0_8]
  have h : t.val < 8 := t.isLt
  by_cases h0 : t.val % 8 = 0
  on_goal 1 => rw [outsAt0_A m c t h0 (by omega) h0 (by omega)]
  on_goal 2 => rw [outsAt0_B m c t h0 (by omega) h0 (by omega)]
  all_goals
    frame_out
    rw [hemb]
    exact dy_block m c t hfin a j

open Cert.OddOutFwdRefIdeal.Read in
/-- The gradient of the residual. -/
theorem dResidual (hfin : FiniteArgs m c) : (dats m 0 c).arrAt 9 cfg0.N
    = val_main_v50 (o m c) (proj m c) (gain m c) (w m c) (post m c) (x m c) (target m c) := by
  refine (dats m 0 c).arrAt_eq_of_covers 9 _ (by decide +kernel) fun t hf y => ?_
  have hemb : ((View.whole main_v3_2).slice (win0_9.rect t)).emb y = ix2 (row t (y 0)) (y 1) := by
    blk_ext [row, idx t]
  obtain ⟨a, j, rfl⟩ : ∃ a j, y = ix2 a j := ⟨y 0, y 1, by idx_vars y⟩
  blk_simp
  rw [after0_9]
  have h : t.val < 8 := t.isLt
  by_cases h0 : t.val % 8 = 0
  on_goal 1 => rw [outsAt0_A m c t h0 (by omega) h0 (by omega)]
  on_goal 2 => rw [outsAt0_B m c t h0 (by omega) h0 (by omega)]
  all_goals
    frame_out
    rw [hemb]
    exact (dx_block m c t hfin a j).trans (dx_ref m c hfin _ _).symm

open Cert.OddOutFwdRefIdeal.Read in
/-- The loss: the row blocks' parts added up. -/
theorem loss (hfin : FiniteArgs m c) : (dats m 0 c).arrAt 10 cfg0.N
    = val_main_v73 (o m c) (proj m c) (gain m c) (w m c) (post m c) (x m c) (target m c) := by
  refine (dats m 0 c).arrAt_eq_of_after_last 10 t0_7 (by decide +kernel) _ fun j => ?_
  obtain ⟨z, j, rfl⟩ : ∃ z j', j = ix2 z j' := ⟨j 0, j 1, by idx_vars j⟩
  blk_simp
  rw [after0_10]
  refine (Pipeline.eq_sum_fin_of_reset_step_apply_last (fun n h => (outsAt0 m c n h).2.2.2.1) 8 (fun _ => 0)
    (fun t i => Ideal.ofBits .f32 1056964608#32 * ∑ a : Fin 512, lossTerm m c (row t a)) (fun t h0 j => ?_) (fun t h0 j => ?_) (by decide) t0_7 rfl (ix2 z j)).trans ?_
  · obtain ⟨z, j, rfl⟩ : ∃ z j', j = ix2 z j' := ⟨j 0, j 1, by idx_vars j⟩
    have h : t.val < 8 := t.isLt
    rw [outsAt0_A m c t h0 (by omega) h0 (by omega)]
    frame_out
    exact (loss_block m c t hfin z j).trans (zero_add _).symm
  · obtain ⟨z, j, rfl⟩ : ∃ z j', j = ix2 z j' := ⟨j 0, j 1, by idx_vars j⟩
    have h : t.val < 8 := t.isLt
    rw [outsAt0_B m c t h0 (by omega) h0 (by omega)]
    frame_out
    pointwise [k0_pay2]
    exact congrArg (_ + ·) (loss_block m c t hfin z j)
  · rw [zero_add, loss_ref]
    refine (Finite.mul_sum _ ⟨_, word_half⟩ fun t => Finite.sum _ fun a => hfin.lossTerm _).symm.trans (congrArg (_ * ·) ?_)
    exact (Fin.sum_univ_tiles 8 512 rfl fun r => lossTerm m c r).symm

open Cert.OddOutFwdRefIdeal.Read in
/-- The gradient of the norm's gain: the row blocks' column sums added up. -/
theorem dgain (hfin : FiniteArgs m c) : (dats m 0 c).arrAt 11 cfg0.N
    = val_main_v74 (o m c) (proj m c) (gain m c) (w m c) (post m c) (x m c) (target m c) := by
  refine (dats m 0 c).arrAt_eq_of_after_last 11 t0_7 (by decide +kernel) _ fun j => ?_
  obtain ⟨z, j, rfl⟩ : ∃ z j', j = ix2 z j' := ⟨j 0, j 1, by idx_vars j⟩
  blk_simp
  rw [after0_11]
  refine (Pipeline.eq_sum_fin_of_reset_step_apply_last (fun n h => (outsAt0 m c n h).2.2.2.2) 8 (fun _ => 0)
    (fun t i => ∑ a : Fin 512, dx m c (row t a) (i 1) * hat m c (row t a) (i 1)) (fun t h0 j => ?_) (fun t h0 j => ?_) (by decide) t0_7 rfl (ix2 z j)).trans ?_
  · obtain ⟨z, j, rfl⟩ : ∃ z j', j = ix2 z j' := ⟨j 0, j 1, by idx_vars j⟩
    have h : t.val < 8 := t.isLt
    rw [outsAt0_A m c t h0 (by omega) h0 (by omega)]
    frame_out
    exact (gain_block m c t hfin z j).trans (zero_add _).symm
  · obtain ⟨z, j, rfl⟩ : ∃ z j', j = ix2 z j' := ⟨j 0, j 1, by idx_vars j⟩
    have h : t.val < 8 := t.isLt
    rw [outsAt0_B m c t h0 (by omega) h0 (by omega)]
    frame_out
    pointwise [k0_pay4]
    exact congrArg (_ + ·) (gain_block m c t hfin z j)
  · rw [zero_add, gain_ref m c hfin]
    exact (Fin.sum_univ_tiles 8 512 rfl fun r => dx m c r j * hat m c r j).symm

/-- What the precondition says: every element it names compares below `+∞` in magnitude. -/
theorem finiteArgs (hpre : Cert.Pre_OddOutFwdIdeal_odd_out_fwd_finite m) (c : Dev nD) : FiniteArgs m c where
  ho i := finite_of_abs_lt (congrFun (hpre c).1 i)
  hgate r j := by
    have h := finite_of_abs_lt (congrFun (hpre c).2.1 (ix2 r j))
    convert h using 2
    exact (extractStridedSlice_apply ![0, 2048] (proj m c) _ (ix2 r j) (ix2 r ⟨2048 + j.val, by omega⟩)
      (fun a => match a with | ⟨0, _⟩ => (Nat.zero_add _).symm | ⟨1, _⟩ => rfl)).symm
  hgain i := finite_of_abs_lt (congrFun (hpre c).2.2.1 i)
  hw i := finite_of_abs_lt (congrFun (hpre c).2.2.2.1 i)
  hpost i := finite_of_abs_lt (congrFun (hpre c).2.2.2.2.1 i)
  hx i := finite_of_abs_lt (congrFun (hpre c).2.2.2.2.2.1 i)
  htarget i := finite_of_abs_lt (congrFun (hpre c).2.2.2.2.2.2 i)

set_option maxHeartbeats 1000000 in
/-- The kernel and the reference end with the same arrays. -/
theorem algebraic : Cert.algebraic_OddOutFwdIdeal_OddOutFwdRefIdeal_pre_odd_out_fwd_finite := by
  pair_intro
  · run_from Cert.OddOutFwdIdeal.Gen.run_main m g
  · run_from Cert.OddOutFwdRefIdeal.Value.run m' g'
    · exact (gatedHeads m c (finiteArgs m hpre c)).symm
    · obtain ⟨h0, h1, h2, h3, h4, h5, h6⟩ := hagree c
      refine (Cert.OddOutFwdRefIdeal.Read.val_main_v72_eq m' c).trans ?_
      rw [h0, h1, h2, h3, h4, h5, h6]
      exact (dOut m c (finiteArgs m hpre c)).symm
    · obtain ⟨h0, h1, h2, h3, h4, h5, h6⟩ := hagree c
      refine (Cert.OddOutFwdRefIdeal.Read.val_main_v50_eq m' c).trans ?_
      rw [h0, h1, h2, h3, h4, h5, h6]
      exact (dResidual m c (finiteArgs m hpre c)).symm
    · obtain ⟨h0, h1, h2, h3, h4, h5, h6⟩ := hagree c
      refine (Cert.OddOutFwdRefIdeal.Read.val_main_v73_eq m' c).trans ?_
      rw [h0, h1, h2, h3, h4, h5, h6]
      exact (loss m c (finiteArgs m hpre c)).symm
    · obtain ⟨h0, h1, h2, h3, h4, h5, h6⟩ := hagree c
      refine (Cert.OddOutFwdRefIdeal.Read.val_main_v74_eq m' c).trans ?_
      rw [h0, h1, h2, h3, h4, h5, h6]
      exact (dgain m c (finiteArgs m hpre c)).symm

theorem frame_kernel : Cert.quiescent_OddOutFwd := fun m ρ _ => Cert.OddOutFwd.Gen.frame m ρ
theorem frame_ideal : Cert.quiescent_OddOutFwdIdeal := fun m ρ _ => Cert.OddOutFwdIdeal.Gen.frame m ρ
theorem frame_ref : Cert.quiescent_OddOutFwdRefIdeal := fun m ρ _ =>
  (θ_run Cert.OddOutFwdRefIdeal.defs _ _).mono (fun r h => ⟨fun c => (h c).2.2.2.2.2, sem_eq_zero_of_no_sems (by decide) r.2⟩)
    (Cert.OddOutFwdRefIdeal.Value.run (F := Ideal) m ρ)

end Cert.Proof.OddOutFwd

end
-- ==== Proof.GateRankBwd.lean ====
/- The odd layer's decay gate, backward: the gradients of its low rank, its weights and its bias. -/
module

public import proofs.«01_k».proof.Proof.Gen.GateRankBwdIdeal.Value
public import proofs.«01_k».proof.Proof.Gen.GateRankBwdRefIdeal.Read
public import Idealize.ShloMosaic.Lib.Pipeline.ValueKit
public import Idealize.ShloMosaic.Lib.Pointwise
public import Idealize.ShloMosaic.Lib.Claim
public import proofs.«01_k».proof.Proof.Gen.GateRankBwdRefIdeal.Run
public import proofs.«01_k».proof.Proof.Gen.GateRankBwd.Frame
public import proofs.«01_k».proof.Defs
public import proofs.«01_k».proof.Proof.NormGrad
public import Idealize.ShloMosaic.Lib.StableHlo.ReadAt

@[expose] public section

set_option maxRecDepth 16384

noncomputable section

namespace Cert.Proof.GateRankBwd

open Cert.GateRankBwdIdeal Cert.GateRankBwdIdeal.Gen Idealize.ShloMosaic Idealize.ShloMosaic.TcCoe Idealize.SL.Sem

variable (m : (ℓ : Loc nD τ sig) → Buf (Elt Ideal) ℓ)

/-- The blocks' indices at a grid point: rows are tiled, the low rank is a lane block of the projection. -/
theorem idx : ∀ t : Fin cfg0.N, win0_0.index t = ![t.val, 24] ∧ win0_1.index t = ![t.val, 0] ∧ win0_2.index t = ![t.val, 0]
    ∧ win0_3.index t = ![0, 0, 0] ∧ win0_4.index t = ![t.val, 0] ∧ win0_5.index t = ![0, 0, 0] ∧ win0_6.index t = ![0, 0] :=
  (by decide +kernel : ∀ t : Fin grid0.N, _)

variable (c : Dev nD)

/-- The argument arrays, as arrays of extended reals. -/
abbrev proj : Shape.Idx ⟨2, ![4096, 3200]⟩ → EReal := m ((c : Thread nD τ).loc main_arg0)
abbrev dzf : Shape.Idx ⟨2, ![4096, 512]⟩ → EReal := m ((c : Thread nD τ).loc main_arg1)
abbrev dzb : Shape.Idx ⟨2, ![4096, 512]⟩ → EReal := m ((c : Thread nD τ).loc main_arg2)
abbrev w : Shape.Idx ⟨3, ![2, 16, 512]⟩ → EReal := m ((c : Thread nD τ).loc main_arg3)

/-- The array row a block row is. -/
def row (t : Fin cfg0.N) (a : Fin 512) : Fin 4096 := ⟨t.val * 512 + a.val, by have := t.isLt; have : cfg0.N = 8 := rfl; omega⟩

theorem read_lr (t : Fin cfg0.N) (a : Fin 512) (k : Fin 128) :
    iblk m c 0 t (ix2 a k) = proj m c (ix2 (row t a) ⟨3072 + k.val, by omega⟩) := by
  blk_ext [iblk, V, row, idx t]

theorem read_dzf (t : Fin cfg0.N) (a k : Fin 512) : iblk m c 1 t (ix2 a k) = dzf m c (ix2 (row t a) k) := by
  blk_ext [iblk, V, row, idx t]

theorem read_dzb (t : Fin cfg0.N) (a k : Fin 512) : iblk m c 2 t (ix2 a k) = dzb m c (ix2 (row t a) k) := by
  blk_ext [iblk, V, row, idx t]

/-- The weights the kernel reads: each direction's at its own rows, zero rows elsewhere. -/
theorem read_w0 (t : Fin cfg0.N) (j : Fin 128) (k : Fin 512) :
    iblk m c 3 t (ix3 0 j k) = if h : j.val < 16 then w m c (ix3 0 ⟨j.val, h⟩ k) else (0 : EReal) := by
  have hi : (win0_3.blk t).view.emb (ix3 0 j k) = ix3 0 j k := by blk_ext [idx t]
  show V m c main_v9 ((win0_3.blk t).view.emb (ix3 0 j k)) = _
  rw [hi]
  after_reads_at
  simp only [int_zero]

theorem read_w1 (t : Fin cfg0.N) (j : Fin 128) (k : Fin 512) :
    iblk m c 3 t (ix3 1 j k) = if h : 16 ≤ j.val ∧ j.val - 16 < 16 then w m c (ix3 1 ⟨j.val - 16, h.2⟩ k) else (0 : EReal) := by
  have hi : (win0_3.blk t).view.emb (ix3 1 j k) = ix3 1 j k := by blk_ext [idx t]
  show V m c main_v9 ((win0_3.blk t).view.emb (ix3 1 j k)) = _
  rw [hi]
  after_reads_at
  simp only [int_zero]

open Cert.GateRankBwdRefIdeal.Read in
/-- The gradient of the gate, a direction at a time, and the low rank, a direction's columns at a time. -/
def dz (d : Fin 2) (r : Fin 4096) (k : Fin 512) : EReal := val_main_v9 (F := Ideal) (dzf m c) (dzb m c) (ix3 d r k)
open Cert.GateRankBwdRefIdeal.Read in
def lr (d : Fin 2) (r : Fin 4096) (q : Fin 16) : EReal := val_main_v2 (F := Ideal) (proj m c) (ix3 r d q)

open Cert.GateRankBwdRefIdeal.Read in
theorem dz_zero (r : Fin 4096) (k : Fin 512) : dz m c 0 r k = dzf m c (ix2 r k) := by
  unfold dz
  pointwise [val_main_v9, val_main_v7, val_main_v8]

open Cert.GateRankBwdRefIdeal.Read in
theorem dz_one (r : Fin 4096) (k : Fin 512) : dz m c 1 r k = dzb m c (ix2 r k) := by
  unfold dz
  pointwise [val_main_v9, val_main_v7, val_main_v8]

open Cert.GateRankBwdRefIdeal.Read in
theorem lr_eq (d : Fin 2) (r : Fin 4096) (q : Fin 16) : lr m c d r q = proj m c (ix2 r ⟨3072 + (16 * d.val + q.val), by omega⟩) := by
  unfold lr
  pointwise [val_main_v2, val_main_v1]
  exact congrArg (fun e => proj m c (ix2 r e)) (Fin.ext (congrArg (fun e => 3072 + (e + q.val)) (Nat.mul_comm _ _)))

theorem prod_f (t : Fin cfg0.N) (q : Fin 16) (k : Fin 512) : (k0_pay5 (F := Ideal) (iblk m c 0 t) (iblk m c 1 t) (ix2 q k) : EReal)
    = ∑ a : Fin 512, lr m c 0 (row t a) q * dz m c 0 (row t a) k := by
  pointwise [k0_pay5, k0_pay1, k0_pay2]
  simp only [read_lr, read_dzf, lr_eq, dz_zero]
  exact Finset.sum_congr rfl fun a _ => congrArg (fun e => proj m c (ix2 (row t a) e) * _) (Fin.ext (by show 3072 + q.val = 3072 + (16 * 0 + q.val); omega))

theorem prod_b (t : Fin cfg0.N) (q : Fin 16) (k : Fin 512) : (k0_pay6 (F := Ideal) (iblk m c 0 t) (iblk m c 2 t) (ix2 q k) : EReal)
    = ∑ a : Fin 512, lr m c 1 (row t a) q * dz m c 1 (row t a) k := by
  pointwise [k0_pay6, k0_pay1, k0_pay3]
  simp only [read_lr, read_dzb, lr_eq, dz_one]
  exact Finset.sum_congr rfl fun a _ => congrArg (fun e => proj m c (ix2 (row t a) e) * _) (Fin.ext (by show 3072 + (16 + q.val) = 3072 + (16 * 1 + q.val); omega))

theorem bias_block (t : Fin cfg0.N) (d : Fin 2) (k : Fin 512) : (k0_pay7 (F := Ideal) (iblk m c 1 t) (iblk m c 2 t) (ix2 d k) : EReal)
    = ∑ a : Fin 512, dz m c d (row t a) k := by
  pointwise [k0_pay7]
  simp only [read_dzf, read_dzb]
  obtain rfl | rfl : d = 0 ∨ d = 1 := by omega
  · exact (dif_pos (by decide)).trans (Finset.sum_congr rfl fun a _ => (dz_zero m c _ _).symm)
  · exact (dif_neg (by decide)).trans (Finset.sum_congr rfl fun a _ => (dz_one m c _ _).symm)

open Cert.GateRankBwdRefIdeal.Read in
/-- The low rank's gradient: each direction's product reaches its own columns, the padded rows add zeros. -/
theorem low_rank (r : Fin 4096) (j : Fin 128) :
    (∑ x : Fin 512, dzf m c (ix2 r x) * (if h : j.val < 16 then w m c (ix3 0 ⟨j.val, h⟩ x) else (0 : EReal)))
      + ∑ x : Fin 512, dzb m c (ix2 r x) * (if h : 16 ≤ j.val ∧ j.val - 16 < 16 then w m c (ix3 1 ⟨j.val - 16, h.2⟩ x) else (0 : EReal))
    = if h : j.val < 32 then
        (val_main_v15 (F := Ideal) (dzf m c) (dzb m c) (w m c) (ix3 ⟨j.val / 16, by omega⟩ r ⟨j.val % 16, by omega⟩) : EReal)
      else FloatOps.sitofp (F := Ideal) FTy.f32 (0#32) := by
  rcases Nat.lt_or_ge j.val 16 with h1 | h1
  · have e0 : (⟨j.val / 16, by omega⟩ : Fin 2) = 0 := Fin.ext (show j.val / 16 = 0 by omega)
    have e1 : (⟨j.val % 16, by omega⟩ : Fin 16) = ⟨j.val, h1⟩ := Fin.ext (show j.val % 16 = j.val by omega)
    rw [dif_pos (show j.val < 32 by omega), e0, e1]
    simp only [dif_pos h1, dif_neg (show ¬(16 ≤ j.val ∧ j.val - 16 < 16) by omega), mul_zero, Finset.sum_const_zero, add_zero]
    pointwise [val_main_v15]
    exact Finset.sum_congr rfl fun x _ => congrArg (· * _) (dz_zero m c r x).symm
  · simp only [dif_neg (show ¬j.val < 16 by omega), mul_zero, Finset.sum_const_zero, zero_add]
    rcases Nat.lt_or_ge j.val 32 with h2 | h2
    · have e0 : (⟨j.val / 16, by omega⟩ : Fin 2) = 1 := Fin.ext (show j.val / 16 = 1 by omega)
      have e1 : (⟨j.val % 16, by omega⟩ : Fin 16) = ⟨j.val - 16, by omega⟩ := Fin.ext (show j.val % 16 = j.val - 16 by omega)
      rw [dif_pos h2, e0, e1]
      simp only [dif_pos (show 16 ≤ j.val ∧ j.val - 16 < 16 by omega)]
      pointwise [val_main_v15]
      exact Finset.sum_congr rfl fun x _ => congrArg (· * _) (dz_one m c r x).symm
    · rw [dif_neg (show ¬j.val < 32 by omega), int_zero]
      simp only [dif_neg (show ¬(16 ≤ j.val ∧ j.val - 16 < 16) by omega), mul_zero, Finset.sum_const_zero]

open Cert.GateRankBwdRefIdeal.Read in
theorem dlr_block (t : Fin cfg0.N) (a : Fin 512) (j : Fin 128) (y : Fin 4096) (hy : y = row t a) :
    (dats m 0 c).after 4 t (ix2 a j) = val_main_v19 (F := Ideal) (dzf m c) (dzb m c) (w m c) (ix2 y j) := by
  have h : t.val < 8 := t.isLt
  rw [after0_4]
  by_cases h0 : t.val % 8 = 0
  · rw [outsAt0_A m c t h0 (by omega)]
    frame_out
    pointwise [k0_pay4, k0_pay2, k0_pay3, val_main_cst, val_main_v0, val_main_v1, val_main_v3, val_main_v4, val_main_v5, val_main_v6, val_main_v7, val_main_v8, val_main_cst_0, val_main_v11, val_main_cst_1, val_main_v12, val_main_v14, val_main_v16, val_main_v17, val_main_c, val_main_call0_v0, val_main_v18, val_main_v19]
    simp only [read_dzf, read_dzb, read_w0, read_w1]
    subst hy
    exact low_rank m c (row t a) j
  · rw [outsAt0_B m c t h0 (by omega)]
    frame_out
    pointwise [k0_pay4, k0_pay2, k0_pay3, val_main_cst, val_main_v0, val_main_v1, val_main_v3, val_main_v4, val_main_v5, val_main_v6, val_main_v7, val_main_v8, val_main_cst_0, val_main_v11, val_main_cst_1, val_main_v12, val_main_v14, val_main_v16, val_main_v17, val_main_c, val_main_call0_v0, val_main_v18, val_main_v19]
    simp only [read_dzf, read_dzb, read_w0, read_w1]
    subst hy
    exact low_rank m c (row t a) j

open Cert.GateRankBwdRefIdeal.Read in
theorem dw : (dats m 0 c).arrAt 5 cfg0.N = val_main_v14 (proj m c) (dzf m c) (dzb m c) := by
  refine (dats m 0 c).arrAt_eq_of_after_last 5 t0_7 (by decide +kernel) _ fun y => ?_
  blk_simp
  rw [after0_5]
  refine (Pipeline.eq_sum_fin_of_reset_step_apply_last (fun n h => (outsAt0 m c n h).2.1) 8 (fun _ => (0 : EReal))
    (fun t i => ∑ a : Fin 512, lr m c (i 0) (row t a) (i 1) * dz m c (i 0) (row t a) (i 2)) (fun t h0 j => ?_) (fun t h0 j => ?_)
    (by decide) t0_7 rfl y).trans ?_
  · obtain ⟨d, q, k, rfl⟩ : ∃ d q k, j = ix3 d q k := ⟨j 0, j 1, j 2, by idx_vars j⟩
    have h : t.val < 8 := t.isLt
    rw [outsAt0_A m c t h0 (by omega)]
    frame_out
    canon_tiles x hx
    · obtain ⟨z, q', k', rfl⟩ : ∃ z q' k', x = ix3 z q' k' := ⟨x 0, x 1, x 2, by idx_vars x⟩
      obtain rfl : d = 1 := Fin.ext (by have e : d.val = 1 + z.val := hx0; have : z.val < 1 := z.isLt; show d.val = 1; omega)
      obtain rfl : q = q' := Fin.ext hx1
      obtain rfl : k = k' := Fin.ext hx2
      pointwise [k0_pay9]
      exact prod_b m c t q k
    · obtain ⟨z, q', k', rfl⟩ : ∃ z q' k', x = ix3 z q' k' := ⟨x 0, x 1, x 2, by idx_vars x⟩
      obtain rfl : d = 0 := Fin.ext (by have e : d.val = z.val := hx0; have : z.val < 1 := z.isLt; show d.val = 0; omega)
      obtain rfl : q = q' := Fin.ext hx1
      obtain rfl : k = k' := Fin.ext hx2
      pointwise [k0_pay8]
      exact prod_f m c t q k
  · obtain ⟨d, q, k, rfl⟩ : ∃ d q k, j = ix3 d q k := ⟨j 0, j 1, j 2, by idx_vars j⟩
    have h : t.val < 8 := t.isLt
    rw [outsAt0_B m c t h0 (by omega)]
    frame_out
    canon_tiles x hx
    · obtain ⟨z, q', k', rfl⟩ : ∃ z q' k', x = ix3 z q' k' := ⟨x 0, x 1, x 2, by idx_vars x⟩
      obtain rfl : d = 1 := Fin.ext (by have e : d.val = 1 + z.val := hx0; have : z.val < 1 := z.isLt; show d.val = 1; omega)
      obtain rfl : q = q' := Fin.ext hx1
      obtain rfl : k = k' := Fin.ext hx2
      pointwise [k0_pay11]
      simp only [prod_b]
    · obtain ⟨z, q', k', rfl⟩ : ∃ z q' k', x = ix3 z q' k' := ⟨x 0, x 1, x 2, by idx_vars x⟩
      obtain rfl : d = 0 := Fin.ext (by have e : d.val = z.val := hx0; have : z.val < 1 := z.isLt; show d.val = 0; omega)
      obtain rfl : q = q' := Fin.ext hx1
      obtain rfl : k = k' := Fin.ext hx2
      pointwise [k0_pay10]
      simp only [prod_f]
  · obtain ⟨d, q, k, rfl⟩ : ∃ d q k, y = ix3 d q k := ⟨y 0, y 1, y 2, by idx_vars y⟩
    refine (zero_add _).trans ((Fin.sum_univ_tiles 8 512 rfl fun r => lr m c d r q * dz m c d r k).symm.trans ?_)
    pointwise [val_main_v14, val_main_v13]
    exact Finset.sum_congr rfl fun r _ => mul_comm _ _

open Cert.GateRankBwdRefIdeal.Read in
theorem db : (dats m 0 c).arrAt 6 cfg0.N = val_main_v12 (dzf m c) (dzb m c) := by
  refine (dats m 0 c).arrAt_eq_of_after_last 6 t0_7 (by decide +kernel) _ fun y => ?_
  blk_simp
  rw [after0_6]
  refine (Pipeline.eq_sum_fin_of_reset_step_apply_last (fun n h => (outsAt0 m c n h).2.2) 8 (fun _ => (0 : EReal))
    (fun t i => ∑ a : Fin 512, dz m c (i 0) (row t a) (i 1)) (fun t h0 j => ?_) (fun t h0 j => ?_)
    (by decide) t0_7 rfl y).trans ?_
  · obtain ⟨d, k, rfl⟩ : ∃ d k, j = ix2 d k := ⟨j 0, j 1, by idx_vars j⟩
    have h : t.val < 8 := t.isLt
    rw [outsAt0_A m c t h0 (by omega)]
    frame_out
    exact (bias_block m c t d k).trans (zero_add _).symm
  · obtain ⟨d, k, rfl⟩ : ∃ d k, j = ix2 d k := ⟨j 0, j 1, by idx_vars j⟩
    have h : t.val < 8 := t.isLt
    rw [outsAt0_B m c t h0 (by omega)]
    frame_out
    pointwise [k0_pay12]
    simp only [bias_block]
  · obtain ⟨d, k, rfl⟩ : ∃ d k, y = ix2 d k := ⟨y 0, y 1, by idx_vars y⟩
    refine (zero_add _).trans ((Fin.sum_univ_tiles 8 512 rfl fun r => dz m c d r k).symm.trans ?_)
    pointwise [val_main_v12, val_main_v11, val_main_v10, val_main_cst_0, val_main_cst_1]
    exact (Fin.sum_univ_one fun _ : Fin 1 => ∑ x : Fin 4096, dz m c d x k).symm

open Cert.GateRankBwdRefIdeal.Read in
/-- The gradient with respect to the low rank's columns: each block of rows. -/
theorem dlr : (dats m 0 c).arrAt 4 cfg0.N = val_main_v19 (dzf m c) (dzb m c) (w m c) := by
  refine (dats m 0 c).arrAt_eq_of_covers 4 _ (by decide +kernel) fun t hflush y => ?_
  obtain ⟨a, j, rfl⟩ : ∃ a j, y = ix2 a j := ⟨y 0, y 1, by idx_vars y⟩
  have hemb : ((View.whole main_v10_0).slice (win0_4.rect t)).emb (ix2 a j) = ix2 (row t a) j := by blk_ext [row, idx t]
  blk_simp
  rw [hemb]
  exact dlr_block m c t a j (row t a) rfl

/-- The kernel and the reference end with the same arrays. -/
theorem algebraic : Cert.algebraic_GateRankBwdIdeal_GateRankBwdRefIdeal := by
  pair_intro
  · run_from Cert.GateRankBwdIdeal.Gen.run_main m g
    · exact V_main_arg3 m c
  · run_from Cert.GateRankBwdRefIdeal.Value.run m' g'
    · obtain ⟨h0, h1, h2, h3⟩ := hagree c
      refine (Cert.GateRankBwdRefIdeal.Read.val_main_v19_eq _ _ _).trans ?_
      rw [h1, h2]
      exact (dlr m c).symm
    · obtain ⟨h0, h1, h2, h3⟩ := hagree c
      refine (Cert.GateRankBwdRefIdeal.Read.val_main_v14_eq _ _ _).trans ?_
      rw [h1, h2]
      exact (dw m c).symm
    · obtain ⟨h0, h1, h2, h3⟩ := hagree c
      refine (Cert.GateRankBwdRefIdeal.Read.val_main_v12_eq _ _).trans ?_
      rw [h1, h2]
      exact (db m c).symm

theorem frame_kernel : Cert.quiescent_GateRankBwd := fun m ρ _ => Cert.GateRankBwd.Gen.frame m ρ
theorem frame_ideal : Cert.quiescent_GateRankBwdIdeal := fun m ρ _ => Cert.GateRankBwdIdeal.Gen.frame m ρ
theorem frame_ref : Cert.quiescent_GateRankBwdRefIdeal := fun m ρ _ =>
  (θ_run Cert.GateRankBwdRefIdeal.defs _ _).mono (fun r h => ⟨fun c => (h c).2.2.2, sem_eq_zero_of_no_sems (by decide) r.2⟩)
    (Cert.GateRankBwdRefIdeal.Value.run (F := Ideal) m ρ)

end Cert.Proof.GateRankBwd

end
-- ==== Proof.Gates.lean ====
/- The gate formed from the hyperbolic tangent, at every extended real. -/
module

public import proofs.«01_k».proof.Proof.Heads

@[expose] public section

namespace Cert.Proof

open Idealize.ShloMosaic

theorem half_add_half : ((1 / 2 : ℝ) : EReal) + ((1 / 2 : ℝ) : EReal) * 1 = 1 := by
  rw [mul_one, ← EReal.coe_add, ← EReal.coe_one]; congr 1; norm_num

theorem half_sub_half : ((1 / 2 : ℝ) : EReal) + ((1 / 2 : ℝ) : EReal) * (-1) = 0 := by
  rw [← EReal.coe_one, ← EReal.coe_neg, ← EReal.coe_mul, ← EReal.coe_add, ← EReal.coe_zero]; congr 1; norm_num

/-- The sigmoid from the hyperbolic tangent of half the number, at the infinities too. -/
theorem sigmoid_of_tanh (r : EReal) :
    Ideal.ofBits .f32 1056964608#32 + Ideal.ofBits .f32 1056964608#32 * Ideal.tanh (Ideal.ofBits .f32 1056964608#32 * r)
      = sigmoid r := by
  have hp : (0 : ℝ) < 1 / 2 := by norm_num
  induction r with
  | bot =>
    rw [word_half, EReal.coe_mul_bot_of_pos hp]
    show ((1 / 2 : ℝ) : EReal) + ((1 / 2 : ℝ) : EReal) * (-1) = Ideal.div 1 (1 + Ideal.exp (-⊥))
    rw [half_sub_half, EReal.neg_bot]
    show (0 : EReal) = Ideal.div 1 (1 + ⊤)
    have ht : (1 : EReal) + ⊤ = ⊤ := EReal.coe_add_top 1
    rw [ht]
    simp [Ideal.div]
  | top =>
    rw [word_half, EReal.coe_mul_top_of_pos hp]
    show ((1 / 2 : ℝ) : EReal) + ((1 / 2 : ℝ) : EReal) * 1 = Ideal.div 1 (1 + Ideal.exp (-⊤))
    rw [half_add_half, EReal.neg_top]
    show (1 : EReal) = Ideal.div 1 (1 + 0)
    simp [Ideal.div]
  | coe s => exact sigmoid_eq ⟨s, rfl⟩

end Cert.Proof

end
-- ==== Proof.EvenMixFwd.lean ====
/- The even layer's mixers after the recurrence, forward. -/
module

public import proofs.«01_k».proof.Proof.Gen.EvenMixFwdIdeal.Value
public import proofs.«01_k».proof.Proof.Gen.EvenMixFwdRefIdeal.Read
public import Idealize.ShloMosaic.Lib.Pipeline.ValueKit
public import Idealize.ShloMosaic.Lib.Pointwise
public import Idealize.ShloMosaic.Lib.Claim
public import proofs.«01_k».proof.Proof.Gen.EvenMixFwdRefIdeal.Run
public import proofs.«01_k».proof.Proof.Gen.EvenMixFwd.Frame
public import proofs.«01_k».proof.Defs
public import proofs.«01_k».proof.Proof.NormGrad
public import proofs.«01_k».proof.Proof.Gates

@[expose] public section

set_option maxRecDepth 16384

noncomputable section

namespace Cert.Proof.EvenMixFwd

open Cert.EvenMixFwdIdeal Cert.EvenMixFwdIdeal.Gen Idealize.ShloMosaic Idealize.ShloMosaic.TcCoe Idealize.SL.Sem

variable (m : (ℓ : Loc nD τ sig) → Buf (Elt Ideal) ℓ)

/-- The blocks' indices at a grid point: rows are tiled, with a band of sixteen rows read on either side of two of the pieces. -/
theorem idx : ∀ t : Fin cfg0.N, win0_0.index t = ![t.val, 1] ∧ win0_1.index t = ![t.val, 0] ∧ win0_2.index t = ![t.val, 0]
    ∧ win0_3.index t = ![32 * t.val - 1, 2] ∧ win0_4.index t = ![t.val, 2] ∧ win0_5.index t = ![min (32 * t.val + 32) 255, 2]
    ∧ win0_6.index t = ![32 * t.val - 1, 4] ∧ win0_7.index t = ![t.val, 4] ∧ win0_8.index t = ![min (32 * t.val + 32) 255, 4]
    ∧ win0_9.index t = ![t.val, 3] ∧ win0_10.index t = ![t.val, 5] ∧ win0_11.index t = ![0, 0] ∧ win0_12.index t = ![t.val, 0] :=
  (by decide +kernel : ∀ t : Fin grid0.N, _)

variable (c : Dev nD)

/-- The argument arrays, as arrays of extended reals. -/
abbrev proj : Shape.Idx ⟨2, ![4096, 6144]⟩ → EReal := m ((c : Thread nD τ).loc main_arg0)
abbrev hf : Shape.Idx ⟨2, ![4096, 1024]⟩ → EReal := m ((c : Thread nD τ).loc main_arg1)
abbrev hb : Shape.Idx ⟨2, ![4096, 1024]⟩ → EReal := m ((c : Thread nD τ).loc main_arg2)
abbrev w : Shape.Idx ⟨2, ![3, 1024]⟩ → EReal := m ((c : Thread nD τ).loc main_arg3)

/-- The array row a block row is. -/
def row (t : Fin cfg0.N) (a : Fin 512) : Fin 4096 := ⟨t.val * 512 + a.val, by have := t.isLt; have : cfg0.N = 8 := rfl; omega⟩

/-- The array row a row of the band before a block is. -/
def before (t : Fin cfg0.N) (a : Fin 16) : Fin 4096 :=
  ⟨(32 * t.val - 1) * 16 + a.val, by have := t.isLt; have : cfg0.N = 8 := rfl; omega⟩

/-- The array row a row of the band after a block is. -/
def behind (t : Fin cfg0.N) (a : Fin 16) : Fin 4096 :=
  ⟨min (32 * t.val + 32) 255 * 16 + a.val, by have := t.isLt; have : cfg0.N = 8 := rfl; omega⟩

variable (t : Fin cfg0.N)

theorem read_za (a : Fin 512) (j : Fin 1024) : iblk m c 0 t (ix2 a j) = proj m c (ix2 (row t a) ⟨1024 + j.val, by omega⟩) := by
  blk_ext [iblk, V, row, idx t]
theorem read_hf (a : Fin 512) (j : Fin 1024) : iblk m c 1 t (ix2 a j) = hf m c (ix2 (row t a) j) := by
  blk_ext [iblk, V, row, idx t]
theorem read_hb (a : Fin 512) (j : Fin 1024) : iblk m c 2 t (ix2 a j) = hb m c (ix2 (row t a) j) := by
  blk_ext [iblk, V, row, idx t]
theorem read_xp (a : Fin 16) (j : Fin 1024) : iblk m c 3 t (ix2 a j) = proj m c (ix2 (before t a) ⟨2048 + j.val, by omega⟩) := by
  blk_ext [iblk, V, before, idx t]
theorem read_xb (a : Fin 512) (j : Fin 1024) : iblk m c 4 t (ix2 a j) = proj m c (ix2 (row t a) ⟨2048 + j.val, by omega⟩) := by
  blk_ext [iblk, V, row, idx t]
theorem read_xn (a : Fin 16) (j : Fin 1024) : iblk m c 5 t (ix2 a j) = proj m c (ix2 (behind t a) ⟨2048 + j.val, by omega⟩) := by
  blk_ext [iblk, V, behind, idx t]
theorem read_gp (a : Fin 16) (j : Fin 1024) : iblk m c 6 t (ix2 a j) = proj m c (ix2 (before t a) ⟨4096 + j.val, by omega⟩) := by
  blk_ext [iblk, V, before, idx t]
theorem read_gc (a : Fin 512) (j : Fin 1024) : iblk m c 7 t (ix2 a j) = proj m c (ix2 (row t a) ⟨4096 + j.val, by omega⟩) := by
  blk_ext [iblk, V, row, idx t]
theorem read_gn (a : Fin 16) (j : Fin 1024) : iblk m c 8 t (ix2 a j) = proj m c (ix2 (behind t a) ⟨4096 + j.val, by omega⟩) := by
  blk_ext [iblk, V, behind, idx t]
theorem read_gb (a : Fin 512) (j : Fin 1024) : iblk m c 9 t (ix2 a j) = proj m c (ix2 (row t a) ⟨3072 + j.val, by omega⟩) := by
  blk_ext [iblk, V, row, idx t]
theorem read_zb (a : Fin 512) (j : Fin 1024) : iblk m c 10 t (ix2 a j) = proj m c (ix2 (row t a) ⟨5120 + j.val, by omega⟩) := by
  blk_ext [iblk, V, row, idx t]
theorem read_w (k : Fin 3) (j : Fin 1024) : iblk m c 11 t (ix2 k j) = w m c (ix2 k j) := by
  blk_ext [iblk, V, idx t]

/-- The body's tests for the first and the last block. -/
theorem is_first : ∀ t : Fin cfg0.N, Scalar.cmpi .eq (BitVec.ofNat 32 ((grid0.coords t) 0).val) 0#32 = if t.val = 0 then 1#1 else 0#1 :=
  (by decide +kernel : ∀ t : Fin grid0.N, _)
theorem is_last : ∀ t : Fin cfg0.N, Scalar.cmpi .eq (BitVec.ofNat 32 ((grid0.coords t) 0).val) 7#32 = if t.val = 7 then 1#1 else 0#1 :=
  (by decide +kernel : ∀ t : Fin grid0.N, _)

open Cert.EvenMixFwdRefIdeal.Read in
/-- The left half: the recurrence's outputs gated. -/
theorem left (a : Fin 512) (j : Fin 1024) :
    (k0_pay1 (F := Ideal) (iblk m c 0 t) (iblk m c 1 t) (iblk m c 2 t) (ix2 a j) : EReal)
      = val_main_v9 (F := Ideal) (proj m c) (hf m c) (hb m c) (ix2 (row t a) j) := by
  pointwise [k0_pay1, val_main_v0, val_main_v1, val_main_v2, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10, val_main_cst, val_main_v11, val_main_cst_0, val_main_v12, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_call1_v0, val_main_call1_v1, val_main_call1_cst, val_main_call1_v2, val_main_call1_v3, val_main_call1_cst_0, val_main_call1_v4, val_main_call1_v5, val_main_v35, val_main_v36, val_main_v37, val_main_v38]
  simp only [read_za, read_hf, read_hb, sigmoid_of_tanh, sigmoid]

open Cert.EvenMixFwdRefIdeal.Read in
/-- The product of the two pieces at a block's rows and one row on either side, as the reference's product with a row of zeros above and below. -/
theorem extended (p : Fin 544) (hp : 15 ≤ p.val ∧ p.val ≤ 528) (j : Fin 1024) :
    (k0_pay2 (F := Ideal) (grid0.coords t) (iblk m c 3 t) (iblk m c 5 t) (iblk m c 4 t) (ix2 p j) : EReal)
      * (if h : p.val < 16 then (k0_pay3 (F := Ideal) (grid0.coords t) (iblk m c 6 t) (ix2 ⟨p.val, h⟩ j) : EReal)
        else if h : p.val - 16 < 512 then iblk m c 7 t (ix2 ⟨p.val - 16, h⟩ j)
        else Scalar.select (Scalar.cmpi .eq (BitVec.ofNat 32 ((grid0.coords t) 0).val) 7#32) (0 : EReal)
          (iblk m c 8 t (ix2 ⟨p.val - 16 - 512, by omega⟩ j)))
      = val_main_v13 (F := Ideal) (proj m c) (ix2 ⟨t.val * 512 + p.val - 15, by have := t.isLt; have : cfg0.N = 8 := rfl; omega⟩ j) := by
  have ht : t.val < 8 := t.isLt
  pointwise [k0_pay2, k0_pay3, val_main_v13, val_main_v12, val_main_v11, val_main_v10, val_main_v5, val_main_v3, val_main_v0,
    val_main_cst, val_main_cst_0]
  simp only [is_first, is_last]
  rcases lt_or_ge p.val 16 with h | h
  · rw [dif_pos h, dif_pos h]
    by_cases h0 : t.val = 0
    · rw [dif_pos (by omega)]
      simp [h0, Scalar.select]
    · have hr : before t ⟨p.val, h⟩ = ⟨t.val * 512 + p.val - 15 - 1, by omega⟩ := Fin.ext (by simp only [before]; omega)
      rw [dif_neg (by omega), dif_pos (by omega), read_xp, read_gp, hr]
      simp only [h0, if_false]
      exact mul_comm _ _
  · rcases lt_or_ge (p.val - 16) 512 with h' | h'
    · have hr : row t ⟨p.val - 16, h'⟩ = ⟨t.val * 512 + p.val - 15 - 1, by omega⟩ := Fin.ext (by simp only [row]; omega)
      rw [dif_neg (by omega), dif_pos h', dif_neg (by omega), dif_pos h', dif_neg (by omega), dif_pos (by omega), read_xb, read_gc, hr]
      exact mul_comm _ _
    · rw [dif_neg (by omega), dif_neg (by omega), dif_neg (by omega), dif_neg (by omega), dif_neg (by omega)]
      by_cases h7 : t.val = 7
      · rw [dif_neg (by omega)]
        simp [h7, Scalar.select]
      · have hr : behind t ⟨p.val - 16 - 512, by omega⟩ = ⟨t.val * 512 + p.val - 15 - 1, by omega⟩ :=
          Fin.ext (by simp only [behind]; omega)
        rw [dif_pos (by omega), read_xn, read_gn, hr]
        simp only [h7, if_false]
        exact mul_comm _ _

set_option maxHeartbeats 1000000 in
open Cert.EvenMixFwdRefIdeal.Read in
/-- The right half: the short convolution gated. -/
theorem right (a : Fin 512) (j : Fin 1024) :
    (k0_pay4 (F := Ideal) (Scalar.cmpi .eq (BitVec.ofNat 32 ((grid0.coords t) 0).val) 7#32)
        (k0_pay2 (grid0.coords t) (iblk m c 3 t) (iblk m c 5 t) (iblk m c 4 t)) (k0_pay3 (grid0.coords t) (iblk m c 6 t))
        (iblk m c 8 t) (iblk m c 7 t) (iblk m c 11 t) (iblk m c 10 t) (iblk m c 9 t) (ix2 a j) : EReal)
      = val_main_v36 (F := Ideal) (proj m c) (w m c) (ix2 (row t a) j) := by
  have ht : t.val < 8 := t.isLt
  pointwise [k0_pay4, val_main_v0, val_main_v1, val_main_v2, val_main_v3, val_main_v4, val_main_v5, val_main_v6, val_main_v7, val_main_call0_v0, val_main_call0_v1, val_main_call0_cst, val_main_call0_v2, val_main_call0_v3, val_main_call0_cst_0, val_main_call0_v4, val_main_call0_v5, val_main_v8, val_main_v9, val_main_v10, val_main_cst, val_main_v11, val_main_cst_0, val_main_v12, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_call1_v0, val_main_call1_v1, val_main_call1_cst, val_main_call1_v2, val_main_call1_v3, val_main_call1_cst_0, val_main_call1_v4, val_main_call1_v5, val_main_v35, val_main_v36, val_main_v37, val_main_v38]
  simp only [read_zb, read_gb, read_w, sigmoid_of_tanh, sigmoid]
  have h0 := extended m c t ⟨(16 + a.val + 544 - 1) % 544, by omega⟩ ⟨by simp only []; omega, by simp only []; omega⟩ j
  have h1 := extended m c t ⟨16 + a.val, by omega⟩ ⟨by simp only []; omega, by simp only []; omega⟩ j
  have h2 := extended m c t ⟨(16 + a.val + 544 - 543) % 544, by omega⟩ ⟨by simp only []; omega, by simp only []; omega⟩ j
  rw [dif_neg (by simp only []; omega), dif_pos (by simp only []; omega)] at h1
  have hm : (⟨16 + a.val - 16, by omega⟩ : Fin 512) = a := Fin.ext (by simp only []; omega)
  simp only [hm] at h0 h1 h2
  rw [h0, h1, h2]
  have e0 : (⟨t.val * 512 + (16 + a.val + 544 - 1) % 544 - 15, by omega⟩ : Fin 4098) = ⟨(row t a).val, by omega⟩ :=
    Fin.ext (by simp only [row]; omega)
  have e1 : (⟨t.val * 512 + (16 + a.val) - 15, by omega⟩ : Fin 4098) = ⟨1 + (row t a).val, by omega⟩ :=
    Fin.ext (by simp only [row]; omega)
  have e2 : (⟨t.val * 512 + (16 + a.val + 544 - 543) % 544 - 15, by omega⟩ : Fin 4098) = ⟨2 + (row t a).val, by omega⟩ :=
    Fin.ext (by simp only [row]; omega)
  rw [e0, e1, e2]

open Cert.EvenMixFwdRefIdeal.Read in
/-- The call's result: each block of rows in its two halves. -/
theorem y : (dats m 0 c).arrAt 12 cfg0.N = val_main_v38 (proj m c) (hf m c) (hb m c) (w m c) := by
  refine (dats m 0 c).arrAt_eq_of_covers 12 _ (by decide +kernel) fun t hf y => ?_
  obtain ⟨a, j, rfl⟩ : ∃ a j, y = ix2 a j := ⟨y 0, y 1, by idx_vars y⟩
  have hemb : ((View.whole main_v0).slice (win0_12.rect t)).emb (ix2 a j) = ix2 (row t a) j := by blk_ext [row, idx t]
  blk_simp
  rw [after0_12]
  rw [hemb]
  pointwise [val_main_v38, val_main_v37]
  frame_out
  canon_tiles x hx
  · obtain ⟨p, q, rfl⟩ : ∃ p q, x = ix2 p q := ⟨x 0, x 1, by idx_vars x⟩
    obtain rfl : a = p := Fin.ext hx0
    have hq : j.val = 1024 + q.val := hx1
    rw [dif_neg (by omega), right]
    congr 2
    exact Fin.ext (by simp only []; omega)
  · obtain ⟨p, q, rfl⟩ : ∃ p q, x = ix2 p q := ⟨x 0, x 1, by idx_vars x⟩
    obtain rfl : a = p := Fin.ext hx0
    have hq : j.val = q.val := hx1
    have := q.isLt
    rw [dif_pos (by omega), left]
    congr 2
    exact Fin.ext hq.symm

/-- The kernel and the reference end with the same arrays. -/
theorem algebraic : Cert.algebraic_EvenMixFwdIdeal_EvenMixFwdRefIdeal := by
  pair_intro
  · run_from Cert.EvenMixFwdIdeal.Gen.run_main m g
  · run_from Cert.EvenMixFwdRefIdeal.Value.run m' g'
    obtain ⟨h0, h1, h2, h3⟩ := hagree c
    rw [y m c]
    unfold Cert.EvenMixFwdRefIdeal.Value.res_main_v38
    rw [h0, h1, h2, h3]
    rfl

theorem frame_kernel : Cert.quiescent_EvenMixFwd := fun m ρ _ => Cert.EvenMixFwd.Gen.frame m ρ
theorem frame_ideal : Cert.quiescent_EvenMixFwdIdeal := fun m ρ _ => Cert.EvenMixFwdIdeal.Gen.frame m ρ
theorem frame_ref : Cert.quiescent_EvenMixFwdRefIdeal := fun m ρ _ =>
  (θ_run Cert.EvenMixFwdRefIdeal.defs _ _).mono (fun r h => ⟨fun c => (h c).2, sem_eq_zero_of_no_sems (by decide) r.2⟩)
    (Cert.EvenMixFwdRefIdeal.Value.run (F := Ideal) m ρ)

end Cert.Proof.EvenMixFwd

end
-- ==== Proof.EvenMixBwd.lean ====
/- The even layers' mixers, backward: the gradients of the projection, of the taps, of the bias and of the short convolution's weights. -/
module

public import proofs.«01_k».proof.Proof.Gen.EvenMixBwdIdeal.Value
public import proofs.«01_k».proof.Proof.Gen.EvenMixBwdRefIdeal.Read
public import Idealize.ShloMosaic.Lib.Pipeline.ValueKit
public import Idealize.ShloMosaic.Lib.Pointwise
public import Idealize.ShloMosaic.Lib.Claim
public import proofs.«01_k».proof.Proof.Gen.Pre_even_mix_bwd_finite
public import proofs.«01_k».proof.Proof.Gen.EvenMixBwdRefIdeal.Run
public import proofs.«01_k».proof.Proof.Gen.EvenMixBwd.Frame
public import proofs.«01_k».proof.Defs
public import proofs.«01_k».proof.Proof.NormGrad
public import proofs.«01_k».proof.Proof.Gates

@[expose] public section

set_option maxRecDepth 16384

noncomputable section

namespace Cert.Proof.EvenMixBwd

open Cert.EvenMixBwdIdeal Cert.EvenMixBwdIdeal.Gen Idealize.ShloMosaic Idealize.ShloMosaic.TcCoe Idealize.SL.Sem

variable (m : (ℓ : Loc nD τ sig) → Buf (Elt Ideal) ℓ)

/-- The blocks' indices at a grid point: rows are tiled, with a band of sixteen rows read on either side of three of the arrays. -/
theorem idx : ∀ t : Fin cfg0.N, win0_0.index t = ![16 * t.val - 1, 0] ∧ win0_1.index t = ![t.val, 0] ∧ win0_2.index t = ![min (16 * t.val + 16) 255, 0]
    ∧ win0_3.index t = ![16 * t.val - 1, 0] ∧ win0_4.index t = ![t.val, 0] ∧ win0_5.index t = ![min (16 * t.val + 16) 255, 0]
    ∧ win0_6.index t = ![t.val, 0] ∧ win0_7.index t = ![t.val, 0]
    ∧ win0_8.index t = ![16 * t.val - 1, 0] ∧ win0_9.index t = ![t.val, 0] ∧ win0_10.index t = ![min (16 * t.val + 16) 255, 0]
    ∧ win0_11.index t = ![0, 0] ∧ win0_12.index t = ![0, 0] ∧ win0_13.index t = ![t.val, 0] ∧ win0_14.index t = ![0, 0]
    ∧ win0_15.index t = ![0, 0] ∧ win0_16.index t = ![0, 0] :=
  (by decide +kernel : ∀ t : Fin grid0.N, _)

variable (c : Dev nD)

/-- The argument arrays, as arrays of extended reals. -/
abbrev proj : Shape.Idx ⟨2, ![4096, 6144]⟩ → EReal := m ((c : Thread nD τ).loc main_arg0)
abbrev dy : Shape.Idx ⟨2, ![4096, 2048]⟩ → EReal := m ((c : Thread nD τ).loc main_arg1)
abbrev hf : Shape.Idx ⟨2, ![4096, 1024]⟩ → EReal := m ((c : Thread nD τ).loc main_arg2)
abbrev hb : Shape.Idx ⟨2, ![4096, 1024]⟩ → EReal := m ((c : Thread nD τ).loc main_arg3)
abbrev dua : Shape.Idx ⟨2, ![4096, 1024]⟩ → EReal := m ((c : Thread nD τ).loc main_arg4)
abbrev cw : Shape.Idx ⟨2, ![4, 1024]⟩ → EReal := m ((c : Thread nD τ).loc main_arg5)
abbrev sw : Shape.Idx ⟨2, ![3, 1024]⟩ → EReal := m ((c : Thread nD τ).loc main_arg6)

/-- The array row a block row is. -/
def row (t : Fin cfg0.N) (a : Fin 256) : Fin 4096 := ⟨t.val * 256 + a.val, by have := t.isLt; have : cfg0.N = 16 := rfl; omega⟩

/-- The array row a row of the band before a block is. -/
def before (t : Fin cfg0.N) (a : Fin 16) : Fin 4096 :=
  ⟨(16 * t.val - 1) * 16 + a.val, by have := t.isLt; have : cfg0.N = 16 := rfl; omega⟩

/-- The array row a row of the band after a block is. -/
def behind (t : Fin cfg0.N) (a : Fin 16) : Fin 4096 :=
  ⟨min (16 * t.val + 16) 255 * 16 + a.val, by have := t.isLt; have : cfg0.N = 16 := rfl; omega⟩

variable (t : Fin cfg0.N)

theorem read_pp (a : Fin 16) (j : Fin 6144) : iblk m c 0 t (ix2 a j) = proj m c (ix2 (before t a) j) := by
  blk_ext [iblk, V, before, idx t]
theorem read_pm (a : Fin 256) (j : Fin 6144) : iblk m c 1 t (ix2 a j) = proj m c (ix2 (row t a) j) := by
  blk_ext [iblk, V, row, idx t]
theorem read_pn (a : Fin 16) (j : Fin 6144) : iblk m c 2 t (ix2 a j) = proj m c (ix2 (behind t a) j) := by
  blk_ext [iblk, V, behind, idx t]
theorem read_dyp (a : Fin 16) (j : Fin 2048) : iblk m c 3 t (ix2 a j) = dy m c (ix2 (before t a) j) := by
  blk_ext [iblk, V, before, idx t]
theorem read_dym (a : Fin 256) (j : Fin 2048) : iblk m c 4 t (ix2 a j) = dy m c (ix2 (row t a) j) := by
  blk_ext [iblk, V, row, idx t]
theorem read_dyn (a : Fin 16) (j : Fin 2048) : iblk m c 5 t (ix2 a j) = dy m c (ix2 (behind t a) j) := by
  blk_ext [iblk, V, behind, idx t]
theorem read_hf (a : Fin 256) (j : Fin 1024) : iblk m c 6 t (ix2 a j) = hf m c (ix2 (row t a) j) := by
  blk_ext [iblk, V, row, idx t]
theorem read_hb (a : Fin 256) (j : Fin 1024) : iblk m c 7 t (ix2 a j) = hb m c (ix2 (row t a) j) := by
  blk_ext [iblk, V, row, idx t]
theorem read_dup (a : Fin 16) (j : Fin 1024) : iblk m c 8 t (ix2 a j) = dua m c (ix2 (before t a) j) := by
  blk_ext [iblk, V, before, idx t]
theorem read_dum (a : Fin 256) (j : Fin 1024) : iblk m c 9 t (ix2 a j) = dua m c (ix2 (row t a) j) := by
  blk_ext [iblk, V, row, idx t]
theorem read_dun (a : Fin 16) (j : Fin 1024) : iblk m c 10 t (ix2 a j) = dua m c (ix2 (behind t a) j) := by
  blk_ext [iblk, V, behind, idx t]
theorem read_cw (k : Fin 4) (j : Fin 1024) : iblk m c 11 t (ix2 k j) = cw m c (ix2 k j) := by
  blk_ext [iblk, V, idx t]
theorem read_sw (k : Fin 3) (j : Fin 1024) : iblk m c 12 t (ix2 k j) = sw m c (ix2 k j) := by
  blk_ext [iblk, V, idx t]

/-- The body's tests for the first and the last block. -/
theorem is_first : ∀ t : Fin cfg0.N, Scalar.cmpi .eq (BitVec.ofNat 32 ((grid0.coords t) 0).val) 0#32 = if t.val = 0 then 1#1 else 0#1 :=
  (by decide +kernel : ∀ t : Fin grid0.N, _)
theorem is_last : ∀ t : Fin cfg0.N, Scalar.cmpi .eq (BitVec.ofNat 32 ((grid0.coords t) 0).val) 15#32 = if t.val = 15 then 1#1 else 0#1 :=
  (by decide +kernel : ∀ t : Fin grid0.N, _)

/-- The body's tests for the first and the last block. -/
abbrev first : BitVec 1 := Scalar.cmpi .eq (BitVec.ofNat 32 ((grid0.coords t) 0).val) 0#32
abbrev last : BitVec 1 := Scalar.cmpi .eq (BitVec.ofNat 32 ((grid0.coords t) 0).val) 15#32

/-- The extended blocks the body forms: a piece's block of rows between the two bands. -/
abbrev duaE : Shape.Idx ⟨2, ![288, 1024]⟩ → EReal := k0_pay4 (F := Ideal) (grid0.coords t) (iblk m c 8 t) (iblk m c 10 t) (iblk m c 9 t)
abbrev xaE : Shape.Idx ⟨2, ![288, 1024]⟩ → EReal := k0_pay7 (F := Ideal) (first t) (last t) (View.ld (iblk m c 0 t) (Rect.unit ![0, 0] ![16, 1024] inb_S16x6144_S16x1024_0_0))
    (View.ld (iblk m c 2 t) (Rect.unit ![0, 0] ![16, 1024] inb_S16x6144_S16x1024_0_0))
    (View.ld (iblk m c 1 t) (Rect.unit ![0, 0] ![256, 1024] inb_S256x6144_S256x1024_0_0))
abbrev xbE : Shape.Idx ⟨2, ![288, 1024]⟩ → EReal := k0_pay11 (F := Ideal) (first t) (last t) (View.ld (iblk m c 0 t) (Rect.unit ![0, 2048] ![16, 1024] inb_S16x6144_S16x1024_0_2048))
    (View.ld (iblk m c 2 t) (Rect.unit ![0, 2048] ![16, 1024] inb_S16x6144_S16x1024_0_2048))
    (View.ld (iblk m c 1 t) (Rect.unit ![0, 2048] ![256, 1024] inb_S256x6144_S256x1024_0_2048))
abbrev gbE : Shape.Idx ⟨2, ![288, 1024]⟩ → EReal := k0_pay15 (F := Ideal) (k0_pay12 (first t) (View.ld (iblk m c 0 t) (Rect.unit ![0, 3072] ![16, 1024] inb_S16x6144_S16x1024_0_3072))) (k0_pay13 (last t) (View.ld (iblk m c 2 t) (Rect.unit ![0, 3072] ![16, 1024] inb_S16x6144_S16x1024_0_3072))) (k0_pay14 (View.ld (iblk m c 1 t) (Rect.unit ![0, 3072] ![256, 1024] inb_S256x6144_S256x1024_0_3072)))
abbrev gcE : Shape.Idx ⟨2, ![288, 1024]⟩ → EReal := k0_pay16 (F := Ideal) (first t) (last t) (View.ld (iblk m c 0 t) (Rect.unit ![0, 4096] ![16, 1024] inb_S16x6144_S16x1024_0_4096))
    (View.ld (iblk m c 2 t) (Rect.unit ![0, 4096] ![16, 1024] inb_S16x6144_S16x1024_0_4096))
    (View.ld (iblk m c 1 t) (Rect.unit ![0, 4096] ![256, 1024] inb_S256x6144_S256x1024_0_4096))
abbrev zbE : Shape.Idx ⟨2, ![288, 1024]⟩ → EReal := k0_pay17 (F := Ideal) (first t) (last t) (View.ld (iblk m c 0 t) (Rect.unit ![0, 5120] ![16, 1024] inb_S16x6144_S16x1024_0_5120))
    (View.ld (iblk m c 2 t) (Rect.unit ![0, 5120] ![16, 1024] inb_S16x6144_S16x1024_0_5120))
    (View.ld (iblk m c 1 t) (Rect.unit ![0, 5120] ![256, 1024] inb_S256x6144_S256x1024_0_5120))
abbrev dyE : Shape.Idx ⟨2, ![288, 1024]⟩ → EReal := k0_pay21 (F := Ideal) (last t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (FloatOps.ofBits FTy.f32 0#32) (View.ld (iblk m c 4 t) (Rect.unit ![0, 1024] ![256, 1024] inb_S256x2048_S256x1024_0_1024))

/-- An array's column with sixteen rows of zeros above and as many as wanted below. -/
def padded (A : Fin 4096 → EReal) (q : ℕ) : EReal := if h : 16 ≤ q ∧ q - 16 < 4096 then A ⟨q - 16, h.2⟩ else 0

theorem padded_at (A : Fin 4096 → EReal) (r : Fin 4096) : padded A (r.val + 16) = A r := by
  rw [padded, dif_pos (by omega)]
  exact congrArg A (Fin.ext (by simp only []; omega))

theorem shifted (A : Fin 4096 → EReal) (n k : ℕ) (x : EReal) :
    (if h : k ≤ n ∧ n - k < 4096 then A ⟨n - k, h.2⟩ * x else 0) = padded A (n + 16 - k) * x := by
  unfold padded
  by_cases h : k ≤ n ∧ n - k < 4096
  · have hr : (⟨n + 16 - k - 16, by omega⟩ : Fin 4096) = ⟨n - k, h.2⟩ := Fin.ext (by simp only []; omega)
    rw [dif_pos h, dif_pos (by omega), hr]
  · rw [dif_neg h, dif_neg (by omega), zero_mul]

theorem shifted_up (A : Fin 4096 → EReal) (n : ℕ) (x : EReal) :
    (if h : n < 4096 then A ⟨n, h⟩ * x else 0) = padded A (n + 16) * x := by
  unfold padded
  by_cases h : n < 4096
  · have hr : (⟨n + 16 - 16, by omega⟩ : Fin 4096) = ⟨n, h⟩ := Fin.ext (by simp only []; omega)
    rw [dif_pos h, dif_pos (by omega), hr]
  · rw [dif_neg h, dif_neg (by omega), zero_mul]

/-- A block of rows between its two bands, the bands zeros at the two ends of the array. -/
theorem extended (A : Fin 4096 → EReal) (P Q : Fin 16 → EReal) (M : Fin 256 → EReal) (hP : ∀ a, P a = A (before t a))
    (hM : ∀ a, M a = A (row t a)) (hQ : ∀ a, Q a = A (behind t a)) (p : Fin 288) :
    (if h : p.val < 16 then Scalar.select (first t) (0 : EReal) (P ⟨p.val, h⟩)
      else if h : p.val - 16 < 256 then M ⟨p.val - 16, h⟩
      else Scalar.select (last t) (0 : EReal) (Q ⟨p.val - 16 - 256, by omega⟩)) = padded A (t.val * 256 + p.val) := by
  have ht : t.val < 16 := t.isLt
  simp only [first, last, is_first, is_last]
  unfold padded
  rcases lt_or_ge p.val 16 with h | h
  · rw [dif_pos h]
    by_cases h0 : t.val = 0
    · rw [dif_neg (by omega)]
      simp [h0, Scalar.select]
    · have hr : before t ⟨p.val, h⟩ = ⟨t.val * 256 + p.val - 16, by omega⟩ := Fin.ext (by simp only [before]; omega)
      rw [dif_pos (by omega), hP, hr]
      simp [h0, Scalar.select]
  · rw [dif_neg (by omega)]
    rcases lt_or_ge (p.val - 16) 256 with h' | h'
    · have hr : row t ⟨p.val - 16, h'⟩ = ⟨t.val * 256 + p.val - 16, by omega⟩ := Fin.ext (by simp only [row]; omega)
      rw [dif_pos h', dif_pos (by omega), hM, hr]
    · rw [dif_neg (by omega)]
      by_cases h7 : t.val = 15
      · rw [dif_neg (by omega)]
        simp [h7, Scalar.select]
      · have hr : behind t ⟨p.val - 16 - 256, by omega⟩ = ⟨t.val * 256 + p.val - 16, by omega⟩ :=
          Fin.ext (by simp only [behind]; omega)
        rw [dif_pos (by omega), hQ, hr]
        simp [h7, Scalar.select]

/-- The columns of the pieces. -/
def du (j : Fin 1024) (r : Fin 4096) : EReal := dua m c (ix2 r j)
def xa (j : Fin 1024) (r : Fin 4096) : EReal := proj m c (ix2 r ⟨j.val, by omega⟩)
def za (j : Fin 1024) (r : Fin 4096) : EReal := proj m c (ix2 r ⟨1024 + j.val, by omega⟩)
def xb (j : Fin 1024) (r : Fin 4096) : EReal := proj m c (ix2 r ⟨2048 + j.val, by omega⟩)
def gb (j : Fin 1024) (r : Fin 4096) : EReal := proj m c (ix2 r ⟨3072 + j.val, by omega⟩)
def gc (j : Fin 1024) (r : Fin 4096) : EReal := proj m c (ix2 r ⟨4096 + j.val, by omega⟩)
def zb (j : Fin 1024) (r : Fin 4096) : EReal := proj m c (ix2 r ⟨5120 + j.val, by omega⟩)
def dyb (j : Fin 1024) (r : Fin 4096) : EReal := dy m c (ix2 r ⟨1024 + j.val, by omega⟩)

/-- The short convolution's input, and the gradient of its output. -/
def pr (j : Fin 1024) (r : Fin 4096) : EReal := gc m c j r * xb m c j r
def dcv (j : Fin 1024) (r : Fin 4096) : EReal := gb m c j r * (dyb m c j r * (zb m c j r * sigmoid (zb m c j r)))

theorem duaE_at (p : Fin 288) (j : Fin 1024) : (duaE m c t (ix2 p j) : EReal) = padded (du m c j) (t.val * 256 + p.val) := by
  pointwise [k0_pay4]
  exact extended t (du m c j) _ _ _ (fun a => read_dup m c t a j) (fun a => read_dum m c t a j) (fun a => read_dun m c t a j) p

theorem xaE_at (p : Fin 288) (j : Fin 1024) : (xaE m c t (ix2 p j) : EReal) = padded (xa m c j) (t.val * 256 + p.val) := by
  pointwise [k0_pay7]
  exact extended t (xa m c j) _ _ _ (fun a => read_pp m c t a ⟨j.val, by omega⟩) (fun a => read_pm m c t a ⟨j.val, by omega⟩) (fun a => read_pn m c t a ⟨j.val, by omega⟩) p

theorem xbE_at (p : Fin 288) (j : Fin 1024) : (xbE m c t (ix2 p j) : EReal) = padded (xb m c j) (t.val * 256 + p.val) := by
  pointwise [k0_pay11]
  exact extended t (xb m c j) _ _ _ (fun a => read_pp m c t a ⟨2048 + j.val, by omega⟩) (fun a => read_pm m c t a ⟨2048 + j.val, by omega⟩) (fun a => read_pn m c t a ⟨2048 + j.val, by omega⟩) p

theorem gbE_at (p : Fin 288) (j : Fin 1024) : (gbE m c t (ix2 p j) : EReal) = padded (gb m c j) (t.val * 256 + p.val) := by
  pointwise [k0_pay15, k0_pay14, k0_pay13, k0_pay12]
  exact extended t (gb m c j) _ _ _ (fun a => read_pp m c t a ⟨3072 + j.val, by omega⟩) (fun a => read_pm m c t a ⟨3072 + j.val, by omega⟩) (fun a => read_pn m c t a ⟨3072 + j.val, by omega⟩) p

theorem gcE_at (p : Fin 288) (j : Fin 1024) : (gcE m c t (ix2 p j) : EReal) = padded (gc m c j) (t.val * 256 + p.val) := by
  pointwise [k0_pay16]
  exact extended t (gc m c j) _ _ _ (fun a => read_pp m c t a ⟨4096 + j.val, by omega⟩) (fun a => read_pm m c t a ⟨4096 + j.val, by omega⟩) (fun a => read_pn m c t a ⟨4096 + j.val, by omega⟩) p

theorem zbE_at (p : Fin 288) (j : Fin 1024) : (zbE m c t (ix2 p j) : EReal) = padded (zb m c j) (t.val * 256 + p.val) := by
  pointwise [k0_pay17]
  exact extended t (zb m c j) _ _ _ (fun a => read_pp m c t a ⟨5120 + j.val, by omega⟩) (fun a => read_pm m c t a ⟨5120 + j.val, by omega⟩) (fun a => read_pn m c t a ⟨5120 + j.val, by omega⟩) p

theorem dyE_at (p : Fin 288) (j : Fin 1024) : (dyE m c t (ix2 p j) : EReal) = padded (dyb m c j) (t.val * 256 + p.val) := by
  pointwise [k0_pay21, k0_pay20]
  exact extended t (dyb m c j) _ _ _ (fun a => read_dyp m c t a ⟨1024 + j.val, by omega⟩) (fun a => read_dym m c t a ⟨1024 + j.val, by omega⟩) (fun a => read_dyn m c t a ⟨1024 + j.val, by omega⟩) p

theorem dyE_at' (p : Fin 288) (j : Fin 1024) : (k0_pay21 (F := Ideal) (last t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (0 : EReal) (View.ld (iblk m c 4 t) (Rect.unit ![0, 1024] ![256, 1024] inb_S256x2048_S256x1024_0_1024)) (ix2 p j) : EReal)
    = padded (dyb m c j) (t.val * 256 + p.val) := by
  exact (congrArg (fun z => k0_pay21 (F := Ideal) (last t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) z (View.ld (iblk m c 4 t) (Rect.unit ![0, 1024] ![256, 1024] inb_S256x2048_S256x1024_0_1024)) (ix2 p j)) Ideal.ofBits_zero_f32.symm).trans (dyE_at m c t p j)

/-- What the body forms of the extended blocks: the convolution's input, the sigmoid, and the gradient of the convolution's output. -/
abbrev pE : Shape.Idx ⟨2, ![288, 1024]⟩ → EReal := k0_pay18 (F := Ideal) (first t) (last t) (xbE m c t) (View.ld (iblk m c 0 t) (Rect.unit ![0, 4096] ![16, 1024] inb_S16x6144_S16x1024_0_4096))
    (View.ld (iblk m c 2 t) (Rect.unit ![0, 4096] ![16, 1024] inb_S16x6144_S16x1024_0_4096))
    (View.ld (iblk m c 1 t) (Rect.unit ![0, 4096] ![256, 1024] inb_S256x6144_S256x1024_0_4096))
abbrev sbE : Shape.Idx ⟨2, ![288, 1024]⟩ → EReal := k0_pay19 (F := Ideal) (first t) (last t) (View.ld (iblk m c 0 t) (Rect.unit ![0, 5120] ![16, 1024] inb_S16x6144_S16x1024_0_5120))
    (View.ld (iblk m c 2 t) (Rect.unit ![0, 5120] ![16, 1024] inb_S16x6144_S16x1024_0_5120))
    (View.ld (iblk m c 1 t) (Rect.unit ![0, 5120] ![256, 1024] inb_S256x6144_S256x1024_0_5120))
abbrev dcvE : Shape.Idx ⟨2, ![288, 1024]⟩ → EReal := k0_pay22 (F := Ideal) (last t) (gbE m c t) (zbE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (FloatOps.ofBits FTy.f32 0#32) (View.ld (iblk m c 4 t) (Rect.unit ![0, 1024] ![256, 1024] inb_S256x2048_S256x1024_0_1024))
abbrev rotE : Shape.Idx ⟨2, ![288, 1024]⟩ → EReal := k0_pay32 (F := Ideal) (last t) (gbE m c t) (zbE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (FloatOps.ofBits FTy.f32 0#32) (View.ld (iblk m c 4 t) (Rect.unit ![0, 1024] ![256, 1024] inb_S256x2048_S256x1024_0_1024))

theorem pE_at (p : Fin 288) (j : Fin 1024) : (pE m c t (ix2 p j) : EReal) = padded (pr m c j) (t.val * 256 + p.val) := by
  pointwise [k0_pay18]
  simp only [xbE_at, gcE_at]
  unfold padded
  split
  · exact mul_comm _ _
  · exact mul_zero 0

theorem sbE_at (p : Fin 288) (j : Fin 1024) : (sbE m c t (ix2 p j) : EReal) = sigmoid (padded (zb m c j) (t.val * 256 + p.val)) := by
  pointwise [k0_pay19]
  simp only [zbE_at, sigmoid_of_tanh]

theorem dcvE_at (p : Fin 288) (j : Fin 1024) : (dcvE m c t (ix2 p j) : EReal) = padded (dcv m c j) (t.val * 256 + p.val) := by
  pointwise [k0_pay22]
  simp only [dyE_at', gbE_at, zbE_at, sbE_at]
  unfold padded
  split
  · unfold dcv
    rw [mul_comm (dyb m c j _) (gb m c j _), mul_assoc]
  · simp only [zero_mul]

theorem dcvE_at' (p : Fin 288) (j : Fin 1024) : (k0_pay22 (F := Ideal) (last t) (gbE m c t) (zbE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (0 : EReal) (View.ld (iblk m c 4 t) (Rect.unit ![0, 1024] ![256, 1024] inb_S256x2048_S256x1024_0_1024)) (ix2 p j) : EReal) = padded (dcv m c j) (t.val * 256 + p.val) := by
  exact (congrArg (fun z => k0_pay22 (F := Ideal) (last t) (gbE m c t) (zbE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) z (View.ld (iblk m c 4 t) (Rect.unit ![0, 1024] ![256, 1024] inb_S256x2048_S256x1024_0_1024)) (ix2 p j)) Ideal.ofBits_zero_f32.symm).trans (dcvE_at m c t p j)

theorem rotE_at (p : Fin 288) (j : Fin 1024) : (rotE m c t (ix2 p j) : EReal)
    = padded (dcv m c j) (t.val * 256 + (p.val + 288 - 287) % 288) := by
  pointwise [k0_pay32]
  exact dcvE_at' m c t _ j

open Cert.EvenMixBwdRefIdeal.Read in
theorem v10_at (n : Fin 4099) (j : Fin 1024) : (val_main_v10 (F := Ideal) (proj m c) (ix2 n j) : EReal) = padded (xa m c j) (n.val + 14) := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  unfold padded
  rcases lt_or_ge n.val 2 with h | h
  · rw [dif_pos h, dif_neg (by omega)]
  · rcases lt_or_ge (n.val - 2) 4096 with h' | h'
    · rw [dif_neg (by omega), dif_pos h', dif_pos (by omega)]
      exact congrArg (xa m c j) (Fin.ext (by simp only []; omega))
    · rw [dif_neg (by omega), dif_neg (by omega), dif_neg (by omega)]

open Cert.EvenMixBwdRefIdeal.Read in
theorem v49_at (n : Fin 4098) (j : Fin 1024) : (val_main_v49 (F := Ideal) (proj m c) (ix2 n j) : EReal) = padded (pr m c j) (n.val + 15) := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  unfold padded
  rcases lt_or_ge n.val 1 with h | h
  · rw [dif_pos h, dif_neg (by omega)]
  · rcases lt_or_ge (n.val - 1) 4096 with h' | h'
    · rw [dif_neg (by omega), dif_pos h', dif_pos (by omega)]
      exact congrArg (pr m c j) (Fin.ext (by simp only []; omega))
    · rw [dif_neg (by omega), dif_neg (by omega), dif_neg (by omega)]

open Cert.EvenMixBwdRefIdeal.Read in
theorem v81_at (r : Fin 4096) (j : Fin 1024) : (val_main_v81 (F := Ideal) (proj m c) (dy m c) (ix2 r j) : EReal) = dcv m c j r := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  rfl

/-- The short convolution at one element, and its gradient with respect to its input. -/
def cv (r : Fin 4096) (j : Fin 1024) : EReal :=
  padded (pr m c j) (r.val + 15) * sw m c (ix2 0 j) + pr m c j r * sw m c (ix2 1 j) + padded (pr m c j) (r.val + 17) * sw m c (ix2 2 j)
def dpr (r : Fin 4096) (j : Fin 1024) : EReal :=
  padded (dcv m c j) (r.val + 17) * sw m c (ix2 0 j) + dcv m c j r * sw m c (ix2 1 j) + padded (dcv m c j) (r.val + 15) * sw m c (ix2 2 j)

open Cert.EvenMixBwdRefIdeal.Read in
theorem v71_at (r : Fin 4096) (j : Fin 1024) : (val_main_v71 (F := Ideal) (proj m c) (sw m c) (ix2 r j) : EReal) = cv m c r j := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  simp only [v49_at]
  have e1 : 1 + r.val + 15 = r.val + 16 := by omega
  have e2 : 2 + r.val + 15 = r.val + 17 := by omega
  rw [e1, e2, padded_at, cv]

open Cert.EvenMixBwdRefIdeal.Read in
theorem v115_at (r : Fin 4096) (j : Fin 1024) : (val_main_v115 (F := Ideal) (proj m c) (dy m c) (sw m c) (ix2 r j) : EReal) = dpr m c r j := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  simp only [v81_at]
  rw [shifted, shifted_up, show 1 + r.val + 16 - 2 = r.val + 15 by omega, show 1 + r.val + 16 = r.val + 17 by omega, dpr]
  ac_rfl

open Cert.EvenMixBwdRefIdeal.Read in
theorem v168_at (r : Fin 4096) (j : Fin 1024) : (val_main_v168 (F := Ideal) (dua m c) (cw m c) (ix2 r j) : EReal)
    = padded (du m c j) (r.val + 18) * cw m c (ix2 0 j) + padded (du m c j) (r.val + 17) * cw m c (ix2 1 j)
      + du m c j r * cw m c (ix2 2 j) + padded (du m c j) (r.val + 15) * cw m c (ix2 3 j) := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  have e := congrArg₂ (· + ·) (congrArg₂ (· + ·) (congrArg₂ (· + ·) (shifted (du m c j) (2 + r.val) 3 (cw m c (ix2 3 j)))
    (rfl : du m c j r * cw m c (ix2 2 j) = _)) (shifted (du m c j) (2 + r.val) 1 (cw m c (ix2 1 j))))
    (shifted_up (du m c j) (2 + r.val) (cw m c (ix2 0 j)))
  refine e.trans ?_
  have e15 : 2 + r.val + 16 - 3 = r.val + 15 := by omega
  have e17 : 2 + r.val + 16 - 1 = r.val + 17 := by omega
  have e18 : 2 + r.val + 16 = r.val + 18 := by omega
  rw [e15, e17, e18]
  ac_rfl

theorem dxa_block (a : Fin 256) (j : Fin 1024) :
    (k0_pay5 (F := Ideal) (duaE m c t) (iblk m c 11 t) (ix2 a j) : EReal)
      = padded (du m c j) ((row t a).val + 18) * cw m c (ix2 0 j) + padded (du m c j) ((row t a).val + 17) * cw m c (ix2 1 j)
      + du m c j (row t a) * cw m c (ix2 2 j) + padded (du m c j) ((row t a).val + 15) * cw m c (ix2 3 j) := by
  pointwise [k0_pay5]
  simp only [duaE_at, read_cw]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  have e286 : t.val * 256 + (16 + a.val + 288 - 286) % 288 = (row t a).val + 18 := by simp only [row]; omega
  rw [e0, e1, e287, e286, padded_at]

theorem dpr_block (a : Fin 256) (j : Fin 1024) :
    (k0_pay33 (F := Ideal) (dcvE m c t) (iblk m c 12 t) (rotE m c t) (ix2 a j) : EReal) = dpr m c (row t a) j := by
  pointwise [k0_pay33]
  simp only [rotE_at, dcvE_at, read_sw]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  rw [e0, e1, e287, padded_at, dpr]

theorem dxb_block (a : Fin 256) (j : Fin 1024) :
    (k0_pay35 (F := Ideal) (gcE m c t) (dcvE m c t) (iblk m c 12 t) (rotE m c t) (ix2 a j) : EReal)
      = gc m c j (row t a) * dpr m c (row t a) j := by
  pointwise [k0_pay35]
  simp only [dpr_block, gcE_at]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  rw [e0, padded_at, mul_comm]

theorem dgc_block (a : Fin 256) (j : Fin 1024) :
    (k0_pay34 (F := Ideal) (xbE m c t) (dcvE m c t) (iblk m c 12 t) (rotE m c t) (ix2 a j) : EReal)
      = dpr m c (row t a) j * xb m c j (row t a) := by
  pointwise [k0_pay34]
  simp only [dpr_block, xbE_at]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  rw [e0, padded_at]

theorem cv_block (a : Fin 256) (j : Fin 1024) :
    (k0_pay26 (F := Ideal) (pE m c t) (iblk m c 12 t) (ix2 a j) : EReal) = cv m c (row t a) j := by
  pointwise [k0_pay26, k0_pay23, k0_pay24, k0_pay25]
  simp only [pE_at, read_sw]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  rw [e0, e1, e287, padded_at, cv]

theorem dgb_block (a : Fin 256) (j : Fin 1024) :
    (k0_pay30 (F := Ideal) (last t) (zbE m c t) (pE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (FloatOps.ofBits FTy.f32 0#32) (View.ld (iblk m c 4 t) (Rect.unit ![0, 1024] ![256, 1024] inb_S256x2048_S256x1024_0_1024)) (iblk m c 12 t) (ix2 a j) : EReal)
      = dyb m c j (row t a) * (zb m c j (row t a) * sigmoid (zb m c j (row t a))) * cv m c (row t a) j := by
  pointwise [k0_pay30, k0_pay27, k0_pay28, k0_pay29]
  simp only [cv_block, dyE_at', zbE_at, sbE_at]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  rw [e0, padded_at, padded_at, mul_right_comm]

theorem dzb_block (a : Fin 256) (j : Fin 1024) :
    (k0_pay31 (F := Ideal) (last t) (gbE m c t) (zbE m c t) (pE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (FloatOps.ofBits FTy.f32 0#32) (View.ld (iblk m c 4 t) (Rect.unit ![0, 1024] ![256, 1024] inb_S256x2048_S256x1024_0_1024)) (iblk m c 12 t) (ix2 a j) : EReal)
      = dyb m c j (row t a) * (gb m c j (row t a) * cv m c (row t a) j)
        * (sigmoid (zb m c j (row t a)) * (1 + zb m c j (row t a) * (1 - sigmoid (zb m c j (row t a))))) := by
  pointwise [k0_pay31, k0_pay27, k0_pay28, k0_pay29]
  simp only [cv_block, dyE_at', zbE_at, sbE_at, gbE_at]
  have ht : t.val < 16 := t.isLt
  have e0 : t.val * 256 + (16 + a.val) = (row t a).val + 16 := by simp only [row]; omega
  have e1 : t.val * 256 + (16 + a.val + 288 - 1) % 288 = (row t a).val + 15 := by simp only [row]; omega
  have e287 : t.val * 256 + (16 + a.val + 288 - 287) % 288 = (row t a).val + 17 := by simp only [row]; omega
  rw [e0, padded_at, padded_at, padded_at, mul_assoc (dyb m c j (row t a))]

theorem dza_block (a : Fin 256) (j : Fin 1024) :
    (k0_pay3 (F := Ideal) (View.ld (iblk m c 1 t) (Rect.unit ![0, 1024] ![256, 1024] inb_S256x6144_S256x1024_0_1024)) (View.ld (iblk m c 4 t) (Rect.unit ![0, 0] ![256, 1024] inb_S256x2048_S256x1024_0_0)) (iblk m c 6 t) (iblk m c 7 t) (ix2 a j) : EReal)
      = dy m c (ix2 (row t a) ⟨j.val, by omega⟩) * (hf m c (ix2 (row t a) j) + hb m c (ix2 (row t a) j))
        * (sigmoid (za m c j (row t a)) * (1 + za m c j (row t a) * (1 - sigmoid (za m c j (row t a))))) := by
  pointwise [k0_pay3]
  simp only [read_pm, read_dym, read_hf, read_hb, sigmoid_of_tanh]
  rfl

theorem gate_grad' {d n : EReal} (hd : Finite d) (hn : Finite n) (r : EReal) :
    d * n * (sigmoid r * (1 + r * (1 - sigmoid r))) = n * d * sigmoid r + r * (n * d) * (sigmoid r * (1 - sigmoid r)) := by
  induction r with
  | coe r => exact gate_grad hd hn ⟨r, rfl⟩
  | bot =>
    have h : sigmoid ⊥ = 0 := by
      rw [sigmoid, EReal.neg_bot]
      show Ideal.div 1 (1 + ⊤) = 0
      rw [show (1 : EReal) + ⊤ = ⊤ from EReal.coe_add_top 1]
      simp [Ideal.div]
    simp [h]
  | top =>
    have h : sigmoid ⊤ = 1 := by
      rw [sigmoid, EReal.neg_top]
      show Ideal.div 1 (1 + 0) = 1
      simp [Ideal.div]
    have h' : (1 : EReal) - 1 = 0 := by rw [← EReal.coe_one, ← EReal.coe_sub, sub_self]; rfl
    simp [h, h']
    exact mul_comm d n

/-- The numbers the gates' gradients need finite. -/
structure FiniteArgs : Prop where
  hproj : ∀ r (k : Fin 6144), 2048 ≤ k.val → k.val < 5120 → Finite (proj m c (ix2 r k))
  hdy : ∀ i, Finite (dy m c i)
  hhf : ∀ i, Finite (hf m c i)
  hhb : ∀ i, Finite (hb m c i)
  hsw : ∀ i, Finite (sw m c i)

variable {m c} in
theorem FiniteArgs.pr (h : FiniteArgs m c) (j : Fin 1024) (q : ℕ) : Finite (padded (pr m c j) q) := by
  unfold padded
  split
  · exact (h.hproj _ _ (by simp only []; omega) (by simp only []; omega)).mul (h.hproj _ _ (by simp only []; omega) (by simp only []; omega))
  · exact ⟨0, rfl⟩

variable {m c} in
theorem FiniteArgs.cv (h : FiniteArgs m c) (r : Fin 4096) (j : Fin 1024) : Finite (cv m c r j) := by
  have h1 := h.pr j (r.val + 16)
  rw [padded_at] at h1
  exact (((h.pr j _).mul (h.hsw _)).add (h1.mul (h.hsw _))).add ((h.pr j _).mul (h.hsw _))

variable {m c} in
theorem FiniteArgs.gb (h : FiniteArgs m c) (r : Fin 4096) (j : Fin 1024) : Finite (gb m c j r) :=
  h.hproj r _ (by simp only []; omega) (by simp only []; omega)

open Cert.EvenMixBwdRefIdeal.Read in
theorem v117_at (r : Fin 4096) (j : Fin 1024) : (val_main_v117 (F := Ideal) (proj m c) (dy m c) (sw m c) (ix2 r j) : EReal) = gc m c j r * dpr m c r j := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  rw [v115_at]
  rfl

open Cert.EvenMixBwdRefIdeal.Read in
theorem v118_at (r : Fin 4096) (j : Fin 1024) : (val_main_v118 (F := Ideal) (proj m c) (dy m c) (sw m c) (ix2 r j) : EReal) = dpr m c r j * xb m c j r := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  rw [v115_at]
  rfl

open Cert.EvenMixBwdRefIdeal.Read in
theorem v82_at (r : Fin 4096) (j : Fin 1024) : (val_main_v82 (F := Ideal) (proj m c) (dy m c) (sw m c) (ix2 r j) : EReal) = dyb m c j r * (zb m c j r * sigmoid (zb m c j r)) * cv m c r j := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  rw [v71_at]
  rfl

open Cert.EvenMixBwdRefIdeal.Read in
theorem v80_at (h : FiniteArgs m c) (r : Fin 4096) (j : Fin 1024) : (val_main_v80 (F := Ideal) (proj m c) (dy m c) (sw m c) (ix2 r j) : EReal)
    = dyb m c j r * (gb m c j r * cv m c r j) * (sigmoid (zb m c j r) * (1 + zb m c j r * (1 - sigmoid (zb m c j r)))) := by
  have hd : Finite (dyb m c j r) := h.hdy _
  rw [gate_grad' hd ((h.gb r j).mul (h.cv r j))]
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  rw [v71_at]
  rfl

open Cert.EvenMixBwdRefIdeal.Read in
theorem v120_at (h : FiniteArgs m c) (r : Fin 4096) (j : Fin 1024) : (val_main_v120 (F := Ideal) (proj m c) (dy m c) (hf m c) (hb m c) (ix2 r j) : EReal)
    = dy m c (ix2 r ⟨j.val, by omega⟩) * (hf m c (ix2 r j) + hb m c (ix2 r j))
        * (sigmoid (za m c j r) * (1 + za m c j r * (1 - sigmoid (za m c j r)))) := by
  rw [gate_grad' (h.hdy _) ((h.hhf _).add (h.hhb _))]
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  rfl

open Cert.EvenMixBwdRefIdeal.Read in
/-- The gradient of the projection: each block of rows in its six pieces. -/
theorem y (h : FiniteArgs m c) : (dats m 0 c).arrAt 13 cfg0.N = val_main_v171 (proj m c) (dy m c) (hf m c) (hb m c) (dua m c) (cw m c) (sw m c) := by
  refine (dats m 0 c).arrAt_eq_of_covers 13 _ (by decide +kernel) fun t hflush y => ?_
  obtain ⟨a, j, rfl⟩ : ∃ a j, y = ix2 a j := ⟨y 0, y 1, by idx_vars y⟩
  have hemb : ((View.whole main_v0_0).slice (win0_13.rect t)).emb (ix2 a j) = ix2 (row t a) j := by blk_ext [row, idx t]
  blk_simp
  rw [after0_13]
  rw [hemb]
  have ht : t.val < 16 := t.isLt
  by_cases h0 : t.val % 16 = 0
  on_goal 1 => rw [outsAt0_A m c t h0 (by omega) h0 (by omega) h0 (by omega)]
  on_goal 2 => rw [outsAt0_B m c t h0 (by omega) h0 (by omega) h0 (by omega)]
  all_goals
    pointwise [val_main_v171, val_main_v170]
    frame_out
    canon_tiles x hx
    · obtain ⟨p, q, rfl⟩ : ∃ p q, x = ix2 p q := ⟨x 0, x 1, by idx_vars x⟩
      obtain rfl : a = p := Fin.ext hx0
      have hq : j.val = 2048 + q.val := hx1
      have := q.isLt
      have e : (⟨j.val - 1024 - 1024, by omega⟩ : Fin 1024) = q := Fin.ext (by simp only []; omega)
      rw [dif_neg (by omega), dif_neg (by omega), dif_pos (by omega), v117_at m c, e]
      exact dxb_block m c t a q
    · obtain ⟨p, q, rfl⟩ : ∃ p q, x = ix2 p q := ⟨x 0, x 1, by idx_vars x⟩
      obtain rfl : a = p := Fin.ext hx0
      have hq : j.val = 4096 + q.val := hx1
      have := q.isLt
      have e : (⟨j.val - 1024 - 1024 - 1024 - 1024, by omega⟩ : Fin 1024) = q := Fin.ext (by simp only []; omega)
      rw [dif_neg (by omega), dif_neg (by omega), dif_neg (by omega), dif_neg (by omega), dif_pos (by omega), v118_at m c, e]
      exact dgc_block m c t a q
    · obtain ⟨p, q, rfl⟩ : ∃ p q, x = ix2 p q := ⟨x 0, x 1, by idx_vars x⟩
      obtain rfl : a = p := Fin.ext hx0
      have hq : j.val = 5120 + q.val := hx1
      have := q.isLt
      have e : (⟨j.val - 1024 - 1024 - 1024 - 1024 - 1024, by omega⟩ : Fin 1024) = q := Fin.ext (by simp only []; omega)
      rw [dif_neg (by omega), dif_neg (by omega), dif_neg (by omega), dif_neg (by omega), dif_neg (by omega), v80_at m c h, e]
      exact dzb_block m c t a q
    · obtain ⟨p, q, rfl⟩ : ∃ p q, x = ix2 p q := ⟨x 0, x 1, by idx_vars x⟩
      obtain rfl : a = p := Fin.ext hx0
      have hq : j.val = 3072 + q.val := hx1
      have := q.isLt
      have e : (⟨j.val - 1024 - 1024 - 1024, by omega⟩ : Fin 1024) = q := Fin.ext (by simp only []; omega)
      rw [dif_neg (by omega), dif_neg (by omega), dif_neg (by omega), dif_pos (by omega), v82_at m c, e]
      exact dgb_block m c t a q
    · obtain ⟨p, q, rfl⟩ : ∃ p q, x = ix2 p q := ⟨x 0, x 1, by idx_vars x⟩
      obtain rfl : a = p := Fin.ext hx0
      have hq : j.val = q.val := hx1
      have := q.isLt
      have e : (⟨j.val, by omega⟩ : Fin 1024) = q := Fin.ext (by simp only []; omega)
      rw [dif_pos (by omega), v168_at m c, e]
      exact dxa_block m c t a q
    · obtain ⟨p, q, rfl⟩ : ∃ p q, x = ix2 p q := ⟨x 0, x 1, by idx_vars x⟩
      obtain rfl : a = p := Fin.ext hx0
      have hq : j.val = 1024 + q.val := hx1
      have := q.isLt
      have e : (⟨j.val - 1024, by omega⟩ : Fin 1024) = q := Fin.ext (by simp only []; omega)
      rw [dif_neg (by omega), dif_pos (by omega), v120_at m c h, e]
      exact dza_block m c t a q

/-- The terms of the taps' gradients, and of the bias's. -/
def tapTerm (k : Fin 4) (j : Fin 1024) (r : Fin 4096) : EReal := padded (xa m c j) (r.val + k.val + 14) * du m c j r
def shortTerm (k : Fin 3) (j : Fin 1024) (r : Fin 4096) : EReal := padded (pr m c j) (r.val + k.val + 15) * dcv m c j r

open Cert.EvenMixBwdRefIdeal.Read in
theorem v172_at (z : Fin 1) (j : Fin 1024) : (val_main_v172 (F := Ideal) (dua m c) (ix2 z j) : EReal) = ∑ r : Fin 4096, du m c j r := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  simp only [Finset.univ_unique, Finset.sum_const, Finset.card_singleton, one_smul]
  rfl

open Cert.EvenMixBwdRefIdeal.Read in
theorem v164_at (k : Fin 4) (j : Fin 1024) : (val_main_v164 (F := Ideal) (proj m c) (dua m c) (ix2 k j) : EReal) = ∑ r : Fin 4096, tapTerm m c k j r := by
  pointwise [val_main_v0, val_main_cst, val_main_v1, val_main_v2, val_main_v3, val_main_v4, val_main_v5, val_main_v6, val_main_v7, val_main_cst_0, val_main_v8, val_main_cst_1, val_main_v9, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_v49, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v81, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  simp only [Finset.univ_unique, Finset.sum_const, Finset.card_singleton, one_smul, v10_at]
  obtain h | h | h | h : k.val = 0 ∨ k.val = 1 ∨ k.val = 2 ∨ k.val = 3 := by omega
  all_goals
    simp only [h, Nat.reduceLeDiff, Nat.reduceLT, Nat.reduceSub, false_and, and_false, and_self, dite_true, dite_false, add_zero, zero_add]
    refine Finset.sum_congr rfl fun r _ => ?_
    show _ = padded (xa m c j) (r.val + k.val + 14) * du m c j r
    exact congrArg (padded (xa m c j) · * du m c j r) (by omega)

open Cert.EvenMixBwdRefIdeal.Read in
theorem v111_at (k : Fin 3) (j : Fin 1024) : (val_main_v111 (F := Ideal) (proj m c) (dy m c) (ix2 k j) : EReal) = ∑ r : Fin 4096, shortTerm m c k j r := by
  pointwise [val_main_v0, val_main_cst, val_main_v1, val_main_v2, val_main_v3, val_main_v4, val_main_v5, val_main_v6, val_main_v7, val_main_cst_0, val_main_v8, val_main_cst_1, val_main_v9, val_main_v10, val_main_cst_2, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_call0_v0, val_main_call0_v1, val_main_call0_cst, val_main_call0_v2, val_main_call0_v3, val_main_call0_cst_0, val_main_call0_v4, val_main_v44_2, val_main_call0_cst_1, val_main_call0_v6, val_main_call0_v7, val_main_v44_1, val_main_v44_0, val_main_v45, val_main_v46, val_main_cst_4, val_main_v47, val_main_cst_5, val_main_v48, val_main_cst_6, val_main_v50, val_main_cst_7, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_call1_v0, val_main_call1_v1, val_main_call1_cst, val_main_call1_v2, val_main_call1_v3, val_main_call1_cst_0, val_main_call1_v4, val_main_v73_2, val_main_call1_cst_1, val_main_call1_v6, val_main_call1_v7, val_main_v73_1, val_main_v73_0, val_main_v74, val_main_v75, val_main_v76, val_main_v77, val_main_v78, val_main_v79, val_main_call2_v0, val_main_call2_v1, val_main_call2_v2, val_main_v80, val_main_v82, val_main_v83, val_main_cst_8, val_main_v84, val_main_v85, val_main_v86, val_main_v87, val_main_cst_9, val_main_v88, val_main_v89, val_main_cst_10, val_main_v90, val_main_cst_11, val_main_v91, val_main_v92, val_main_cst_12, val_main_v93, val_main_v94, val_main_v95, val_main_v96, val_main_cst_13, val_main_v97, val_main_v98, val_main_cst_14, val_main_v99, val_main_v100, val_main_cst_15, val_main_v101, val_main_v102, val_main_v103, val_main_cst_16, val_main_v104, val_main_v105, val_main_v106, val_main_v107, val_main_cst_17, val_main_v108, val_main_v109, val_main_cst_18, val_main_v110, val_main_v111, val_main_cst_19, val_main_v112, val_main_v113, val_main_v114, val_main_v115, val_main_v116, val_main_v117, val_main_v118, val_main_v119, val_main_call3_v0, val_main_call3_v1, val_main_call3_v2, val_main_v120, val_main_v121, val_main_cst_20, val_main_v122, val_main_v123, val_main_cst_21, val_main_v124, val_main_v125, val_main_cst_22, val_main_v126, val_main_v127, val_main_v128, val_main_v129, val_main_cst_23, val_main_v130, val_main_v131, val_main_cst_24, val_main_v132, val_main_cst_25, val_main_v133, val_main_v134, val_main_cst_26, val_main_v135, val_main_v136, val_main_v137, val_main_v138, val_main_cst_27, val_main_v139, val_main_v140, val_main_cst_28, val_main_v141, val_main_v142, val_main_cst_29, val_main_v143, val_main_v144, val_main_v145, val_main_cst_30, val_main_v146, val_main_v147, val_main_v148, val_main_v149, val_main_cst_31, val_main_v150, val_main_v151, val_main_cst_32, val_main_v152, val_main_v153, val_main_cst_33, val_main_v154, val_main_v155, val_main_v156, val_main_cst_34, val_main_v157, val_main_v158, val_main_v159, val_main_v160, val_main_cst_35, val_main_v161, val_main_v162, val_main_cst_36, val_main_v163, val_main_v164, val_main_cst_37, val_main_v165, val_main_v166, val_main_v167, val_main_v168, val_main_v169, val_main_v170, val_main_v171, val_main_v172]
  simp only [Finset.univ_unique, Finset.sum_const, Finset.card_singleton, one_smul, v49_at, v81_at]
  obtain h | h | h : k.val = 0 ∨ k.val = 1 ∨ k.val = 2 := by omega
  all_goals
    simp only [h, Nat.reduceLeDiff, Nat.reduceLT, Nat.reduceSub, false_and, and_false, and_self, dite_true, dite_false, add_zero, zero_add]
    refine Finset.sum_congr rfl fun r _ => ?_
    show _ = padded (pr m c j) (r.val + k.val + 15) * dcv m c j r
    exact congrArg (padded (pr m c j) · * dcv m c j r) (by omega)

theorem dbias_block (z : Fin 1) (j : Fin 1024) :
    (k0_pay10 (F := Ideal) (k0_pay6 (duaE m c t)) (ix2 z j) : EReal) = ∑ a : Fin 256, du m c j (row t a) := by
  pointwise [k0_pay10, k0_pay6]
  simp only [duaE_at]
  refine Finset.sum_congr rfl fun a _ => ?_
  rw [show t.val * 256 + (16 + a.val) = (row t a).val + 16 by simp only [row]; omega, padded_at]

theorem dtaps_block (k : Fin 4) (j : Fin 1024) :
    (k0_pay9 (F := Ideal) (k0_pay6 (duaE m c t)) (xaE m c t) (k0_pay8 (first t) (last t) (duaE m c t) (View.ld (iblk m c 0 t) (Rect.unit ![0, 0] ![16, 1024] inb_S16x6144_S16x1024_0_0))
    (View.ld (iblk m c 2 t) (Rect.unit ![0, 0] ![16, 1024] inb_S16x6144_S16x1024_0_0))
    (View.ld (iblk m c 1 t) (Rect.unit ![0, 0] ![256, 1024] inb_S256x6144_S256x1024_0_0))) (ix2 k j) : EReal)
      = ∑ a : Fin 256, tapTerm m c k j (row t a) := by
  pointwise [k0_pay9, k0_pay8, k0_pay6]
  simp only [duaE_at, xaE_at]
  obtain h | h | h | h : k.val = 0 ∨ k.val = 1 ∨ k.val = 2 ∨ k.val = 3 := by omega
  all_goals
    simp only [h, Nat.reduceLT, Nat.reduceSub, dite_true, dite_false]
    refine Finset.sum_congr rfl fun a _ => ?_
    have ht : t.val < 16 := t.isLt
    have e : t.val * 256 + (16 + a.val) = (row t a).val + 16 := by simp only [row]; omega
    show _ = padded (xa m c j) ((row t a).val + k.val + 14) * du m c j (row t a)
    rw [e, padded_at, mul_comm]
    exact congrArg (padded (xa m c j) · * du m c j (row t a)) (by simp only [row]; omega)

theorem dshort_block (k : Fin 3) (j : Fin 1024) :
    (k0_pay36 (F := Ideal) (dcvE m c t) (k0_pay23 (pE m c t)) (k0_pay24 (pE m c t)) (k0_pay25 (pE m c t)) (ix2 k j) : EReal)
      = ∑ a : Fin 256, shortTerm m c k j (row t a) := by
  pointwise [k0_pay36, k0_pay23, k0_pay24, k0_pay25]
  simp only [dcvE_at, pE_at]
  obtain h | h | h : k.val = 0 ∨ k.val = 1 ∨ k.val = 2 := by omega
  all_goals
    simp only [h, Nat.reduceLT, Nat.reduceSub, dite_true, dite_false]
    refine Finset.sum_congr rfl fun a _ => ?_
    have ht : t.val < 16 := t.isLt
    have e : t.val * 256 + (16 + a.val) = (row t a).val + 16 := by simp only [row]; omega
    show _ = padded (pr m c j) ((row t a).val + k.val + 15) * dcv m c j (row t a)
    rw [e, padded_at, mul_comm]
    exact congrArg (padded (pr m c j) · * dcv m c j (row t a)) (by simp only [row]; omega)

theorem dshort_block' (k : Fin 3) (j : Fin 1024) :
    (k0_pay36 (F := Ideal) (k0_pay22 (last t) (gbE m c t) (zbE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) (0 : EReal) (View.ld (iblk m c 4 t) (Rect.unit ![0, 1024] ![256, 1024] inb_S256x2048_S256x1024_0_1024)))
        (k0_pay23 (pE m c t)) (k0_pay24 (pE m c t)) (k0_pay25 (pE m c t)) (ix2 k j) : EReal)
      = ∑ a : Fin 256, shortTerm m c k j (row t a) :=
  (congrArg (fun z => k0_pay36 (F := Ideal) (k0_pay22 (last t) (gbE m c t) (zbE m c t) (sbE m c t) (k0_pay20 (first t) (View.ld (iblk m c 3 t) (Rect.unit ![0, 1024] ![16, 1024] inb_S16x2048_S16x1024_0_1024))) (View.ld (iblk m c 5 t) (Rect.unit ![0, 1024] ![16, 1024] inb_S16x2048_S16x1024_0_1024)) z (View.ld (iblk m c 4 t) (Rect.unit ![0, 1024] ![256, 1024] inb_S256x2048_S256x1024_0_1024)))
    (k0_pay23 (pE m c t)) (k0_pay24 (pE m c t)) (k0_pay25 (pE m c t)) (ix2 k j)) Ideal.ofBits_zero_f32.symm).trans (dshort_block m c t k j)

set_option maxHeartbeats 1000000 in
open Cert.EvenMixBwdRefIdeal.Read in
theorem dtaps : (dats m 0 c).arrAt 14 cfg0.N = val_main_v164 (proj m c) (dua m c) := by
  refine (dats m 0 c).arrAt_eq_of_after_last 14 t0_15 (by decide +kernel) _ fun y => ?_
  obtain ⟨k, j, rfl⟩ : ∃ (k : Fin 4) (j : Fin 1024), y = ix2 k j := ⟨y 0, y 1, by idx_vars y⟩
  blk_simp
  rw [after0_14]
  refine (Pipeline.eq_sum_fin_of_reset_step_apply_last (fun n h => (outsAt0 m c n h).2.1) 16 (fun _ => (0 : EReal))
    (fun t i => ∑ a : Fin 256, tapTerm m c (i 0) (i 1) (row t a)) (fun t h0 j => ?_) (fun t h0 j => ?_) (by decide) t0_15 rfl (ix2 k j)).trans ?_
  · obtain ⟨k, j, rfl⟩ : ∃ (k : Fin 4) (j' : Fin 1024), j = ix2 k j' := ⟨j 0, j 1, by idx_vars j⟩
    have h : t.val < 16 := t.isLt
    rw [outsAt0_A m c t h0 (by omega) h0 (by omega) h0 (by omega)]
    frame_out
    exact (dtaps_block m c t k j).trans (zero_add _).symm
  · obtain ⟨k, j, rfl⟩ : ∃ (k : Fin 4) (j' : Fin 1024), j = ix2 k j' := ⟨j 0, j 1, by idx_vars j⟩
    have h : t.val < 16 := t.isLt
    rw [outsAt0_B m c t h0 (by omega) h0 (by omega) h0 (by omega)]
    frame_out
    pointwise [k0_pay37]
    exact congrArg (_ + ·) (dtaps_block m c t k j)
  · exact (zero_add _).trans ((Fin.sum_univ_tiles 16 256 rfl fun r => tapTerm m c k j r).symm.trans (v164_at m c k j).symm)

set_option maxHeartbeats 1000000 in
open Cert.EvenMixBwdRefIdeal.Read in
theorem dbias : (dats m 0 c).arrAt 15 cfg0.N = val_main_v172 (dua m c) := by
  refine (dats m 0 c).arrAt_eq_of_after_last 15 t0_15 (by decide +kernel) _ fun y => ?_
  obtain ⟨k, j, rfl⟩ : ∃ (k : Fin 1) (j : Fin 1024), y = ix2 k j := ⟨y 0, y 1, by idx_vars y⟩
  blk_simp
  rw [after0_15]
  refine (Pipeline.eq_sum_fin_of_reset_step_apply_last (fun n h => (outsAt0 m c n h).2.2.1) 16 (fun _ => (0 : EReal))
    (fun t i => ∑ a : Fin 256, du m c (i 1) (row t a)) (fun t h0 j => ?_) (fun t h0 j => ?_) (by decide) t0_15 rfl (ix2 k j)).trans ?_
  · obtain ⟨k, j, rfl⟩ : ∃ (k : Fin 1) (j' : Fin 1024), j = ix2 k j' := ⟨j 0, j 1, by idx_vars j⟩
    have h : t.val < 16 := t.isLt
    rw [outsAt0_A m c t h0 (by omega) h0 (by omega) h0 (by omega)]
    frame_out
    exact (dbias_block m c t k j).trans (zero_add _).symm
  · obtain ⟨k, j, rfl⟩ : ∃ (k : Fin 1) (j' : Fin 1024), j = ix2 k j' := ⟨j 0, j 1, by idx_vars j⟩
    have h : t.val < 16 := t.isLt
    rw [outsAt0_B m c t h0 (by omega) h0 (by omega) h0 (by omega)]
    frame_out
    pointwise [k0_pay1]
    exact congrArg (_ + ·) (dbias_block m c t k j)
  · exact (zero_add _).trans ((Fin.sum_univ_tiles 16 256 rfl fun r => du m c j r).symm.trans (v172_at m c k j).symm)

set_option maxHeartbeats 1000000 in
open Cert.EvenMixBwdRefIdeal.Read in
theorem dshort : (dats m 0 c).arrAt 16 cfg0.N = val_main_v111 (proj m c) (dy m c) := by
  refine (dats m 0 c).arrAt_eq_of_after_last 16 t0_15 (by decide +kernel) _ fun y => ?_
  obtain ⟨k, j, rfl⟩ : ∃ (k : Fin 3) (j : Fin 1024), y = ix2 k j := ⟨y 0, y 1, by idx_vars y⟩
  blk_simp
  rw [after0_16]
  refine (Pipeline.eq_sum_fin_of_reset_step_apply_last (fun n h => (outsAt0 m c n h).2.2.2) 16 (fun _ => (0 : EReal))
    (fun t i => ∑ a : Fin 256, shortTerm m c (i 0) (i 1) (row t a)) (fun t h0 j => ?_) (fun t h0 j => ?_) (by decide) t0_15 rfl (ix2 k j)).trans ?_
  · obtain ⟨k, j, rfl⟩ : ∃ (k : Fin 3) (j' : Fin 1024), j = ix2 k j' := ⟨j 0, j 1, by idx_vars j⟩
    have h : t.val < 16 := t.isLt
    rw [outsAt0_A m c t h0 (by omega) h0 (by omega) h0 (by omega)]
    frame_out
    exact (dshort_block m c t k j).trans (zero_add _).symm
  · obtain ⟨k, j, rfl⟩ : ∃ (k : Fin 3) (j' : Fin 1024), j = ix2 k j' := ⟨j 0, j 1, by idx_vars j⟩
    have h : t.val < 16 := t.isLt
    rw [outsAt0_B m c t h0 (by omega) h0 (by omega) h0 (by omega)]
    frame_out
    pointwise [k0_pay2]
    exact congrArg (_ + ·) (dshort_block' m c t k j)
  · exact (zero_add _).trans ((Fin.sum_univ_tiles 16 256 rfl fun r => shortTerm m c k j r).symm.trans (v111_at m c k j).symm)

/-- What the precondition says: every element it names compares below `+∞` in magnitude. -/
theorem finiteArgs (hpre : Cert.Pre_EvenMixBwdIdeal_even_mix_bwd_finite m) (c : Dev nD) : FiniteArgs m c where
  hproj r k hl hu := by
    have h := finite_of_abs_lt (congrFun (hpre c).1 (ix2 r (⟨k.val - 2048, by omega⟩ : Fin 3072)))
    have e := extractStridedSlice_apply ![0, 2048] (proj m c) Cert.Pre_even_mix_bwd_finite.Gen.slices_S4096x6144_S4096x3072_0_2048
      (ix2 r (⟨k.val - 2048, by omega⟩ : Fin 3072)) (ix2 r k)
      (fun a => match a with | ⟨0, _⟩ => (Nat.zero_add _).symm | ⟨1, _⟩ => (by show k.val = 2048 + (k.val - 2048); omega))
    exact (congrArg Finite e).mp h
  hdy i := finite_of_abs_lt (congrFun (hpre c).2.1 i)
  hhf i := finite_of_abs_lt (congrFun (hpre c).2.2.1 i)
  hhb i := finite_of_abs_lt (congrFun (hpre c).2.2.2.1 i)
  hsw i := finite_of_abs_lt (congrFun (hpre c).2.2.2.2 i)

open Cert.EvenMixBwdRefIdeal.Read in
/-- The kernel and the reference end with the same arrays. -/
theorem algebraic : Cert.algebraic_EvenMixBwdIdeal_EvenMixBwdRefIdeal_pre_even_mix_bwd_finite := by
  intro m g m' g' hpre hagree
  refine ⟨fun c => (dats m 0 c).arrAt 13 cfg0.N, fun c => (dats m 0 c).arrAt 14 cfg0.N,
    fun c => (dats m 0 c).arrAt 15 cfg0.N, fun c => (dats m 0 c).arrAt 16 cfg0.N, ?_, ?_⟩
  · refine θ_run_mono (θ_run_and (Cert.EvenMixBwdIdeal.Gen.run_main m g) (Cert.EvenMixBwdIdeal.Gen.unchanged m g)) fun r h c => ?_
    exact ⟨(h.1 c).1 13, (h.1 c).1 14, (h.1 c).1 15, (h.1 c).1 16, h.2 c⟩
  · refine θ_run_mono (Cert.EvenMixBwdRefIdeal.Value.run m' g') fun r h c => ?_
    obtain ⟨h0, h1, h2, h3, h4, h5, h6⟩ := hagree c
    refine ⟨(h c).1.trans ((val_main_v171_eq (StableHlo.launchContents m' c)).trans ?_),
      (h c).2.1.trans ((val_main_v164_eq (StableHlo.launchContents m' c)).trans ?_),
      (h c).2.2.1.trans ((val_main_v172_eq (StableHlo.launchContents m' c)).trans ?_),
      (h c).2.2.2.1.trans ((val_main_v111_eq (StableHlo.launchContents m' c)).trans ?_), (h c).2.2.2.2⟩
    · exact (congr (congr (congr (congr (congr (congr (congrArg val_main_v171 h0) h1) h2) h3) h4) h5) h6).trans (y m c (finiteArgs m hpre c)).symm
    · exact (congr (congrArg val_main_v164 h0) h4).trans (dtaps m c).symm
    · exact (congrArg val_main_v172 h4).trans (dbias m c).symm
    · exact (congr (congrArg val_main_v111 h0) h1).trans (dshort m c).symm

theorem frame_kernel : Cert.quiescent_EvenMixBwd := fun m ρ _ => Cert.EvenMixBwd.Gen.frame m ρ
theorem frame_ideal : Cert.quiescent_EvenMixBwdIdeal := fun m ρ _ => Cert.EvenMixBwdIdeal.Gen.frame m ρ
theorem frame_ref : Cert.quiescent_EvenMixBwdRefIdeal := fun m ρ _ =>
  (θ_run Cert.EvenMixBwdRefIdeal.defs _ _).mono (fun r h => ⟨fun c => (h c).2.2.2.2, sem_eq_zero_of_no_sems (by decide) r.2⟩)
    (Cert.EvenMixBwdRefIdeal.Value.run (F := Ideal) m ρ)

end Cert.Proof.EvenMixBwd

end
-- ==== Proof.AdamGate.lean ====
/- The optimiser's step on the convolution mixer's gate weights. -/
module

public import proofs.«01_k».proof.Proof.Gen.AdamGateIdeal.Value
public import proofs.«01_k».proof.Proof.Gen.AdamGateRefIdeal.Read
public import Idealize.ShloMosaic.Lib.Pipeline.ValueKit
public import Idealize.ShloMosaic.Lib.Pointwise
public import Idealize.ShloMosaic.Lib.Claim
public import proofs.«01_k».proof.Proof.Gen.AdamGateRefIdeal.Run
public import proofs.«01_k».proof.Proof.Gen.AdamGate.Frame
public import proofs.«01_k».proof.Defs
public import proofs.«01_k».proof.Proof.NormGrad

@[expose] public section

set_option maxRecDepth 16384

noncomputable section

namespace Cert.Proof.AdamGate

open Cert.AdamGateIdeal Cert.AdamGateIdeal.Gen Idealize.ShloMosaic Idealize.ShloMosaic.TcCoe Idealize.SL.Sem

variable (m : (ℓ : Loc nD τ sig) → Buf (Elt Ideal) ℓ)

/-- The one block is the whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] :=
  (by decide +kernel : ∀ t : Fin grid0.N, _)

variable (c : Dev nD)

/-- The arguments: the weights, their gradient, and the two moments. -/
abbrev w := m ((c : Thread nD τ).loc main_arg0)
abbrev g := m ((c : Thread nD τ).loc main_arg1)
abbrev mom := m ((c : Thread nD τ).loc main_arg2)
abbrev var := m ((c : Thread nD τ).loc main_arg3)

open Cert.AdamGateRefIdeal.Read

theorem read_g (t : Fin cfg0.N) (i : Fin 4096) (j : Fin 128) : iblk m c 1 t (ix2 i j) = g m c (ix2 i j) := by
  blk_ext [iblk, V, idx t]

theorem read_w (t : Fin cfg0.N) (i : Fin 4096) (j : Fin 128) : iblk m c 0 t (ix2 i j) = val_main_v0 (F := Ideal) (w m c) (ix2 i j) := by
  have hi : (win0_0.blk t).view.emb (ix2 i j) = ix2 i j := by blk_ext [idx t]
  show V m c main_v0 ((win0_0.blk t).view.emb (ix2 i j)) = _
  rw [hi]
  entry_read
  rfl

theorem read_m (t : Fin cfg0.N) (i : Fin 4096) (j : Fin 128) : iblk m c 2 t (ix2 i j) = val_main_v1 (F := Ideal) (mom m c) (ix2 i j) := by
  have hi : (win0_2.blk t).view.emb (ix2 i j) = ix2 i j := by blk_ext [idx t]
  show V m c main_v1 ((win0_2.blk t).view.emb (ix2 i j)) = _
  rw [hi]
  entry_read
  rfl

theorem read_v (t : Fin cfg0.N) (i : Fin 4096) (j : Fin 128) : iblk m c 3 t (ix2 i j) = val_main_v2 (F := Ideal) (var m c) (ix2 i j) := by
  have hi : (win0_3.blk t).view.emb (ix2 i j) = ix2 i j := by blk_ext [idx t]
  show V m c main_v2 ((win0_3.blk t).view.emb (ix2 i j)) = _
  rw [hi]
  entry_read
  rfl

open Cert.AdamGateRefIdeal.Read in
/-- The gradient, handed back. -/
theorem grad : (dats m 0 c).arrAt 4 cfg0.N = g m c := by
  refine (dats m 0 c).arrAt_eq_of_after_last 4 t0_0 (by decide +kernel) _ fun y => ?_
  obtain ⟨i, j, rfl⟩ : ∃ i j, y = ix2 i j := ⟨y 0, y 1, by idx_vars y⟩
  blk_simp
  rw [after0_4]
  frame_out
  exact read_g m c t0_0 i j

open Cert.AdamGateRefIdeal.Read in
/-- The weights' change. -/
theorem delta : (dats m 0 c).arrAt 5 cfg0.N = val_main_v26 (F := Ideal) (w m c) (g m c) (mom m c) (var m c) := by
  refine (dats m 0 c).arrAt_eq_of_after_last 5 t0_0 (by decide +kernel) _ fun y => ?_
  obtain ⟨i, j, rfl⟩ : ∃ i j, y = ix2 i j := ⟨y 0, y 1, by idx_vars y⟩
  blk_simp
  rw [after0_5]
  frame_out
  pointwise [k0_pay1, k0_pay2, k0_pay3, k0_pay4, k0_pay5, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  simp only [read_g, read_w, read_m, read_v]

open Cert.AdamGateRefIdeal.Read in
/-- The first moment. -/
theorem mean : (dats m 0 c).arrAt 6 cfg0.N = val_main_v7 (F := Ideal) (g m c) (mom m c) := by
  refine (dats m 0 c).arrAt_eq_of_after_last 6 t0_0 (by decide +kernel) _ fun y => ?_
  obtain ⟨i, j, rfl⟩ : ∃ i j, y = ix2 i j := ⟨y 0, y 1, by idx_vars y⟩
  blk_simp
  rw [after0_6]
  frame_out
  pointwise [k0_pay2, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  simp only [read_g, read_w, read_m, read_v]

open Cert.AdamGateRefIdeal.Read in
/-- The second moment. -/
theorem square : (dats m 0 c).arrAt 7 cfg0.N = val_main_v13 (F := Ideal) (g m c) (var m c) := by
  refine (dats m 0 c).arrAt_eq_of_after_last 7 t0_0 (by decide +kernel) _ fun y => ?_
  obtain ⟨i, j, rfl⟩ : ∃ i j, y = ix2 i j := ⟨y 0, y 1, by idx_vars y⟩
  blk_simp
  rw [after0_7]
  frame_out
  pointwise [k0_pay3, val_main_cst, val_main_v3, val_main_v4, val_main_cst_0, val_main_v5, val_main_v6, val_main_v7, val_main_cst_1, val_main_v8, val_main_v9, val_main_v10, val_main_cst_2, val_main_v11, val_main_v12, val_main_v13, val_main_cst_3, val_main_v14, val_main_v15, val_main_cst_4, val_main_v16, val_main_v17, val_main_v18, val_main_cst_5, val_main_v19, val_main_v20, val_main_v21, val_main_cst_6, val_main_v22, val_main_v23, val_main_v24, val_main_cst_7, val_main_v25, val_main_v26]
  simp only [read_g, read_w, read_m, read_v]

/-- The kernel and the reference end with the same arrays. -/
theorem algebraic : Cert.algebraic_AdamGateIdeal_AdamGateRefIdeal := by
  pair_intro
  · run_from Cert.AdamGateIdeal.Gen.run_main m g
  · run_from Cert.AdamGateRefIdeal.Value.run m' g'
    · exact (grad m c).symm
    · exact (delta m c).symm
    · exact (mean m c).symm
    · exact (square m c).symm

theorem frame_kernel : Cert.quiescent_AdamGate := fun m ρ _ => Cert.AdamGate.Gen.frame m ρ
theorem frame_ideal : Cert.quiescent_AdamGateIdeal := fun m ρ _ => Cert.AdamGateIdeal.Gen.frame m ρ
theorem frame_ref : Cert.quiescent_AdamGateRefIdeal := fun m ρ _ =>
  (θ_run Cert.AdamGateRefIdeal.defs _ _).mono (fun r h => ⟨fun c => (h c).2.2.2.2, sem_eq_zero_of_no_sems (by decide) r.2⟩)
    (Cert.AdamGateRefIdeal.Value.run (F := Ideal) m ρ)

end Cert.Proof.AdamGate

end
-- ==== Proof.lean ====
/- The proof of the claim: each program's modules prove its frames and its value; here they are put together. -/
module

public import proofs.«01_k».proof.Defs
public import proofs.«01_k».proof.Proof.Gen.EvenInBwd
public import proofs.«01_k».proof.Proof.Gen.EvenInBwdIdeal
public import proofs.«01_k».proof.Proof.Gen.EvenInBwdRefIdeal
public import proofs.«01_k».proof.Proof.Gen.EvenInGrad
public import proofs.«01_k».proof.Proof.Gen.EvenInGradIdeal
public import proofs.«01_k».proof.Proof.Gen.EvenInGradRefIdeal
public import proofs.«01_k».proof.Proof.Gen.EvenInFwd
public import proofs.«01_k».proof.Proof.Gen.EvenInFwdIdeal
public import proofs.«01_k».proof.Proof.Gen.EvenInFwdRefIdeal
public import proofs.«01_k».proof.Proof.Gen.OddOutBwd
public import proofs.«01_k».proof.Proof.Gen.OddOutBwdIdeal
public import proofs.«01_k».proof.Proof.Gen.OddOutBwdRefIdeal
public import proofs.«01_k».proof.Proof.Gen.EvenOutBwd
public import proofs.«01_k».proof.Proof.Gen.EvenOutBwdIdeal
public import proofs.«01_k».proof.Proof.Gen.EvenOutBwdRefIdeal
public import proofs.«01_k».proof.Proof.Gen.OddInBwd
public import proofs.«01_k».proof.Proof.Gen.OddInBwdIdeal
public import proofs.«01_k».proof.Proof.Gen.OddInBwdRefIdeal
public import proofs.«01_k».proof.Proof.Gen.OddInGrad
public import proofs.«01_k».proof.Proof.Gen.OddInGradIdeal
public import proofs.«01_k».proof.Proof.Gen.OddInGradRefIdeal
public import proofs.«01_k».proof.Proof.Gen.EvenOutGrad
public import proofs.«01_k».proof.Proof.Gen.EvenOutGradIdeal
public import proofs.«01_k».proof.Proof.Gen.EvenOutGradRefIdeal
public import proofs.«01_k».proof.Proof.Gen.OddOutGrad
public import proofs.«01_k».proof.Proof.Gen.OddOutGradIdeal
public import proofs.«01_k».proof.Proof.Gen.OddOutGradRefIdeal
public import proofs.«01_k».proof.Proof.Gen.EvenOutFwd
public import proofs.«01_k».proof.Proof.Gen.EvenOutFwdIdeal
public import proofs.«01_k».proof.Proof.Gen.EvenOutFwdRefIdeal
public import proofs.«01_k».proof.Proof.Gen.OddInFwd
public import proofs.«01_k».proof.Proof.Gen.OddInFwdIdeal
public import proofs.«01_k».proof.Proof.Gen.OddInFwdRefIdeal
public import proofs.«01_k».proof.Proof.Gen.OddOutFwd
public import proofs.«01_k».proof.Proof.Gen.OddOutFwdIdeal
public import proofs.«01_k».proof.Proof.Gen.OddOutFwdRefIdeal
public import proofs.«01_k».proof.Proof.Gen.GateRankBwd
public import proofs.«01_k».proof.Proof.Gen.GateRankBwdIdeal
public import proofs.«01_k».proof.Proof.Gen.GateRankBwdRefIdeal
public import proofs.«01_k».proof.Proof.Gen.EvenMixFwd
public import proofs.«01_k».proof.Proof.Gen.EvenMixFwdIdeal
public import proofs.«01_k».proof.Proof.Gen.EvenMixFwdRefIdeal
public import proofs.«01_k».proof.Proof.Gen.EvenMixBwd
public import proofs.«01_k».proof.Proof.Gen.EvenMixBwdIdeal
public import proofs.«01_k».proof.Proof.Gen.EvenMixBwdRefIdeal
public import proofs.«01_k».proof.Proof.Gen.AdamGate
public import proofs.«01_k».proof.Proof.Gen.AdamGateIdeal
public import proofs.«01_k».proof.Proof.Gen.AdamGateRefIdeal
public import proofs.«01_k».proof.Proof.Gen.Pre_even_in_bwd_finite
public import proofs.«01_k».proof.Proof.Gen.Pre_odd_out_bwd_finite
public import proofs.«01_k».proof.Proof.Gen.Pre_even_out_bwd_finite
public import proofs.«01_k».proof.Proof.Gen.Pre_odd_in_bwd_finite
public import proofs.«01_k».proof.Proof.Gen.Pre_odd_out_fwd_finite
public import proofs.«01_k».proof.Proof.Gen.Pre_even_mix_bwd_finite
public import proofs.«01_k».proof.Proof.EvenInBwd
public import proofs.«01_k».proof.Proof.EvenInGrad
public import proofs.«01_k».proof.Proof.EvenInFwd
public import proofs.«01_k».proof.Proof.OddOutBwd
public import proofs.«01_k».proof.Proof.EvenOutBwd
public import proofs.«01_k».proof.Proof.OddInBwd
public import proofs.«01_k».proof.Proof.OddInGrad
public import proofs.«01_k».proof.Proof.EvenOutGrad
public import proofs.«01_k».proof.Proof.OddOutGrad
public import proofs.«01_k».proof.Proof.EvenOutFwd
public import proofs.«01_k».proof.Proof.OddInFwd
public import proofs.«01_k».proof.Proof.OddOutFwd
public import proofs.«01_k».proof.Proof.GateRankBwd
public import proofs.«01_k».proof.Proof.EvenMixFwd
public import proofs.«01_k».proof.Proof.EvenMixBwd
public import proofs.«01_k».proof.Proof.AdamGate

@[expose] public section

noncomputable section

namespace Cert.Proof

/-- Every claim, in the order in which it is stated. -/
theorem claim : Cert.Claim :=
  ⟨Cert.EvenInBwd.Gen.facts, Cert.EvenInBwdIdeal.Gen.facts, Cert.EvenInBwdRefIdeal.Gen.facts, Cert.EvenInGrad.Gen.facts, Cert.EvenInGradIdeal.Gen.facts, Cert.EvenInGradRefIdeal.Gen.facts, Cert.EvenInFwd.Gen.facts, Cert.EvenInFwdIdeal.Gen.facts, Cert.EvenInFwdRefIdeal.Gen.facts, Cert.OddOutBwd.Gen.facts, Cert.OddOutBwdIdeal.Gen.facts, Cert.OddOutBwdRefIdeal.Gen.facts, Cert.EvenOutBwd.Gen.facts, Cert.EvenOutBwdIdeal.Gen.facts, Cert.EvenOutBwdRefIdeal.Gen.facts, Cert.OddInBwd.Gen.facts, Cert.OddInBwdIdeal.Gen.facts, Cert.OddInBwdRefIdeal.Gen.facts, Cert.OddInGrad.Gen.facts, Cert.OddInGradIdeal.Gen.facts, Cert.OddInGradRefIdeal.Gen.facts, Cert.EvenOutGrad.Gen.facts, Cert.EvenOutGradIdeal.Gen.facts, Cert.EvenOutGradRefIdeal.Gen.facts, Cert.OddOutGrad.Gen.facts, Cert.OddOutGradIdeal.Gen.facts, Cert.OddOutGradRefIdeal.Gen.facts, Cert.EvenOutFwd.Gen.facts, Cert.EvenOutFwdIdeal.Gen.facts, Cert.EvenOutFwdRefIdeal.Gen.facts, Cert.OddInFwd.Gen.facts, Cert.OddInFwdIdeal.Gen.facts, Cert.OddInFwdRefIdeal.Gen.facts, Cert.OddOutFwd.Gen.facts, Cert.OddOutFwdIdeal.Gen.facts, Cert.OddOutFwdRefIdeal.Gen.facts, Cert.GateRankBwd.Gen.facts, Cert.GateRankBwdIdeal.Gen.facts, Cert.GateRankBwdRefIdeal.Gen.facts, Cert.EvenMixFwd.Gen.facts, Cert.EvenMixFwdIdeal.Gen.facts, Cert.EvenMixFwdRefIdeal.Gen.facts, Cert.EvenMixBwd.Gen.facts, Cert.EvenMixBwdIdeal.Gen.facts, Cert.EvenMixBwdRefIdeal.Gen.facts, Cert.AdamGate.Gen.facts, Cert.AdamGateIdeal.Gen.facts, Cert.AdamGateRefIdeal.Gen.facts, Cert.Pre_even_in_bwd_finite.Gen.facts, Cert.Pre_odd_out_bwd_finite.Gen.facts, Cert.Pre_even_out_bwd_finite.Gen.facts, Cert.Pre_odd_in_bwd_finite.Gen.facts, Cert.Pre_odd_out_fwd_finite.Gen.facts, Cert.Pre_even_mix_bwd_finite.Gen.facts,
    EvenInBwd.frame_kernel,
    EvenInBwd.frame_ideal,
    fun m ρ _ => EvenInBwd.frame_ideal m ρ trivial,
    EvenInBwd.frame_ref,
    fun m ρ _ => EvenInBwd.frame_ref m ρ trivial,
    EvenInGrad.frame_kernel,
    EvenInGrad.frame_ideal,
    EvenInGrad.frame_ref,
    EvenInFwd.frame_kernel,
    EvenInFwd.frame_ideal,
    EvenInFwd.frame_ref,
    OddOutBwd.frame_kernel,
    OddOutBwd.frame_ideal,
    fun m ρ _ => OddOutBwd.frame_ideal m ρ trivial,
    OddOutBwd.frame_ref,
    fun m ρ _ => OddOutBwd.frame_ref m ρ trivial,
    EvenOutBwd.frame_kernel,
    EvenOutBwd.frame_ideal,
    fun m ρ _ => EvenOutBwd.frame_ideal m ρ trivial,
    EvenOutBwd.frame_ref,
    fun m ρ _ => EvenOutBwd.frame_ref m ρ trivial,
    OddInBwd.frame_kernel,
    OddInBwd.frame_ideal,
    fun m ρ _ => OddInBwd.frame_ideal m ρ trivial,
    OddInBwd.frame_ref,
    fun m ρ _ => OddInBwd.frame_ref m ρ trivial,
    OddInGrad.frame_kernel,
    OddInGrad.frame_ideal,
    OddInGrad.frame_ref,
    EvenOutGrad.frame_kernel,
    EvenOutGrad.frame_ideal,
    EvenOutGrad.frame_ref,
    OddOutGrad.frame_kernel,
    OddOutGrad.frame_ideal,
    OddOutGrad.frame_ref,
    EvenOutFwd.frame_kernel,
    EvenOutFwd.frame_ideal,
    EvenOutFwd.frame_ref,
    OddInFwd.frame_kernel,
    OddInFwd.frame_ideal,
    OddInFwd.frame_ref,
    OddOutFwd.frame_kernel,
    OddOutFwd.frame_ideal,
    fun m ρ _ => OddOutFwd.frame_ideal m ρ trivial,
    OddOutFwd.frame_ref,
    fun m ρ _ => OddOutFwd.frame_ref m ρ trivial,
    GateRankBwd.frame_kernel,
    GateRankBwd.frame_ideal,
    GateRankBwd.frame_ref,
    EvenMixFwd.frame_kernel,
    EvenMixFwd.frame_ideal,
    EvenMixFwd.frame_ref,
    EvenMixBwd.frame_kernel,
    EvenMixBwd.frame_ideal,
    fun m ρ _ => EvenMixBwd.frame_ideal m ρ trivial,
    EvenMixBwd.frame_ref,
    fun m ρ _ => EvenMixBwd.frame_ref m ρ trivial,
    AdamGate.frame_kernel,
    AdamGate.frame_ideal,
    AdamGate.frame_ref,
    trivial,
    EvenInBwd.algebraic,
    trivial,
    EvenInGrad.algebraic,
    trivial,
    EvenInFwd.algebraic,
    trivial,
    OddOutBwd.algebraic,
    trivial,
    EvenOutBwd.algebraic,
    trivial,
    OddInBwd.algebraic,
    trivial,
    OddInGrad.algebraic,
    trivial,
    EvenOutGrad.algebraic,
    trivial,
    OddOutGrad.algebraic,
    trivial,
    EvenOutFwd.algebraic,
    trivial,
    OddInFwd.algebraic,
    trivial,
    OddOutFwd.algebraic,
    trivial,
    GateRankBwd.algebraic,
    trivial,
    EvenMixFwd.algebraic,
    trivial,
    EvenMixBwd.algebraic,
    trivial,
    AdamGate.algebraic⟩

end Cert.Proof

end
